-- ==== Defs.lean ====
def Pre_Kernel [hPre_expert_ids : Cert.Pre_expert_ids.Facts] (m : (ℓ : Loc Cert.Kernel.nD Cert.Kernel.τ Cert.Kernel.sig) → Buf (Elt Bits) ℓ) : Prop :=
  ∀ c : Dev Cert.Kernel.nD,
    (Cert.Pre_expert_ids.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_expert_ids : Cert.Pre_expert_ids.Facts] (m : (ℓ : Loc Cert.KernelIdeal.nD Cert.KernelIdeal.τ Cert.KernelIdeal.sig) → Buf (Elt Ideal) ℓ) : Prop :=
  ∀ c : Dev Cert.KernelIdeal.nD,
    (Cert.Pre_expert_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_expert_ids : Cert.Pre_expert_ids.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_expert_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_expert_ids : Cert.Pre_expert_ids.Facts] (m : (ℓ : Loc Cert.Reference.nD Cert.Reference.τ Cert.Reference.sig) → Buf (Elt Bits) ℓ) : Prop :=
  ∀ c : Dev Cert.Reference.nD,
    (Cert.Pre_expert_ids.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_expert_ids : Cert.Pre_expert_ids.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_expert_ids : Cert.Pre_expert_ids.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_expert_ids : Cert.Pre_expert_ids.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_expert_ids : Cert.Pre_expert_ids.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_expert_ids : Cert.Pre_expert_ids.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_expert_ids : Cert.Pre_expert_ids.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v7) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)) (v2 : (c : Dev Cert.Kernel2Ideal.nD) → Buf (Elt Ideal) ((c.tc : Thread Cert.Kernel2Ideal.nD Cert.Kernel2Ideal.τ).loc Cert.Kernel2Ideal.main_v2_2)) (v3 : (c : Dev Cert.Kernel2Ideal.nD) → Buf (Elt Ideal) ((c.tc : Thread Cert.Kernel2Ideal.nD Cert.Kernel2Ideal.τ).loc Cert.Kernel2Ideal.main_v2_3)) (v4 : (c : Dev Cert.Kernel2Ideal.nD) → Buf (Elt Ideal) ((c.tc : Thread Cert.Kernel2Ideal.nD Cert.Kernel2Ideal.τ).loc Cert.Kernel2Ideal.main_v2_4)) (v5 : (c : Dev Cert.Kernel2Ideal.nD) → Buf (Elt Ideal) ((c.tc : Thread Cert.Kernel2Ideal.nD Cert.Kernel2Ideal.τ).loc Cert.Kernel2Ideal.main_v2_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_v2_2) = v2 c
          ∧ r.2.mem ((c.tc : Thread Cert.Kernel2Ideal.nD Cert.Kernel2Ideal.τ).loc Cert.Kernel2Ideal.main_v2_3) = v3 c
          ∧ r.2.mem ((c.tc : Thread Cert.Kernel2Ideal.nD Cert.Kernel2Ideal.τ).loc Cert.Kernel2Ideal.main_v2_4) = v4 c
          ∧ r.2.mem ((c.tc : Thread Cert.Kernel2Ideal.nD Cert.Kernel2Ideal.τ).loc Cert.Kernel2Ideal.main_v2_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_v15) = v1 c
          ∧ r.2.mem ((c.tc : Thread Cert.Reference2Ideal.nD Cert.Reference2Ideal.τ).loc Cert.Reference2Ideal.main_v16) = v2 c
          ∧ r.2.mem ((c.tc : Thread Cert.Reference2Ideal.nD Cert.Reference2Ideal.τ).loc Cert.Reference2Ideal.main_v20) = v3 c
          ∧ r.2.mem ((c.tc : Thread Cert.Reference2Ideal.nD Cert.Reference2Ideal.τ).loc Cert.Reference2Ideal.main_v21) = v4 c
          ∧ r.2.mem ((c.tc : Thread Cert.Reference2Ideal.nD Cert.Reference2Ideal.τ).loc Cert.Reference2Ideal.main_v17) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  IdealRules.named_const.Statement Cert.Kernel3Ideal.κ "scale2" .f32 0x3E8293EE#32 (((11863283 / 67108864) * (Real.log 2)⁻¹ : ℝ) : EReal)
  ∧ IdealRules.named_const.Statement Cert.Kernel3Ideal.κ "mask" .f32 0xF149F2CA#32 ⊥

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v117)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v117) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v113) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)) (v2 : (c : Dev Cert.Kernel4Ideal.nD) → Buf (Elt Ideal) ((c.tc : Thread Cert.Kernel4Ideal.nD Cert.Kernel4Ideal.τ).loc Cert.Kernel4Ideal.main_v2_2)) (v3 : (c : Dev Cert.Kernel4Ideal.nD) → Buf (Elt Ideal) ((c.tc : Thread Cert.Kernel4Ideal.nD Cert.Kernel4Ideal.τ).loc Cert.Kernel4Ideal.main_v2_3)) (v4 : (c : Dev Cert.Kernel4Ideal.nD) → Buf (Elt Ideal) ((c.tc : Thread Cert.Kernel4Ideal.nD Cert.Kernel4Ideal.τ).loc Cert.Kernel4Ideal.main_v2_4)) (v5 : (c : Dev Cert.Kernel4Ideal.nD) → Buf (Elt Ideal) ((c.tc : Thread Cert.Kernel4Ideal.nD Cert.Kernel4Ideal.τ).loc Cert.Kernel4Ideal.main_v2_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_v2_2) = v2 c
          ∧ r.2.mem ((c.tc : Thread Cert.Kernel4Ideal.nD Cert.Kernel4Ideal.τ).loc Cert.Kernel4Ideal.main_v2_3) = v3 c
          ∧ r.2.mem ((c.tc : Thread Cert.Kernel4Ideal.nD Cert.Kernel4Ideal.τ).loc Cert.Kernel4Ideal.main_v2_4) = v4 c
          ∧ r.2.mem ((c.tc : Thread Cert.Kernel4Ideal.nD Cert.Kernel4Ideal.τ).loc Cert.Kernel4Ideal.main_v2_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_v15) = v1 c
          ∧ r.2.mem ((c.tc : Thread Cert.Reference4Ideal.nD Cert.Reference4Ideal.τ).loc Cert.Reference4Ideal.main_v16) = v2 c
          ∧ r.2.mem ((c.tc : Thread Cert.Reference4Ideal.nD Cert.Reference4Ideal.τ).loc Cert.Reference4Ideal.main_v20) = v3 c
          ∧ r.2.mem ((c.tc : Thread Cert.Reference4Ideal.nD Cert.Reference4Ideal.τ).loc Cert.Reference4Ideal.main_v21) = v4 c
          ∧ r.2.mem ((c.tc : Thread Cert.Reference4Ideal.nD Cert.Reference4Ideal.τ).loc Cert.Reference4Ideal.main_v17) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_expert_ids : Cert.Pre_expert_ids.Facts) (hPre_finite : Cert.Pre_finite.Facts),
    quiescent_Kernel (hKernel := hKernel) (hPre_expert_ids := hPre_expert_ids)
    ∧ quiescent_KernelIdeal (hKernelIdeal := hKernelIdeal) (hPre_expert_ids := hPre_expert_ids)
    ∧ quiescent_ReferenceIdeal (hReferenceIdeal := hReferenceIdeal) (hPre_expert_ids := hPre_expert_ids)
    ∧ quiescent_Reference (hReference := hReference) (hPre_expert_ids := hPre_expert_ids)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal) (hPre_expert_ids := hPre_expert_ids)
    ∧ bitexact_Kernel_Reference (hKernel := hKernel) (hReference := hReference) (hPre_expert_ids := hPre_expert_ids)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite (hKernel3Ideal := hKernel3Ideal) (hReference3Ideal := hReference3Ideal) (hPre_finite := hPre_finite)
    ∧ preserves_Kernel4_Kernel4Ideal
    ∧ algebraic_Kernel4Ideal_Reference4Ideal (hKernel4Ideal := hKernel4Ideal) (hReference4Ideal := hReference4Ideal)
-- ==== Pre_expert_ids.lean ====
abbrev S16384x512 : Shape := ⟨2, ![16384, 512]⟩
abbrev S4096x128 : Shape := ⟨2, ![4096, 128]⟩
abbrev S_ : Shape := ⟨0, ![]⟩

class Facts : Prop where
  bcast_S_S4096x128 : S_.BroadcastsInDim S4096x128 (![] : Fin 0 → Fin S4096x128.rank)

variable [Facts]

def fn {F : FTy → Type} [FloatOps F] (main_arg0 : IVec S16384x512 32) (main_arg1 : IVec S4096x128 32) : IVec S4096x128 1 :=
  let main_c : IVec S_ 32 := constantI S_ 32 0#32
  let main_v0 : IVec S4096x128 32 := broadcastInDim S4096x128 ![] bcast_S_S4096x128 main_c
  let main_v1 : IVec S4096x128 1 := cmpi .sge main_arg1 main_v0
  let main_c_0 : IVec S_ 32 := constantI S_ 32 16384#32
  let main_v2 : IVec S4096x128 32 := broadcastInDim S4096x128 ![] bcast_S_S4096x128 main_c_0
  let main_v3 : IVec S4096x128 1 := cmpi .slt main_arg1 main_v2
  let main_v4 : IVec S4096x128 1 := andi main_v1 main_v3
  main_v4
-- ==== Pre_finite.lean ====
abbrev S4096x512 : Shape := ⟨2, ![4096, 512]⟩
abbrev S32x8 : Shape := ⟨2, ![32, 8]⟩
abbrev S32 : Shape := ⟨1, ![32]⟩
abbrev S64 : Shape := ⟨1, ![64]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S32x8 : S_.BroadcastsInDim S32x8 (![] : Fin 0 → Fin S32x8.rank)
  reducesTo_S32x8_S_d0_1 : S32x8.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg7 : FVec F S32 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  main_v38

def fn_part1 {F : FTy → Type} [FloatOps F] (main_arg4 : FVec F S32 .f32) (main_arg5 : FVec F S32 .f32) (main_arg6 : FVec F S32 .f32) (main_arg7 : FVec F S32 .f32) (main_v13 : IVec S_ 1) (main_v16 : IVec S32x8 1) : IVec S_ 1 :=
  let main_c_5 : IVec S_ 1 := constantI S_ 1 1#1
  let main_v17 : IVec S_ 1 := (fun x v => Host.reduce IntOp.andi x v reducesTo_S32x8_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_v33

def fn {F : FTy → Type} [FloatOps F] (main_arg0 : FVec F S4096x512 .f32) (main_arg1 : FVec F S4096x512 .f32) (main_arg2 : FVec F S4096x512 .f32) (main_arg3 : FVec F S32x8 .f32) (main_arg4 : FVec F S32 .f32) (main_arg5 : FVec F S32 .f32) (main_arg6 : FVec F S32 .f32) (main_arg7 : FVec F S32 .f32) (main_arg8 : FVec F S64 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S32x8 .f32 := Host.absf main_arg3
  let main_cst_4 : FVec F S_ .f32 := constant S_ .f32 0x7F800000#32
  let main_v15 : FVec F S32x8 .f32 := broadcastInDim S32x8 ![] bcast_S_S32x8 main_cst_4
  let main_v16 : IVec S32x8 1 := cmpf .olt main_v14 main_v15
  fn_part1 (F := F) main_arg4 main_arg5 main_arg6 main_arg7 main_v13 main_v16
-- ==== Kernel.lean ====
abbrev S16384x512 : Shape := ⟨2, ![16384, 512]⟩
abbrev S4096x128 : Shape := ⟨2, ![4096, 128]⟩
abbrev S524288 : Shape := ⟨1, ![524288]⟩
abbrev S8192x64 : Shape := ⟨2, ![8192, 64]⟩
abbrev S524288x512 : Shape := ⟨2, ![524288, 512]⟩
abbrev S2x1x64 : Shape := ⟨3, ![2, 1, 64]⟩
abbrev S2 : Shape := ⟨1, ![2]⟩
abbrev S2x64x512 : Shape := ⟨3, ![2, 64, 512]⟩
abbrev S1x1x64 : Shape := ⟨3, ![1, 1, 64]⟩
abbrev S1x64 : Shape := ⟨2, ![1, 64]⟩
abbrev S1 : Shape := ⟨1, ![1]⟩
abbrev S_ : Shape := ⟨0, ![]⟩
abbrev S1x64x512 : Shape := ⟨3, ![1, 64, 512]⟩
abbrev S64x512 : Shape := ⟨2, ![64, 512]⟩
abbrev S64x128 : Shape := ⟨2, ![64, 128]⟩
abbrev S64 : Shape := ⟨1, ![64]⟩
abbrev S16384x128 : Shape := ⟨2, ![16384, 128]⟩

abbrev nBuf : Table → Nat
  | .hbm => 5
  | .local .scVector .vmem => 2
  | _ => 0

abbrev bufTy : (tb : Table) → Fin (nBuf tb) → BufTy
  | .hbm, ⟨0, _⟩ => ⟨S16384x512, .i32⟩
  | .hbm, ⟨1, _⟩ => ⟨S4096x128, .i32⟩
  | .hbm, ⟨2, _⟩ => ⟨S524288, .i32⟩
  | .hbm, ⟨3, _⟩ => ⟨S8192x64, .i32⟩
  | .hbm, ⟨4, _⟩ => ⟨S524288x512, .i32⟩
  | .local .scVector .vmem, ⟨0, _⟩ => ⟨S2x1x64, .i32⟩
  | .local .scVector .vmem, ⟨1, _⟩ => ⟨S2x64x512, .i32⟩
  | _, _ => ⟨S16384x512, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg0_scv : Ref sig .scVector := ⟨.hbm, 0, rfl⟩
abbrev main_v1_scv : Ref sig .scVector := ⟨.hbm, 3, rfl⟩
abbrev main_v2_scv : Ref sig .scVector := ⟨.hbm, 4, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_15_r0 : BitVec 32 := 0#32
  let c0_i32_16_r0 : BitVec 32 := 0#32
  ![v21_r0.toNat, 0, 0]
def k0_off2 (i : grid0.Coords) : Fin 2 → Nat :=
  let c1_i32_14_r0 : BitVec 32 := 1#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c256_i32 : BitVec 32 := 256#32
  let v4 : BitVec 32 := Scalar.muli v3 c256_i32
  let v7_r0 : BitVec 32 := Scalar.addi c0_i32_1_r0 v4
  let v22_r0 : BitVec 32 := Scalar.muli c1_i32_14_r0 v7_r0
  let c0_i32_17_r0 : BitVec 32 := 0#32
  ![v22_r0.toNat, 0]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_27_r0 : BitVec 32 := 0#32
  let c256_i32_28_r0 : BitVec 32 := 256#32
  let v32_r0 : BitVec 32 := Scalar.addi c0_i32_27_r0 c256_i32_28_r0
  let c1_i32_29_r0 : BitVec 32 := 1#32
  ⟨c0_i32_27_r0, v32_r0, c1_i32_29_r0⟩
def k0_off4 (arg6_r0 : BitVec 32) : Fin 3 → Nat :=
  let c2_i32_102_r0 : BitVec 32 := 2#32
  let v144_r0 : BitVec 32 := Scalar.remui arg6_r0 c2_i32_102_r0
  let c0_i32_104_r0 : BitVec 32 := 0#32
  let c0_i32_105_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c256_i32 : BitVec 32 := 256#32
  let v4 : BitVec 32 := Scalar.muli v3 c256_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c256_i32_62_r0 : BitVec 32 := 256#32
  let v74_r0 : BitVec 1 := Scalar.cmpi .eq v73_r0 c256_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k0_t1
  let c255_i32_68_r0 : BitVec 32 := 255#32
  let v83_r0 : BitVec 1 := Scalar.cmpi .sge arg5_r0 c255_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c1_i32_103_r0 : BitVec 32 := 1#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c256_i32_62_r0 : BitVec 32 := 256#32
  let v74_r0 : BitVec 1 := Scalar.cmpi .eq v73_r0 c256_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c256_i32 : BitVec 32 := 256#32
  let v4 : BitVec 32 := Scalar.muli v3 c256_i32
  let v76_r0 : BitVec 32 := Scalar.addi v75_r0 v4
  let v145_r0 : BitVec 32 := Scalar.muli c1_i32_103_r0 v76_r0
  let c0_i32_106_r0 : BitVec 32 := 0#32
  ![v145_r0.toNat, 0]
def k0_off6 (arg6_r0 : BitVec 32) : Fin 1 → Nat :=
  let c2_i32_102_r0 : BitVec 32 := 2#32
  let v144_r0 : BitVec 32 := Scalar.remui arg6_r0 c2_i32_102_r0
  ![v144_r0.toNat]
def k0_off7 (arg7_r0 : BitVec 32) : Fin 3 → Nat :=
  let c2_i32_103_r0 : BitVec 32 := 2#32
  let v145_r0 : BitVec 32 := Scalar.remui arg7_r0 c2_i32_103_r0
  let c0_i32_104_r0 : BitVec 32 := 0#32
  let c0_i32_105_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c256_i32 : BitVec 32 := 256#32
  let v4 : BitVec 32 := Scalar.muli v3 c256_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c255_i32_59_r0 : BitVec 32 := 255#32
  let v70_r0 : BitVec 32 := Scalar.select v69_r0 c255_i32_59_r0 v68_r0
  let v71_r0 : BitVec 32 := Scalar.addi v70_r0 v4
  let v96_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c1_i32_102_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c256_i32 : BitVec 32 := 256#32
  let v4 : BitVec 32 := Scalar.muli v3 c256_i32
  let v66_r0 : BitVec 32 := Scalar.addi arg10_r0 v4
  let v144_r0 : BitVec 32 := Scalar.muli c1_i32_102_r0 v66_r0
  let c0_i32_106_r0 : BitVec 32 := 0#32
  ![v144_r0.toNat, 0]
def k0_off9 (arg7_r0 : BitVec 32) : Fin 1 → Nat :=
  let c2_i32_103_r0 : BitVec 32 := 2#32
  let v145_r0 : BitVec 32 := Scalar.remui arg7_r0 c2_i32_103_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_102_r1 : BitVec 32 := 0#32
  let c0_i32_103_r1 : BitVec 32 := 0#32
  ![v109_r0.toNat, 0, 0]

def k0_chk2 (arg8_r0 : BitVec 32) : Prop :=
  (∀ a, (k0_off10 arg8_r0) a + S1x64x512.size a ≤ S2x64x512.size a)
theorem k0_off10_inb : ∀ (arg8_r0 : BitVec 32) (k0_hw2 : k0_chk2 arg8_r0), ∀ a, (k0_off10 arg8_r0) a + S1x64x512.size a ≤ S2x64x512.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_106_r1 : BitVec 32 := 0#32
  let c0_i32_107_r1 : BitVec 32 := 0#32
  ![v108_r0.toNat, 0, 0]

def k0_chk3 (arg7_r0 : BitVec 32) : Prop :=
  (∀ a, (k0_off11 arg7_r0) a + S1x1x64.size a ≤ S2x1x64.size a)
theorem k0_off11_inb : ∀ (arg7_r0 : BitVec 32) (k0_hw3 : k0_chk3 arg7_r0), ∀ a, (k0_off11 arg7_r0) a + S1x1x64.size a ≤ S2x1x64.size a := fun arg7_r0 k0_hw3 => k0_hw3

def k0_off12 (arg8_r0 : BitVec 32) : Fin 3 → Nat :=
  let c2_i32_102_r0 : BitVec 32 := 2#32
  let v144_r0 : BitVec 32 := Scalar.remui arg8_r0 c2_i32_102_r0
  let c0_i32_104_r0 : BitVec 32 := 0#32
  let c0_i32_105_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c256_i32 : BitVec 32 := 256#32
  let v4 : BitVec 32 := Scalar.muli v3 c256_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c256_i32_62_r0 : BitVec 32 := 256#32
  let v74_r0 : BitVec 1 := Scalar.cmpi .eq v73_r0 c256_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k0_t1
  let c255_i32_55_r0 : BitVec 32 := 255#32
  let v65_r0 : BitVec 1 := Scalar.cmpi .eq arg5_r0 c255_i32_55_r0
  let v116_r0 : BitVec 1 := Scalar.ori v115_r0 v65_r0
  let v117_r0 : BitVec 32 := Scalar.extui v116_r0
  let c0_i32_87_r0 : BitVec 32 := 0#32
  let v118_r0 : BitVec 1 := Scalar.cmpi .ne v117_r0 c0_i32_87_r0
  v118_r0

def k0_off13 (i : grid0.Coords) (arg10_r0 : BitVec 32) : Fin 2 → Nat :=
  let c64_i32_103_r0 : BitVec 32 := 64#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c256_i32 : BitVec 32 := 256#32
  let v4 : BitVec 32 := Scalar.muli v3 c256_i32
  let v66_r0 : BitVec 32 := Scalar.addi arg10_r0 v4
  let v145_r0 : BitVec 32 := Scalar.muli c64_i32_103_r0 v66_r0
  let c0_i32_106_r0 : BitVec 32 := 0#32
  ![v145_r0.toNat, 0]
def k0_off14 (arg8_r0 : BitVec 32) : Fin 1 → Nat :=
  let c2_i32_102_r0 : BitVec 32 := 2#32
  let v144_r0 : BitVec 32 := Scalar.remui arg8_r0 c2_i32_102_r0
  ![v144_r0.toNat]
def k0_off15 (arg9_r0 : BitVec 32) : Fin 3 → Nat :=
  let c2_i32_102_r0 : BitVec 32 := 2#32
  let v144_r0 : BitVec 32 := Scalar.remui arg9_r0 c2_i32_102_r0
  let c0_i32_104_r0 : BitVec 32 := 0#32
  let c0_i32_105_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c256_i32 : BitVec 32 := 256#32
  let v4 : BitVec 32 := Scalar.muli v3 c256_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c255_i32_59_r0 : BitVec 32 := 255#32
  let v70_r0 : BitVec 32 := Scalar.select v69_r0 c255_i32_59_r0 v68_r0
  let v71_r0 : BitVec 32 := Scalar.addi v70_r0 v4
  let v128_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k0_t1
  let c0_i32_54_r0 : BitVec 32 := 0#32
  let v64_r0 : BitVec 1 := Scalar.cmpi .eq arg5_r0 c0_i32_54_r0
  let true_93_r0 : BitVec 1 := 1#1
  let v129_r0 : BitVec 1 := Scalar.xori v64_r0 true_93_r0
  let v130_r0 : BitVec 1 := Scalar.andi v128_r0 v129_r0
  let v131_r0 : BitVec 32 := Scalar.extui v130_r0
  let c0_i32_94_r0 : BitVec 32 := 0#32
  let v132_r0 : BitVec 1 := Scalar.cmpi .ne v131_r0 c0_i32_94_r0
  v132_r0

def k0_off16 (i : grid0.Coords) (arg10_r0 : BitVec 32) : Fin 2 → Nat :=
  let c64_i32_103_r0 : BitVec 32 := 64#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c255_i32_59_r0 : BitVec 32 := 255#32
  let v70_r0 : BitVec 32 := Scalar.select v69_r0 c255_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c256_i32 : BitVec 32 := 256#32
  let v4 : BitVec 32 := Scalar.muli v3 c256_i32
  let v71_r0 : BitVec 32 := Scalar.addi v70_r0 v4
  let v145_r0 : BitVec 32 := Scalar.muli c64_i32_103_r0 v71_r0
  let c0_i32_106_r0 : BitVec 32 := 0#32
  ![v145_r0.toNat, 0]
def k0_off17 (arg9_r0 : BitVec 32) : Fin 1 → Nat :=
  let c2_i32_102_r0 : BitVec 32 := 2#32
  let v144_r0 : BitVec 32 := Scalar.remui arg9_r0 c2_i32_102_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x64.size a ≤ S2x1x64.size a) ∧
  (∀ (k0_h1 : k0_cond1 i k0_t1 arg10_r0 = 1#1), ∀ a, (k0_off5 i arg10_r0) a + S1x64.size a ≤ S8192x64.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x64.size a ≤ S2x1x64.size a) ∧
  (∀ (k0_h2 : k0_cond2 i k0_t1 arg10_r0 = 1#1), ∀ a, (k0_off8 i arg10_r0) a + S1x64.size a ≤ S8192x64.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x64x512.size a ≤ S2x64x512.size a) ∧
  (∀ (k0_h5 : k0_cond5 i k0_t1 arg10_r0 = 1#1), ∀ a, (k0_off13 i arg10_r0) a + S64x512.size a ≤ S524288x512.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x64x512.size a ≤ S2x64x512.size a) ∧
  (∀ (k0_h7 : k0_cond7 i k0_t1 arg10_r0 = 1#1), ∀ a, (k0_off16 i arg10_r0) a + S64x512.size a ≤ S524288x512.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x64.size a ≤ S2x1x64.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x64.size a ≤ S8192x64.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x64.size a ≤ S2x1x64.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x64.size a ≤ S8192x64.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x64x512.size a ≤ S2x64x512.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S64x512.size a ≤ S524288x512.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x64x512.size a ≤ S2x64x512.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S64x512.size a ≤ S524288x512.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_47_r0 : BitVec 32 := 2#32
  let v54_r0 : BitVec 32 := Scalar.remui v33_3_r0 c2_i32_47_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c64_i32_r0 : BitVec 32 := 64#32
  let true_32_r0 : BitVec 1 := 1#1
  let c1_i32_31_r0 : BitVec 32 := 1#32
  let v34_r0 : BitVec 32 := Scalar.subi v33_4_r0 c1_i32_31_r0
  let v35_r0 : BitVec 32 := Scalar.select true_32_r0 v34_r0 v33_4_r0
  let c_m1_i32_33_r0 : BitVec 32 := 4294967295#32
  let v36_r0 : BitVec 1 := Scalar.cmpi .eq v35_r0 c_m1_i32_33_r0
  let c255_i32_34_r0 : BitVec 32 := 255#32
  let v37_r0 : BitVec 32 := Scalar.select v36_r0 c255_i32_34_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c256_i32 : BitVec 32 := 256#32
  let v4 : BitVec 32 := Scalar.muli v3 c256_i32
  let v38_r0 : BitVec 32 := Scalar.addi v37_r0 v4
  let v55_r0 : BitVec 32 := Scalar.muli c64_i32_r0 v38_r0
  let c0_i32_50_r0 : BitVec 32 := 0#32
  ![v55_r0.toNat, 0]

def k0_chk5 (i : grid0.Coords) (v33_4_r0 : BitVec 32) : Prop :=
  (∀ a, (k0_off19 i v33_4_r0) a + S64x512.size a ≤ S524288x512.size a)
theorem k0_off19_inb : ∀ (i : grid0.Coords) (v33_4_r0 : BitVec 32) (k0_hw5 : k0_chk5 i v33_4_r0), ∀ a, (k0_off19 i v33_4_r0) a + S64x512.size a ≤ S524288x512.size a := fun i v33_4_r0 k0_hw5 => k0_hw5

def k0_off20 (v33_3_r0 : BitVec 32) : Fin 1 → Nat :=
  let c2_i32_47_r0 : BitVec 32 := 2#32
  let v54_r0 : BitVec 32 := Scalar.remui v33_3_r0 c2_i32_47_r0
  ![v54_r0.toNat]
def k0_off21 (v33_3_r0 : BitVec 32) : Fin 3 → Nat :=
  let c2_i32_47_r0 : BitVec 32 := 2#32
  let v54_r0 : BitVec 32 := Scalar.remui v33_3_r0 c2_i32_47_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x64x512.size a ≤ S2x64x512.size a) ∧
  (∀ a, (k0_off20 v33_3_r0) a + S1.size a ≤ S2.size a) ∧
  (∀ a, (k0_off21 v33_3_r0) a + S1x64x512.size a ≤ S2x64x512.size a)
theorem k0_off18_inb : ∀ (v33_3_r0 : BitVec 32) (k0_hw4 : k0_chk4 v33_3_r0), ∀ a, (k0_off18 v33_3_r0) a + S1x64x512.size a ≤ S2x64x512.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x64x512.size a ≤ S2x64x512.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S16384x512 : Shape := ⟨2, ![16384, 512]⟩
abbrev S4096x128 : Shape := ⟨2, ![4096, 128]⟩
abbrev S_ : Shape := ⟨0, ![]⟩
abbrev S4096x128x1 : Shape := ⟨3, ![4096, 128, 1]⟩
abbrev S4096x128x512 : Shape := ⟨3, ![4096, 128, 512]⟩
abbrev S524288x512 : Shape := ⟨2, ![524288, 512]⟩

abbrev nBuf : Space → Nat
  | .hbm => 12
  | .vmem => 0
  | .smem => 0
  | _ => 0

abbrev bufTy : (tb : Table) → Fin (tcTables nBuf tb) → BufTy
  | .hbm, ⟨0, _⟩ => ⟨S16384x512, .i32⟩
  | .hbm, ⟨1, _⟩ => ⟨S4096x128, .i32⟩
  | .hbm, ⟨2, _⟩ => ⟨S_, .i32⟩
  | .hbm, ⟨3, _⟩ => ⟨S4096x128, .i32⟩
  | .hbm, ⟨4, _⟩ => ⟨S4096x128, .i1⟩
  | .hbm, ⟨5, _⟩ => ⟨S_, .i32⟩
  | .hbm, ⟨6, _⟩ => ⟨S4096x128, .i32⟩
  | .hbm, ⟨7, _⟩ => ⟨S4096x128, .i32⟩
  | .hbm, ⟨8, _⟩ => ⟨S4096x128, .i32⟩
  | .hbm, ⟨9, _⟩ => ⟨S4096x128x1, .i32⟩
  | .hbm, ⟨10, _⟩ => ⟨S4096x128x512, .i32⟩
  | .hbm, ⟨11, _⟩ => ⟨S524288x512, .i32⟩
  | _, _ => ⟨S16384x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel2.lean ====
abbrev S4096x1024 : Shape := ⟨2, ![4096, 1024]⟩
abbrev S1024 : Shape := ⟨1, ![1024]⟩
abbrev S1024x3584 : Shape := ⟨2, ![1024, 3584]⟩
abbrev S1x1024 : Shape := ⟨2, ![1, 1024]⟩
abbrev S4096x512 : Shape := ⟨2, ![4096, 512]⟩
abbrev S512x4096 : Shape := ⟨2, ![512, 4096]⟩
abbrev S4096x2048 : Shape := ⟨2, ![4096, 2048]⟩
abbrev S256x1024 : Shape := ⟨2, ![256, 1024]⟩
abbrev S256x512 : Shape := ⟨2, ![256, 512]⟩
abbrev S512x256 : Shape := ⟨2, ![512, 256]⟩
abbrev S256x2048 : Shape := ⟨2, ![256, 2048]⟩
abbrev S256 : Shape := ⟨1, ![256]⟩
abbrev S256x1 : Shape := ⟨2, ![256, 1]⟩
abbrev S1024x512 : Shape := ⟨2, ![1024, 512]⟩
abbrev S1024x2048 : Shape := ⟨2, ![1024, 2048]⟩

abbrev nBuf : Space → Nat
  | .hbm => 11
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3584, .f32⟩
  | .hbm, ⟨3, _⟩ => ⟨S1x1024, .f32⟩
  | .hbm, ⟨4, _⟩ => ⟨S1024x3584, .bf16⟩
  | .hbm, ⟨5, _⟩ => ⟨S4096x512, .bf16⟩
  | .hbm, ⟨6, _⟩ => ⟨S4096x512, .f32⟩
  | .hbm, ⟨7, _⟩ => ⟨S4096x512, .f32⟩
  | .hbm, ⟨8, _⟩ => ⟨S512x4096, .bf16⟩
  | .hbm, ⟨9, _⟩ => ⟨S4096x512, .bf16⟩
  | .hbm, ⟨10, _⟩ => ⟨S4096x2048, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3584, .bf16⟩
  | .local _ .vmem, ⟨4, _⟩ => ⟨S256x512, .bf16⟩
  | .local _ .vmem, ⟨5, _⟩ => ⟨S256x512, .bf16⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S512x256, .bf16⟩
  | .local _ .vmem, ⟨11, _⟩ => ⟨S512x256, .bf16⟩
  | .local _ .vmem, ⟨12, _⟩ => ⟨S256x512, .bf16⟩
  | .local _ .vmem, ⟨13, _⟩ => ⟨S256x512, .bf16⟩
  | .local _ .vmem, ⟨14, _⟩ => ⟨S256x2048, .f32⟩
  | .local _ .vmem, ⟨15, _⟩ => ⟨S256x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S4096x1024 : Shape := ⟨2, ![4096, 1024]⟩
abbrev S1024 : Shape := ⟨1, ![1024]⟩
abbrev S1024x3584 : Shape := ⟨2, ![1024, 3584]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x3584 : Shape := ⟨2, ![4096, 3584]⟩
abbrev S4096x512 : Shape := ⟨2, ![4096, 512]⟩
abbrev S4096x2048 : Shape := ⟨2, ![4096, 2048]⟩
abbrev S512x4096 : Shape := ⟨2, ![512, 4096]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3584, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x3584, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S4096x2048, .f32⟩
  | .hbm, ⟨24, _⟩ => ⟨S4096x512, .bf16⟩
  | .hbm, ⟨25, _⟩ => ⟨S512x4096, .f32⟩
  | .hbm, ⟨26, _⟩ => ⟨S512x4096, .bf16⟩
  | .hbm, ⟨27, _⟩ => ⟨S4096x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Kernel3.lean ====
abbrev S4096x512 : Shape := ⟨2, ![4096, 512]⟩
abbrev S32x8 : Shape := ⟨2, ![32, 8]⟩
abbrev S32 : Shape := ⟨1, ![32]⟩
abbrev S64 : Shape := ⟨1, ![64]⟩
abbrev S_ : Shape := ⟨0, ![]⟩
abbrev S1 : Shape := ⟨1, ![1]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x8 : Shape := ⟨2, ![1, 8]⟩
abbrev S8 : Shape := ⟨1, ![8]⟩
abbrev S128x128x1 : Shape := ⟨3, ![128, 128, 1]⟩
abbrev S128x128x8 : Shape := ⟨3, ![128, 128, 8]⟩
abbrev S8x128x128 : Shape := ⟨3, ![8, 128, 128]⟩
abbrev S8x1x1 : Shape := ⟨3, ![8, 1, 1]⟩
abbrev S1x128x128 : Shape := ⟨3, ![1, 128, 128]⟩
abbrev S8x1x128x128 : Shape := ⟨4, ![8, 1, 128, 128]⟩
abbrev S8x2x128x128 : Shape := ⟨4, ![8, 2, 128, 128]⟩
abbrev S4x2x2x128x128 : Shape := ⟨5, ![4, 2, 2, 128, 128]⟩
abbrev S512x4096 : Shape := ⟨2, ![512, 4096]⟩
abbrev S128x4096 : Shape := ⟨2, ![128, 4096]⟩
abbrev S4096x128 : Shape := ⟨2, ![4096, 128]⟩
abbrev S1x2x2x128x128 : Shape := ⟨5, ![1, 2, 2, 128, 128]⟩
abbrev S4x128x128 : Shape := ⟨3, ![4, 128, 128]⟩
abbrev S1x1x1x128x128 : Shape := ⟨5, ![1, 1, 1, 128, 128]⟩

abbrev nBuf : Space → Nat
  | .hbm => 199
  | .vmem => 13
  | .smem => 1
  | _ => 0

abbrev hbmTy0_0 (i : Nat) : BufTy := match i % 128 with
  | 0 => ⟨S4096x512, .f32⟩
  | 1 => ⟨S4096x512, .f32⟩
  | 2 => ⟨S4096x512, .f32⟩
  | 3 => ⟨S32x8, .f32⟩
  | 4 => ⟨S32, .f32⟩
  | 5 => ⟨S32, .f32⟩
  | 6 => ⟨S32, .f32⟩
  | 7 => ⟨S32, .f32⟩
  | 8 => ⟨S64, .f32⟩
  | 9 => ⟨S32, .f32⟩
  | 10 => ⟨S_, .f32⟩
  | 11 => ⟨S_, .f32⟩
  | 12 => ⟨S_, .f32⟩
  | 13 => ⟨S32, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S1, .f32⟩
  | 21 => ⟨S1x64, .f32⟩
  | 22 => ⟨S2x64, .f32⟩
  | 23 => ⟨S128, .f32⟩
  | 24 => ⟨S_, .f32⟩
  | 25 => ⟨S128, .f32⟩
  | 26 => ⟨S128, .f32⟩
  | 27 => ⟨S1x128, .f32⟩
  | 28 => ⟨S128, .i32⟩
  | 29 => ⟨S1x128, .i32⟩
  | 30 => ⟨S128x1, .i32⟩
  | 31 => ⟨S128x128, .i32⟩
  | 32 => ⟨S128x128, .i32⟩
  | 33 => ⟨S128x128, .i32⟩
  | 34 => ⟨S_, .i32⟩
  | 35 => ⟨S128x128, .i32⟩
  | 36 => ⟨S128x128, .i32⟩
  | 37 => ⟨S1x8, .f32⟩
  | 38 => ⟨S8, .f32⟩
  | 39 => ⟨S_, .i32⟩
  | 40 => ⟨S128x128, .i32⟩
  | 41 => ⟨S128x128, .i1⟩
  | 42 => ⟨S_, .i32⟩
  | 43 => ⟨S_, .i32⟩
  | 44 => ⟨S128x128, .i32⟩
  | 45 => ⟨S128x128, .i32⟩
  | 46 => ⟨S128x128, .i32⟩
  | 47 => ⟨S128x128, .i32⟩
  | 48 => ⟨S_, .i32⟩
  | 49 => ⟨S128x128, .i32⟩
  | 50 => ⟨S128x128, .i32⟩
  | 51 => ⟨S128x128, .f32⟩
  | 52 => ⟨S_, .f32⟩
  | 53 => ⟨S128x128, .f32⟩
  | 54 => ⟨S128x128, .f32⟩
  | 55 => ⟨S128x128, .f32⟩
  | 56 => ⟨S_, .f32⟩
  | 57 => ⟨S128x128, .f32⟩
  | 58 => ⟨S128x128, .f32⟩
  | 59 => ⟨S_, .f32⟩
  | 60 => ⟨S128x128, .f32⟩
  | 61 => ⟨S128x128, .f32⟩
  | 62 => ⟨S128x128, .i32⟩
  | 63 => ⟨S_, .i32⟩
  | 64 => ⟨S128x128, .i32⟩
  | 65 => ⟨S128x128, .i32⟩
  | 66 => ⟨S_, .i32⟩
  | 67 => ⟨S128x128, .i32⟩
  | 68 => ⟨S128x128, .i32⟩
  | 69 => ⟨S_, .i32⟩
  | 70 => ⟨S128x128, .i32⟩
  | 71 => ⟨S128x128, .i1⟩
  | 72 => ⟨S128x128, .i32⟩
  | 73 => ⟨S128x128, .i32⟩
  | 74 => ⟨S128x128, .i32⟩
  | 75 => ⟨S_, .i32⟩
  | 76 => ⟨S128x128, .i32⟩
  | 77 => ⟨S128x128, .i1⟩
  | 78 => ⟨S_, .i32⟩
  | 79 => ⟨S128x128, .i32⟩
  | 80 => ⟨S128x128, .i32⟩
  | 81 => ⟨S128x128, .i32⟩
  | 82 => ⟨S128x128x1, .i32⟩
  | 83 => ⟨S128x128x8, .f32⟩
  | 84 => ⟨S8x128x128, .f32⟩
  | 85 => ⟨S8x1x1, .f32⟩
  | 86 => ⟨S8x128x128, .f32⟩
  | 87 => ⟨S8x128x128, .f32⟩
  | 88 => ⟨S_, .i32⟩
  | 89 => ⟨S128x128, .i32⟩
  | 90 => ⟨S128x128, .i1⟩
  | 91 => ⟨S_, .i32⟩
  | 92 => ⟨S_, .i32⟩
  | 93 => ⟨S128x128, .i32⟩
  | 94 => ⟨S128x128, .i32⟩
  | 95 => ⟨S128x128, .i32⟩
  | 96 => ⟨S128x128, .i32⟩
  | 97 => ⟨S_, .i32⟩
  | 98 => ⟨S128x128, .i32⟩
  | 99 => ⟨S128x128, .i32⟩
  | 100 => ⟨S128x128, .f32⟩
  | 101 => ⟨S_, .f32⟩
  | 102 => ⟨S128x128, .f32⟩
  | 103 => ⟨S128x128, .f32⟩
  | 104 => ⟨S128x128, .f32⟩
  | 105 => ⟨S_, .f32⟩
  | 106 => ⟨S128x128, .f32⟩
  | 107 => ⟨S128x128, .f32⟩
  | 108 => ⟨S_, .f32⟩
  | 109 => ⟨S128x128, .f32⟩
  | 110 => ⟨S128x128, .f32⟩
  | 111 => ⟨S128x128, .i32⟩
  | 112 => ⟨S_, .i32⟩
  | 113 => ⟨S128x128, .i32⟩
  | 114 => ⟨S128x128, .i32⟩
  | 115 => ⟨S_, .i32⟩
  | 116 => ⟨S128x128, .i32⟩
  | 117 => ⟨S128x128, .i32⟩
  | 118 => ⟨S_, .i32⟩
  | 119 => ⟨S128x128, .i32⟩
  | 120 => ⟨S128x128, .i1⟩
  | 121 => ⟨S128x128, .i32⟩
  | 122 => ⟨S128x128, .i32⟩
  | 123 => ⟨S128x128, .i32⟩
  | 124 => ⟨S_, .i32⟩
  | 125 => ⟨S128x128, .i32⟩
  | 126 => ⟨S128x128, .i1⟩
  | 127 => ⟨S_, .i32⟩
  | _ => ⟨S4096x512, .f32⟩

abbrev hbmTy0_1 (i : Nat) : BufTy := match i % 128 with
  | 0 => ⟨S128x128, .i32⟩
  | 1 => ⟨S128x128, .i32⟩
  | 2 => ⟨S128x128, .i32⟩
  | 3 => ⟨S128x128x1, .i32⟩
  | 4 => ⟨S128x128x8, .f32⟩
  | 5 => ⟨S8x128x128, .f32⟩
  | 6 => ⟨S8x1x1, .f32⟩
  | 7 => ⟨S8x128x128, .f32⟩
  | 8 => ⟨S8x128x128, .f32⟩
  | 9 => ⟨S1x128, .i32⟩
  | 10 => ⟨S_, .i32⟩
  | 11 => ⟨S_, .i32⟩
  | 12 => ⟨S1x128, .i32⟩
  | 13 => ⟨S1x128, .i32⟩
  | 14 => ⟨S1x128, .i32⟩
  | 15 => ⟨S_, .i32⟩
  | 16 => ⟨S1x128, .i32⟩
  | 17 => ⟨S1x128, .i1⟩
  | 18 => ⟨S1x128, .i32⟩
  | 19 => ⟨S1x128, .i32⟩
  | 20 => ⟨S_, .i32⟩
  | 21 => ⟨S1x128, .i32⟩
  | 22 => ⟨S1x128, .i1⟩
  | 23 => ⟨S1x128, .i1⟩
  | 24 => ⟨S_, .i32⟩
  | 25 => ⟨S1x128, .i32⟩
  | 26 => ⟨S1x128, .i32⟩
  | 27 => ⟨S1x128, .i32⟩
  | 28 => ⟨S128x1, .i32⟩
  | 29 => ⟨S_, .i32⟩
  | 30 => ⟨S_, .i32⟩
  | 31 => ⟨S128x1, .i32⟩
  | 32 => ⟨S128x1, .i32⟩
  | 33 => ⟨S128x1, .i32⟩
  | 34 => ⟨S_, .i32⟩
  | 35 => ⟨S128x1, .i32⟩
  | 36 => ⟨S128x1, .i1⟩
  | 37 => ⟨S128x1, .i32⟩
  | 38 => ⟨S128x1, .i32⟩
  | 39 => ⟨S_, .i32⟩
  | 40 => ⟨S128x1, .i32⟩
  | 41 => ⟨S128x1, .i1⟩
  | 42 => ⟨S128x1, .i1⟩
  | 43 => ⟨S_, .i32⟩
  | 44 => ⟨S128x1, .i32⟩
  | 45 => ⟨S128x1, .i32⟩
  | 46 => ⟨S128x1, .i32⟩
  | 47 => ⟨S128x128, .i32⟩
  | 48 => ⟨S128x128, .i32⟩
  | 49 => ⟨S128x128, .i1⟩
  | 50 => ⟨S_, .f32⟩
  | 51 => ⟨S_, .f32⟩
  | 52 => ⟨S1x128x128, .i1⟩
  | 53 => ⟨S8x128x128, .f32⟩
  | 54 => ⟨S8x128x128, .f32⟩
  | 55 => ⟨S_, .f32⟩
  | 56 => ⟨S_, .f32⟩
  | 57 => ⟨S8x128x128, .i1⟩
  | 58 => ⟨S8x128x128, .f32⟩
  | 59 => ⟨S8x128x128, .f32⟩
  | 60 => ⟨S8x128x128, .f32⟩
  | 61 => ⟨S8x128x128, .f32⟩
  | 62 => ⟨S8x1x128x128, .f32⟩
  | 63 => ⟨S8x1x128x128, .f32⟩
  | 64 => ⟨S8x2x128x128, .f32⟩
  | 65 => ⟨S4x2x2x128x128, .f32⟩
  | 66 => ⟨S4096x512, .bf16⟩
  | 67 => ⟨S512x4096, .f32⟩
  | 68 => ⟨S512x4096, .bf16⟩
  | 69 => ⟨S4096x512, .bf16⟩
  | 70 => ⟨S4096x512, .bf16⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | .local _ .vmem, ⟨0, _⟩ => ⟨S128x128, .bf16⟩
  | .local _ .vmem, ⟨1, _⟩ => ⟨S128x128, .bf16⟩
  | .local _ .vmem, ⟨2, _⟩ => ⟨S128x4096, .bf16⟩
  | .local _ .vmem, ⟨3, _⟩ => ⟨S128x4096, .bf16⟩
  | .local _ .vmem, ⟨4, _⟩ => ⟨S4096x128, .bf16⟩
  | .local _ .vmem, ⟨5, _⟩ => ⟨S4096x128, .bf16⟩
  | .local _ .vmem, ⟨6, _⟩ => ⟨S1x2x2x128x128, .f32⟩
  | .local _ .vmem, ⟨7, _⟩ => ⟨S1x2x2x128x128, .f32⟩
  | .local _ .vmem, ⟨8, _⟩ => ⟨S1x128, .f32⟩
  | .local _ .vmem, ⟨9, _⟩ => ⟨S128x128, .bf16⟩
  | .local _ .vmem, ⟨10, _⟩ => ⟨S128x128, .bf16⟩
  | .local _ .vmem, ⟨11, _⟩ => ⟨S4x128x128, .f32⟩
  | .local _ .vmem, ⟨12, _⟩ => ⟨S4x128x128, .f32⟩
  | .local _ .smem, ⟨0, _⟩ => ⟨S1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_3 : Ref sig .tc := ⟨.hbm, 39, rfl⟩
abbrev main_v25 : Ref sig .tc := ⟨.hbm, 40, rfl⟩
abbrev main_v26 : Ref sig .tc := ⟨.hbm, 41, rfl⟩
abbrev main_c_4 : Ref sig .tc := ⟨.hbm, 42, rfl⟩
abbrev main_c_5 : Ref sig .tc := ⟨.hbm, 43, rfl⟩
abbrev main_call0_v0 : Ref sig .tc := ⟨.hbm, 44, rfl⟩
abbrev main_call0_v1 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_v36 : Ref sig .tc := ⟨.hbm, 58, rfl⟩
abbrev main_cst_9 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_10 : Ref sig .tc := ⟨.hbm, 63, rfl⟩
abbrev main_v40 : Ref sig .tc := ⟨.hbm, 64, rfl⟩
abbrev main_v41 : Ref sig .tc := ⟨.hbm, 65, rfl⟩
abbrev main_c_11 : Ref sig .tc := ⟨.hbm, 66, rfl⟩
abbrev main_v42 : Ref sig .tc := ⟨.hbm, 67, rfl⟩
abbrev main_v43 : Ref sig .tc := ⟨.hbm, 68, rfl⟩
abbrev main_c_12 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_c_13 : Ref sig .tc := ⟨.hbm, 75, rfl⟩
abbrev main_v49 : Ref sig .tc := ⟨.hbm, 76, rfl⟩
abbrev main_v50 : Ref sig .tc := ⟨.hbm, 77, rfl⟩
abbrev main_c_14 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_c_15 : Ref sig .tc := ⟨.hbm, 88, rfl⟩
abbrev main_v60 : Ref sig .tc := ⟨.hbm, 89, rfl⟩
abbrev main_v61 : Ref sig .tc := ⟨.hbm, 90, rfl⟩
abbrev main_c_16 : Ref sig .tc := ⟨.hbm, 91, rfl⟩
abbrev main_c_17 : Ref sig .tc := ⟨.hbm, 92, rfl⟩
abbrev main_call2_v0 : Ref sig .tc := ⟨.hbm, 93, rfl⟩
abbrev main_call2_v1 : Ref sig .tc := ⟨.hbm, 94, rfl⟩
abbrev main_v62 : Ref sig .tc := ⟨.hbm, 95, rfl⟩
abbrev main_v63 : Ref sig .tc := ⟨.hbm, 96, rfl⟩
abbrev main_c_18 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_19 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_20 : Ref sig .tc := ⟨.hbm, 105, rfl⟩
abbrev main_v70 : Ref sig .tc := ⟨.hbm, 106, rfl⟩
abbrev main_v71 : Ref sig .tc := ⟨.hbm, 107, rfl⟩
abbrev main_cst_21 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_c_22 : Ref sig .tc := ⟨.hbm, 112, rfl⟩
abbrev main_v75 : Ref sig .tc := ⟨.hbm, 113, rfl⟩
abbrev main_v76 : Ref sig .tc := ⟨.hbm, 114, rfl⟩
abbrev main_c_23 : Ref sig .tc := ⟨.hbm, 115, rfl⟩
abbrev main_v77 : Ref sig .tc := ⟨.hbm, 116, rfl⟩
abbrev main_v78 : Ref sig .tc := ⟨.hbm, 117, rfl⟩
abbrev main_c_24 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_c_25 : Ref sig .tc := ⟨.hbm, 124, rfl⟩
abbrev main_v84 : Ref sig .tc := ⟨.hbm, 125, rfl⟩
abbrev main_v85 : Ref sig .tc := ⟨.hbm, 126, rfl⟩
abbrev main_c_26 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_c_27 : Ref sig .tc := ⟨.hbm, 138, rfl⟩
abbrev main_call4_v0 : Ref sig .tc := ⟨.hbm, 139, rfl⟩
abbrev main_call4_v1 : Ref sig .tc := ⟨.hbm, 140, rfl⟩
abbrev main_call4_v2 : Ref sig .tc := ⟨.hbm, 141, rfl⟩
abbrev main_call4_v3 : Ref sig .tc := ⟨.hbm, 142, rfl⟩
abbrev main_call4_v4 : Ref sig .tc := ⟨.hbm, 143, rfl⟩
abbrev main_call4_v5 : Ref sig .tc := ⟨.hbm, 144, rfl⟩
abbrev main_call4_v6 : Ref sig .tc := ⟨.hbm, 145, rfl⟩
abbrev main_call4_v7 : Ref sig .tc := ⟨.hbm, 146, rfl⟩
abbrev main_call4_v8 : Ref sig .tc := ⟨.hbm, 147, rfl⟩
abbrev main_call4_c : Ref sig .tc := ⟨.hbm, 148, rfl⟩
abbrev main_call4_v9 : Ref sig .tc := ⟨.hbm, 149, rfl⟩
abbrev main_call4_v10 : Ref sig .tc := ⟨.hbm, 150, rfl⟩
abbrev main_call4_v11 : Ref sig .tc := ⟨.hbm, 151, rfl⟩
abbrev main_call4_c_0 : Ref sig .tc := ⟨.hbm, 152, rfl⟩
abbrev main_call4_v12 : Ref sig .tc := ⟨.hbm, 153, rfl⟩
abbrev main_call4_v13 : Ref sig .tc := ⟨.hbm, 154, rfl⟩
abbrev main_v96 : Ref sig .tc := ⟨.hbm, 155, rfl⟩
abbrev main_v97 : Ref sig .tc := ⟨.hbm, 156, rfl⟩
abbrev main_c_28 : Ref sig .tc := ⟨.hbm, 157, rfl⟩
abbrev main_call5_v0 : Ref sig .tc := ⟨.hbm, 158, rfl⟩
abbrev main_call5_v1 : Ref sig .tc := ⟨.hbm, 159, rfl⟩
abbrev main_call5_v2 : Ref sig .tc := ⟨.hbm, 160, rfl⟩
abbrev main_call5_v3 : Ref sig .tc := ⟨.hbm, 161, rfl⟩
abbrev main_call5_v4 : Ref sig .tc := ⟨.hbm, 162, rfl⟩
abbrev main_call5_v5 : Ref sig .tc := ⟨.hbm, 163, rfl⟩
abbrev main_call5_v6 : Ref sig .tc := ⟨.hbm, 164, rfl⟩
abbrev main_call5_v7 : Ref sig .tc := ⟨.hbm, 165, rfl⟩
abbrev main_call5_v8 : Ref sig .tc := ⟨.hbm, 166, rfl⟩
abbrev main_call5_c : Ref sig .tc := ⟨.hbm, 167, rfl⟩
abbrev main_call5_v9 : Ref sig .tc := ⟨.hbm, 168, rfl⟩
abbrev main_call5_v10 : Ref sig .tc := ⟨.hbm, 169, rfl⟩
abbrev main_call5_v11 : Ref sig .tc := ⟨.hbm, 170, rfl⟩
abbrev main_call5_c_0 : Ref sig .tc := ⟨.hbm, 171, rfl⟩
abbrev main_call5_v12 : Ref sig .tc := ⟨.hbm, 172, rfl⟩
abbrev main_call5_v13 : Ref sig .tc := ⟨.hbm, 173, rfl⟩
abbrev main_v98 : Ref sig .tc := ⟨.hbm, 174, rfl⟩
abbrev main_v99 : Ref sig .tc := ⟨.hbm, 175, rfl⟩
abbrev main_v100 : Ref sig .tc := ⟨.hbm, 176, rfl⟩
abbrev main_v101 : Ref sig .tc := ⟨.hbm, 177, rfl⟩
abbrev main_cst_29 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_cst_30 : Ref sig .tc := ⟨.hbm, 183, rfl⟩
abbrev main_call6_v0 : Ref sig .tc := ⟨.hbm, 184, rfl⟩
abbrev main_call6_v1 : Ref sig .tc := ⟨.hbm, 185, rfl⟩
abbrev main_call6_v2 : Ref sig .tc := ⟨.hbm, 186, rfl⟩
abbrev main_v106 : Ref sig .tc := ⟨.hbm, 187, rfl⟩
abbrev main_v107 : Ref sig .tc := ⟨.hbm, 188, rfl⟩
abbrev main_v108 : Ref sig .tc := ⟨.hbm, 189, rfl⟩
abbrev main_v109 : Ref sig .tc := ⟨.hbm, 190, rfl⟩
abbrev main_v110 : Ref sig .tc := ⟨.hbm, 191, rfl⟩
abbrev main_v111 : Ref sig .tc := ⟨.hbm, 192, rfl⟩
abbrev main_v112 : Ref sig .tc := ⟨.hbm, 193, rfl⟩
abbrev main_v113 : Ref sig .tc := ⟨.hbm, 194, rfl⟩
abbrev main_v114 : Ref sig .tc := ⟨.hbm, 195, rfl⟩
abbrev main_v115 : Ref sig .tc := ⟨.hbm, 196, rfl⟩
abbrev main_v116 : Ref sig .tc := ⟨.hbm, 197, rfl⟩
abbrev main_v117 : Ref sig .tc := ⟨.hbm, 198, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![1, 4, 32], ![false, false, false]⟩

@[reducible] def k0_t1_loop (i : grid0.Coords) : Scf.Loop 32 :=
  let c0_i32_43 : BitVec 32 := 0#32
  let arg2 : BitVec 32 := BitVec.ofNat 32 (i 2).val
  let c1_i32_40 : BitVec 32 := 1#32
  let v131 : BitVec 32 := Scalar.subi arg2 c1_i32_40
  let c0_i32_41 : BitVec 32 := 0#32
  let v132 : BitVec 32 := Scalar.maxsi v131 c0_i32_41
  let v133 : BitVec 32 := Scalar.subi v132 c0_i32_43
  let c1_i32_44 : BitVec 32 := 1#32
  let v135 : BitVec 32 := Scalar.divsi v133 c1_i32_44
  let v136 : BitVec 32 := Scalar.muli v135 c1_i32_44
  let v137 : BitVec 32 := Scalar.addi c0_i32_43 v136
  let c1_i32_45 : BitVec 32 := 1#32
  ⟨c0_i32_43, v137, c1_i32_45⟩
def k0_mult1 (i : grid0.Coords) (k0_t1 : Fin (k0_t1_loop i).trips) : BitVec 32 :=
  let c0_i32_43 : BitVec 32 := 0#32
  let c1_i32_45 : BitVec 32 := 1#32
  let arg12 : BitVec 32 := Scf.iv c0_i32_43 c1_i32_45 k0_t1
  let c128_i32_306 : BitVec 32 := 128#32
  let v634 : BitVec 32 := Scalar.muli arg12 c128_i32_306
  v634
def k0_off1 (i : grid0.Coords) (k0_t1 : Fin (k0_t1_loop i).trips) : Fin 2 → Nat :=
  let c0_307 : Index := 0#32
  let c0_i32_43 : BitVec 32 := 0#32
  let c1_i32_45 : BitVec 32 := 1#32
  let arg12 : BitVec 32 := Scf.iv c0_i32_43 c1_i32_45 k0_t1
  let c128_i32_306 : BitVec 32 := 128#32
  let v634 : BitVec 32 := Scalar.muli arg12 c128_i32_306
  let v635 : BitVec 32 := v634
  let v636 : Index := Scalar.indexCast v635
  ![0, v636.toNat]
def k0_off2 (i : grid0.Coords) (k0_t1 : Fin (k0_t1_loop i).trips) : Fin 2 → Nat :=
  let c0_i32_43 : BitVec 32 := 0#32
  let c1_i32_45 : BitVec 32 := 1#32
  let arg12 : BitVec 32 := Scf.iv c0_i32_43 c1_i32_45 k0_t1
  let c128_i32_306 : BitVec 32 := 128#32
  let v634 : BitVec 32 := Scalar.muli arg12 c128_i32_306
  let v635 : BitVec 32 := v634
  let v639 : Index := Scalar.indexCast v635
  let c0_308 : Index := 0#32
  ![v639.toNat, 0]
@[reducible] def k0_t2_loop (i : grid0.Coords) : Scf.Loop 32 :=
  let c0_i32_43 : BitVec 32 := 0#32
  let arg2 : BitVec 32 := BitVec.ofNat 32 (i 2).val
  let c1_i32_40 : BitVec 32 := 1#32
  let v131 : BitVec 32 := Scalar.subi arg2 c1_i32_40
  let c0_i32_41 : BitVec 32 := 0#32
  let v132 : BitVec 32 := Scalar.maxsi v131 c0_i32_41
  let v133 : BitVec 32 := Scalar.subi v132 c0_i32_43
  let c1_i32_44 : BitVec 32 := 1#32
  let v135 : BitVec 32 := Scalar.divsi v133 c1_i32_44
  let v136 : BitVec 32 := Scalar.muli v135 c1_i32_44
  let v137 : BitVec 32 := Scalar.addi c0_i32_43 v136
  let v134 : BitVec 32 := Scalar.addi c0_i32_43 v133
  let c1_i32_46 : BitVec 32 := 1#32
  ⟨v137, v134, c1_i32_46⟩
def k0_mult2 (i : grid0.Coords) (k0_t2 : Fin (k0_t2_loop i).trips) : BitVec 32 :=
  let c0_i32_43 : BitVec 32 := 0#32
  let arg2 : BitVec 32 := BitVec.ofNat 32 (i 2).val
  let c1_i32_40 : BitVec 32 := 1#32
  let v131 : BitVec 32 := Scalar.subi arg2 c1_i32_40
  let c0_i32_41 : BitVec 32 := 0#32
  let v132 : BitVec 32 := Scalar.maxsi v131 c0_i32_41
  let v133 : BitVec 32 := Scalar.subi v132 c0_i32_43
  let c1_i32_44 : BitVec 32 := 1#32
  let v135 : BitVec 32 := Scalar.divsi v133 c1_i32_44
  let v136 : BitVec 32 := Scalar.muli v135 c1_i32_44
  let v137 : BitVec 32 := Scalar.addi c0_i32_43 v136
  let c1_i32_46 : BitVec 32 := 1#32
  let arg12 : BitVec 32 := Scf.iv v137 c1_i32_46 k0_t2
  let c128_i32_306 : BitVec 32 := 128#32
  let v634 : BitVec 32 := Scalar.muli arg12 c128_i32_306
  v634
def k0_off3 (i : grid0.Coords) (k0_t2 : Fin (k0_t2_loop i).trips) : Fin 2 → Nat :=
  let c0_307 : Index := 0#32
  let c0_i32_43 : BitVec 32 := 0#32
  let arg2 : BitVec 32 := BitVec.ofNat 32 (i 2).val
  let c1_i32_40 : BitVec 32 := 1#32
  let v131 : BitVec 32 := Scalar.subi arg2 c1_i32_40
  let c0_i32_41 : BitVec 32 := 0#32
  let v132 : BitVec 32 := Scalar.maxsi v131 c0_i32_41
  let v133 : BitVec 32 := Scalar.subi v132 c0_i32_43
  let c1_i32_44 : BitVec 32 := 1#32
  let v135 : BitVec 32 := Scalar.divsi v133 c1_i32_44
  let v136 : BitVec 32 := Scalar.muli v135 c1_i32_44
  let v137 : BitVec 32 := Scalar.addi c0_i32_43 v136
  let c1_i32_46 : BitVec 32 := 1#32
  let arg12 : BitVec 32 := Scf.iv v137 c1_i32_46 k0_t2
  let c128_i32_306 : BitVec 32 := 128#32
  let v634 : BitVec 32 := Scalar.muli arg12 c128_i32_306
  let v635 : BitVec 32 := v634
  let v636 : Index := Scalar.indexCast v635
  ![0, v636.toNat]
def k0_off4 (i : grid0.Coords) (k0_t2 : Fin (k0_t2_loop i).trips) : Fin 2 → Nat :=
  let c0_i32_43 : BitVec 32 := 0#32
  let arg2 : BitVec 32 := BitVec.ofNat 32 (i 2).val
  let c1_i32_40 : BitVec 32 := 1#32
  let v131 : BitVec 32 := Scalar.subi arg2 c1_i32_40
  let c0_i32_41 : BitVec 32 := 0#32
  let v132 : BitVec 32 := Scalar.maxsi v131 c0_i32_41
  let v133 : BitVec 32 := Scalar.subi v132 c0_i32_43
  let c1_i32_44 : BitVec 32 := 1#32
  let v135 : BitVec 32 := Scalar.divsi v133 c1_i32_44
  let v136 : BitVec 32 := Scalar.muli v135 c1_i32_44
  let v137 : BitVec 32 := Scalar.addi c0_i32_43 v136
  let c1_i32_46 : BitVec 32 := 1#32
  let arg12 : BitVec 32 := Scf.iv v137 c1_i32_46 k0_t2
  let c128_i32_306 : BitVec 32 := 128#32
  let v634 : BitVec 32 := Scalar.muli arg12 c128_i32_306
  let v635 : BitVec 32 := v634
  let v639 : Index := Scalar.indexCast v635
  let c0_308 : Index := 0#32
  ![v639.toNat, 0]
def k0_mult3 (i : grid0.Coords) : BitVec 32 :=
  let arg2 : BitVec 32 := BitVec.ofNat 32 (i 2).val
  let c1_i32_50 : BitVec 32 := 1#32
  let v140 : BitVec 32 := Scalar.subi arg2 c1_i32_50
  let c0_i32_51 : BitVec 32 := 0#32
  let v141 : BitVec 32 := Scalar.maxsi v140 c0_i32_51
  let c128_i32 : BitVec 32 := 128#32
  let v142 : BitVec 32 := Scalar.muli v141 c128_i32
  v142
def k0_off5 (i : grid0.Coords) : Fin 2 → Nat :=
  let c0_52 : Index := 0#32
  let arg2 : BitVec 32 := BitVec.ofNat 32 (i 2).val
  let c1_i32_50 : BitVec 32 := 1#32
  let v140 : BitVec 32 := Scalar.subi arg2 c1_i32_50
  let c0_i32_51 : BitVec 32 := 0#32
  let v141 : BitVec 32 := Scalar.maxsi v140 c0_i32_51
  let c128_i32 : BitVec 32 := 128#32
  let v142 : BitVec 32 := Scalar.muli v141 c128_i32
  let v143 : BitVec 32 := v142
  let v144 : Index := Scalar.indexCast v143
  ![0, v144.toNat]
def k0_off6 (i : grid0.Coords) : Fin 2 → Nat :=
  let arg2 : BitVec 32 := BitVec.ofNat 32 (i 2).val
  let c1_i32_50 : BitVec 32 := 1#32
  let v140 : BitVec 32 := Scalar.subi arg2 c1_i32_50
  let c0_i32_51 : BitVec 32 := 0#32
  let v141 : BitVec 32 := Scalar.maxsi v140 c0_i32_51
  let c128_i32 : BitVec 32 := 128#32
  let v142 : BitVec 32 := Scalar.muli v141 c128_i32
  let v143 : BitVec 32 := v142
  let v147 : Index := Scalar.indexCast v143
  let c0_53 : Index := 0#32
  ![v147.toNat, 0]
def k0_mult4 (i : grid0.Coords) : BitVec 32 :=
  let arg2 : BitVec 32 := BitVec.ofNat 32 (i 2).val
  let c128_i32_148 : BitVec 32 := 128#32
  let v318 : BitVec 32 := Scalar.muli arg2 c128_i32_148
  v318
def k0_off7 (i : grid0.Coords) : Fin 2 → Nat :=
  let c0_149 : Index := 0#32
  let arg2 : BitVec 32 := BitVec.ofNat 32 (i 2).val
  let c128_i32_148 : BitVec 32 := 128#32
  let v318 : BitVec 32 := Scalar.muli arg2 c128_i32_148
  let v319 : BitVec 32 := v318
  let v320 : Index := Scalar.indexCast v319
  ![0, v320.toNat]
def k0_off8 (i : grid0.Coords) : Fin 2 → Nat :=
  let arg2 : BitVec 32 := BitVec.ofNat 32 (i 2).val
  let c128_i32_148 : BitVec 32 := 128#32
  let v318 : BitVec 32 := Scalar.muli arg2 c128_i32_148
  let v319 : BitVec 32 := v318
  let v323 : Index := Scalar.indexCast v319
  let c0_150 : Index := 0#32
  ![v323.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg1.toNat, c0_i32.toNat, c0_i32_0.toNat, c0_i32_1.toNat, c0_i32_2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2x2x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Kernel3Ideal.lean ====
variable {F : FTy → Type} [FloatOps F] [Named F]
def κ : String → Option EReal := fun
  | "mask" => some ⊥
  | "scale2" => some (((11863283 / 67108864) * (Real.log 2)⁻¹ : ℝ) : EReal)
  | _ => none
-- ==== Reference3Ideal.lean ====
abbrev S4096x512 : Shape := ⟨2, ![4096, 512]⟩
abbrev S32x8 : Shape := ⟨2, ![32, 8]⟩
abbrev S32 : Shape := ⟨1, ![32]⟩
abbrev S64 : Shape := ⟨1, ![64]⟩
abbrev S_ : Shape := ⟨0, ![]⟩
abbrev S4096x8x64 : Shape := ⟨3, ![4096, 8, 64]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4096x4096x1 : Shape := ⟨3, ![4096, 4096, 1]⟩
abbrev S4096x4096x8 : Shape := ⟨3, ![4096, 4096, 8]⟩
abbrev S8x4096x4096 : Shape := ⟨3, ![8, 4096, 4096]⟩
abbrev S4096x8x32 : Shape := ⟨3, ![4096, 8, 32]⟩
abbrev S8x4096 : Shape := ⟨2, ![8, 4096]⟩
abbrev S8x4096x1 : Shape := ⟨3, ![8, 4096, 1]⟩
abbrev S8x64x4096 : Shape := ⟨3, ![8, 64, 4096]⟩
abbrev S4096x8 : Shape := ⟨2, ![4096, 8]⟩
abbrev S4096x8x1 : Shape := ⟨3, ![4096, 8, 1]⟩
abbrev S1x1x64 : Shape := ⟨3, ![1, 1, 64]⟩

abbrev nBuf : Space → Nat
  | .hbm => 194
  | .vmem => 0
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S32x8, .f32⟩
  | 4 => ⟨S32, .f32⟩
  | 5 => ⟨S32, .f32⟩
  | 6 => ⟨S32, .f32⟩
  | 7 => ⟨S32, .f32⟩
  | 8 => ⟨S64, .f32⟩
  | 9 => ⟨S32, .f32⟩
  | 10 => ⟨S_, .f32⟩
  | 11 => ⟨S_, .f32⟩
  | 12 => ⟨S_, .f32⟩
  | 13 => ⟨S32, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S4096x8x64, .f32⟩
  | 21 => ⟨S4096x8x64, .f32⟩
  | 22 => ⟨S4096x8x64, .f32⟩
  | 23 => ⟨S4096, .i32⟩
  | 24 => ⟨S1x4096, .i32⟩
  | 25 => ⟨S4096x1, .i32⟩
  | 26 => ⟨S4096x4096, .i32⟩
  | 27 => ⟨S4096x4096, .i32⟩
  | 28 => ⟨S4096x4096, .i32⟩
  | 29 => ⟨S_, .i32⟩
  | 30 => ⟨S4096x4096, .i32⟩
  | 31 => ⟨S4096x4096, .i1⟩
  | 32 => ⟨S_, .i32⟩
  | 33 => ⟨S_, .i32⟩
  | 34 => ⟨S4096x4096, .i32⟩
  | 35 => ⟨S4096x4096, .i32⟩
  | 36 => ⟨S4096x4096, .i32⟩
  | 37 => ⟨S4096x4096, .i32⟩
  | 38 => ⟨S_, .i32⟩
  | 39 => ⟨S4096x4096, .i32⟩
  | 40 => ⟨S4096x4096, .i32⟩
  | 41 => ⟨S4096x4096, .f32⟩
  | 42 => ⟨S_, .f32⟩
  | 43 => ⟨S4096x4096, .f32⟩
  | 44 => ⟨S4096x4096, .f32⟩
  | 45 => ⟨S4096x4096, .f32⟩
  | 46 => ⟨S_, .f32⟩
  | 47 => ⟨S4096x4096, .f32⟩
  | 48 => ⟨S4096x4096, .f32⟩
  | 49 => ⟨S_, .f32⟩
  | 50 => ⟨S4096x4096, .f32⟩
  | 51 => ⟨S4096x4096, .f32⟩
  | 52 => ⟨S4096x4096, .i32⟩
  | 53 => ⟨S_, .i32⟩
  | 54 => ⟨S4096x4096, .i32⟩
  | 55 => ⟨S4096x4096, .i32⟩
  | 56 => ⟨S_, .i32⟩
  | 57 => ⟨S4096x4096, .i32⟩
  | 58 => ⟨S4096x4096, .i32⟩
  | 59 => ⟨S_, .i32⟩
  | 60 => ⟨S4096x4096, .i32⟩
  | 61 => ⟨S4096x4096, .i1⟩
  | 62 => ⟨S4096x4096, .i32⟩
  | 63 => ⟨S4096x4096, .i32⟩
  | 64 => ⟨S4096x4096, .i32⟩
  | 65 => ⟨S_, .i32⟩
  | 66 => ⟨S4096x4096, .i32⟩
  | 67 => ⟨S4096x4096, .i1⟩
  | 68 => ⟨S_, .i32⟩
  | 69 => ⟨S4096x4096, .i32⟩
  | 70 => ⟨S4096x4096, .i32⟩
  | 71 => ⟨S4096x4096, .i32⟩
  | 72 => ⟨S4096x4096x1, .i32⟩
  | 73 => ⟨S4096x4096x8, .f32⟩
  | 74 => ⟨S8x4096x4096, .f32⟩
  | 75 => ⟨S1x4096, .i32⟩
  | 76 => ⟨S_, .i32⟩
  | 77 => ⟨S_, .i32⟩
  | 78 => ⟨S1x4096, .i32⟩
  | 79 => ⟨S1x4096, .i32⟩
  | 80 => ⟨S1x4096, .i32⟩
  | 81 => ⟨S_, .i32⟩
  | 82 => ⟨S1x4096, .i32⟩
  | 83 => ⟨S1x4096, .i1⟩
  | 84 => ⟨S1x4096, .i32⟩
  | 85 => ⟨S1x4096, .i32⟩
  | 86 => ⟨S_, .i32⟩
  | 87 => ⟨S1x4096, .i32⟩
  | 88 => ⟨S1x4096, .i1⟩
  | 89 => ⟨S1x4096, .i1⟩
  | 90 => ⟨S_, .i32⟩
  | 91 => ⟨S1x4096, .i32⟩
  | 92 => ⟨S1x4096, .i32⟩
  | 93 => ⟨S1x4096, .i32⟩
  | 94 => ⟨S4096x1, .i32⟩
  | 95 => ⟨S_, .i32⟩
  | 96 => ⟨S_, .i32⟩
  | 97 => ⟨S4096x1, .i32⟩
  | 98 => ⟨S4096x1, .i32⟩
  | 99 => ⟨S4096x1, .i32⟩
  | 100 => ⟨S_, .i32⟩
  | 101 => ⟨S4096x1, .i32⟩
  | 102 => ⟨S4096x1, .i1⟩
  | 103 => ⟨S4096x1, .i32⟩
  | 104 => ⟨S4096x1, .i32⟩
  | 105 => ⟨S_, .i32⟩
  | 106 => ⟨S4096x1, .i32⟩
  | 107 => ⟨S4096x1, .i1⟩
  | 108 => ⟨S4096x1, .i1⟩
  | 109 => ⟨S_, .i32⟩
  | 110 => ⟨S4096x1, .i32⟩
  | 111 => ⟨S4096x1, .i32⟩
  | 112 => ⟨S4096x1, .i32⟩
  | 113 => ⟨S4096x4096, .i32⟩
  | 114 => ⟨S4096x4096, .i32⟩
  | 115 => ⟨S4096x4096, .i1⟩
  | 116 => ⟨S4096x8x32, .f32⟩
  | 117 => ⟨S4096x8x32, .f32⟩
  | 118 => ⟨S8x4096x4096, .f32⟩
  | 119 => ⟨S_, .f32⟩
  | 120 => ⟨S8x4096x4096, .f32⟩
  | 121 => ⟨S8x4096x4096, .f32⟩
  | 122 => ⟨S8x4096x4096, .f32⟩
  | 123 => ⟨S_, .f32⟩
  | 124 => ⟨S_, .f32⟩
  | 125 => ⟨S8x4096x4096, .i1⟩
  | 126 => ⟨S8x4096x4096, .f32⟩
  | 127 => ⟨S8x4096x4096, .f32⟩
  | _ => ⟨S4096x512, .f32⟩

abbrev hbmTy0_1 (i : Nat) : BufTy := match i % 128 with
  | 0 => ⟨S_, .f32⟩
  | 1 => ⟨S8x4096, .f32⟩
  | 2 => ⟨S_, .f32⟩
  | 3 => ⟨S8x4096, .f32⟩
  | 4 => ⟨S8x4096, .f32⟩
  | 5 => ⟨S8x4096x1, .f32⟩
  | 6 => ⟨S8x4096x4096, .f32⟩
  | 7 => ⟨S8x4096x4096, .f32⟩
  | 8 => ⟨S8x4096x4096, .f32⟩
  | 9 => ⟨S_, .f32⟩
  | 10 => ⟨S8x4096, .f32⟩
  | 11 => ⟨S8x4096x1, .f32⟩
  | 12 => ⟨S8x4096x4096, .f32⟩
  | 13 => ⟨S8x4096x4096, .f32⟩
  | 14 => ⟨S4096x8x32, .f32⟩
  | 15 => ⟨S4096x8x32, .f32⟩
  | 16 => ⟨S8x4096x4096, .f32⟩
  | 17 => ⟨S_, .f32⟩
  | 18 => ⟨S8x4096x4096, .f32⟩
  | 19 => ⟨S8x4096x4096, .f32⟩
  | 20 => ⟨S8x4096x4096, .f32⟩
  | 21 => ⟨S_, .f32⟩
  | 22 => ⟨S_, .f32⟩
  | 23 => ⟨S8x4096x4096, .i1⟩
  | 24 => ⟨S8x4096x4096, .f32⟩
  | 25 => ⟨S8x4096x4096, .f32⟩
  | 26 => ⟨S_, .f32⟩
  | 27 => ⟨S8x4096, .f32⟩
  | 28 => ⟨S_, .f32⟩
  | 29 => ⟨S8x4096, .f32⟩
  | 30 => ⟨S8x4096, .f32⟩
  | 31 => ⟨S8x4096x1, .f32⟩
  | 32 => ⟨S8x4096x4096, .f32⟩
  | 33 => ⟨S8x4096x4096, .f32⟩
  | 34 => ⟨S8x4096x4096, .f32⟩
  | 35 => ⟨S_, .f32⟩
  | 36 => ⟨S8x4096, .f32⟩
  | 37 => ⟨S8x4096x1, .f32⟩
  | 38 => ⟨S8x4096x4096, .f32⟩
  | 39 => ⟨S8x4096x4096, .f32⟩
  | 40 => ⟨S8x4096x4096, .f32⟩
  | 41 => ⟨S8x4096x4096, .f32⟩
  | 42 => ⟨S8x4096x4096, .f32⟩
  | 43 => ⟨S8x64x4096, .f32⟩
  | 44 => ⟨S4096x8x64, .f32⟩
  | 45 => ⟨S4096x8x64, .f32⟩
  | 46 => ⟨S_, .f32⟩
  | 47 => ⟨S4096x8, .f32⟩
  | 48 => ⟨S4096x8x1, .f32⟩
  | 49 => ⟨S_, .f32⟩
  | 50 => ⟨S4096x8x1, .f32⟩
  | 51 => ⟨S4096x8x1, .f32⟩
  | 52 => ⟨S_, .f32⟩
  | 53 => ⟨S4096x8x1, .f32⟩
  | 54 => ⟨S4096x8x1, .f32⟩
  | 55 => ⟨S4096x8x1, .f32⟩
  | 56 => ⟨S4096x8x64, .f32⟩
  | 57 => ⟨S4096x8x64, .f32⟩
  | 58 => ⟨S1x1x64, .f32⟩
  | 59 => ⟨S4096x8x64, .f32⟩
  | 60 => ⟨S4096x8x64, .f32⟩
  | 61 => ⟨S_, .f32⟩
  | 62 => ⟨S4096x8x64, .f32⟩
  | 63 => ⟨S4096x8x64, .f32⟩
  | 64 => ⟨S4096x512, .f32⟩
  | 65 => ⟨S4096x512, .bf16⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_c_3 : Ref sig .tc := ⟨.hbm, 33, rfl⟩
abbrev main_call0_v0 : Ref sig .tc := ⟨.hbm, 34, rfl⟩
abbrev main_call0_v1 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_6 : Ref sig .tc := ⟨.hbm, 46, rfl⟩
abbrev main_v27 : Ref sig .tc := ⟨.hbm, 47, rfl⟩
abbrev main_v28 : Ref sig .tc := ⟨.hbm, 48, rfl⟩
abbrev main_cst_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_8 : Ref sig .tc := ⟨.hbm, 53, rfl⟩
abbrev main_v32 : Ref sig .tc := ⟨.hbm, 54, rfl⟩
abbrev main_v33 : Ref sig .tc := ⟨.hbm, 55, rfl⟩
abbrev main_c_9 : Ref sig .tc := ⟨.hbm, 56, rfl⟩
abbrev main_v34 : Ref sig .tc := ⟨.hbm, 57, rfl⟩
abbrev main_v35 : Ref sig .tc := ⟨.hbm, 58, rfl⟩
abbrev main_c_10 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_11 : Ref sig .tc := ⟨.hbm, 65, rfl⟩
abbrev main_v41 : Ref sig .tc := ⟨.hbm, 66, rfl⟩
abbrev main_v42 : Ref sig .tc := ⟨.hbm, 67, rfl⟩
abbrev main_c_12 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_13 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_v5 : Ref sig .tc := ⟨.hbm, 82, rfl⟩
abbrev main_call2_v6 : Ref sig .tc := ⟨.hbm, 83, rfl⟩
abbrev main_call2_v7 : Ref sig .tc := ⟨.hbm, 84, rfl⟩
abbrev main_call2_v8 : Ref sig .tc := ⟨.hbm, 85, rfl⟩
abbrev main_call2_c : Ref sig .tc := ⟨.hbm, 86, rfl⟩
abbrev main_call2_v9 : Ref sig .tc := ⟨.hbm, 87, rfl⟩
abbrev main_call2_v10 : Ref sig .tc := ⟨.hbm, 88, rfl⟩
abbrev main_call2_v11 : Ref sig .tc := ⟨.hbm, 89, rfl⟩
abbrev main_call2_c_0 : Ref sig .tc := ⟨.hbm, 90, rfl⟩
abbrev main_call2_v12 : Ref sig .tc := ⟨.hbm, 91, rfl⟩
abbrev main_call2_v13 : Ref sig .tc := ⟨.hbm, 92, rfl⟩
abbrev main_v50 : Ref sig .tc := ⟨.hbm, 93, rfl⟩
abbrev main_v51 : Ref sig .tc := ⟨.hbm, 94, rfl⟩
abbrev main_c_14 : Ref sig .tc := ⟨.hbm, 95, rfl⟩
abbrev main_call3_v0 : Ref sig .tc := ⟨.hbm, 96, rfl⟩
abbrev main_call3_v1 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_call3_v5 : Ref sig .tc := ⟨.hbm, 101, rfl⟩
abbrev main_call3_v6 : Ref sig .tc := ⟨.hbm, 102, rfl⟩
abbrev main_call3_v7 : Ref sig .tc := ⟨.hbm, 103, rfl⟩
abbrev main_call3_v8 : Ref sig .tc := ⟨.hbm, 104, rfl⟩
abbrev main_call3_c : Ref sig .tc := ⟨.hbm, 105, rfl⟩
abbrev main_call3_v9 : Ref sig .tc := ⟨.hbm, 106, rfl⟩
abbrev main_call3_v10 : Ref sig .tc := ⟨.hbm, 107, rfl⟩
abbrev main_call3_v11 : Ref sig .tc := ⟨.hbm, 108, rfl⟩
abbrev main_call3_c_0 : Ref sig .tc := ⟨.hbm, 109, rfl⟩
abbrev main_call3_v12 : Ref sig .tc := ⟨.hbm, 110, rfl⟩
abbrev main_call3_v13 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_cst_15 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_cst_16 : Ref sig .tc := ⟨.hbm, 123, rfl⟩
abbrev main_call4_v0 : Ref sig .tc := ⟨.hbm, 124, rfl⟩
abbrev main_call4_v1 : Ref sig .tc := ⟨.hbm, 125, rfl⟩
abbrev main_call4_v2 : Ref sig .tc := ⟨.hbm, 126, rfl⟩
abbrev main_v62 : Ref sig .tc := ⟨.hbm, 127, rfl⟩
abbrev main_cst_17 : Ref sig .tc := ⟨.hbm, 128, rfl⟩
abbrev main_v63 : Ref sig .tc := ⟨.hbm, 129, rfl⟩
abbrev main_cst_18 : Ref sig .tc := ⟨.hbm, 130, rfl⟩
abbrev main_v64 : Ref sig .tc := ⟨.hbm, 131, rfl⟩
abbrev main_v65 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev main_v69 : Ref sig .tc := ⟨.hbm, 136, rfl⟩
abbrev main_cst_19 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_cst_20 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_cst_21 : Ref sig .tc := ⟨.hbm, 149, rfl⟩
abbrev main_call5_v0 : Ref sig .tc := ⟨.hbm, 150, rfl⟩
abbrev main_call5_v1 : Ref sig .tc := ⟨.hbm, 151, rfl⟩
abbrev main_call5_v2 : Ref sig .tc := ⟨.hbm, 152, rfl⟩
abbrev main_v80 : Ref sig .tc := ⟨.hbm, 153, rfl⟩
abbrev main_cst_22 : Ref sig .tc := ⟨.hbm, 154, rfl⟩
abbrev main_v81 : Ref sig .tc := ⟨.hbm, 155, rfl⟩
abbrev main_cst_23 : Ref sig .tc := ⟨.hbm, 156, rfl⟩
abbrev main_v82 : Ref sig .tc := ⟨.hbm, 157, rfl⟩
abbrev main_v83 : Ref sig .tc := ⟨.hbm, 158, rfl⟩
abbrev main_v84 : Ref sig .tc := ⟨.hbm, 159, rfl⟩
abbrev main_v85 : Ref sig .tc := ⟨.hbm, 160, rfl⟩
abbrev main_v86 : Ref sig .tc := ⟨.hbm, 161, rfl⟩
abbrev main_v87 : Ref sig .tc := ⟨.hbm, 162, rfl⟩
abbrev main_cst_24 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_v95 : Ref sig .tc := ⟨.hbm, 171, rfl⟩
abbrev main_v96 : Ref sig .tc := ⟨.hbm, 172, rfl⟩
abbrev main_v97 : Ref sig .tc := ⟨.hbm, 173, rfl⟩
abbrev main_cst_25 : Ref sig .tc := ⟨.hbm, 174, rfl⟩
abbrev main_v98 : Ref sig .tc := ⟨.hbm, 175, rfl⟩
abbrev main_v99 : Ref sig .tc := ⟨.hbm, 176, rfl⟩
abbrev main_cst_26 : Ref sig .tc := ⟨.hbm, 177, rfl⟩
abbrev main_v100 : Ref sig .tc := ⟨.hbm, 178, rfl⟩
abbrev main_v101 : Ref sig .tc := ⟨.hbm, 179, rfl⟩
abbrev main_cst_27 : Ref sig .tc := ⟨.hbm, 180, rfl⟩
abbrev main_v102 : Ref sig .tc := ⟨.hbm, 181, rfl⟩
abbrev main_v103 : Ref sig .tc := ⟨.hbm, 182, rfl⟩
abbrev main_v104 : Ref sig .tc := ⟨.hbm, 183, rfl⟩
abbrev main_v105 : Ref sig .tc := ⟨.hbm, 184, rfl⟩
abbrev main_v106 : Ref sig .tc := ⟨.hbm, 185, rfl⟩
abbrev main_v107 : Ref sig .tc := ⟨.hbm, 186, rfl⟩
abbrev main_v108 : Ref sig .tc := ⟨.hbm, 187, rfl⟩
abbrev main_v109 : Ref sig .tc := ⟨.hbm, 188, rfl⟩
abbrev main_cst_28 : Ref sig .tc := ⟨.hbm, 189, rfl⟩
abbrev main_v110 : Ref sig .tc := ⟨.hbm, 190, rfl⟩
abbrev main_v111 : Ref sig .tc := ⟨.hbm, 191, rfl⟩
abbrev main_v112 : Ref sig .tc := ⟨.hbm, 192, rfl⟩
abbrev main_v113 : Ref sig .tc := ⟨.hbm, 193, rfl⟩

abbrev nD : Nat := 1
abbrev τ : Topo := Topo.v7x

variable {F : FTy → Type} [FloatOps F]
-- ==== Kernel4.lean ====
abbrev S128x1024 : Shape := ⟨2, ![128, 1024]⟩
abbrev S1024 : Shape := ⟨1, ![1024]⟩
abbrev S1024x3584 : Shape := ⟨2, ![1024, 3584]⟩
abbrev S1x1024 : Shape := ⟨2, ![1, 1024]⟩
abbrev S128x512 : Shape := ⟨2, ![128, 512]⟩
abbrev S512x128 : Shape := ⟨2, ![512, 128]⟩
abbrev S128x2048 : Shape := ⟨2, ![128, 2048]⟩
abbrev S128 : Shape := ⟨1, ![128]⟩
abbrev S128x1 : Shape := ⟨2, ![128, 1]⟩
abbrev S1024x512 : Shape := ⟨2, ![1024, 512]⟩
abbrev S1024x2048 : Shape := ⟨2, ![1024, 2048]⟩

abbrev nBuf : Space → Nat
  | .hbm => 11
  | .vmem => 9
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x3584, .f32⟩
  | .hbm, ⟨3, _⟩ => ⟨S1x1024, .f32⟩
  | .hbm, ⟨4, _⟩ => ⟨S1024x3584, .bf16⟩
  | .hbm, ⟨5, _⟩ => ⟨S128x512, .bf16⟩
  | .hbm, ⟨6, _⟩ => ⟨S128x512, .f32⟩
  | .hbm, ⟨7, _⟩ => ⟨S128x512, .f32⟩
  | .hbm, ⟨8, _⟩ => ⟨S512x128, .bf16⟩
  | .hbm, ⟨9, _⟩ => ⟨S128x512, .bf16⟩
  | .hbm, ⟨10, _⟩ => ⟨S128x2048, .f32⟩
  | .local _ .vmem, ⟨0, _⟩ => ⟨S128x1024, .f32⟩
  | .local _ .vmem, ⟨1, _⟩ => ⟨S1x1024, .f32⟩
  | .local _ .vmem, ⟨2, _⟩ => ⟨S1024x3584, .bf16⟩
  | .local _ .vmem, ⟨3, _⟩ => ⟨S128x512, .bf16⟩
  | .local _ .vmem, ⟨4, _⟩ => ⟨S128x512, .f32⟩
  | .local _ .vmem, ⟨5, _⟩ => ⟨S128x512, .f32⟩
  | .local _ .vmem, ⟨6, _⟩ => ⟨S512x128, .bf16⟩
  | .local _ .vmem, ⟨7, _⟩ => ⟨S128x512, .bf16⟩
  | .local _ .vmem, ⟨8, _⟩ => ⟨S128x2048, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference4Ideal.lean ====
abbrev S128x1024 : Shape := ⟨2, ![128, 1024]⟩
abbrev S1024 : Shape := ⟨1, ![1024]⟩
abbrev S1024x3584 : Shape := ⟨2, ![1024, 3584]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x3584 : Shape := ⟨2, ![128, 3584]⟩
abbrev S128x512 : Shape := ⟨2, ![128, 512]⟩
abbrev S128x2048 : Shape := ⟨2, ![128, 2048]⟩
abbrev S512x128 : Shape := ⟨2, ![512, 128]⟩

abbrev nBuf : Space → Nat
  | .hbm => 28
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x3584, .f32⟩
  | .hbm, ⟨3, _⟩ => ⟨S128x1024, .f32⟩
  | .hbm, ⟨4, _⟩ => ⟨S_, .f32⟩
  | .hbm, ⟨5, _⟩ => ⟨S128, .f32⟩
  | .hbm, ⟨6, _⟩ => ⟨S128x1, .f32⟩
  | .hbm, ⟨7, _⟩ => ⟨S_, .f32⟩
  | .hbm, ⟨8, _⟩ => ⟨S128x1, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S128x1, .f32⟩
  | .hbm, ⟨14, _⟩ => ⟨S128x1024, .f32⟩
  | .hbm, ⟨15, _⟩ => ⟨S128x1024, .f32⟩
  | .hbm, ⟨16, _⟩ => ⟨S1x1024, .f32⟩
  | .hbm, ⟨17, _⟩ => ⟨S128x1024, .f32⟩
  | .hbm, ⟨18, _⟩ => ⟨S128x1024, .f32⟩
  | .hbm, ⟨19, _⟩ => ⟨S128x3584, .f32⟩
  | .hbm, ⟨20, _⟩ => ⟨S128x512, .f32⟩
  | .hbm, ⟨21, _⟩ => ⟨S128x512, .f32⟩
  | .hbm, ⟨22, _⟩ => ⟨S128x512, .f32⟩
  | .hbm, ⟨23, _⟩ => ⟨S128x2048, .f32⟩
  | .hbm, ⟨24, _⟩ => ⟨S128x512, .bf16⟩
  | .hbm, ⟨25, _⟩ => ⟨S512x128, .f32⟩
  | .hbm, ⟨26, _⟩ => ⟨S512x128, .bf16⟩
  | .hbm, ⟨27, _⟩ => ⟨S128x512, .bf16⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Proof.Words.lean ====
/- The words of the gather's loop. Before trip `t` the loop carries the words `t + 1`, `t`, `t`, `t - 1` and
   `t mod 256`; from them the program computes which of the two slots a copy uses (the trip's parity), which row of
   the expert numbers it reads and which block of rows it writes (`256 * w + t` at tile `w`). -/
module

public import proofs.«01_k».proof.Proof.Gen.KernelIdeal
public import proofs.«01_k».proof.Proof.Gen.KernelIdeal.Skeleton
public import Idealize.ShloMosaic.Lib.Tactic

@[expose] public section

noncomputable section

namespace Cert.KernelIdeal.Gather

open Idealize.ShloMosaic

/-- The grid point of core `x`, subcore `y`. -/
def pt (x : Fin (grid0.bound 0)) (y : Fin (grid0.bound 1)) : grid0.Coords :=
  fun | 0 => x | 1 => y | ⟨_ + 2, h⟩ => absurd h (Nat.not_lt.2 (Nat.le_add_left _ _))

/-- Tile `(x, y)`'s first window. -/
abbrev base (x : Fin (grid0.bound 0)) (y : Fin (grid0.bound 1)) : Nat := 4096 * x.val + 256 * y.val

/-- The word of a window number. -/
abbrev wd (n : Nat) : BitVec 32 := BitVec.ofNat 32 n

/-- The first carried word before trip `t`: the next window to fetch. -/
abbrev st1 (t : Nat) : BitVec 32 := wd (min (t + 1) 256)
abbrev st4 (t : Nat) : BitVec 32 := wd (t - 1)
abbrev st5 (t : Nat) : BitVec 32 := wd (t % 256)

theorem trips_eq : k0_t1_loop.trips = 256 := by decide

theorem par : ∀ n : Fin 512, (Scalar.remui (wd n.val) 2#32).toNat = n.val % 2 := by decide +kernel

theorem par' {n : Nat} (h : n < 512) : (Scalar.remui (wd n) 2#32).toNat = n % 2 := par ⟨n, h⟩

theorem off4_eq {n : Nat} (h : n < 512) : k0_off4 (wd n) = ![n % 2, 0, 0] := by unfold k0_off4; simp only [par' h]
theorem off7_eq {n : Nat} (h : n < 512) : k0_off7 (wd n) = ![n % 2, 0, 0] := by unfold k0_off7; simp only [par' h]
theorem off10_eq {n : Nat} (h : n < 512) : k0_off10 (wd n) = ![n % 2, 0, 0] := by unfold k0_off10; simp only [par' h]
theorem off11_eq {n : Nat} (h : n < 512) : k0_off11 (wd n) = ![n % 2, 0, 0] := by unfold k0_off11; simp only [par' h]
theorem off12_eq {n : Nat} (h : n < 512) : k0_off12 (wd n) = ![n % 2, 0, 0] := by unfold k0_off12; simp only [par' h]
theorem off15_eq {n : Nat} (h : n < 512) : k0_off15 (wd n) = ![n % 2, 0, 0] := by unfold k0_off15; simp only [par' h]
theorem off18_eq {n : Nat} (h : n < 512) : k0_off18 (wd n) = ![n % 2, 0, 0] := by unfold k0_off18; simp only [par' h]
theorem off21_eq {n : Nat} (h : n < 512) : k0_off21 (wd n) = ![n % 2, 0, 0] := by unfold k0_off21; simp only [par' h]
theorem off6_eq {n : Nat} (h : n < 512) : k0_off6 (wd n) = ![n % 2] := by unfold k0_off6; simp only [par' h]
theorem off9_eq {n : Nat} (h : n < 512) : k0_off9 (wd n) = ![n % 2] := by unfold k0_off9; simp only [par' h]
theorem off14_eq {n : Nat} (h : n < 512) : k0_off14 (wd n) = ![n % 2] := by unfold k0_off14; simp only [par' h]
theorem off17_eq {n : Nat} (h : n < 512) : k0_off17 (wd n) = ![n % 2] := by unfold k0_off17; simp only [par' h]
theorem off20_eq {n : Nat} (h : n < 512) : k0_off20 (wd n) = ![n % 2] := by unfold k0_off20; simp only [par' h]

theorem off2_eq (x : Fin (grid0.bound 0)) (y : Fin (grid0.bound 1)) : k0_off2 (pt x y) = ![base x y, 0] := by
  rw [Gen.k0_off2_eq]; show ![256 * y.val + 4096 * x.val, 0] = _; rw [Nat.add_comm]

theorem off5_nat : ∀ (x : Fin (grid0.bound 0)) (y : Fin (grid0.bound 1)) (t : Fin 255),
    k0_off5 (pt x y) (wd t.val) 0 = base x y + t.val + 1 := by decide +kernel
theorem off8_nat : ∀ (x : Fin (grid0.bound 0)) (y : Fin (grid0.bound 1)) (t : Fin 256),
    k0_off8 (pt x y) (wd t.val) 0 = base x y + t.val := by decide +kernel
theorem off13_nat : ∀ (x : Fin (grid0.bound 0)) (y : Fin (grid0.bound 1)) (t : Fin 256),
    k0_off13 (pt x y) (wd t.val) 0 = 64 * (base x y + t.val) := by decide +kernel
theorem off16_nat : ∀ (x : Fin (grid0.bound 0)) (y : Fin (grid0.bound 1)) (t : Fin 256), 1 ≤ t.val →
    k0_off16 (pt x y) (wd t.val) 0 = 64 * (base x y + (t.val - 1)) := by decide +kernel
theorem off19_nat : ∀ (x : Fin (grid0.bound 0)) (y : Fin (grid0.bound 1)),
    k0_off19 (pt x y) (wd 0) 0 = 64 * (base x y + 255) := by decide +kernel

theorem vec2 {f : Fin 2 → Nat} {n : Nat} (h0 : f 0 = n) (h1 : f 1 = 0) : f = ![n, 0] := by
  funext a; match a with | 0 => exact h0 | 1 => exact h1

theorem off5_eq (x : Fin (grid0.bound 0)) (y : Fin (grid0.bound 1)) {t : Nat} (h : t < 255) :
    k0_off5 (pt x y) (wd t) = ![base x y + t + 1, 0] := vec2 (off5_nat x y ⟨t, h⟩) rfl
theorem off8_eq (x : Fin (grid0.bound 0)) (y : Fin (grid0.bound 1)) {t : Nat} (h : t < 256) :
    k0_off8 (pt x y) (wd t) = ![base x y + t, 0] := vec2 (off8_nat x y ⟨t, h⟩) rfl
theorem off13_eq (x : Fin (grid0.bound 0)) (y : Fin (grid0.bound 1)) {t : Nat} (h : t < 256) :
    k0_off13 (pt x y) (wd t) = ![64 * (base x y + t), 0] := vec2 (off13_nat x y ⟨t, h⟩) rfl
theorem off16_eq (x : Fin (grid0.bound 0)) (y : Fin (grid0.bound 1)) {t : Nat} (h : t < 256) (h1 : 1 ≤ t) :
    k0_off16 (pt x y) (wd t) = ![64 * (base x y + (t - 1)), 0] := vec2 (off16_nat x y ⟨t, h⟩ h1) rfl
theorem off19_eq (x : Fin (grid0.bound 0)) (y : Fin (grid0.bound 1)) :
    k0_off19 (pt x y) (wd 0) = ![64 * (base x y + 255), 0] := vec2 (off19_nat x y) rfl

theorem cond1_iff : ∀ (x : Fin (grid0.bound 0)) (y : Fin (grid0.bound 1)) (t : Fin k0_t1_loop.trips),
    k0_cond1 (pt x y) t (wd t.val) = 1#1 ↔ t.val < 255 := by decide +kernel
theorem cond2_true : ∀ (x : Fin (grid0.bound 0)) (y : Fin (grid0.bound 1)) (t : Fin k0_t1_loop.trips),
    k0_cond2 (pt x y) t (wd t.val) = 1#1 := by decide +kernel
theorem cond5_true : ∀ (x : Fin (grid0.bound 0)) (y : Fin (grid0.bound 1)) (t : Fin k0_t1_loop.trips),
    k0_cond5 (pt x y) t (wd t.val) = 1#1 := by decide +kernel
theorem cond7_iff : ∀ (x : Fin (grid0.bound 0)) (y : Fin (grid0.bound 1)) (t : Fin k0_t1_loop.trips),
    k0_cond7 (pt x y) t (wd t.val) = 1#1 ↔ 1 ≤ t.val := by decide +kernel

/-- Two slots, one apart: the slot block of parity `n % 2` lies inside. -/
theorem slotI_inb (n : Nat) : ∀ a, (![n % 2, 0, 0] : Fin 3 → Nat) a + S1x1x64.size a ≤ S2x1x64.size a := by
  intro a; match a with
  | 0 => show n % 2 + 1 ≤ 2; omega
  | 1 => show 0 + 1 ≤ 1; omega
  | 2 => show 0 + 64 ≤ 64; omega
theorem slotO_inb (n : Nat) : ∀ a, (![n % 2, 0, 0] : Fin 3 → Nat) a + S1x64x512.size a ≤ S2x64x512.size a := by
  intro a; match a with
  | 0 => show n % 2 + 1 ≤ 2; omega
  | 1 => show 0 + 64 ≤ 64; omega
  | 2 => show 0 + 512 ≤ 512; omega
theorem sem_inb (n : Nat) : ∀ a, (![n % 2] : Fin 1 → Nat) a + S1.size a ≤ S2.size a := by
  intro a; match a with | 0 => show n % 2 + 1 ≤ 2; omega
theorem row_inb {n : Nat} (h : n < 8192) : ∀ a, (![n, 0] : Fin 2 → Nat) a + S1x64.size a ≤ S8192x64.size a := by
  intro a; match a with
  | 0 => show n + 1 ≤ 8192; omega
  | 1 => show 0 + 64 ≤ 64; omega
theorem win_inb {n : Nat} (h : n < 8192) : ∀ a, (![64 * n, 0] : Fin 2 → Nat) a + S64x512.size a ≤ S524288x512.size a := by
  intro a; match a with
  | 0 => show 64 * n + 64 ≤ 524288; omega
  | 1 => show 0 + 512 ≤ 512; omega

theorem base_lt (x : Fin (grid0.bound 0)) (y : Fin (grid0.bound 1)) {t : Nat} (h : t < 256) : base x y + t < 8192 := by
  have := (show x.val < 2 from x.isLt); have := (show y.val < 16 from y.isLt); unfold base; omega

theorem chk3 {t : Nat} (h : t < 256) : k0_chk3 (wd t) := by
  unfold k0_chk3; rw [off11_eq (by omega)]; exact slotI_inb t
theorem chk2 {t : Nat} (h : t < 256) : k0_chk2 (wd t) := by
  unfold k0_chk2; rw [off10_eq (by omega)]; exact slotO_inb t
theorem chk4 : k0_chk4 (wd 255) := by
  unfold k0_chk4; rw [off18_eq (by omega), off20_eq (by omega), off21_eq (by omega)]
  exact ⟨slotO_inb 255, sem_inb 255, slotO_inb 255⟩
theorem chk5 (x : Fin (grid0.bound 0)) (y : Fin (grid0.bound 1)) : k0_chk5 (pt x y) (wd 0) := by
  unfold k0_chk5; rw [off19_eq]; exact win_inb (base_lt x y (by omega))
theorem chk1 (x : Fin (grid0.bound 0)) (y : Fin (grid0.bound 1)) (t : Fin k0_t1_loop.trips) :
    k0_chk1 (pt x y) t (st1 t.val) (wd t.val) (wd t.val) (st4 t.val) (wd t.val) := by
  have ht : t.val < 256 := trips_eq ▸ t.isLt
  unfold k0_chk1
  rw [cond1_iff, cond7_iff, off4_eq (by omega), off6_eq (by omega), off7_eq (by omega), off8_eq x y ht, off9_eq (by omega),
    off12_eq (by omega), off13_eq x y ht, off14_eq (by omega), off15_eq (by omega), off17_eq (by omega)]
  refine ⟨fun _ => slotI_inb _, fun h => ?_, fun _ => sem_inb _, fun _ => slotI_inb _, fun _ => row_inb (base_lt x y ht), fun _ => sem_inb _,
    fun _ => slotO_inb _, fun _ => win_inb (base_lt x y ht), fun _ => sem_inb _, fun _ => slotO_inb _, fun h => ?_, fun _ => sem_inb _⟩
  · rw [off5_eq x y h]; exact row_inb (n := base x y + (t.val + 1)) (base_lt x y (by omega))
  · rw [off16_eq x y ht h]; exact win_inb (base_lt x y (by omega))

end Cert.KernelIdeal.Gather
-- ==== Proof.Slots.lean ====
/- The kernel's buffers as a tile addresses them: the two slots of expert numbers, the two slots of gathered rows, their
   semaphores, row `n` of the expert numbers and block `n` of the result; and what the result is to hold (`G`). -/
module

public import proofs.«01_k».proof.Defs
public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.SparseCore.ProtocolKit
public import Idealize.ShloMosaic.Lib.StableHlo.Run
public import Idealize.ShloMosaic.Lib.Pipeline.Kit
public import Idealize.ShloMosaic.Lib.Tactic

@[expose] public section

noncomputable section

namespace Cert.KernelIdeal.Gather

open Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-! ## The buffers whole -/

abbrev tV : Memref sig .scVector .hbm S16384x512 .i32 := Memref.whole main_arg0_scv
abbrev iV : Memref sig .scVector .hbm S8192x64 .i32 := Memref.whole main_v1_scv
abbrev oV : Memref sig .scVector .hbm S524288x512 .i32 := Memref.whole main_v2_scv
abbrev sI : Memref sig .scVector .vmem S2x1x64 .i32 := Memref.whole cc0_scoped0
abbrev sO : Memref sig .scVector .vmem S2x64x512 .i32 := Memref.whole cc0_scoped2

/-! ## Slots, rows, blocks, columns -/

/-- The slot of expert numbers that trip `n` uses. -/
abbrev slotI (n : Nat) : Memref sig .scVector .vmem S1x64 .i32 :=
  (sI.slice (Rect.unit (s := S2x1x64) ![n % 2, 0, 0] S1x1x64.size (slotI_inb n)) (fun _ => rfl)).squeeze S1x64 squeezes_S1x1x64_S1x64
/-- The slot of gathered rows that trip `n` uses. -/
abbrev slotO (n : Nat) : Memref sig .scVector .vmem S64x512 .i32 :=
  (sO.slice (Rect.unit (s := S2x64x512) ![n % 2, 0, 0] S1x64x512.size (slotO_inb n)) (fun _ => rfl)).squeeze S64x512 squeezes_S1x64x512_S64x512
abbrev semI (n : Nat) : DmaSems sig S_ := (cc0_scoped1.slice (Rect.unit (s := S2) ![n % 2] S1.size (sem_inb n))).squeeze S_ squeezes_S1_S_
abbrev semO (n : Nat) : DmaSems sig S_ := (cc0_scoped3.slice (Rect.unit (s := S2) ![n % 2] S1.size (sem_inb n))).squeeze S_ squeezes_S1_S_

theorem mod_lt8192 (n : Nat) : n % 8192 < 8192 := Nat.mod_lt _ (by omega)

/-- Row `n` of the expert numbers, sixty-four of them. -/
abbrev idxRow (n : Nat) : Memref sig .scVector .hbm S1x64 .i32 :=
  iV.slice (Rect.unit (s := S8192x64) ![n % 8192, 0] S1x64.size (row_inb (mod_lt8192 n))) (fun _ => rfl)
/-- Block `n` of the result, sixty-four rows. -/
abbrev win (n : Nat) : Memref sig .scVector .hbm S64x512 .i32 :=
  oV.slice (Rect.unit (s := S524288x512) ![64 * (n % 8192), 0] S64x512.size (win_inb (mod_lt8192 n))) (fun _ => rfl)

/-- The list of row numbers a gather reads, in slot `n`. -/
abbrev offs (n : Nat) : Memref sig .scVector .vmem S64 .i32 :=
  ((slotI n).slice (Rect.unit (s := S1x64) ![0, 0] S1x64.size inb_S1x64_S1x64_0_0) (fun _ => rfl)).squeeze S64 squeezes_S1x64_S64

/-- Columns `o` to `o + 128` of the table and of a slot. -/
abbrev colT (o : Nat) (h : ∀ a, (![0, o] : Fin 2 → Nat) a + S16384x128.size a ≤ S16384x512.size a) :
    Memref sig .scVector .hbm S16384x128 .i32 :=
  tV.slice (Rect.unit (s := S16384x512) ![0, o] S16384x128.size h) (fun _ => rfl)
abbrev colO (n o : Nat) (h : ∀ a, (![0, o] : Fin 2 → Nat) a + S64x128.size a ≤ S64x512.size a) :
    Memref sig .scVector .vmem S64x128 .i32 :=
  (slotO n).slice (Rect.unit (s := S64x512) ![0, o] S64x128.size h) (fun _ => rfl)

/-! ## The program's addresses are these -/

theorem slotI_of {n : Nat} {off : Fin 3 → Nat} (e : off = ![n % 2, 0, 0]) (h : ∀ a, off a + S1x1x64.size a ≤ S2x1x64.size a) :
    (sI.slice (Rect.unit (s := S2x1x64) off S1x1x64.size h) (fun _ => rfl)).squeeze S1x64 squeezes_S1x1x64_S1x64 = slotI n := by
  subst e; rfl
theorem slotO_of {n : Nat} {off : Fin 3 → Nat} (e : off = ![n % 2, 0, 0]) (h : ∀ a, off a + S1x64x512.size a ≤ S2x64x512.size a) :
    (sO.slice (Rect.unit (s := S2x64x512) off S1x64x512.size h) (fun _ => rfl)).squeeze S64x512 squeezes_S1x64x512_S64x512 = slotO n := by
  subst e; rfl
theorem semI_of {n : Nat} {off : Fin 1 → Nat} (e : off = ![n % 2]) (h : ∀ a, off a + S1.size a ≤ S2.size a) :
    (cc0_scoped1.slice (Rect.unit (s := S2) off S1.size h)).squeeze S_ squeezes_S1_S_ = semI n := by
  subst e; rfl
theorem semO_of {n : Nat} {off : Fin 1 → Nat} (e : off = ![n % 2]) (h : ∀ a, off a + S1.size a ≤ S2.size a) :
    (cc0_scoped3.slice (Rect.unit (s := S2) off S1.size h)).squeeze S_ squeezes_S1_S_ = semO n := by
  subst e; rfl
theorem idxRow_of {n : Nat} {off : Fin 2 → Nat} (hn : n < 8192) (e : off = ![n, 0]) (h : ∀ a, off a + S1x64.size a ≤ S8192x64.size a) :
    iV.slice (Rect.unit (s := S8192x64) off S1x64.size h) (fun _ => rfl) = idxRow n := by
  have e' : off = ![n % 8192, 0] := by rw [Nat.mod_eq_of_lt hn]; exact e
  subst e'; rfl
theorem win_of {n : Nat} {off : Fin 2 → Nat} (hn : n < 8192) (e : off = ![64 * n, 0]) (h : ∀ a, off a + S64x512.size a ≤ S524288x512.size a) :
    oV.slice (Rect.unit (s := S524288x512) off S64x512.size h) (fun _ => rfl) = win n := by
  have e' : off = ![64 * (n % 8192), 0] := by rw [Nat.mod_eq_of_lt hn]; exact e
  subst e'; rfl

theorem slotI_par {n m : Nat} (e : n % 2 = m % 2) : slotI n = slotI m := slotI_of (by rw [e]) _
theorem slotO_par {n m : Nat} (e : n % 2 = m % 2) : slotO n = slotO m := slotO_of (by rw [e]) _
theorem slotI_set {n m : Nat} (e : n % 2 = m % 2) : ((slotI n).view.set : Finset S2x1x64.Idx) = (slotI m).view.set := by
  have H : ∀ k k' : Nat, k = k' → ∀ h h',
      ((((sI.slice (Rect.unit (s := S2x1x64) ![k, 0, 0] S1x1x64.size h) (fun _ => rfl)).squeeze S1x64 squeezes_S1x1x64_S1x64).view.set : Finset S2x1x64.Idx))
        = ((sI.slice (Rect.unit (s := S2x1x64) ![k', 0, 0] S1x1x64.size h') (fun _ => rfl)).squeeze S1x64 squeezes_S1x1x64_S1x64).view.set := by
    rintro k _ rfl h h'; rfl
  exact H _ _ e _ _
theorem slotO_set {n m : Nat} (e : n % 2 = m % 2) : ((slotO n).view.set : Finset S2x64x512.Idx) = (slotO m).view.set := by
  have H : ∀ k k' : Nat, k = k' → ∀ h h',
      ((((sO.slice (Rect.unit (s := S2x64x512) ![k, 0, 0] S1x64x512.size h) (fun _ => rfl)).squeeze S64x512 squeezes_S1x64x512_S64x512).view.set : Finset S2x64x512.Idx))
        = ((sO.slice (Rect.unit (s := S2x64x512) ![k', 0, 0] S1x64x512.size h') (fun _ => rfl)).squeeze S64x512 squeezes_S1x64x512_S64x512).view.set := by
    rintro k _ rfl h h'; rfl
  exact H _ _ e _ _
theorem semI_par {n m : Nat} (e : n % 2 = m % 2) : semI n = semI m := semI_of (by rw [e]) _
theorem semO_par {n m : Nat} (e : n % 2 = m % 2) : semO n = semO m := semO_of (by rw [e]) _

/-! ## What the result is to hold -/

variable {F : FTy → Type}

def tIx (r : Fin 16384) (k : Fin 512) : S16384x512.Idx := fun | 0 => r | 1 => k | ⟨_ + 2, h⟩ => absurd h (Nat.not_lt.2 (Nat.le_add_left _ _))
def iIx (r : Fin 8192) (k : Fin 64) : S8192x64.Idx := fun | 0 => r | 1 => k | ⟨_ + 2, h⟩ => absurd h (Nat.not_lt.2 (Nat.le_add_left _ _))
def wIx (r : Fin 64) (k : Fin 512) : S64x512.Idx := fun | 0 => r | 1 => k | ⟨_ + 2, h⟩ => absurd h (Nat.not_lt.2 (Nat.le_add_left _ _))
def cIx (r : Fin 64) (k : Fin 128) : S64x128.Idx := fun | 0 => r | 1 => k | ⟨_ + 2, h⟩ => absurd h (Nat.not_lt.2 (Nat.le_add_left _ _))

def vIx (k : Fin 64) : S64.Idx := fun | 0 => k | ⟨_ + 1, h⟩ => absurd h (Nat.not_lt.2 (Nat.le_add_left _ _))
def uIx (k : Fin 64) : S1x64.Idx := fun | 0 => (⟨0, Nat.one_pos⟩ : Fin 1) | 1 => k | ⟨_ + 2, h⟩ => absurd h (Nat.not_lt.2 (Nat.le_add_left _ _))

/-- A word as a row number of the table. -/
abbrev rowFin (w : BitVec 32) : Fin 16384 := ⟨w.toNat % 16384, Nat.mod_lt _ (by omega)⟩

/-- Entry `(j, k)` of block `n`: the table at the row the `j`-th number of row `n` names. -/
abbrev blk (fi : S8192x64.Idx → BitVec 32) (ft : S16384x512.Idx → BitVec 32) (n : Nat) (j : Fin 64) (k : Fin 512) : BitVec 32 :=
  ft (tIx (rowFin (fi (iIx ⟨n % 8192, mod_lt8192 n⟩ j))) k)

theorem div_lt (p : S524288x512.Idx) : (p 0).val / 64 < 8192 := by
  have := (show (p 0).val < 524288 from (p 0).isLt); omega

/-- The result: row `64 n + j` is the table's row that the `j`-th number of row `n` names. -/
def G (fi : S8192x64.Idx → BitVec 32) (ft : S16384x512.Idx → BitVec 32) : S524288x512.Idx → BitVec 32 := fun p =>
  blk fi ft ((p 0).val / 64) ⟨(p 0).val % 64, Nat.mod_lt _ (by omega)⟩ (p 1)

/-- Slot `n` of expert numbers holds row `r`. -/
def IGood (fi : S8192x64.Idx → BitVec 32) (n r : Nat) (f : S2x1x64.Idx → BitVec 32) : Prop :=
  ∀ j : Fin 64, (slotI n).view.read (Elt F) f (uIx j) = fi (iIx ⟨r % 8192, mod_lt8192 r⟩ j)

/-- Slot `n` of gathered rows holds block `r`, as far as column `o`. -/
def OGood (fi : S8192x64.Idx → BitVec 32) (ft : S16384x512.Idx → BitVec 32) (n r o : Nat) (f : S2x64x512.Idx → BitVec 32) : Prop :=
  ∀ (j : Fin 64) (k : Fin 512), k.val < o → (slotO n).view.read (Elt F) f (wIx j k) = blk fi ft r j k

theorem OGood_zero (fi : S8192x64.Idx → BitVec 32) (ft : S16384x512.Idx → BitVec 32) (n r : Nat) (f : S2x64x512.Idx → BitVec 32) :
    OGood (F := F) fi ft n r 0 f := fun _ _ h => absurd h (by omega)

/-- A copy of row `r` into slot `n` leaves the slot holding it. -/
theorem IGood_copy (fi : S8192x64.Idx → BitVec 32) (n r : Nat) (f : S2x1x64.Idx → BitVec 32) :
    IGood (F := F) fi n r ((slotI n).view.write (Elt F) f ((idxRow r).view.read (Elt F) fi) Finset.univ) := by
  intro j
  rw [View.read_write_univ, View.read_apply, cast_eq]
  show fi _ = fi _
  congr 1; funext a
  match a with
  | 0 => apply Fin.ext; show r % 8192 + 1 * 0 = r % 8192; omega
  | 1 => apply Fin.ext; show 0 + 1 * j.val = j.val; omega

theorem sq64 : ∀ x : Fin 64, ((Shape.reshapeEquiv (s := S1x64) (s' := S64) squeezes_S1x64_S64.numel_eq (vIx x)) 1).val = x.val := by
  decide +kernel

theorem offs_emb {κ : Kind} {sp : Space} (v : View sig κ sp S1x64 .i32) (x : Fin 64) :
    ((v.slice (Rect.unit (s := S1x64) ![0, 0] S1x64.size inb_S1x64_S1x64_0_0)).reshape S64 squeezes_S1x64_S64.numel_eq).emb (vIx x) = v.emb (uIx x) := by
  have hx : (Rect.unit (s := S1x64) ![0, 0] S1x64.size inb_S1x64_S1x64_0_0).emb (Shape.reshapeEquiv squeezes_S1x64_S64.numel_eq (vIx x)) = uIx x := by
    funext a
    match a with
    | 0 =>
      have h1 : ∀ y z : Fin 1, y = z := fun y z => Subsingleton.elim y z
      exact h1 _ _
    | 1 => apply Fin.ext; show 0 + 1 * _ = x.val; rw [Nat.zero_add, Nat.one_mul]; exact sq64 x
  exact congrArg v.emb hx

theorem offs_read (n : Nat) (f : S2x1x64.Idx → BitVec 32) (x : Fin 64) :
    (offs n).view.read (Elt F) f (vIx x) = (slotI n).view.read (Elt F) f (uIx x) := by
  rw [View.read_apply, View.read_apply]
  exact congrArg (fun i => _root_.cast _ (f i)) (offs_emb (slotI n).view x)

theorem rows64 : ∀ k : Fin 64, S64.rowMajor.symm k = vIx k := by
  have h : ∀ k : Fin 64, (S64.rowMajor.symm k 0).val = k.val := by decide +kernel
  intro k; funext a; match a with | 0 => exact Fin.ext (h k)

/-- The words a gather reads are row numbers of the table. -/
theorem offs_lt {fi : S8192x64.Idx → BitVec 32} (hfi : ∀ j, (fi j).toNat < 16384) {n r : Nat} {f : S2x1x64.Idx → BitVec 32}
    (hI : IGood (F := F) fi n r f) (x : S64.Idx) : ((offs n).view.read (Elt F) f x).toNat < 16384 := by
  obtain ⟨k, rfl⟩ : ∃ k : Fin 64, x = vIx k := ⟨x 0, by funext a; match a with | 0 => rfl⟩
  rw [offs_read, hI]; exact hfi _

/-- A gather of 128 columns extends what the slot holds by them. -/
theorem OGood_gather {fi : S8192x64.Idx → BitVec 32} {ft : S16384x512.Idx → BitVec 32} {n r o : Nat} {f : S2x1x64.Idx → BitVec 32}
    {fo : S2x64x512.Idx → BitVec 32} (hI : IGood (F := F) fi n r f) (hO : OGood (F := F) fi ft n r o fo)
    (h1 : ∀ a, (![0, o] : Fin 2 → Nat) a + S16384x128.size a ≤ S16384x512.size a)
    (h2 : ∀ a, (![0, o] : Fin 2 → Nat) a + S64x128.size a ≤ S64x512.size a)
    (hn : S64.numel = S64x128.size gathers_S16384x128_S64x128.axis')
    (hin : ∀ x, ((offs n).view.read (Elt F) f x).toNat < S16384x128.size gathers_S16384x128_S64x128.axis) :
    OGood (F := F) fi ft n r (o + 128) ((colO n o h2).view.write (Elt F) fo
      (SparseCore.gatherPayload gathers_S16384x128_S64x128 ((colT o h1).view.read (Elt F) ft) (SparseCore.rows ((offs n).view.read (Elt F) f) hn hin))
      Finset.univ) := by
  intro j k hk
  by_cases hko : k.val < o
  · have hnm : wIx j k ∉ (Finset.univ : Finset S64x128.Idx).map (Rect.unit (s := S64x512) ![0, o] S64x128.size h2).emb := by
      intro hm
      obtain ⟨x, -, hx⟩ := Finset.mem_map.mp hm
      have := congrArg (fun p : S64x512.Idx => (p 1).val) hx
      have h' : o + 1 * (x 1).val = k.val := this
      omega
    exact (View.read_slice_write_of_not_mem (v := (slotO n).view) (Val := Elt F) _ fo _ Finset.univ hnm).trans (hO j k hko)
  · have hlt : k.val - o < 128 := by omega
    have hx : wIx j k = (Rect.unit (s := S64x512) ![0, o] S64x128.size h2).emb (cIx j ⟨k.val - o, hlt⟩) := by
      funext a
      match a with
      | 0 => apply Fin.ext; show j.val = 0 + 1 * j.val; omega
      | 1 => apply Fin.ext; show k.val = o + 1 * (k.val - o); omega
    rw [hx]
    refine (View.read_slice_write_emb (v := (slotO n).view) (Val := Elt F) _ fo _ (Finset.mem_univ _)).trans ?_
    unfold SparseCore.gatherPayload
    rw [View.read_apply, cast_eq]
    show ft _ = ft _
    congr 1
    funext a
    match a with
    | 0 =>
      apply Fin.ext
      show 0 + 1 * ((offs n).view.read (Elt F) f (S64.rowMajor.symm j)).toNat = (fi _).toNat % 16384
      have hlt' := hin (S64.rowMajor.symm j)
      rw [rows64, offs_read, hI] at hlt'
      rw [rows64, offs_read, hI, Nat.zero_add, Nat.one_mul]
      exact (Nat.mod_eq_of_lt (show _ < 16384 from hlt')).symm
    | 1 => apply Fin.ext; show o + 1 * (k.val - o) = k.val; omega

/-- A full slot copied to block `r` leaves there what the result is to hold. -/
theorem win_copy {fi : S8192x64.Idx → BitVec 32} {ft : S16384x512.Idx → BitVec 32} {n r : Nat} (hr : r < 8192) {f : S2x64x512.Idx → BitVec 32}
    (hO : OGood (F := F) fi ft n r 512 f) (fo : S524288x512.Idx → BitVec 32) :
    ∀ i ∈ (win r).view.set, (win r).view.write (Elt F) fo ((slotO n).view.read (Elt F) f) Finset.univ i = G fi ft i := by
  intro i hi
  obtain ⟨x, -, rfl⟩ := Finset.mem_map.mp hi
  obtain ⟨j, k, rfl⟩ : ∃ (j : Fin 64) (k : Fin 512), x = wIx j k := ⟨x 0, x 1, by funext a; match a with | 0 => rfl | 1 => rfl⟩
  rw [View.write_emb_of_mem _ _ (Finset.mem_univ _), cast_eq, hO j k k.isLt]
  have e0 : (((win r).view.emb (wIx j k)) 0).val = 64 * (r % 8192) + 1 * j.val := rfl
  have e1 : ((win r).view.emb (wIx j k)) 1 = k := Fin.ext (show 0 + 1 * k.val = k.val by omega)
  have hj := j.isLt
  have ea : (((win r).view.emb (wIx j k)) 0).val / 64 = r := by rw [e0]; omega
  have eb : (⟨(((win r).view.emb (wIx j k)) 0).val % 64, Nat.mod_lt _ (by omega)⟩ : Fin 64) = j := Fin.ext (by
    show (((win r).view.emb (wIx j k)) 0).val % 64 = j.val
    rw [e0]; omega)
  show blk fi ft r j k = blk fi ft ((((win r).view.emb (wIx j k)) 0).val / 64) ⟨(((win r).view.emb (wIx j k)) 0).val % 64, _⟩ (((win r).view.emb (wIx j k)) 1)
  rw [ea, eb, e1]

end Cert.KernelIdeal.Gather
-- ==== Proof.Atoms.lean ====
/- The kernel's transfers, one by one, at the slots of `Slots.lean`: the copy of a row of expert numbers into its slot,
   the gather of 128 columns into a slot of rows, the copy of a slot to its block of the result; and the wait of each. -/
module

public import proofs.«01_k».proof.Proof.Slots

@[expose] public section

noncomputable section

namespace Cert.KernelIdeal.Gather

open Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev 𝒱₀ : Variants := Variants.none
abbrev UH : Type := URounds (GSem nD τ sig) ℕ
abbrev UU : Type := UH × Counters

local notation "𝕄" => MT nD τ sig (HIx 1) (Elt F) ℕ UU ℕ

variable [FloatOps F] (d : Dev nD) (L : grid0.Coords)

/-- The tile's thread. -/
abbrev cV (L : grid0.Coords) : Fin τ.nSC := (L 0).castLE hcore0
abbrev jV (L : grid0.Coords) : Fin τ.nSub := (L 1).castLE hsub0
abbrev thr : Thread nD τ := V d (cV L) (jV L)

/-- The tile's own waits, those before it and those at its own cells. -/
def OW (O : CellTallies nD τ sig (HIx 1)) (W : Waits sig (HIx 1)) : sProp 𝕄 :=
  iprop(∃ W', ⌜∀ p ∈ W', p ∈ W ∨ p.2 = none⌝ ∗ owes (thr d L) O W')

abbrev ι₀ : HIx 1 := default

/-- A wait for a transfer under way: what it delivers, its semaphore at zero, the tile's waits again. -/
theorem wait_any {sp sp' : Space} {s s' : Shape} {e e' : EltTy} {sem : DmaSem sig} {N : ℕ}
    {srcw : Memref sig (thr d L).2.kind sp' s' e'} {dstw : Memref sig (thr d L).2.kind sp s e} {hsrc : srcw.view.WordExact} {hdst : dstw.view.WordExact}
    (hN : dstw.view.dmaCredit = N) {D : sProp 𝕄} {O : CellTallies nD τ sig (HIx 1)} {W : Waits sig (HIx 1)} {Q : PUnit → sProp 𝕄} :
    iprop(Transfers.MayWaits (thr d L) ι₀ O ∗ Transfers.Flight countersEmb (thr d L) (.dma sem) ι₀ N D ∗ OW d L O W
        ∗ (iprop(D ∗ semVal (thr d L, SemLoc.dma sem) 0 ∗ OW d L O W) -∗ Q ⟨⟩))
      ⊢ wp frame (wpE (defs₀ (F := F)) 𝒱₀ (thr d L) none) Set.univ (Prog.lift (.waitDma2 sem srcw dstw hsrc hdst)) Q := by
  unfold OW
  iintro ⟨#Hmw, Hfl, ⟨%W', %hW', HO⟩, HQ⟩
  iapply (Transfers.wp_waitLocalO countersEmb 𝒱₀ (thr d L) none ι₀ hN) $$ [Hfl HO]
  · isplitl [Hfl]; · iexact Hfl
    isplitl [HO]; · iexact HO
    iapply (Transfers.MayWaits.elim (SemLoc.dma sem)) $$ Hmw
  iintro ⟨HD, Hs, HO⟩
  rw [wp_ret]
  imodintro
  iapply HQ
  isplitl [HD]; · iexact HD
  isplitl [Hs]; · iexact Hs
  iexists _; isplitr
  swap; · iexact HO
  ipureintro; intro p hp
  rcases Finset.mem_insert.mp hp with hp | hp; · exact .inr (hp ▸ rfl)
  exact hW' p hp

/-! ## The expert numbers -/

variable (fi : Buf (Elt F) ((thr d L).loc main_v1_scv)) (ft : Buf (Elt F) ((thr d L).loc main_arg0_scv))

abbrev iPts (n : Nat) (f : Buf (Elt F) ((thr d L).loc cc0_scoped0)) : sProp 𝕄 :=
  (thr d L).loc cc0_scoped0 ↦[(slotI n).view.set]{fullShare} f
abbrev oPts (n : Nat) (f : Buf (Elt F) ((thr d L).loc cc0_scoped2)) : sProp 𝕄 :=
  (thr d L).loc cc0_scoped2 ↦[(slotO n).view.set]{fullShare} f

/-- What the copy of row `r` into slot `n` delivers. -/
def iGot (q : PosShare TreeShare) (n r : Nat) : sProp 𝕄 :=
  iprop(∃ f, ⌜IGood (F := F) fi n r f⌝ ∗ iPts d L n f ∗ (thr d L).loc main_v1_scv ↦[(idxRow r).view.set]{q} fi)

/-- Slot `n` of expert numbers not in use. -/
def iIdle (q : Nat → PosShare TreeShare) (n : Nat) : sProp 𝕄 :=
  iprop((∃ f, iPts d L n f) ∗ semVal (thr d L, SemLoc.dma (semI n).sem) 0 ∗ (thr d L).loc main_v1_scv ↦{q n} fi)

/-- Row `r` on its way into slot `n`. -/
def iFly (q : Nat → PosShare TreeShare) (n r : Nat) : sProp 𝕄 :=
  iprop(Transfers.Flight countersEmb (thr d L) (.dma (semI n).sem) ι₀ (slotI n).view.dmaCredit (iGot d L fi (q n) n r)
    ∗ (thr d L).loc main_v1_scv ↦[Finset.univ \ (idxRow r).view.set]{q n} fi)

theorem idx_start {n r : Nat} {src : Memref sig .scVector .hbm S1x64 .i32} {dst : Memref sig .scVector .vmem S1x64 .i32} {sem : DmaSems sig S_}
    (hs : src = idxRow r) (hd : dst = slotI n) (hm : sem = semI n) {h1 h2 h3} {q : Nat → PosShare TreeShare} {Q : PUnit → sProp 𝕄} :
    iprop(iIdle d L fi q n ∗ (iFly d L fi q n r -∗ Q ⟨⟩))
      ⊢ wp frame (wpE (defs₀ (F := F)) 𝒱₀ (thr d L) none) Set.univ (Prog.lift (.enqueueDma src (.here dst) (.dma sem.sem) h1 h2 h3)) Q := by
  subst hs hd hm
  unfold iIdle iFly
  iintro ⟨⟨⟨%f, Hf⟩, Hv, Hi⟩, HQ⟩
  ihave Hi' := (pointsTo_split_subset (q := q n) (f := fi) (S := Finset.univ) (Finset.subset_univ (idxRow r).view.set)).1 $$ Hi
  icases Hi' with ⟨Hi, Hr⟩
  iapply (Transfers.wp_dmaLocal countersEmb 𝒱₀ (thr d L) none (src := idxRow r) (dst := slotI n) (sm := .dma (semI n).sem) ι₀
    (slotI n).view.dmaCredit rfl (View.dmaCredit_pos _ (by decide)) (Finset.Subset.refl _)) $$ [Hi Hf Hv]
  · isplitl [Hi]; · iexact Hi
    isplitl [Hf]; · iexact Hf
    iexact Hv
  iintro Hfl
  rw [wp_ret]
  imodintro
  iapply HQ
  isplitr [Hr]
  swap; · iexact Hr
  iapply (Transfers.Flight_mono countersEmb (thr d L) (D' := iGot d L fi (q n) n r) ?_) $$ Hfl
  unfold iGot
  iintro ⟨Hf, Hi⟩
  iexists _
  isplitr
  swap
  · isplitl [Hf]; · iexact Hf
    iexact Hi
  ipureintro
  exact IGood_copy fi n r f

theorem idx_wait {n r : Nat} {src : Memref sig .scVector .hbm S1x64 .i32} {dst : Memref sig .scVector .vmem S1x64 .i32} {sem : DmaSems sig S_}
    (hd : dst = slotI n) (hm : sem = semI n) {h1 h2} {q : Nat → PosShare TreeShare}
    {O : CellTallies nD τ sig (HIx 1)} {W : Waits sig (HIx 1)} {Q : PUnit → sProp 𝕄} :
    iprop(Transfers.MayWaits (thr d L) ι₀ O ∗ iFly d L fi q n r ∗ OW d L O W
        ∗ (iprop((∃ f, ⌜IGood (F := F) fi n r f⌝ ∗ iPts d L n f) ∗ semVal (thr d L, SemLoc.dma (semI n).sem) 0
            ∗ ((thr d L).loc main_v1_scv ↦{q n} fi) ∗ OW d L O W) -∗ Q ⟨⟩))
      ⊢ wp frame (wpE (defs₀ (F := F)) 𝒱₀ (thr d L) none) Set.univ (Prog.lift (.waitDma2 sem.sem src dst h1 h2)) Q := by
  subst hd hm
  unfold iFly
  iintro ⟨#Hmw, ⟨Hfl, Hr⟩, HO, HQ⟩
  iapply (wait_any d L (sem := (semI n).sem) (dstw := slotI n) rfl)
  isplitr; · iexact Hmw
  isplitl [Hfl]; · iexact Hfl
  isplitl [HO]; · iexact HO
  unfold iGot
  iintro ⟨⟨%f, %hf, Hf, Hi⟩, Hs, HO⟩
  iapply HQ
  isplitl [Hf]
  · iexists f; isplitr; · ipureintro; exact hf
    iexact Hf
  isplitl [Hs]; · iexact Hs
  isplitr [HO]
  swap; · iexact HO
  iapply (pointsTo_split_subset (q := q n) (f := fi) (S := Finset.univ) (Finset.subset_univ (idxRow r).view.set)).2
  isplitl [Hi] <;> iassumption

/-! ## The gathers -/

/-- What the gather of columns `o` to `o + 128` into slot `n` leaves until its wait: the stream under way, the rest of the
    table's share, of the list's slot and of the rows' slot, whose contents `f'` the stream completes. -/
def gFly (qt : PosShare TreeShare) (n r o : Nat)
    (h1 : ∀ a, (![0, o] : Fin 2 → Nat) a + S16384x128.size a ≤ S16384x512.size a)
    (h2 : ∀ a, (![0, o] : Fin 2 → Nat) a + S64x128.size a ≤ S64x512.size a)
    (sem : DmaSem sig) (f : Buf (Elt F) ((thr d L).loc cc0_scoped0)) : sProp 𝕄 :=
  iprop(∃ f', ⌜OGood (F := F) fi ft n r (o + 128) f'⌝
    ∗ Transfers.Flight countersEmb (thr d L) (.dma sem) ι₀ (colO n o h2).view.dmaCredit
        iprop(((thr d L).loc cc0_scoped2 ↦[(colO n o h2).view.set]{fullShare} f')
          ∗ ((thr d L).loc main_arg0_scv ↦[(colT o h1).view.set]{qt} ft)
          ∗ ((thr d L).loc cc0_scoped0 ↦[(offs n).view.set]{fullShare} f))
    ∗ ((thr d L).loc main_arg0_scv ↦[Finset.univ \ (colT o h1).view.set]{qt} ft)
    ∗ ((thr d L).loc cc0_scoped0 ↦[(slotI n).view.set \ (offs n).view.set]{fullShare} f)
    ∗ ((thr d L).loc cc0_scoped2 ↦[(slotO n).view.set \ (colO n o h2).view.set]{fullShare} f'))

theorem offs_sub (n : Nat) : (offs n).view.set ⊆ (slotI n).view.set := by
  show (((slotI n).view.slice (Rect.unit (s := S1x64) ![0, 0] S1x64.size inb_S1x64_S1x64_0_0)).reshape S64 squeezes_S1x64_S64.numel_eq).set ⊆ _
  rw [View.set_reshape]; exact View.set_slice_subset _ _
theorem colO_sub (n o : Nat) (h2 : ∀ a, (![0, o] : Fin 2 → Nat) a + S64x128.size a ≤ S64x512.size a) :
    (colO n o h2).view.set ⊆ (slotO n).view.set := View.set_slice_subset _ _

theorem rows_credit (n o : Nat) (h2 : ∀ a, (![0, o] : Fin 2 → Nat) a + S64x128.size a ≤ S64x512.size a) (hg : S16384x128.Gathers 0 S64x128) :
    ∑ j, ((colO n o h2).slice (S64x128.rowRect hg.axis' j) (S64x128.stride_rowRect hg.axis' j)).view.dmaCredit = (colO n o h2).view.dmaCredit := by
  show ∑ _ : Fin 64, (cc0_scoped2 : Ref sig .scVector).dmaCredit (S64x128.rowShape 0) .i32 = (cc0_scoped2 : Ref sig .scVector).dmaCredit S64x128 .i32
  decide

theorem gather_start {n r o : Nat}
    {h1 : ∀ a, (![0, o] : Fin 2 → Nat) a + S16384x128.size a ≤ S16384x512.size a}
    {h2 : ∀ a, (![0, o] : Fin 2 → Nat) a + S64x128.size a ≤ S64x512.size a}
    {dst : Memref sig .scVector .vmem S64x128 .i32} {lst : Memref sig .scVector .vmem S64 .i32} {sem : DmaSem sig}
    (hd : dst = colO n o h2) (hl : lst = offs n)
    {hp hn hw he hsp hr} {qt : PosShare TreeShare} {f : Buf (Elt F) ((thr d L).loc cc0_scoped0)} {fo : Buf (Elt F) ((thr d L).loc cc0_scoped2)}
    (hfi : ∀ j, (fi j).toNat < 16384) (hI : IGood (F := F) fi n r f) (hO : OGood (F := F) fi ft n r o fo) {Q : PUnit → sProp 𝕄} :
    iprop(iPts d L n f ∗ oPts d L n fo ∗ ((thr d L).loc main_arg0_scv ↦{qt} ft) ∗ semVal (thr d L, SemLoc.dma sem) 0
        ∗ (gFly d L fi ft qt n r o h1 h2 sem f -∗ Q ⟨⟩))
      ⊢ wp frame (wpE (defs₀ (F := F)) 𝒱₀ (thr d L) none) Set.univ
          (SparseCore.enqueueIndirectGather (p := (thr d L).2) hp (colT o h1) dst gathers_S16384x128_S64x128 lst hn sem hw he hsp hr) Q := by
  subst hd hl
  unfold gFly
  iintro ⟨Hi, Ho, Ht, Hv, HQ⟩
  ihave Ht' := (pointsTo_split_subset (q := qt) (f := ft) (S := Finset.univ) (Finset.subset_univ (colT o h1).view.set)).1 $$ Ht
  icases Ht' with ⟨Ht, Htr⟩
  ihave Hi' := (pointsTo_split_subset (q := fullShare) (f := f) (offs_sub n)).1 $$ Hi
  icases Hi' with ⟨Hi, Hir⟩
  ihave Ho' := (pointsTo_split_subset (q := fullShare) (f := fo) (colO_sub n o h2)).1 $$ Ho
  icases Ho' with ⟨Ho, Hor⟩
  have hin : ∀ x, ((offs n).view.read (Elt F) f x).toNat < S16384x128.size gathers_S16384x128_S64x128.axis := offs_lt hfi hI
  rw [← bind_pure (SparseCore.enqueueIndirectGather (p := (thr d L).2) hp (colT o h1) (colO n o h2) gathers_S16384x128_S64x128 (offs n) hn sem hw he hsp hr)]
  iapply (SparseCore.wp_indirectGatherLocal countersEmb 𝒱₀ (thr d L) none (hg := gathers_S16384x128_S64x128) ι₀
      (colO n o h2).view.dmaCredit (rows_credit n o h2 _) (by decide) hin) $$ [Ht Ho Hi Hv]
  · isplitl [Ht]; · iexact Ht
    isplitl [Ho]; · iexact Ho
    isplitl [Hi]; · iexact Hi
    iexact Hv
  iintro Hfl
  rw [wp_pure]
  imodintro
  iapply HQ
  iexists _
  isplitr
  · ipureintro; exact OGood_gather hI hO h1 h2 hn hin
  isplitl [Hfl]; · iexact Hfl
  isplitl [Htr]; · iexact Htr
  isplitl [Hir]; · iexact Hir
  iapply (Entails.of_eq (pointsTo_congr (fun i hi => (View.write_of_not_mem (v := (colO n o h2).view) (Val := Elt F) fo _ Finset.univ
    (by rw [View.setOn_univ]; exact (Finset.mem_sdiff.mp hi).2)).symm))) $$ Hor

theorem gather_wait {n r o : Nat}
    {h1 : ∀ a, (![0, o] : Fin 2 → Nat) a + S16384x128.size a ≤ S16384x512.size a}
    {h2 : ∀ a, (![0, o] : Fin 2 → Nat) a + S64x128.size a ≤ S64x512.size a}
    {src : Memref sig .scVector .hbm S16384x128 .i32} {dst : Memref sig .scVector .vmem S64x128 .i32} {sem : DmaSem sig}
    (hd : dst = colO n o h2) {hw1 hw2} {qt : PosShare TreeShare} {f : Buf (Elt F) ((thr d L).loc cc0_scoped0)}
    {O : CellTallies nD τ sig (HIx 1)} {W : Waits sig (HIx 1)} {Q : PUnit → sProp 𝕄} :
    iprop(Transfers.MayWaits (thr d L) ι₀ O ∗ gFly d L fi ft qt n r o h1 h2 sem f ∗ OW d L O W
        ∗ (iprop(iPts d L n f ∗ (∃ fo, ⌜OGood (F := F) fi ft n r (o + 128) fo⌝ ∗ oPts d L n fo) ∗ ((thr d L).loc main_arg0_scv ↦{qt} ft)
            ∗ semVal (thr d L, SemLoc.dma sem) 0 ∗ OW d L O W) -∗ Q ⟨⟩))
      ⊢ wp frame (wpE (defs₀ (F := F)) 𝒱₀ (thr d L) none) Set.univ
          (SparseCore.waitIndirectGather (p := (thr d L).2) sem src dst hw1 hw2) Q := by
  subst hd
  unfold gFly
  iintro ⟨#Hmw, ⟨%f', %hf', Hfl, Htr, Hir, Hor⟩, HO, HQ⟩
  iapply (wait_any d L (sem := sem) (srcw := src) (dstw := colO n o h2) (hsrc := hw1) (hdst := hw2) rfl)
  isplitr; · iexact Hmw
  isplitl [Hfl]; · iexact Hfl
  isplitl [HO]; · iexact HO
  iintro ⟨⟨Ho, Ht, Hi⟩, Hs, HO⟩
  iapply HQ
  isplitl [Hi Hir]
  · iapply (pointsTo_split_subset (q := fullShare) (f := f) (offs_sub n)).2
    isplitl [Hi] <;> iassumption
  isplitl [Ho Hor]
  · iexists f'
    isplitr; · ipureintro; exact hf'
    iapply (pointsTo_split_subset (q := fullShare) (f := f') (colO_sub n o h2)).2
    isplitl [Ho] <;> iassumption
  isplitl [Ht Htr]
  · iapply (pointsTo_split_subset (q := qt) (f := ft) (S := Finset.univ) (Finset.subset_univ (colT o h1).view.set)).2
    isplitl [Ht] <;> iassumption
  isplitl [Hs] <;> iassumption

/-! ## The result's blocks -/

/-- Block `r` of the result at contents `fo`. -/
abbrev wPts (r : Nat) (fo : Buf (Elt F) ((thr d L).loc main_v2_scv)) : sProp 𝕄 :=
  (thr d L).loc main_v2_scv ↦[(win r).view.set]{fullShare} fo

def oIdle (n : Nat) : sProp 𝕄 :=
  iprop((∃ f, oPts d L n f) ∗ semVal (thr d L, SemLoc.dma (semO n).sem) 0)

/-- Slot `n` on its way to block `r`: at the wait the block holds what the result is to hold there. -/
def oFly (n r : Nat) : sProp 𝕄 :=
  Transfers.Flight countersEmb (thr d L) (.dma (semO n).sem) ι₀ (win r).view.dmaCredit
    iprop(wPts d L r (G fi ft) ∗ ∃ f, oPts d L n f)

theorem out_start {n r : Nat} (hr : r < 8192) {src : Memref sig .scVector .vmem S64x512 .i32} {dst : Memref sig .scVector .hbm S64x512 .i32} {sem : DmaSems sig S_}
    (hs : src = slotO n) (hd : dst = win r) (hm : sem = semO n) {h1 h2 h3} {f : Buf (Elt F) ((thr d L).loc cc0_scoped2)}
    {fo : Buf (Elt F) ((thr d L).loc main_v2_scv)} (hf : OGood (F := F) fi ft n r 512 f) {Q : PUnit → sProp 𝕄} :
    iprop(oPts d L n f ∗ semVal (thr d L, SemLoc.dma (semO n).sem) 0 ∗ wPts d L r fo ∗ (oFly d L fi ft n r -∗ Q ⟨⟩))
      ⊢ wp frame (wpE (defs₀ (F := F)) 𝒱₀ (thr d L) none) Set.univ (Prog.lift (.enqueueDma src (.here dst) (.dma sem.sem) h1 h2 h3)) Q := by
  subst hs hd hm
  unfold oFly
  iintro ⟨Hf, Hv, Hw, HQ⟩
  iapply (Transfers.wp_dmaLocal countersEmb 𝒱₀ (thr d L) none (src := slotO n) (dst := win r) (sm := .dma (semO n).sem) ι₀
    (win r).view.dmaCredit rfl (View.dmaCredit_pos _ (by decide)) (Finset.Subset.refl _)) $$ [Hf Hv Hw]
  · isplitl [Hf]; · iexact Hf
    isplitl [Hw]; · iexact Hw
    iexact Hv
  iintro Hfl
  rw [wp_ret]
  imodintro
  iapply HQ
  iapply (Transfers.Flight_mono countersEmb (thr d L) (D' := iprop(wPts d L r (G fi ft) ∗ ∃ f, oPts d L n f)) ?_) $$ Hfl
  iintro ⟨Hw, Hf⟩
  isplitl [Hw]
  · iapply (Entails.of_eq (pointsTo_congr (win_copy hr hf fo))) $$ Hw
  iexists f
  iexact Hf

theorem out_wait {n r : Nat} {src : Memref sig .scVector .vmem S64x512 .i32} {dst : Memref sig .scVector .hbm S64x512 .i32} {sem : DmaSems sig S_}
    (hd : dst = win r) (hm : sem = semO n) {h1 h2}
    {O : CellTallies nD τ sig (HIx 1)} {W : Waits sig (HIx 1)} {Q : PUnit → sProp 𝕄} :
    iprop(Transfers.MayWaits (thr d L) ι₀ O ∗ oFly d L fi ft n r ∗ OW d L O W
        ∗ (iprop(wPts d L r (G fi ft) ∗ oIdle d L n ∗ OW d L O W) -∗ Q ⟨⟩))
      ⊢ wp frame (wpE (defs₀ (F := F)) 𝒱₀ (thr d L) none) Set.univ (Prog.lift (.waitDma2 sem.sem src dst h1 h2)) Q := by
  subst hd hm
  unfold oFly oIdle
  iintro ⟨#Hmw, Hfl, HO, HQ⟩
  iapply (wait_any d L (sem := (semO n).sem) (dstw := win r) rfl)
  isplitr; · iexact Hmw
  isplitl [Hfl]; · iexact Hfl
  isplitl [HO]; · iexact HO
  iintro ⟨⟨Hw, Hf⟩, Hs, HO⟩
  iapply HQ
  isplitl [Hw]; · iexact Hw
  isplitl [Hf Hs]
  · isplitl [Hf] <;> iassumption
  iexact HO

end Cert.KernelIdeal.Gather
-- ==== Proof.Yields.lean ====
/- The words a trip hands to the next. -/
module

public import proofs.«01_k».proof.Proof.Words

@[expose] public section

noncomputable section

namespace Cert.KernelIdeal.Gather

open Idealize.ShloMosaic

/-- The word before (`pw`) and the word after (`nw`) a window's, around the 256 of a tile. -/
abbrev pw (a : BitVec 32) : BitVec 32 :=
  Scalar.select (Scalar.cmpi .eq (Scalar.select 1#1 (Scalar.subi a 1#32) a) 4294967295#32) 255#32 (Scalar.select 1#1 (Scalar.subi a 1#32) a)
abbrev nw (a : BitVec 32) : BitVec 32 :=
  Scalar.select (Scalar.cmpi .eq (Scalar.select 1#1 (Scalar.addi a 1#32) a) 256#32) 0#32 (Scalar.select 1#1 (Scalar.addi a 1#32) a)

/-- Two windows of a tile differ where their numbers in the tile do. -/
theorem ne_add (a b v : BitVec 32) : Scalar.cmpi .ne (Scalar.addi a v) (Scalar.addi b v) = Scalar.cmpi .ne a b := by
  show BitVec.ofBool ((a + v) != (b + v)) = BitVec.ofBool (a != b)
  congr 1
  rw [Bool.eq_iff_iff]
  simp

theorem next1_w : ∀ t : Fin k0_t1_loop.trips,
    Scalar.select (Scalar.andi (Scalar.andi (Scalar.cmpi .ne (wd t.val) (nw (wd t.val)))
      (Scalar.xori (Scalar.cmpi .sge (Scf.iv 0#32 1#32 t.val) 255#32) 1#1)) 1#1) (Scalar.addi (st1 t.val) 1#32) (st1 t.val) = st1 (t.val + 1) := by
  decide +kernel
theorem next2_w : ∀ t : Fin k0_t1_loop.trips,
    Scalar.select (Scalar.ori (Scalar.cmpi .ne (wd t.val) (nw (wd t.val))) (Scalar.cmpi .eq (Scf.iv 0#32 1#32 t.val) 255#32))
      (Scalar.addi (wd t.val) 1#32) (wd t.val) = wd (t.val + 1) := by
  decide +kernel
theorem next3_w : ∀ t : Fin k0_t1_loop.trips,
    Scalar.select (Scalar.andi (Scalar.ori (Scalar.cmpi .ne (wd t.val) (nw (wd t.val))) (Scalar.cmpi .eq (Scf.iv 0#32 1#32 t.val) 255#32)) 1#1)
      (Scalar.addi (wd t.val) 1#32) (wd t.val) = wd (t.val + 1) := by
  decide +kernel
theorem next4_w : ∀ t : Fin k0_t1_loop.trips,
    Scalar.select (Scalar.andi (Scalar.andi (Scalar.cmpi .ne (wd t.val) (pw (wd t.val))) (Scalar.xori (Scalar.cmpi .eq (Scf.iv 0#32 1#32 t.val) 0#32) 1#1)) 1#1)
      (Scalar.addi (st4 t.val) 1#32) (st4 t.val) = st4 (t.val + 1) := by
  decide +kernel
theorem next5_w : ∀ t : Fin k0_t1_loop.trips, nw (wd t.val) = st5 (t.val + 1) := by
  decide +kernel

/-- The words carried before trip `t`. -/
abbrev st (t : Nat) : BitVec 32 × BitVec 32 × BitVec 32 × BitVec 32 × BitVec 32 := (st1 t, wd t, wd t, st4 t, st5 t)

theorem st_next (t : Fin k0_t1_loop.trips) (v4 : BitVec 32) :
    (Scalar.select (Scalar.andi (Scalar.andi (Scalar.cmpi .ne (Scalar.addi (wd t.val) v4) (Scalar.addi (nw (wd t.val)) v4))
        (Scalar.xori (Scalar.cmpi .sge (Scf.iv 0#32 1#32 t.val) 255#32) 1#1)) 1#1) (Scalar.addi (st1 t.val) 1#32) (st1 t.val),
      Scalar.select (Scalar.ori (Scalar.cmpi .ne (Scalar.addi (wd t.val) v4) (Scalar.addi (nw (wd t.val)) v4)) (Scalar.cmpi .eq (Scf.iv 0#32 1#32 t.val) 255#32))
        (Scalar.addi (wd t.val) 1#32) (wd t.val),
      Scalar.select (Scalar.andi (Scalar.ori (Scalar.cmpi .ne (Scalar.addi (wd t.val) v4) (Scalar.addi (nw (wd t.val)) v4))
        (Scalar.cmpi .eq (Scf.iv 0#32 1#32 t.val) 255#32)) 1#1) (Scalar.addi (wd t.val) 1#32) (wd t.val),
      Scalar.select (Scalar.andi (Scalar.andi (Scalar.cmpi .ne (Scalar.addi (wd t.val) v4) (Scalar.addi (pw (wd t.val)) v4))
        (Scalar.xori (Scalar.cmpi .eq (Scf.iv 0#32 1#32 t.val) 0#32) 1#1)) 1#1) (Scalar.addi (st4 t.val) 1#32) (st4 t.val),
      nw (wd t.val)) = st (t.val + 1) := by
  rw [ne_add, ne_add, next1_w, next2_w, next3_w, next4_w, next5_w]

end Cert.KernelIdeal.Gather
-- ==== Proof.Parts.lean ====
/- The parts of one trip of the gather's loop: the fetch of the next row of expert numbers, the wait for this trip's, and the
   four gathers of 128 columns. -/
module

public import proofs.«01_k».proof.Proof.Atoms
public import proofs.«01_k».proof.Proof.Yields

@[expose] public section

noncomputable section

namespace Cert.KernelIdeal.Gather

open Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (x : Fin (grid0.bound 0)) (y : Fin (grid0.bound 1))
variable (fi : Buf (Elt F) ((thr d (pt x y)).loc main_v1_scv)) (ft : Buf (Elt F) ((thr d (pt x y)).loc main_arg0_scv))

/-- A check that holds is passed. -/
theorem wp_check {P : Prop} {dec : Decidable P} (h : P) {Q : PLift P → sProp 𝕄} :
    Q ⟨h⟩ ⊢ wp frame (wpE (defs₀ (F := F)) 𝒱₀ (thr d (pt x y)) none) Set.univ (Prog.lift (TpuEff.assume P dec)) Q := by
  refine BIBase.Entails.trans ?_ (wp_assume 𝒱₀ (thr d (pt x y)) none Set.univ h)
  rw [wp_ret]
  iintro H; imodintro; iexact H

/-- Row `t` on its way, or, past the last trip, its slot not in use. -/
def iX (q : Nat → PosShare TreeShare) (t : Nat) : sProp 𝕄 :=
  if t < 256 then iFly d (pt x y) fi q t (base x y + t) else iIdle d (pt x y) fi q t

theorem part1 (t : Fin k0_t1_loop.trips) (v4 : BitVec 32) {q : Nat → PosShare TreeShare} {ht : t.val < 256} {Q : _ → sProp 𝕄} :
    iprop(iIdle d (pt x y) fi q (t.val + 1) ∗ (iX d x y fi q (t.val + 1) -∗
        Q ⟨chk3 ht, chk2 ht, chk1 x y t, Scf.iv 0#32 1#32 t, Scalar.cmpi .eq (Scf.iv 0#32 1#32 t) 0#32, Scalar.cmpi .eq (Scf.iv 0#32 1#32 t) 255#32,
          Scalar.addi (wd t.val) v4, Scalar.addi (pw (wd t.val)) v4, Scalar.addi (nw (wd t.val)) v4,
          Scalar.select (Scalar.andi (Scalar.andi (Scalar.cmpi .ne (Scalar.addi (wd t.val) v4) (Scalar.addi (nw (wd t.val)) v4))
            (Scalar.xori (Scalar.cmpi .sge (Scf.iv 0#32 1#32 t) 255#32) 1#1)) 1#1) (Scalar.addi (st1 t.val) 1#32) (st1 t.val),
          Scalar.cmpi .ne (Scalar.addi (wd t.val) v4) (Scalar.addi (pw (wd t.val)) v4)⟩))
      ⊢ wp frame (wpE (defs₀ (F := F)) 𝒱₀ (thr d (pt x y)) none) Set.univ
          (k0_part1 (F := F) (pt x y) tV (Memref.isWhole_whole _) iV (Memref.isWhole_whole _) oV (Memref.isWhole_whole _) sI (Memref.isWhole_whole _)
            cc0_scoped1 sO (Memref.isWhole_whole _) cc0_scoped3 cc0_scoped4 cc0_scoped5 cc0_scoped6 cc0_scoped7 v4 0#32 1#32 t
            (st1 t.val) (wd t.val) (wd t.val) (st4 t.val) (wd t.val)) Q := by
  rw [k0_part1_eq_skeleton]; unfold k0_part1_skel
  simp only [wp_bind]
  iintro ⟨Hi, HQ⟩
  iapply (wp_check d x y (chk3 ht))
  iapply (wp_check d x y (chk2 ht))
  iapply (wp_check d x y (chk1 x y t))
  have hst : t.val < 255 → st1 t.val = wd (t.val + 1) := fun h => by unfold st1; rw [Nat.min_eq_left (by omega)]
  by_cases h : k0_cond1 (pt x y) t (wd t.val) = 1#1
  · have h' := (cond1_iff x y t).mp h
    rw [dif_pos h]
    simp only [wp_bind]
    iapply (idx_start d (pt x y) fi (n := t.val + 1) (r := base x y + (t.val + 1)) (q := q)
      (idxRow_of (base_lt x y (by omega)) (off5_eq x y h') _) (slotI_of (by rw [hst h']; exact off4_eq (by omega)) _)
      (semI_of (by rw [hst h']; exact off6_eq (by omega)) _))
    isplitl [Hi]; · iexact Hi
    iintro Hi
    simp only [wp_pure]
    imodintro
    iapply HQ
    unfold iX
    rw [if_pos (by omega)]
    iexact Hi
  · have h' : ¬t.val < 255 := fun e => h ((cond1_iff x y t).mpr e)
    rw [dif_neg h]
    simp only [wp_pure]
    imodintro
    iapply HQ
    unfold iX
    rw [if_neg (by omega)]
    iexact Hi

/-- What a trip's gathers keep: the expert numbers in their slot, block `r` in its slot as far as column `o`, the table's share. -/
def gHave (qt : PosShare TreeShare) (n r o : Nat) (f : Buf (Elt F) ((thr d (pt x y)).loc cc0_scoped0)) : sProp 𝕄 :=
  iprop(iPts d (pt x y) n f ∗ (∃ fo, ⌜OGood (F := F) fi ft n r o fo⌝ ∗ oPts d (pt x y) n fo) ∗ ((thr d (pt x y)).loc main_arg0_scv ↦{qt} ft))

abbrev sv (s : DmaSems sig S_) : sProp 𝕄 := semVal (thr d (pt x y), SemLoc.dma s.sem) 0

theorem part2 (t : Fin k0_t1_loop.trips) (ht : t.val < 256) {hw3 hw2 hw1} {a5 : BitVec 32} {a64 : BitVec 1} {a66 a71 : BitVec 32} {a96 : BitVec 1}
    {q : Nat → PosShare TreeShare} {qt : PosShare TreeShare} (hfi : ∀ j, (fi j).toNat < 16384) {O : CellTallies nD τ sig (HIx 1)} {W : Waits sig (HIx 1)}
    {Q : PUnit → sProp 𝕄} :
    iprop(Transfers.MayWaits (thr d (pt x y)) ι₀ O ∗ iX d x y fi q t.val ∗ (∃ fo, oPts d (pt x y) t.val fo)
        ∗ ((thr d (pt x y)).loc main_arg0_scv ↦{qt} ft) ∗ sv d x y cc0_scoped4 ∗ OW d (pt x y) O W
        ∗ (∀ f, ⌜IGood (F := F) fi t.val (base x y + t.val) f⌝ -∗ iprop(gHave d x y fi ft qt t.val (base x y + t.val) 128 f
            ∗ sv d x y (semI t.val) ∗ ((thr d (pt x y)).loc main_v1_scv ↦{q t.val} fi) ∗ sv d x y cc0_scoped4 ∗ OW d (pt x y) O W) -∗ Q ⟨⟩))
      ⊢ wp frame (wpE (defs₀ (F := F)) 𝒱₀ (thr d (pt x y)) none) Set.univ
          (k0_part2 (F := F) (pt x y) tV (Memref.isWhole_whole _) iV (Memref.isWhole_whole _) oV (Memref.isWhole_whole _) sI (Memref.isWhole_whole _)
            cc0_scoped1 sO (Memref.isWhole_whole _) cc0_scoped3 cc0_scoped4 cc0_scoped5 cc0_scoped6 cc0_scoped7 t
            (st1 t.val) (wd t.val) (wd t.val) (st4 t.val) (wd t.val) hw3 hw2 hw1 a5 a64 a66 a71 a96) Q := by
  rw [k0_part2_eq_skeleton]; unfold k0_part2_skel iX gHave
  rw [if_pos ht, dif_pos (cond2_true x y t)]
  simp only [ite_self, wp_bind, wp_pure]
  iintro ⟨#Hmw, Hi, ⟨%fo, Ho⟩, Ht, Hv, HO, HQ⟩
  iapply (idx_wait d (pt x y) fi (n := t.val) (q := q) (slotI_of (off7_eq (by omega)) _) (semI_of (off9_eq (by omega)) _))
  isplitr; · iexact Hmw
  isplitl [Hi]; · iexact Hi
  isplitl [HO]; · iexact HO
  iintro ⟨⟨%f, %hf, Hf⟩, Hs, Hi, HO⟩
  iapply (gather_start d (pt x y) fi ft (n := t.val) (o := 0) (h1 := inb_S16384x512_S16384x128_0_0) (h2 := inb_S64x512_S64x128_0_0)
    (by rw [slotO_of (off10_eq (by omega))]) (by rw [slotI_of (off11_eq (by omega))]) hfi hf (OGood_zero fi ft _ _ fo))
  isplitl [Hf]; · iexact Hf
  isplitl [Ho]; · iexact Ho
  isplitl [Ht]; · iexact Ht
  isplitl [Hv]; · iexact Hv
  iintro Hg
  iapply (gather_wait d (pt x y) fi ft (n := t.val) (o := 0) (by rw [slotO_of (off10_eq (by omega))]))
  isplitr; · iexact Hmw
  isplitl [Hg]; · iexact Hg
  isplitl [HO]; · iexact HO
  iintro ⟨Hf, Ho, Ht, Hv, HO⟩
  imodintro
  ispecialize HQ $$ %f %hf
  iapply HQ
  isplitl [Hf Ho Ht]
  · isplitl [Hf]; · iexact Hf
    isplitl [Ho]; · iexact Ho
    iexact Ht
  isplitl [Hs]; · iexact Hs
  isplitl [Hi]; · iexact Hi
  isplitl [Hv] <;> iassumption

theorem part3 {t r : Nat} (ht : t < 256) {hw3 : k0_chk3 (wd t)} {hw2 : k0_chk2 (wd t)} {f : Buf (Elt F) ((thr d (pt x y)).loc cc0_scoped0)} {qt : PosShare TreeShare}
    (hfi : ∀ j, (fi j).toNat < 16384) (hI : IGood (F := F) fi t r f) {O : CellTallies nD τ sig (HIx 1)} {W : Waits sig (HIx 1)} {Q : PUnit → sProp 𝕄} :
    iprop(Transfers.MayWaits (thr d (pt x y)) ι₀ O ∗ gHave d x y fi ft qt t r 128 f ∗ sv d x y cc0_scoped5 ∗ sv d x y cc0_scoped6 ∗ OW d (pt x y) O W
        ∗ (iprop(gFly d (pt x y) fi ft qt t r 256 inb_S16384x512_S16384x128_0_256 inb_S64x512_S64x128_0_256 cc0_scoped6.sem f
            ∗ sv d x y cc0_scoped5 ∗ OW d (pt x y) O W) -∗ Q ⟨⟩))
      ⊢ wp frame (wpE (defs₀ (F := F)) 𝒱₀ (thr d (pt x y)) none) Set.univ
          (k0_part3 (F := F) (pt x y) tV (Memref.isWhole_whole _) iV (Memref.isWhole_whole _) oV (Memref.isWhole_whole _) sI (Memref.isWhole_whole _)
            cc0_scoped1 sO (Memref.isWhole_whole _) cc0_scoped3 cc0_scoped4 cc0_scoped5 cc0_scoped6 cc0_scoped7 (wd t) (wd t) hw3 hw2) Q := by
  rw [k0_part3_eq_skeleton]; unfold k0_part3_skel gHave
  simp only [wp_bind, wp_pure]
  iintro ⟨#Hmw, ⟨Hf, ⟨%fo, %hO, Ho⟩, Ht⟩, Hv, Hv6, HO, HQ⟩
  iapply (gather_start d (pt x y) fi ft (n := t) (o := 128) (h1 := inb_S16384x512_S16384x128_0_128) (h2 := inb_S64x512_S64x128_0_128)
    (by rw [slotO_of (off10_eq (by omega))]) (by rw [slotI_of (off11_eq (by omega))]) hfi hI hO)
  isplitl [Hf]; · iexact Hf
  isplitl [Ho]; · iexact Ho
  isplitl [Ht]; · iexact Ht
  isplitl [Hv]; · iexact Hv
  iintro Hg
  iapply (gather_wait d (pt x y) fi ft (n := t) (o := 128) (by rw [slotO_of (off10_eq (by omega))]))
  isplitr; · iexact Hmw
  isplitl [Hg]; · iexact Hg
  isplitl [HO]; · iexact HO
  iintro ⟨Hf, ⟨%fo', %hO, Ho⟩, Ht, Hv5, HO⟩
  irename Hv6 => Hv
  iapply (gather_start d (pt x y) fi ft (n := t) (o := 256) (h1 := inb_S16384x512_S16384x128_0_256) (h2 := inb_S64x512_S64x128_0_256)
    (by rw [slotO_of (off10_eq (by omega))]) (by rw [slotI_of (off11_eq (by omega))]) hfi hI hO)
  isplitl [Hf]; · iexact Hf
  isplitl [Ho]; · iexact Ho
  isplitl [Ht]; · iexact Ht
  isplitl [Hv]; · iexact Hv
  iintro Hg
  imodintro
  iapply HQ
  isplitl [Hg]; · iexact Hg
  isplitl [Hv5] <;> iassumption

theorem part4 {t r : Nat} (ht : t < 256) {hw3 : k0_chk3 (wd t)} {hw2 : k0_chk2 (wd t)} {a65 : BitVec 1} {a66 a76 : BitVec 32}
    {f : Buf (Elt F) ((thr d (pt x y)).loc cc0_scoped0)} {qt : PosShare TreeShare}
    (hfi : ∀ j, (fi j).toNat < 16384) (hI : IGood (F := F) fi t r f) {O : CellTallies nD τ sig (HIx 1)} {W : Waits sig (HIx 1)} {Q : _ → sProp 𝕄} :
    iprop(Transfers.MayWaits (thr d (pt x y)) ι₀ O
        ∗ gFly d (pt x y) fi ft qt t r 256 inb_S16384x512_S16384x128_0_256 inb_S64x512_S64x128_0_256 cc0_scoped6.sem f
        ∗ sv d x y cc0_scoped7 ∗ OW d (pt x y) O W
        ∗ (iprop(gHave d x y fi ft qt t r 512 f ∗ sv d x y cc0_scoped6 ∗ sv d x y cc0_scoped7 ∗ OW d (pt x y) O W)
            -∗ Q ⟨Scalar.ori (Scalar.cmpi .ne a66 a76) a65, Scalar.extui (Scalar.ori (Scalar.cmpi .ne a66 a76) a65)⟩))
      ⊢ wp frame (wpE (defs₀ (F := F)) 𝒱₀ (thr d (pt x y)) none) Set.univ
          (k0_part4 (F := F) (pt x y) tV (Memref.isWhole_whole _) iV (Memref.isWhole_whole _) oV (Memref.isWhole_whole _) sI (Memref.isWhole_whole _)
            cc0_scoped1 sO (Memref.isWhole_whole _) cc0_scoped3 cc0_scoped4 cc0_scoped5 cc0_scoped6 cc0_scoped7 (wd t) (wd t) hw3 hw2 a65 a66 a76) Q := by
  rw [k0_part4_eq_skeleton]; unfold k0_part4_skel gHave
  simp only [ite_self, wp_bind, wp_pure]
  iintro ⟨#Hmw, Hg, Hv, HO, HQ⟩
  iapply (gather_wait d (pt x y) fi ft (n := t) (o := 256) (by rw [slotO_of (off10_eq (by omega))]))
  isplitr; · iexact Hmw
  isplitl [Hg]; · iexact Hg
  isplitl [HO]; · iexact HO
  iintro ⟨Hf, ⟨%fo, %hO, Ho⟩, Ht, Hv6, HO⟩
  iapply (gather_start d (pt x y) fi ft (n := t) (o := 384) (h1 := inb_S16384x512_S16384x128_0_384) (h2 := inb_S64x512_S64x128_0_384)
    (by rw [slotO_of (off10_eq (by omega))]) (by rw [slotI_of (off11_eq (by omega))]) hfi hI hO)
  isplitl [Hf]; · iexact Hf
  isplitl [Ho]; · iexact Ho
  isplitl [Ht]; · iexact Ht
  isplitl [Hv]; · iexact Hv
  iintro Hg
  iapply (gather_wait d (pt x y) fi ft (n := t) (o := 384) (by rw [slotO_of (off10_eq (by omega))]))
  isplitr; · iexact Hmw
  isplitl [Hg]; · iexact Hg
  isplitl [HO]; · iexact HO
  iintro ⟨Hf, Ho, Ht, Hv7, HO⟩
  imodintro
  iapply HQ
  isplitl [Hf Ho Ht]
  · isplitl [Hf]; · iexact Hf
    isplitl [Ho]; · iexact Ho
    iexact Ht
  isplitl [Hv6]; · iexact Hv6
  isplitl [Hv7] <;> iassumption

end Cert.KernelIdeal.Gather
-- ==== Proof.Trip.lean ====
/- One trip of the gather's loop, by the loop's invariant. -/
module

public import proofs.«01_k».proof.Proof.Parts

@[expose] public section

noncomputable section

namespace Cert.KernelIdeal.Gather

open Cert.KernelIdeal.Gen
open Idealize.ShloMosaic
open Idealize.ShloMosaic.SparseCore (S V T)
open Idealize.ShloMosaic.SparseCore.Cfg (HIx)
open Idealize.ShloMosaic.SparseCore.ProtocolKit
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (x : Fin (grid0.bound 0)) (y : Fin (grid0.bound 1))
variable (fi : Buf (Elt F) ((thr d (pt x y)).loc main_v1_scv)) (ft : Buf (Elt F) ((thr d (pt x y)).loc main_arg0_scv))
variable (fo : Buf (Elt F) ((thr d (pt x y)).loc main_v2_scv))

theorem oIdle_par {n m : Nat} (e : n % 2 = m % 2) : oIdle d (pt x y) n = (oIdle d (pt x y) m : sProp 𝕄) := by
  unfold oIdle oPts
  have h := slotO_set e
  rw [semO_par e]
  exact congrArg (fun S : Finset S2x64x512.Idx => iprop((∃ f, (thr d (pt x y)).loc cc0_scoped2 ↦[S]{fullShare} f)
    ∗ semVal (thr d (pt x y), SemLoc.dma (semO m).sem) 0)) h
theorem iIdle_par {q : Nat → PosShare TreeShare} {n m : Nat} (e : n % 2 = m % 2) (hq : q n = q m) :
    iIdle d (pt x y) fi q n = (iIdle d (pt x y) fi q m : sProp 𝕄) := by
  unfold iIdle iPts
  have h := slotI_set e
  rw [semI_par e, hq]
  exact congrArg (fun S : Finset S2x1x64.Idx => iprop((∃ f, (thr d (pt x y)).loc cc0_scoped0 ↦[S]{fullShare} f)
    ∗ semVal (thr d (pt x y), SemLoc.dma (semI m).sem) 0 ∗ (thr d (pt x y)).loc main_v1_scv ↦{q m} fi)) h

/-- The slot of rows that the trip before last used, or its copy under way. -/
def oPrev (t : Nat) : sProp 𝕄 :=
  if t = 0 then oIdle d (pt x y) (t + 1) else oFly d (pt x y) fi ft (t - 1) (base x y + (t - 1))

/-- Block `j` of the tile's 256, as the launch left it and as it is to be. -/
abbrev todo (j : Fin 256) : sProp 𝕄 := wPts d (pt x y) (base x y + j.val) fo
abbrev doneB (j : Fin 256) : sProp 𝕄 := wPts d (pt x y) (base x y + j.val) (G fi ft)

/-- Before trip `t`: row `t` is on its way to its slot and the next slot is free; block `t - 1` is on its way out and slot `t` is
    free; the blocks before are as they are to be, those from `t` on as they were; and the four gathers' semaphores are at zero. -/
def Inv (q : Nat → PosShare TreeShare) (qt : PosShare TreeShare) (O : CellTallies nD τ sig (HIx 1)) (W : Waits sig (HIx 1))
    (t : Nat) (a : BitVec 32 × BitVec 32 × BitVec 32 × BitVec 32 × BitVec 32) : sProp 𝕄 :=
  iprop(⌜a = st t⌝ ∗ Transfers.MayWaits (thr d (pt x y)) ι₀ O ∗ iX d x y fi q t ∗ iIdle d (pt x y) fi q (t + 1)
    ∗ oPrev d x y fi ft t ∗ oIdle d (pt x y) t
    ∗ bigSep (finFrom 256 t) (todo d x y fo) ∗ bigSep (finUpTo 256 (t - 1)) (doneB d x y fi ft)
    ∗ ((thr d (pt x y)).loc main_arg0_scv ↦{qt} ft)
    ∗ sv d x y cc0_scoped4 ∗ sv d x y cc0_scoped5 ∗ sv d x y cc0_scoped6 ∗ sv d x y cc0_scoped7 ∗ OW d (pt x y) O W)

theorem trip (t : Fin k0_t1_loop.trips) (v4 : BitVec 32) (a : BitVec 32 × BitVec 32 × BitVec 32 × BitVec 32 × BitVec 32)
    {q : Nat → PosShare TreeShare} {qt : PosShare TreeShare} (hq : ∀ n m, n % 2 = m % 2 → q n = q m)
    (hfi : ∀ j, (fi j).toNat < 16384) {O : CellTallies nD τ sig (HIx 1)} {W : Waits sig (HIx 1)} :
    Inv d x y fi ft fo q qt O W t.val a
      ⊢ wp frame (wpE (defs₀ (F := F)) 𝒱₀ (thr d (pt x y)) none) Set.univ
          (k0_t1_body (F := F) (pt x y) tV (Memref.isWhole_whole _) iV (Memref.isWhole_whole _) oV (Memref.isWhole_whole _) sI (Memref.isWhole_whole _)
            cc0_scoped1 sO (Memref.isWhole_whole _) cc0_scoped3 cc0_scoped4 cc0_scoped5 cc0_scoped6 cc0_scoped7 v4 t a)
          (Inv d x y fi ft fo q qt O W (t.val + 1)) := by
  have ht : t.val < 256 := trips_eq ▸ t.isLt
  unfold Inv
  iintro ⟨%ha, #Hmw, HiX, HiN, HoP, HoT, Htodo, Hdone, Ht, H4, H5, H6, H7, HO⟩
  subst ha
  ihave HoT := (show oIdle d (pt x y) t.val ⊢ (iprop((∃ f, oPts d (pt x y) t.val f) ∗ semVal (thr d (pt x y), SemLoc.dma (semO t.val).sem) 0) : sProp 𝕄)
    from BIBase.Entails.rfl) $$ HoT
  icases HoT with ⟨⟨%f0, Ho⟩, HoS⟩
  have e5 : st5 t.val = wd t.val := by unfold st5; rw [Nat.mod_eq_of_lt ht]
  unfold st
  rw [e5]
  unfold k0_t1_body
  simp only [wp_bind]
  iapply (part1 d x y fi t v4 (q := q) (ht := ht))
  isplitl [HiN]; · iexact HiN
  iintro HiN
  iapply (part2 d x y fi ft t ht (q := q) (qt := qt) hfi)
  isplitr; · iexact Hmw
  isplitl [HiX]; · iexact HiX
  isplitl [Ho]; · iexists f0; iexact Ho
  isplitl [Ht]; · iexact Ht
  isplitl [H4]; · iexact H4
  isplitl [HO]; · iexact HO
  iintro %f %hI ⟨Hg, HiS, Hi, H4, HO⟩
  iapply (part3 d x y fi ft ht (qt := qt) hfi hI)
  isplitr; · iexact Hmw
  isplitl [Hg]; · iexact Hg
  isplitl [H5]; · iexact H5
  isplitl [H6]; · iexact H6
  isplitl [HO]; · iexact HO
  iintro ⟨Hg, H5, HO⟩
  iapply (part4 d x y fi ft ht (qt := qt) hfi hI)
  isplitr; · iexact Hmw
  isplitl [Hg]; · iexact Hg
  isplitl [H7]; · iexact H7
  isplitl [HO]; · iexact HO
  unfold gHave
  iintro ⟨⟨Hf, ⟨%f1, %hO, Ho⟩, Ht⟩, H6, H7, HO⟩
  rw [dif_pos (cond5_true x y t)]
  simp only [ite_self, wp_bind]
  ihave Htodo := (Entails.of_eq (bigSep_finFrom_succ ht (todo d x y fo))) $$ Htodo
  icases Htodo with ⟨Hw, Htodo⟩
  have hb : base x y + t.val < 8192 := base_lt x y ht
  iapply (out_start d (pt x y) fi ft (n := t.val) hb (slotO_of (off12_eq (by omega)) _) (win_of hb (off13_eq x y ht) _) (semO_of (off14_eq (by omega)) _) hO)
  isplitl [Ho]; · iexact Ho
  isplitl [HoS]; · iexact HoS
  isplitl [Hw]; · iexact Hw
  iintro HoF
  have ha' := st_next t v4
  by_cases h : k0_cond7 (pt x y) t (wd t.val) = 1#1
  · have h' := (cond7_iff x y t).mp h
    have e4 : st4 t.val = wd (t.val - 1) := rfl
    have hb' : base x y + (t.val - 1) < 8192 := base_lt x y (by omega)
    rw [dif_pos h]
    simp only [wp_bind, wp_pure]
    ihave HoP := (Entails.of_eq (show oPrev d x y fi ft t.val = oFly d (pt x y) fi ft (t.val - 1) (base x y + (t.val - 1)) from if_neg (by omega))) $$ HoP
    iapply (out_wait d (pt x y) fi ft (n := t.val - 1) (r := base x y + (t.val - 1)) (win_of hb' (off16_eq x y ht h') _)
      (semO_of (by rw [e4]; exact off17_eq (by omega)) _))
    isplitr; · iexact Hmw
    isplitl [HoP]; · iexact HoP
    isplitl [HO]; · iexact HO
    iintro ⟨Hw, HoI, HO⟩
    imodintro
    isplitr; · ipureintro; exact ha'
    isplitr; · iexact Hmw
    isplitl [HiN]; · iexact HiN
    isplitl [HiS Hi Hf]
    · iapply (Entails.of_eq (iIdle_par d x y fi (q := q) (show t.val % 2 = (t.val + 1 + 1) % 2 by omega) (hq _ _ (by omega))))
      unfold iIdle
      isplitl [Hf]; · iexists f; iexact Hf
      isplitl [HiS] <;> iassumption
    isplitl [HoF]
    · iapply (Entails.of_eq (show oPrev d x y fi ft (t.val + 1) = oFly d (pt x y) fi ft (t.val + 1 - 1) (base x y + (t.val + 1 - 1)) from if_neg (by omega)).symm)
      iexact HoF
    isplitl [HoI]
    · iapply (Entails.of_eq (oIdle_par d x y (show (t.val - 1) % 2 = (t.val + 1) % 2 by omega))) $$ HoI
    isplitl [Htodo]; · iexact Htodo
    isplitl [Hw Hdone]
    · obtain ⟨u, hu⟩ : ∃ u, t.val = u + 1 := ⟨t.val - 1, by omega⟩
      rw [hu]
      iapply (Entails.of_eq (bigSep_finUpTo_succ (show u < 256 by omega) (doneB d x y fi ft)).symm)
      isplitl [Hw]; · iexact Hw
      iexact Hdone
    isplitl [Ht]; · iexact Ht
    isplitl [H4]; · iexact H4
    isplitl [H5]; · iexact H5
    isplitl [H6]; · iexact H6
    isplitl [H7]; · iexact H7
    iexact HO
  · have h' : t.val = 0 := by by_contra e; exact h ((cond7_iff x y t).mpr (by omega))
    rw [dif_neg h]
    simp only [wp_pure]
    imodintro
    ihave HoP := (Entails.of_eq (show oPrev d x y fi ft t.val = oIdle d (pt x y) (t.val + 1) from if_pos h')) $$ HoP
    isplitr; · ipureintro; exact ha'
    isplitr; · iexact Hmw
    isplitl [HiN]; · iexact HiN
    isplitl [HiS Hi Hf]
    · iapply (Entails.of_eq (iIdle_par d x y fi (q := q) (show t.val % 2 = (t.val + 1 + 1) % 2 by omega) (hq _ _ (by omega))))
      unfold iIdle
      isplitl [Hf]; · iexists f; iexact Hf
      isplitl [HiS] <;> iassumption
    isplitl [HoF]
    · iapply (Entails.of_eq (show oPrev d x y fi ft (t.val + 1) = oFly d (pt x y) fi ft (t.val + 1 - 1) (base x y + (t.val + 1 - 1)) from if_neg (by omega)).symm)
      iexact HoF
    isplitl [HoP]; · iexact HoP
    isplitl [Htodo]; · iexact Htodo
    isplitl [Hdone]
    · rw [h']; iexact Hdone
    isplitl [Ht]; · iexact Ht
    isplitl [H4]; · iexact H4
    isplitl [H5]; · iexact H5
    isplitl [H6]; · iexact H6
    isplitl [H7]; · iexact H7
    iexact HO

end Cert.KernelIdeal.Gather
-- ==== Proof.Scratch.lean ====
/- The tile's own scratch: its two buffers as two slots each, its eight semaphores one by one. -/
module

public import proofs.«01_k».proof.Proof.Trip

@[expose] public section

noncomputable section

namespace Cert.KernelIdeal.Gather

open Cert.KernelIdeal.Gen
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The slots of a buffer -/

theorem slotI_mem (n : Nat) (i : S2x1x64.Idx) : i ∈ ((slotI n).view.set : Finset S2x1x64.Idx) ↔ (i 0).val = n % 2 := by
  have e : ((slotI n).view.set : Finset S2x1x64.Idx) = (Rect.unit (s := S2x1x64) ![n % 2, 0, 0] S1x1x64.size (slotI_inb n)).set := by
    show (((View.whole (cc0_scoped0 : Ref sig .scVector)).slice _).reshape S1x64 _).set = _
    rw [View.set_reshape, View.set_slice]; exact Finset.map_refl
  rw [e, Rect.mem_set_unit]
  constructor
  · intro h
    have h0 := h 0
    simp only [Matrix.cons_val_zero, S1x1x64] at h0
    omega
  · intro h a
    have := (i a).isLt
    match a with
    | 0 => simp only [Matrix.cons_val_zero, S1x1x64]; omega
    | 1 => exact ⟨Nat.zero_le _, by simpa [S1x1x64] using this⟩
    | 2 => exact ⟨Nat.zero_le _, by simpa [S1x1x64] using this⟩

theorem slotO_mem (n : Nat) (i : S2x64x512.Idx) : i ∈ ((slotO n).view.set : Finset S2x64x512.Idx) ↔ (i 0).val = n % 2 := by
  have e : ((slotO n).view.set : Finset S2x64x512.Idx) = (Rect.unit (s := S2x64x512) ![n % 2, 0, 0] S1x64x512.size (slotO_inb n)).set := by
    show (((View.whole (cc0_scoped2 : Ref sig .scVector)).slice _).reshape S64x512 _).set = _
    rw [View.set_reshape, View.set_slice]; exact Finset.map_refl
  rw [e, Rect.mem_set_unit]
  constructor
  · intro h
    have h0 := h 0
    simp only [Matrix.cons_val_zero, S1x64x512] at h0
    omega
  · intro h a
    have := (i a).isLt
    match a with
    | 0 => simp only [Matrix.cons_val_zero, S1x64x512]; omega
    | 1 => exact ⟨Nat.zero_le _, by simpa [S1x64x512] using this⟩
    | 2 => exact ⟨Nat.zero_le _, by simpa [S1x64x512] using this⟩

theorem slotI_rest : (Finset.univ \ (slotI 0).view.set : Finset S2x1x64.Idx) = (slotI 1).view.set := by
  ext i
  have h : (i 0).val < 2 := (i 0).isLt
  rw [Finset.mem_sdiff, slotI_mem, slotI_mem]
  simp only [Finset.mem_univ, true_and]
  omega
theorem slotO_rest : (Finset.univ \ (slotO 0).view.set : Finset S2x64x512.Idx) = (slotO 1).view.set := by
  ext i
  have h : (i 0).val < 2 := (i 0).isLt
  rw [Finset.mem_sdiff, slotO_mem, slotO_mem]
  simp only [Finset.mem_univ, true_and]
  omega

variable [FloatOps F] (d : Dev nD) (x : Fin (grid0.bound 0)) (y : Fin (grid0.bound 1))

theorem iSlots_split (f : Buf (Elt F) ((thr d (pt x y)).loc cc0_scoped0)) :
    ((thr d (pt x y)).loc cc0_scoped0 ↦{fullShare} f) ⊢ (iprop(iPts d (pt x y) 0 f ∗ iPts d (pt x y) 1 f) : sProp 𝕄) :=
  BIBase.Entails.trans (pointsTo_split_subset (q := fullShare) (f := f) (S := Finset.univ) (Finset.subset_univ (slotI 0).view.set)).1
    (Entails.of_eq (congrArg (fun S : Finset S2x1x64.Idx => iprop(iPts d (pt x y) 0 f ∗ (thr d (pt x y)).loc cc0_scoped0 ↦[S]{fullShare} f)) slotI_rest))
theorem oSlots_split (f : Buf (Elt F) ((thr d (pt x y)).loc cc0_scoped2)) :
    ((thr d (pt x y)).loc cc0_scoped2 ↦{fullShare} f) ⊢ (iprop(oPts d (pt x y) 0 f ∗ oPts d (pt x y) 1 f) : sProp 𝕄) :=
  BIBase.Entails.trans (pointsTo_split_subset (q := fullShare) (f := f) (S := Finset.univ) (Finset.subset_univ (slotO 0).view.set)).1
    (Entails.of_eq (congrArg (fun S : Finset S2x64x512.Idx => iprop(oPts d (pt x y) 0 f ∗ (thr d (pt x y)).loc cc0_scoped2 ↦[S]{fullShare} f)) slotO_rest))

theorem iSlots_join (f g : Buf (Elt F) ((thr d (pt x y)).loc cc0_scoped0)) :
    iprop(iPts d (pt x y) 0 f ∗ iPts d (pt x y) 1 g) ⊢ (iprop(∃ h, (thr d (pt x y)).loc cc0_scoped0 ↦{fullShare} h) : sProp 𝕄) := by
  refine BIBase.Entails.trans (Entails.of_eq (congrArg (fun S : Finset S2x1x64.Idx =>
    iprop(iPts d (pt x y) 0 f ∗ (thr d (pt x y)).loc cc0_scoped0 ↦[S]{fullShare} g)) slotI_rest.symm)) ?_
  refine BIBase.Entails.trans (pointsTo_join_subset (q := fullShare) (f := g) (g := f) (S := Finset.univ) (Finset.subset_univ (slotI 0).view.set)) ?_
  iintro H; iexists _; iexact H
theorem oSlots_join (f g : Buf (Elt F) ((thr d (pt x y)).loc cc0_scoped2)) :
    iprop(oPts d (pt x y) 0 f ∗ oPts d (pt x y) 1 g) ⊢ (iprop(∃ h, (thr d (pt x y)).loc cc0_scoped2 ↦{fullShare} h) : sProp 𝕄) := by
  refine BIBase.Entails.trans (Entails.of_eq (congrArg (fun S : Finset S2x64x512.Idx =>
    iprop(oPts d (pt x y) 0 f ∗ (thr d (pt x y)).loc cc0_scoped2 ↦[S]{fullShare} g)) slotO_rest.symm)) ?_
  refine BIBase.Entails.trans (pointsTo_join_subset (q := fullShare) (f := g) (g := f) (S := Finset.univ) (Finset.subset_univ (slotO 0).view.set)) ?_
  iintro H; iexists _; iexact H

/-! ## The semaphores -/

/-- The eight semaphores of the kernel's transfers. -/
def sems8 : Finset (DmaSem sig) :=
  {(semI 0).sem, (semI 1).sem, (semO 0).sem, (semO 1).sem, cc0_scoped4.sem, cc0_scoped5.sem, cc0_scoped6.sem, cc0_scoped7.sem}

/-- The eight at zero. -/
def at0 : sProp 𝕄 :=
  iprop(sv d x y (semI 0) ∗ sv d x y (semI 1) ∗ sv d x y (semO 0) ∗ sv d x y (semO 1)
    ∗ sv d x y cc0_scoped4 ∗ sv d x y cc0_scoped5 ∗ sv d x y cc0_scoped6 ∗ sv d x y cc0_scoped7)

theorem bigSep_sems8 : (bigSep sems8 fun s => semVal (thr d (pt x y), SemLoc.dma s) 0 : sProp 𝕄) = at0 d x y := by
  unfold sems8 at0
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The subcore's other semaphores. -/
def restCells : Finset (GSem nD τ sig) :=
  ownCells (thr d (pt x y)) \ sems8.image fun s => ((thr d (pt x y), SemLoc.dma s) : GSem nD τ sig)

theorem ownSems0_V : (ownSems0 (thr d (pt x y)) : sProp 𝕄) = iprop(at0 d x y ∗ bigSep (restCells d x y) fun g => semVal g 0) := by
  unfold SparseCore.Cfg.ownSems0 restCells
  rw [SparseCore.bigSep_sdiff_split' (t := sems8.image fun s => ((thr d (pt x y), SemLoc.dma s) : GSem nD τ sig)) ?_,
    SparseCore.bigSep_image_of_injOn (fun a _ b _ e => by simpa using e), bigSep_sems8]
  intro g hg
  obtain ⟨s, hs, rfl⟩ := Finset.mem_image.mp hg
  refine mem_ownCells.mpr ⟨rfl, ?_⟩
  show (SemLoc.dma s : SemLoc sig).isScoped .scVector = true
  clear hg; revert s; decide

theorem ownBufs_V :
    (ownBufs (thr d (pt x y)) : sProp 𝕄)
      = iprop((∃ f, (thr d (pt x y)).loc cc0_scoped0 ↦{fullShare} f) ∗ (∃ f, (thr d (pt x y)).loc cc0_scoped2 ↦{fullShare} f)
          ∗ bigSep (((ownRefs (τ := τ) (.scVector (cV (pt x y)) (jV (pt x y)))).erase ((Proc.scVector (cV (pt x y)) (jV (pt x y))).devRef cc0_scoped0)).erase
              ((Proc.scVector (cV (pt x y)) (jV (pt x y))).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV (pt x y)) (jV (pt x y)))
    (b := (Proc.scVector (cV (pt x y)) (jV (pt x y))).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV (pt x y)) (jV (pt x y))) (b := (Proc.scVector (cV (pt x y)) (jV (pt x y))).devRef cc0_scoped2) rfl⟩)]

end Cert.KernelIdeal.Gather
-- ==== Proof.Tile.lean ====
/- A tile's whole run: its first fetch, its loop, its last wait. -/
module

public import proofs.«01_k».proof.Proof.Scratch

@[expose] public section

noncomputable section

namespace Cert.KernelIdeal.Gather

open Cert.KernelIdeal.Gen
open Idealize.ShloMosaic
open Idealize.ShloMosaic.SparseCore (S V T)
open Idealize.ShloMosaic.SparseCore.Cfg (HIx ownBufs ownSems0)
open Idealize.ShloMosaic.SparseCore.ProtocolKit
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (x : Fin (grid0.bound 0)) (y : Fin (grid0.bound 1))
variable (fi : Buf (Elt F) ((thr d (pt x y)).loc main_v1_scv)) (ft : Buf (Elt F) ((thr d (pt x y)).loc main_arg0_scv))
variable (fo : Buf (Elt F) ((thr d (pt x y)).loc main_v2_scv))

/-- The first fetch. -/
theorem part5 {q : Nat → PosShare TreeShare} {Q : BitVec 32 → sProp 𝕄} :
    iprop(iIdle d (pt x y) fi q 0 ∗ (iFly d (pt x y) fi q 0 (base x y) -∗ ∀ v, Q v))
      ⊢ wp frame (wpE (defs₀ (F := F)) 𝒱₀ (thr d (pt x y)) none) Set.univ
          (k0_part5 (F := F) (pt x y) tV (Memref.isWhole_whole _) iV (Memref.isWhole_whole _) oV (Memref.isWhole_whole _) sI (Memref.isWhole_whole _)
            cc0_scoped1 sO (Memref.isWhole_whole _) cc0_scoped3 cc0_scoped4 cc0_scoped5 cc0_scoped6 cc0_scoped7) Q := by
  rw [k0_part5_eq_skeleton]; unfold k0_part5_skel
  simp only [wp_bind, wp_pure]
  iintro ⟨Hi, HQ⟩
  iapply (idx_start d (pt x y) fi (n := 0) (r := base x y) (q := q)
    (idxRow_of (base_lt x y (t := 0) (by omega)) (off2_eq x y) _) (slotI_of k0_off1_eq _) (semI_of k0_off3_eq _))
  isplitl [Hi]; · iexact Hi
  iintro Hi
  imodintro
  ispecialize HQ $$ Hi
  iapply HQ

/-- The loop. -/
theorem part6 (v4 : BitVec 32)
    {q : Nat → PosShare TreeShare} {qt : PosShare TreeShare} (hq : ∀ n m, n % 2 = m % 2 → q n = q m)
    (hfi : ∀ j, (fi j).toNat < 16384) {O : CellTallies nD τ sig (HIx 1)} {W : Waits sig (HIx 1)} {Q : _ → sProp 𝕄} :
    iprop(Inv d x y fi ft fo q qt O W 0 (st 0) ∗ (Inv d x y fi ft fo q qt O W 256 (st 256) -∗ Q ⟨wd 255, wd 0, chk5 x y, chk4⟩))
      ⊢ wp frame (wpE (defs₀ (F := F)) 𝒱₀ (thr d (pt x y)) none) Set.univ
          (k0_part6 (F := F) (pt x y) tV (Memref.isWhole_whole _) iV (Memref.isWhole_whole _) oV (Memref.isWhole_whole _) sI (Memref.isWhole_whole _)
            cc0_scoped1 sO (Memref.isWhole_whole _) cc0_scoped3 cc0_scoped4 cc0_scoped5 cc0_scoped6 cc0_scoped7 v4) Q := by
  rw [k0_part6_eq_skeleton]; unfold k0_part6_skel
  simp only [wp_bind, wp_pure]
  iintro ⟨HI, HQ⟩
  iapply (Scf.wp_for frame (wpE (defs₀ (F := F)) 𝒱₀ (thr d (pt x y)) none) Set.univ k0_t1_loop.lb k0_t1_loop.ub k0_t1_loop.st k0_t1_ok _ _
    (fun t a => Inv d x y fi ft fo q qt O W t a) (fun t a => trip d x y fi ft fo t v4 a hq hfi))
  isplitl [HI]; · iexact HI
  iintro %a HI
  ihave HI := (show Inv d x y fi ft fo q qt O W k0_t1_loop.trips a ⊢ (iprop(⌜a = st 256⌝ ∗ Inv d x y fi ft fo q qt O W 256 a) : sProp 𝕄) from by
    rw [trips_eq]; unfold Inv
    iintro ⟨%ha, H⟩
    isplitr; · ipureintro; exact ha
    isplitr; · ipureintro; exact ha
    iexact H) $$ HI
  icases HI with ⟨%ha, HI⟩
  subst ha
  iapply (wp_check d x y (P := k0_chk5 (pt x y) (st5 256)) (chk5 x y))
  iapply (wp_check d x y (P := k0_chk4 (st4 256)) chk4)
  imodintro
  iapply HQ
  iexact HI

theorem tile_run
    {q : Nat → PosShare TreeShare} {qt : PosShare TreeShare} (hq : ∀ n m, n % 2 = m % 2 → q n = q m)
    (hfi : ∀ j, (fi j).toNat < 16384) {O : CellTallies nD τ sig (HIx 1)} {W : Waits sig (HIx 1)} {Q : _ → sProp 𝕄} :
    iprop(Transfers.MayWaits (thr d (pt x y)) ι₀ O ∗ iIdle d (pt x y) fi q 0 ∗ iIdle d (pt x y) fi q 1 ∗ oIdle d (pt x y) 0 ∗ oIdle d (pt x y) 1
        ∗ bigSep Finset.univ (todo d x y fo) ∗ ((thr d (pt x y)).loc main_arg0_scv ↦{qt} ft)
        ∗ sv d x y cc0_scoped4 ∗ sv d x y cc0_scoped5 ∗ sv d x y cc0_scoped6 ∗ sv d x y cc0_scoped7 ∗ OW d (pt x y) O W
        ∗ (iprop(iIdle d (pt x y) fi q 0 ∗ iIdle d (pt x y) fi q 1 ∗ oIdle d (pt x y) 0 ∗ oIdle d (pt x y) 1
          ∗ bigSep Finset.univ (doneB d x y fi ft) ∗ ((thr d (pt x y)).loc main_arg0_scv ↦{qt} ft)
          ∗ sv d x y cc0_scoped4 ∗ sv d x y cc0_scoped5 ∗ sv d x y cc0_scoped6 ∗ sv d x y cc0_scoped7 ∗ OW d (pt x y) O W) -∗ Q ⟨⟩))
      ⊢ wp frame (wpE (defs₀ (F := F)) 𝒱₀ (thr d (pt x y)) none) Set.univ
          (cc0_gather (F := F) (pt x y) tV (Memref.isWhole_whole _) iV (Memref.isWhole_whole _) oV (Memref.isWhole_whole _) sI (Memref.isWhole_whole _)
            cc0_scoped1 sO (Memref.isWhole_whole _) cc0_scoped3 cc0_scoped4 cc0_scoped5 cc0_scoped6 cc0_scoped7) Q := by
  rw [cc0_gather_eq_skeleton]; unfold cc0_gather_skel
  simp only [wp_bind, wp_pure]
  iintro ⟨#Hmw, Hi0, Hi1, Ho0, Ho1, Htodo, Ht, H4, H5, H6, H7, HO, HQ⟩
  iapply (part5 d x y fi (q := q))
  isplitl [Hi0]; · iexact Hi0
  iintro Hi0 %v4
  iapply (part6 d x y fi ft fo v4 (q := q) (qt := qt) hq hfi (O := O) (W := W))
  isplitr [HQ]
  · unfold Inv
    isplitr; · ipureintro; rfl
    isplitr; · iexact Hmw
    isplitl [Hi0]
    · unfold iX; rw [if_pos (by omega)]; iexact Hi0
    isplitl [Hi1]; · iexact Hi1
    isplitl [Ho1]
    · unfold oPrev; rw [if_pos rfl]; iexact Ho1
    isplitl [Ho0]; · iexact Ho0
    isplitl [Htodo]; · rw [bigSep_finFrom_zero]; iexact Htodo
    isplitr; · rw [bigSep_finUpTo_zero]; iempintro
    isplitl [Ht]; · iexact Ht
    isplitl [H4]; · iexact H4
    isplitl [H5]; · iexact H5
    isplitl [H6]; · iexact H6
    isplitl [H7]; · iexact H7
    iexact HO
  unfold Inv
  iintro ⟨-, -, Hi0, Hi1, HoF, Ho0, -, Hdone, Ht, H4, H5, H6, H7, HO⟩
  have hb : base x y + 255 < 8192 := base_lt x y (by omega)
  ihave HoF := (Entails.of_eq (show oPrev d x y fi ft 256 = oFly d (pt x y) fi ft 255 (base x y + 255) from if_neg (by omega))) $$ HoF
  iapply (out_wait d (pt x y) fi ft (n := 255) (r := base x y + 255) (win_of hb (off19_eq x y) _) (semO_of (off20_eq (by omega)) _))
  isplitr; · iexact Hmw
  isplitl [HoF]; · iexact HoF
  isplitl [HO]; · iexact HO
  iintro ⟨Hw, Ho1, HO⟩
  imodintro
  iapply HQ
  isplitl [Hi0]
  · ihave Hi0 := (Entails.of_eq (show iX d x y fi q 256 = iIdle d (pt x y) fi q 256 from if_neg (by omega))) $$ Hi0
    iapply (Entails.of_eq (iIdle_par d x y fi (q := q) (show 256 % 2 = 0 % 2 by omega) (hq _ _ (by omega)))) $$ Hi0
  isplitl [Hi1]
  · iapply (Entails.of_eq (iIdle_par d x y fi (q := q) (show 257 % 2 = 1 % 2 by omega) (hq _ _ (by omega)))) $$ Hi1
  isplitl [Ho0]
  · iapply (Entails.of_eq (oIdle_par d x y (show 256 % 2 = 0 % 2 by omega))) $$ Ho0
  isplitl [Ho1]
  · iapply (Entails.of_eq (oIdle_par d x y (show 255 % 2 = 1 % 2 by omega))) $$ Ho1
  isplitl [Hw Hdone]
  · iapply (Entails.of_eq ((bigSep_finUpTo_succ (show 255 < 256 by omega) (doneB d x y fi ft)).symm.trans (by rw [bigSep_finUpTo_self])))
    isplitl [Hw]; · iexact Hw
    iexact Hdone
  isplitl [Ht]; · iexact Ht
  isplitl [H4]; · iexact H4
  isplitl [H5]; · iexact H5
  isplitl [H6]; · iexact H6
  isplitl [H7]; · iexact H7
  iexact HO

/-- The two shares of the expert numbers, one for each slot. -/
def qs (q : PosShare TreeShare) (n : Nat) : PosShare TreeShare := if n % 2 = 0 then q.left else q.right

/-- A tile, from its shares of the table and of the expert numbers, its blocks of the result, its own scratch. -/
theorem tile_scratch {qi qt : PosShare TreeShare} (hfi : ∀ j, (fi j).toNat < 16384)
    {O : CellTallies nD τ sig (HIx 1)} {W : Waits sig (HIx 1)} :
    iprop(Transfers.MayWaits (thr d (pt x y)) ι₀ O
        ∗ (((thr d (pt x y)).loc main_arg0_scv ↦{qt} ft) ∗ ((thr d (pt x y)).loc main_v1_scv ↦{qi} fi) ∗ bigSep Finset.univ (todo d x y fo))
        ∗ ownBufs (thr d (pt x y)) ∗ ownSems0 (thr d (pt x y)) ∗ owes (thr d (pt x y)) O W)
      ⊢ wp frame (wpE (defs₀ (F := F)) 𝒱₀ (thr d (pt x y)) none) Set.univ
          (cc0_gather (F := F) (pt x y) tV (Memref.isWhole_whole _) iV (Memref.isWhole_whole _) oV (Memref.isWhole_whole _) sI (Memref.isWhole_whole _)
            cc0_scoped1 sO (Memref.isWhole_whole _) cc0_scoped3 cc0_scoped4 cc0_scoped5 cc0_scoped6 cc0_scoped7)
          fun _ => iprop((((thr d (pt x y)).loc main_arg0_scv ↦{qt} ft) ∗ ((thr d (pt x y)).loc main_v1_scv ↦{qi} fi) ∗ bigSep Finset.univ (doneB d x y fi ft))
            ∗ ownBufs (thr d (pt x y)) ∗ ownSems0 (thr d (pt x y)) ∗ ∃ W', ⌜∀ p ∈ W', p ∈ W ∨ p.2 = none⌝ ∗ owes (thr d (pt x y)) O W') := by
  rw [ownSems0_V, ownBufs_V]
  unfold at0
  iintro ⟨#Hmw, ⟨Ht, Hi, Htodo⟩, ⟨⟨%f, Hf⟩, ⟨%g, Hg⟩, Hbufs⟩, ⟨⟨HI0, HI1, HO0, HO1, H4, H5, H6, H7⟩, Hsems⟩, HO⟩
  ihave Hf := (iSlots_split d x y f) $$ Hf
  icases Hf with ⟨Hf0, Hf1⟩
  ihave Hg := (oSlots_split d x y g) $$ Hg
  icases Hg with ⟨Hg0, Hg1⟩
  ihave Hi := (pointsTo_share (PosShare.mem_left_op_right qi)).1 $$ Hi
  icases Hi with ⟨Hil, Hir⟩
  iapply (tile_run d x y fi ft fo (q := qs qi) (qt := qt) (fun n m e => by unfold qs; rw [e]) hfi (O := O) (W := W))
  isplitr; · iexact Hmw
  isplitl [Hf0 HI0 Hil]
  · unfold iIdle
    isplitl [Hf0]; · iexists f; iexact Hf0
    isplitl [HI0]; · iexact HI0
    iexact Hil
  isplitl [Hf1 HI1 Hir]
  · unfold iIdle
    isplitl [Hf1]; · iexists f; iexact Hf1
    isplitl [HI1]; · iexact HI1
    iexact Hir
  isplitl [Hg0 HO0]
  · unfold oIdle
    isplitl [Hg0]; · iexists g; iexact Hg0
    iexact HO0
  isplitl [Hg1 HO1]
  · unfold oIdle
    isplitl [Hg1]; · iexists g; iexact Hg1
    iexact HO1
  isplitl [Htodo]; · iexact Htodo
  isplitl [Ht]; · iexact Ht
  isplitl [H4]; · iexact H4
  isplitl [H5]; · iexact H5
  isplitl [H6]; · iexact H6
  isplitl [H7]; · iexact H7
  isplitl [HO]
  · unfold OW
    iexists W
    isplitr; · ipureintro; exact fun p hp => .inl hp
    iexact HO
  unfold iIdle oIdle OW
  iintro ⟨⟨⟨%f0, Hf0⟩, HI0, Hil⟩, ⟨⟨%f1, Hf1⟩, HI1, Hir⟩, ⟨⟨%g0, Hg0⟩, HO0⟩, ⟨⟨%g1, Hg1⟩, HO1⟩, Hdone, Ht, H4, H5, H6, H7, HO⟩
  isplitl [Ht Hil Hir Hdone]
  · isplitl [Ht]; · iexact Ht
    isplitl [Hil Hir]
    · iapply (pointsTo_share (PosShare.mem_left_op_right qi)).2
      isplitl [Hil]; · iexact Hil
      iexact Hir
    iexact Hdone
  isplitl [Hf0 Hf1 Hg0 Hg1 Hbufs]
  · isplitl [Hf0 Hf1]
    · iapply (iSlots_join d x y f0 f1)
      isplitl [Hf0] <;> iassumption
    isplitl [Hg0 Hg1]
    · iapply (oSlots_join d x y g0 g1)
      isplitl [Hg0] <;> iassumption
    iexact Hbufs
  isplitr [HO]
  · isplitr [Hsems]
    · isplitl [HI0]; · iexact HI0
      isplitl [HI1]; · iexact HI1
      isplitl [HO0]; · iexact HO0
      isplitl [HO1]; · iexact HO1
      isplitl [H4]; · iexact H4
      isplitl [H5]; · iexact H5
      isplitl [H6]; · iexact H6
      iexact H7
    iexact Hsems
  iexact HO

end Cert.KernelIdeal.Gather
-- ==== Proof.Split.lean ====
/- How the call's arrays go to the 32 tiles: the result as 8192 blocks of 64 rows, the table and the expert numbers as shares. -/
module

public import proofs.«01_k».proof.Proof.Tile

@[expose] public section

noncomputable section

namespace Cert.KernelIdeal.Gather

open Cert.KernelIdeal.Gen
open Idealize.ShloMosaic
open Idealize.ShloMosaic.SparseCore (S V T)
open Idealize.ShloMosaic.SparseCore.Cfg (HIx)
open Idealize.ShloMosaic.SparseCore.ProtocolKit
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The result's blocks -/

/-- Block `r`'s elements. -/
abbrev winSet (r : Nat) : Finset S524288x512.Idx := (win r).view.set

theorem win_mem {r : Nat} (hr : r < 8192) (i : S524288x512.Idx) :
    i ∈ winSet r ↔ (i 0).val / 64 = r := by
  have e : winSet r
      = (Rect.unit (s := S524288x512) ![64 * (r % 8192), 0] S64x512.size (win_inb (Nat.mod_lt _ (by omega)))).set := by
    show ((View.whole (main_v2_scv : Ref sig .scVector)).slice _).set = _
    rw [View.set_slice]; exact Finset.map_refl
  rw [e, Rect.mem_set_unit]
  constructor
  · intro h
    have h0 := h 0
    simp only [Matrix.cons_val_zero, S64x512] at h0
    omega
  · intro h a
    have := (i a).isLt
    match a with
    | 0 => simp only [Matrix.cons_val_zero, S64x512]; omega
    | 1 => exact ⟨Nat.zero_le _, by simpa [S64x512] using this⟩

theorem wins_disjoint : ∀ k ∈ (Finset.univ : Finset (Fin 8192)), ∀ k' ∈ (Finset.univ : Finset (Fin 8192)), k ≠ k' →
    Disjoint (winSet k.val) (winSet k'.val) := by
  intro k _ k' _ h
  rw [Finset.disjoint_left]
  intro i hi hi'
  exact h (Fin.ext (((win_mem k.isLt i).mp hi).symm.trans ((win_mem k'.isLt i).mp hi')))

theorem wins_cover : (Finset.univ : Finset (Fin 8192)).biUnion (fun k => (winSet k.val)) = Finset.univ := by
  ext i
  have h : (i 0).val < 524288 := (i 0).isLt
  simp only [Finset.mem_biUnion, Finset.mem_univ, true_and, iff_true]
  exact ⟨⟨(i 0).val / 64, by omega⟩, (win_mem (by omega) i).mpr rfl⟩

/-- Tile `(x, y)`'s block `j` among all of them. -/
def blockEquiv : (Fin 2 × Fin 16) × Fin 256 ≃ Fin 8192 := (finProdFinEquiv.prodCongr (Equiv.refl _)).trans finProdFinEquiv

theorem blockEquiv_val (x : Fin 2) (y : Fin 16) (j : Fin 256) : (blockEquiv ((x, y), j)).val = base x y + j.val := by
  show j.val + 256 * (y.val + 16 * x.val) = 4096 * x.val + 256 * y.val + j.val
  omega

abbrev oLoc (d : Dev nD) : Loc nD τ sig := (SparseCore.T d).loc main_v2
abbrev tLoc (d : Dev nD) : Loc nD τ sig := (SparseCore.T d).loc main_arg0
abbrev eLoc (d : Dev nD) : Loc nD τ sig := (SparseCore.T d).loc main_arg1
abbrev aLoc (d : Dev nD) : Loc nD τ sig := (SparseCore.T d).loc main_v0
abbrev iLoc (d : Dev nD) : Loc nD τ sig := (SparseCore.T d).loc main_v1

theorem out_blocks (d : Dev nD) (f : Buf (Elt F) (oLoc d)) :
    (oLoc d ↦{fullShare} f : sProp 𝕄)
      = bigSep Finset.univ fun x : Fin 2 => bigSep Finset.univ fun y : Fin 16 => bigSep Finset.univ fun j : Fin 256 =>
          oLoc d ↦[winSet (base x y + j.val)]{fullShare} f := by
  have h : (oLoc d ↦{fullShare} f : sProp 𝕄)
      = bigSep Finset.univ fun k : Fin 8192 => oLoc d ↦[(winSet k.val)]{fullShare} f := by
    rw [← pointsTo_biUnion Finset.univ (ℓ := oLoc d) (fun k : Fin 8192 => (winSet k.val)) wins_disjoint, wins_cover]; try rfl
  rw [h, bigSep_univ_equiv blockEquiv, bigSep_univ_prod, bigSep_univ_prod]
  refine bigSep_congr fun x _ => bigSep_congr fun y _ => bigSep_congr fun j _ => ?_
  rw [blockEquiv_val]

/-! ## Shares: one half after another -/

/-- What is left of a share after `k` halvings. -/
def rest (q : PosShare TreeShare) : Nat → PosShare TreeShare
  | 0 => q
  | k + 1 => (rest q k).right

/-- Tile `(x, y)`'s share. -/
def sh (x : Fin 2) (y : Fin 16) : PosShare TreeShare := (rest fullShare (y.val + 16 * x.val)).left

theorem share_chain (ℓ : Loc nD τ sig) (f : Buf (Elt F) ℓ) (q : PosShare TreeShare) : ∀ k : Nat, k ≤ 32 →
    (ℓ ↦{q} f : sProp 𝕄) = iprop(bigSep (finUpTo 32 k) (fun j : Fin 32 => ℓ ↦{(rest q j.val).left} f) ∗ ℓ ↦{rest q k} f)
  | 0, _ => by
    have h : ∀ A : sProp 𝕄, A = iprop(emp ∗ A) := by
      intro A
      have h1 : (A : sProp 𝕄) ⊢ iprop(emp ∗ A) := by
        iintro H
        isplitr; · iempintro
        iexact H
      have h2 : (iprop(emp ∗ A) : sProp 𝕄) ⊢ A := by
        iintro ⟨-, H⟩; iexact H
      exact BI.Entails.antisymm h1 h2
    rw [bigSep_finUpTo_zero]
    exact h _
  | k + 1, hk => by
    have hs : (ℓ ↦{rest q k} f : sProp 𝕄) = iprop((ℓ ↦{(rest q k).left} f) ∗ ℓ ↦{(rest q k).right} f) :=
      BI.Entails.antisymm (pointsTo_share (PosShare.mem_left_op_right (rest q k))).1 (pointsTo_share (PosShare.mem_left_op_right (rest q k))).2
    rw [share_chain ℓ f q k (by omega), bigSep_finUpTo_succ (show k < 32 by omega), hs]
    have hswap : ∀ A B C : sProp 𝕄, iprop(A ∗ B ∗ C) = iprop((B ∗ A) ∗ C) := by
      intro A B C
      have h1 : (iprop(A ∗ B ∗ C) : sProp 𝕄) ⊢ iprop((B ∗ A) ∗ C) := by
        iintro ⟨HA, HB, HC⟩
        isplitr [HC]
        · isplitl [HB] <;> iassumption
        iexact HC
      have h2 : (iprop((B ∗ A) ∗ C) : sProp 𝕄) ⊢ iprop(A ∗ B ∗ C) := by
        iintro ⟨⟨HB, HA⟩, HC⟩
        isplitl [HA]; · iexact HA
        isplitl [HB] <;> iassumption
      exact BI.Entails.antisymm h1 h2
    exact hswap _ _ _

/-- An array at its 32 tiles' shares, and what is left over. -/
theorem shares (ℓ : Loc nD τ sig) (f : Buf (Elt F) ℓ) :
    (ℓ ↦{fullShare} f : sProp 𝕄)
      = iprop((bigSep Finset.univ fun x : Fin 2 => bigSep Finset.univ fun y : Fin 16 => ℓ ↦{sh x y} f) ∗ ℓ ↦{rest fullShare 32} f) := by
  rw [share_chain ℓ f fullShare 32 le_rfl, bigSep_finUpTo_self, bigSep_univ_equiv (finProdFinEquiv (m := 2) (n := 16)), bigSep_univ_prod]
  rfl

end Cert.KernelIdeal.Gather
-- ==== Proof.Launch.lean ====
/- The call on its 32 tiles, and the program's run: what its result holds. -/
module

public import proofs.«01_k».proof.Proof.Split
public import Idealize.ShloMosaic.Lib.SparseCore.Quiescent
public import Idealize.ShloMosaic.Lib.SparseCore.Ops
public import Idealize.ShloMosaic.Lib.StableHlo.Run
public import Idealize.ShloMosaic.Lib.Pipeline.Kit

@[expose] public section

noncomputable section

namespace Cert.KernelIdeal.Gather

open Cert.KernelIdeal.Gen
open Idealize.ShloMosaic
open Idealize.ShloMosaic.SparseCore (S V T)
open Idealize.ShloMosaic.SparseCore.Cfg (HIx ownBufs ownSems0 Pay)
open Idealize.ShloMosaic.StableHlo (held wp_hlo_within)
open Idealize.ShloMosaic.SparseCore.ProtocolKit
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

variable (m : (ℓ : Loc nD τ sig) → Buf (Elt F) ℓ) (ρ : Dev nD → PrngReg)

/-- The expert numbers as the call is handed them: 8192 rows of 64. -/
def fi (d : Dev nD) : Buf (Elt F) (iLoc d) :=
  shapeCast S8192x64 (shapeCast S524288 (m (eLoc d)) shapeCasts_S4096x128_S524288) shapeCasts_S524288_S8192x64

/-- What the result is to hold: at row `r` the table's row that expert number `r` names. -/
def out (d : Dev nD) : Buf (Elt F) (oLoc d) := G (fi m d) (m (tLoc d))

/-- Every expert number is a row of the table. -/
def PreOK : Prop := ∀ (d : Dev nD) (j : S4096x128.Idx), (m (eLoc d) j).toNat < 16384

theorem fi_lt (h : PreOK m) (d : Dev nD) (j : S8192x64.Idx) : (fi m d j).toNat < 16384 := h d _

variable [FloatOps F]

/-! ## What the call carries -/

/-- A tile's shares of the table and of the expert numbers, and its blocks of the result at `f`. -/
def tileHas (d : Dev nD) (f : Buf (Elt F) (oLoc d)) (x : Fin 2) (y : Fin 16) : sProp 𝕄 :=
  iprop((tLoc d ↦{sh x y} m (tLoc d)) ∗ (iLoc d ↦{sh x y} fi m d)
    ∗ bigSep Finset.univ fun j : Fin 256 => oLoc d ↦[winSet (base x y + j.val)]{fullShare} f)

instance tileHas_storable (d : Dev nD) (f : Buf (Elt F) (oLoc d)) (x : Fin 2) (y : Fin 16) :
    BI.Storable (upEmb : UEmb _ 𝕄) (tileHas m d f x y) := by unfold tileHas; infer_instance

theorem nCore_eq (q : Fin 1) : (K (F := F)).nCore q = 2 := match q with | 0 => rfl
theorem nSub_eq (q : Fin 1) : (K (F := F)).nSub q = 16 := match q with | 0 => rfl

/-- A core of the call, and a tile of a core, by number. -/
def cx {q : Fin 1} (c : Fin ((K (F := F)).nCore q)) : Fin 2 := ⟨c.val, (nCore_eq (F := F) q) ▸ c.isLt⟩
def iy {q : Fin 1} (i : Fin ((K (F := F)).nSub q)) : Fin 16 := ⟨i.val, (nSub_eq (F := F) q) ▸ i.isLt⟩

/-- A core's tiles, all at once. -/
def coreHas (d : Dev nD) (f : Buf (Elt F) (oLoc d)) (x : Fin 2) : sProp 𝕄 :=
  bigSep Finset.univ fun y : Fin 16 => tileHas m d f x y

instance coreHas_storable (d : Dev nD) (f : Buf (Elt F) (oLoc d)) (x : Fin 2) :
    BI.Storable (upEmb : UEmb _ 𝕄) (coreHas m d f x) := by unfold coreHas; infer_instance

def P : (K (F := F)).Pay (nD := nD) (Val := Elt F) (Name := ℕ) (U := UU) where
  st := fun _ d c => coreHas m d (m (oLoc d)) (cx c)
  dn := fun _ d c => coreHas m d (out m d) (cx c)
  go := fun _ d c i => tileHas m d (m (oLoc d)) (cx c) (iy i)
  td := fun _ d c i => tileHas m d (out m d) (cx c) (iy i)
  x := fun _ _ => iprop(emp)

instance P_storable : (P (F := F) m).IsStorable where
  st _ d c := coreHas_storable m d (m (oLoc d)) (cx c)
  dn _ d c := coreHas_storable m d (out m d) (cx c)
  go _ d c i := tileHas_storable m d (m (oLoc d)) (cx c) (iy i)
  td _ d c i := tileHas_storable m d (out m d) (cx c) (iy i)

/-! ## A tile -/

theorem tileHas_todo (d : Dev nD) (x : Fin (grid0.bound 0)) (y : Fin (grid0.bound 1)) :
    tileHas m d (m (oLoc d)) x y = (iprop(((thr d (pt x y)).loc main_arg0_scv ↦{sh x y} m (tLoc d)) ∗ ((thr d (pt x y)).loc main_v1_scv ↦{sh x y} fi m d)
      ∗ bigSep Finset.univ (todo d x y (m (oLoc d)))) : sProp 𝕄) := by
  unfold tileHas; rfl

theorem tileHas_doneB (d : Dev nD) (x : Fin (grid0.bound 0)) (y : Fin (grid0.bound 1)) :
    tileHas m d (out m d) x y = (iprop(((thr d (pt x y)).loc main_arg0_scv ↦{sh x y} m (tLoc d)) ∗ ((thr d (pt x y)).loc main_v1_scv ↦{sh x y} fi m d)
      ∗ bigSep Finset.univ (doneB d x y (fi m d) (m (tLoc d)))) : sProp 𝕄) := by
  unfold tileHas out; rfl

theorem tile_body (hF : (K (F := F)).Facts) (hpre : PreOK m) (d : Dev nD) (x : Fin (grid0.bound 0)) (y : Fin (grid0.bound 1))
    (O : CellTallies nD τ sig (HIx 1)) (W : Waits sig (HIx 1)) (hO : ∀ g, O g none = 0) :
    iprop(levAts (K (F := F)).L (K (F := F)).lev ∗ emp ∗ tileHas m d (m (oLoc d)) x y
        ∗ scopedBufs (thr d (pt x y)) ∗ scopedSems0 (thr d (pt x y)) ∗ owes (thr d (pt x y)) O W)
      ⊢ wp frame (wpE (defs₀ (F := F)) 𝒱₀ (thr d (pt x y)) none) Set.univ
          (cc0_gather (F := F) (pt x y) tV (Memref.isWhole_whole _) iV (Memref.isWhole_whole _) oV (Memref.isWhole_whole _) sI (Memref.isWhole_whole _)
            cc0_scoped1 sO (Memref.isWhole_whole _) cc0_scoped3 cc0_scoped4 cc0_scoped5 cc0_scoped6 cc0_scoped7)
          fun _ => iprop(tileHas m d (out m d) x y
            ∗ scopedBufs (thr d (pt x y)) ∗ scopedSems0 (thr d (pt x y))
            ∗ ∃ W', ⌜∀ p ∈ W', p ∈ W ∨ p.2 = none⌝ ∗ owes (thr d (pt x y)) O W') := by
  rw [tileHas_todo, tileHas_doneB, show (scopedBufs (thr d (pt x y)) : sProp 𝕄) = ownBufs (thr d (pt x y)) from (K (F := F)).scopedBufs_V hF d (cV (pt x y)) (jV (pt x y)),
    show (scopedSems0 (thr d (pt x y)) : sProp 𝕄) = ownSems0 (thr d (pt x y)) from
      SparseCore.Cfg.scopedSems0_V (Val := Elt F) d (cV (pt x y)) (jV (pt x y))]
  iintro ⟨#Hlv, -, Hgo, Hb, Hs, HO⟩
  ihave Hmw := (show levAts (K (F := F)).L (K (F := F)).lev ⊢ Transfers.MayWaits (thr d (pt x y)) (default : HIx 1) O from
    (K (F := F)).mayWaits_none (thr := thr d (pt x y)) hO) $$ Hlv
  iapply (tile_scratch d x y (fi m d) (m (tLoc d)) (m (oLoc d)) (qi := sh x y) (qt := sh x y) (fi_lt m hpre d) (O := O) (W := W))
  isplitl [Hmw]; · iexact Hmw
  isplitl [Hgo]; · iexact Hgo
  isplitl [Hb]; · iexact Hb
  isplitl [Hs]; · iexact Hs
  iexact HO

theorem defs₀_vector (c : Fin τ.nSC) (s : Fin τ.nSub) :
    defs₀ (F := F) (.scVector c s) 0 ()
      = SparseCore.onTile hcore0 hsub0 (fun c s => cc0_gather (F := F) (pt c s) tV (Memref.isWhole_whole _) iV (Memref.isWhole_whole _) oV (Memref.isWhole_whole _) sI (Memref.isWhole_whole _)
            cc0_scoped1 sO (Memref.isWhole_whole _) cc0_scoped3 cc0_scoped4 cc0_scoped5 cc0_scoped6 cc0_scoped7) ⟨⟩ c s := rfl

theorem obl_post {th : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes th O W')
      ⊢ iprop(A ∗ B ∗ C ∗ ∃ W', ⌜∀ p ∈ W', p ∈ W ∨ p.2 = none ∨ p.2 = some q⌝ ∗ owes th O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m hF hpre d ⟨_, hci.1⟩ ⟨_, hci.2⟩ O W hO).trans (wp_mono frame _ _ fun _ => obl_post)

/-! ## The call's split and join -/

theorem bigSep_tasks (Φ : Fin 16 → sProp 𝕄) :
    (bigSep Finset.univ fun i : Fin ((K (F := F)).nSub 0) => Φ (iy i)) = bigSep Finset.univ Φ :=
  bigSep_congr fun _ _ => congrArg Φ (Fin.ext rfl)

theorem bigSep_cores (Φ : Fin 2 → sProp 𝕄) :
    (bigSep Finset.univ fun i : Fin ((K (F := F)).nCore 0) => Φ (cx i)) = bigSep Finset.univ Φ :=
  bigSep_congr fun _ _ => congrArg Φ (Fin.ext rfl)

theorem vecSplit : (K (F := F)).VecSplit' (P m) 0 := by
  intro d c
  show coreHas m d (m (oLoc d)) (cx c) ⊢ |={Set.univ}=> iprop(
      (bigSep Finset.univ fun i : Fin ((K (F := F)).nSub 0) => tileHas m d (m (oLoc d)) (cx c) (iy i))
      ∗ ((bigSep Finset.univ fun i : Fin ((K (F := F)).nSub 0) => tileHas m d (out m d) (cx c) (iy i))
          -∗ coreHas m d (out m d) (cx c)))
  rw [bigSep_tasks (F := F) (tileHas m d (m (oLoc d)) (cx c)), bigSep_tasks (F := F) (tileHas m d (out m d) (cx c))]
  unfold coreHas
  iintro H; imodintro
  isplitl [H]; · iexact H
  iintro H; iexact H

/-- All the tiles' at once: the result whole at `f`, the table and the expert numbers but for what is left of their shares. -/
theorem tiles_eq (d : Dev nD) (f : Buf (Elt F) (oLoc d)) :
    (bigSep Finset.univ fun x : Fin 2 => coreHas m d f x)
      = iprop((bigSep Finset.univ fun x : Fin 2 => bigSep Finset.univ fun y : Fin 16 => tLoc d ↦{sh x y} m (tLoc d))
        ∗ (bigSep Finset.univ fun x : Fin 2 => bigSep Finset.univ fun y : Fin 16 => iLoc d ↦{sh x y} fi m d)
        ∗ oLoc d ↦{fullShare} f) := by
  unfold coreHas tileHas
  rw [out_blocks]
  simp only [bigSep_sep']

/-! ## The launch element of the ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun th : Thread nD τ => bigSep Finset.univ fun q : Fin 1 => (P m).x q th) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun th : Thread nD τ => bigSep Finset.univ fun q : Fin 1 => (P (F := F) m).x q th) = bigSep Finset.univ fun _ => iprop(emp) from
    bigSep_congr fun _ _ => bigSep_univ_of_subsingleton (0 : Fin 1), bigSep_emp']
  iempintro

/-! ## @main -/

abbrev t' : DevRef τ sig := Proc.devRef .tc main_arg0
abbrev e' : DevRef τ sig := Proc.devRef .tc main_arg1
abbrev a' : DevRef τ sig := Proc.devRef .tc main_v0
abbrev i' : DevRef τ sig := Proc.devRef .tc main_v1
abbrev o' : DevRef τ sig := Proc.devRef .tc main_v2
abbrev S5 : Finset (DevRef τ sig) := {t', e', a', i', o'}

/-- The two reshapes before the call. -/
abbrev op1 : HloOp τ sig (Elt F) := StableHlo.reshape main_arg1 main_v0 (rfl : (.i32 : EltTy) = .i32) shapeCasts_S4096x128_S524288
abbrev op2 : HloOp τ sig (Elt F) := StableHlo.reshape main_v0 main_v1 (rfl : (.i32 : EltTy) = .i32) shapeCasts_S524288_S8192x64

theorem held_S5 (d : Dev nD) (W : Valuation τ sig (Elt F)) :
    (held (SparseCore.T d) S5 W : sProp 𝕄)
      = iprop((tLoc d ↦{fullShare} W t') ∗ (eLoc d ↦{fullShare} W e') ∗ (aLoc d ↦{fullShare} W a') ∗ (iLoc d ↦{fullShare} W i') ∗ oLoc d ↦{fullShare} W o') := by
  unfold held S5
  rw [SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄) = iprop((tLoc d ↦{fullShare} W main_arg0) ∗ (eLoc d ↦{fullShare} W main_arg1) ∗ (aLoc d ↦{fullShare} W main_v0)
      ∗ (iLoc d ↦{fullShare} W main_v1) ∗ oLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

def V0 (d : Dev nD) : Valuation τ sig (Elt F) := fun b => m (d, b)
def V1 (d : Dev nD) : Valuation τ sig (Elt F) := (op1 (F := F)).result (V0 m d)
def V2 (d : Dev nD) : Valuation τ sig (Elt F) := (op2 (F := F)).result (V1 m d)

theorem unscoped_held (d : Dev nD) : (unscopedBufs d (fun b => m ((SparseCore.T d).loc b)) : sProp 𝕄) = held (SparseCore.T d) S5 (V0 m d) := by
  rw [unscopedBufs_eq, held_S5]; rfl

theorem V2_of_ne (d : Dev nD) {r : Ref sig .tc} (h0 : r ≠ main_v0) (h1 : r ≠ main_v1) : V2 m d (Proc.devRef .tc r) = m ((SparseCore.T d).loc r) := by
  unfold V2 V1
  rw [StableHlo.reshape_result_ne _ _ _ _ _ _ _ h1, StableHlo.reshape_result_ne _ _ _ _ _ _ _ h0]; rfl
theorem V2_i (d : Dev nD) : V2 m d i' = fi m d := by
  unfold V2 V1 fi
  rw [StableHlo.reshape_result, StableHlo.reshape_result]; rfl

theorem held_V2 (d : Dev nD) :
    (held (SparseCore.T d) S5 ((op2 (F := F)).result ((op1 (F := F)).result (V0 m d))) : sProp 𝕄)
      = iprop((tLoc d ↦{fullShare} m (tLoc d)) ∗ (eLoc d ↦{fullShare} m (eLoc d)) ∗ (aLoc d ↦{fullShare} V2 m d a') ∗ (iLoc d ↦{fullShare} fi m d)
          ∗ oLoc d ↦{fullShare} m (oLoc d)) := by
  show held (SparseCore.T d) S5 (V2 m d) = _
  rw [held_S5, V2_of_ne m d (show main_arg0 ≠ main_v0 by decide) (by decide), V2_of_ne m d (show main_arg1 ≠ main_v0 by decide) (by decide),
    V2_of_ne m d (show main_v2 ≠ main_v0 by decide) (by decide), V2_i]

theorem hop1 : (op1 (F := F)).bufs ⊆ S5 := show ({e', a'} : Finset (DevRef τ sig)) ⊆ S5 by decide
theorem hop2 : (op2 (F := F)).bufs ⊆ S5 := show ({a', i'} : Finset (DevRef τ sig)) ⊆ S5 by decide

theorem st0_eq (d : Dev nD) : (bigSep Finset.univ fun c : Fin ((K (F := F)).nCore 0) => (P m).st 0 d c)
    = bigSep Finset.univ fun x : Fin 2 => coreHas m d (m (oLoc d)) x :=
  bigSep_cores (F := F) (coreHas m d (m (oLoc d)))
theorem dn0_eq (d : Dev nD) : (bigSep Finset.univ fun c : Fin ((K (F := F)).nCore 0) => (P m).dn 0 d c)
    = bigSep Finset.univ fun x : Fin 2 => coreHas m d (out m d) x :=
  bigSep_cores (F := F) (coreHas m d (out m d))

/-- What @main leaves: the arguments as they were, the result. -/
abbrev FIN (d : Dev nD) : sProp 𝕄 := iprop((tLoc d ↦{fullShare} m (tLoc d)) ∗ (eLoc d ↦{fullShare} m (eLoc d)) ∗ oLoc d ↦{fullShare} out m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op1) (S := S5) hop1 (V := V0 m d)) $$ [Hb Hheld]
  · isplitl [Hb] <;> iassumption
  iintro ⟨Hb, Hheld⟩
  rw [wp_ret]; imodintro
  iapply (wp_hlo_within 𝒱 (SparseCore.T d) none Set.univ (op := op2) (S := S5) hop2 (V := (op1 (F := F)).result (V0 m d))) $$ [Hb Hheld]
  · isplitl [Hb] <;> iassumption
  iintro ⟨Hb, Hheld⟩
  rw [wp_ret]; imodintro
  ihave Hh := (Entails.of_eq (held_V2 (F := F) m d)) $$ Hheld
  icases Hh with ⟨Ht, He, -, Hi, Ho⟩
  ihave Ht := (Entails.of_eq (shares (F := F) (tLoc d) (m (tLoc d)))) $$ Ht
  icases Ht with ⟨Ht, Htr⟩
  ihave Hi := (Entails.of_eq (shares (F := F) (iLoc d) (fi m d))) $$ Hi
  icases Hi with ⟨Hi, -⟩
  iapply ((K (F := F)).wp_run (D (F := F)) 𝒱 (EH := EH) (P := P m) κ d 0) $$ [Hst Ht Hi Ho He Htr Hb Hts]
  isplitr; · iexact Hctx
  isplitl [Hst]; · iexact Hst
  isplitl [Ht Hi Ho]
  · rw [st0_eq, tiles_eq]
    isplitl [Ht]; · iexact Ht
    isplitl [Hi]; · iexact Hi
    iexact Ho
  iintro ⟨Hst, Hdn⟩
  ihave Hdn' := (Entails.of_eq ((dn0_eq m d).trans (tiles_eq m d (out m d)))) $$ Hdn
  icases Hdn' with ⟨Ht, -, Ho⟩
  imodintro
  isplitl [Hst]; · iexact Hst
  isplitr [Hb Hts]
  · isplitl [Ht Htr]
    · iapply (Entails.of_eq (shares (F := F) (tLoc d) (m (tLoc d))).symm)
      isplitl [Ht] <;> iassumption
    isplitl [He]; · iexact He
    iexact Ho
  isplitl [Hb] <;> iassumption

def fq (d : Dev nD) (s' : Phys nD τ sig (Elt F)) : Prop :=
  s'.mem.mem (oLoc d) = out m d ∧ s'.mem.mem (tLoc d) = m (tLoc d) ∧ s'.mem.mem (eLoc d) = m (eLoc d)

set_option maxRecDepth 16384 in
theorem hfin (d : Dev nD) (s' : Phys nD τ sig (Elt F)) : iprop(FIN m d ∗ SI s') ⊢ (⌜fq m d s'⌝ : sProp 𝕄) := by
  iintro ⟨⟨Ht, He, Ho⟩, HSI⟩
  ihave H := (persistent_entails_right (SI_pointsTo_agree (st := s') (ℓ := tLoc d) (I := Finset.univ) (q := fullShare) (f := m (tLoc d)))) $$ [HSI Ht]
  · isplitl [HSI] <;> iassumption
  icases H with ⟨%h1, HSI, -⟩
  ihave H := (persistent_entails_right (SI_pointsTo_agree (st := s') (ℓ := eLoc d) (I := Finset.univ) (q := fullShare) (f := m (eLoc d)))) $$ [HSI He]
  · isplitl [HSI] <;> iassumption
  icases H with ⟨%h2, HSI, -⟩
  ihave H := (SI_pointsTo_agree (st := s') (ℓ := oLoc d) (I := Finset.univ) (q := fullShare) (f := out m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-- Where the run ends: the result as it is to be, the arguments as they were, every semaphore at zero. -/
def QC : PUnit × MemSt nD τ sig (Elt F) → Prop := fun r =>
  (∀ c : Dev nD, r.2.mem (oLoc c) = out m c ∧ r.2.mem (tLoc c) = m (tLoc c) ∧ r.2.mem (eLoc c) = m (eLoc c)) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Gather
-- ==== Proof.Bridge.lean ====
/- The gather of plain mathematics is what the call's result holds, under the precondition. -/
module

public import proofs.«01_k».proof.Proof.Slots
public import proofs.«01_k».proof.Pre_expert_ids
public import Idealize.ShloMosaic.Lib.Pipeline.Value

@[expose] public section

noncomputable section

namespace Cert.KernelIdeal.Gather

open Cert.KernelIdeal.Gen
open Idealize.ShloMosaic

/-! ## Words -/

/-- What the precondition says of one expert number. -/
theorem word_lt (v : BitVec 32) (h : IntOp.andi (IntOp.cmpi .sge v 0#32) (IntOp.cmpi .slt v 16384#32) = 1#1) : v.toNat < 16384 := by
  revert h
  simp only [IntOp.andi, IntOp.cmpi, BitVec.sle_eq_decide, BitVec.slt_eq_decide, BitVec.toInt_eq_toNat_cond, BitVec.toNat_ofNat, Nat.reducePow, Nat.reduceMod]
  have := v.isLt
  by_cases h1 : 2 * v.toNat < 4294967296
  · by_cases h2 : v.toNat < 16384
    · exact fun _ => h2
    · simp [h1, show ¬ (v.toNat : Int) < 16384 by omega]
  · simp [show ¬ 4294967296 ≤ v.toNat by omega, h1]

theorem word_nonneg (v : BitVec 32) (h : v.toNat < 16384) : IntOp.cmpi .slt v 0#32 = 0#1 := by
  simp only [IntOp.cmpi, BitVec.slt_eq_decide, BitVec.toInt_eq_toNat_cond, BitVec.toNat_ofNat, Nat.reducePow, Nat.reduceMod]
  rw [if_pos (by omega), if_pos (by omega), decide_eq_false (by omega)]; rfl

theorem word_int (v : BitVec 32) (h : v.toNat < 16384) : v.toInt.toNat = v.toNat := by
  rw [BitVec.toInt_eq_toNat_cond, if_pos (by omega)]; rfl

/-- The precondition, as a bound on every expert number. -/
theorem pre_lt {F : FTy → Type} [FloatOps F] [Cert.Pre_expert_ids.Facts] {t : IVec S16384x512 32} {e : IVec S4096x128 32}
    (h : Cert.Pre_expert_ids.fn (F := F) t e = fun _ => 1#1) (j : S4096x128.Idx) : (e j).toNat < 16384 :=
  word_lt (e j) (congrFun h j)

/-! ## Indices -/

abbrev S4096x128x1 : Shape := ⟨3, ![4096, 128, 1]⟩
abbrev S4096x128x512 : Shape := ⟨3, ![4096, 128, 512]⟩

def eIx (a : Fin 4096) (b : Fin 128) : S4096x128.Idx := fun | 0 => a | 1 => b | ⟨_ + 2, h⟩ => absurd h (Nat.not_lt.2 (Nat.le_add_left _ _))
def fIx (a : Fin 524288) : S524288.Idx := fun | 0 => a | ⟨_ + 1, h⟩ => absurd h (Nat.not_lt.2 (Nat.le_add_left _ _))
def gIx (a : Fin 4096) (b : Fin 128) (k : Fin 512) : S4096x128x512.Idx :=
  fun | 0 => a | 1 => b | 2 => k | ⟨_ + 3, h⟩ => absurd h (Nat.not_lt.2 (Nat.le_add_left _ _))
def hIx (a : Fin 4096) (b : Fin 128) : S4096x128x1.Idx :=
  fun | 0 => a | 1 => b | 2 => (⟨0, Nat.one_pos⟩ : Fin 1) | ⟨_ + 3, h⟩ => absurd h (Nat.not_lt.2 (Nat.le_add_left _ _))

/-- The expert numbers in rows of 64, from those in rows of 128. -/
theorem rowsOf64 (e : S4096x128.Idx → BitVec 32) (h1 : S4096x128.ShapeCasts S524288) (h2 : S524288.ShapeCasts S8192x64)
    (n : Fin 8192) (j : Fin 64) (a : Fin 4096) (b : Fin 128) (hab : n.val * 64 + j.val = a.val * 128 + b.val) :
    shapeCast S8192x64 (shapeCast S524288 e h1) h2 (iIx n j) = e (eIx a b) := by
  rw [shapeCast_apply _ h2 (iIx n j) (fIx ⟨n.val * 64 + j.val, by omega⟩), shapeCast_apply e h1 _ (eIx a b)]
  · rw [Shape.rowMajor_val_one, Shape.rowMajor_val_two]; exact hab.symm
  · rw [Shape.rowMajor_val_one, Shape.rowMajor_val_two]; rfl

/-! ## The gather of plain mathematics -/

/-- The gather's dimension numbers: whole rows, at one row number each. -/
abbrev gd (wf : GatherDims.WF S16384x512 S4096x128x1 S4096x128x512 [2] [0] [] [0] [] 2 ![1, 512]) :
    GatherDims S16384x512 S4096x128x1 S4096x128x512 where
  offsetDims := [2]
  collapsedSliceDims := [0]
  operandBatchingDims := []
  startIndicesBatchingDims := []
  startIndexMap := [0]
  indexVectorDim := 2
  sliceSizes := ![1, 512]
  wf := wf

/-- An entry of it: the table at the row its number names, read signed and kept within the table. -/
theorem gather_at (wf) (ft : S16384x512.Idx → BitVec 32) (idx : IVec S4096x128x1 32) (a : Fin 4096) (b : Fin 128) (k : Fin 512) :
    Host.gather (gd wf) ft idx (gIx a b k) = ft (tIx ⟨min (idx (hIx a b)).toInt.toNat 16383, by omega⟩ k) := by
  unfold Host.gather
  refine congrArg ft (funext fun x => Fin.ext ?_)
  show (gd wf).start (gIx a b k) idx x + (gd wf).batchCoord (gIx a b k) x + (gd wf).offCoord (gIx a b k) x = _
  rw [GatherDims.batchCoord_eq_zero _ _ _ (fun h => absurd h List.not_mem_nil)]
  match x with
  | ⟨0, _⟩ =>
    show (gd wf).start (gIx a b k) idx (0 : Fin 2) + 0 + (gd wf).offCoord (gIx a b k) (0 : Fin 2) = min (idx (hIx a b)).toInt.toNat 16383
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (gd wf).startIndexMap from List.mem_singleton.mpr rfl)]
    have hsi : (gd wf).siIdx (gIx a b k) ⟨List.idxOf (0 : Fin 2) (gd wf).startIndexMap,
        List.idxOf_lt_length_iff.2 (List.mem_singleton.mpr rfl)⟩ = hIx a b := by
      funext c; refine Fin.ext ?_
      match c with
      | ⟨0, _⟩ => rfl
      | ⟨1, _⟩ => rfl
      | ⟨2, _⟩ => rfl
    exact congrArg (fun z => min (idx z).toInt.toNat 16383) hsi
  | ⟨1, _⟩ =>
    have h0 : (gd wf).start (gIx a b k) idx (1 : Fin 2) = 0 := by
      unfold GatherDims.start
      exact dif_neg (fun h => absurd (List.mem_singleton.mp h) (by decide))
    have h1 : (gd wf).offCoord (gIx a b k) (1 : Fin 2) = k.val := by
      unfold GatherDims.offCoord
      rw [dif_pos ((GatherDims.mem_sKept _ _).mpr ⟨fun h => absurd (List.mem_singleton.mp h) (by decide), fun h => absurd h List.not_mem_nil⟩)]
      rfl
    show (gd wf).start (gIx a b k) idx (1 : Fin 2) + 0 + (gd wf).offCoord (gIx a b k) (1 : Fin 2) = k.val
    rw [h0, h1]; omega

/-- Under the precondition a number below zero is never met, so its other reading is never taken. -/
theorem select_id (e : S4096x128.Idx → BitVec 32) (f : S4096x128.Idx → BitVec 32) (he : ∀ j, (e j).toNat < 16384) (z : IVec S4096x128 32)
    (hz : ∀ j, z j = 0#32) : select (cmpi .slt e z) f e = e := by
  funext j
  show Scalar.select (IntOp.cmpi .slt (e j) (z j)) (f j) (e j) = e j
  rw [hz, word_nonneg _ (he j)]; rfl

theorem ref_eq (wf) (hb : S4096x128.BroadcastsInDim S4096x128x1 ![0, 1]) (hs : S4096x128x512.ShapeCasts S524288x512)
    (h1 : S4096x128.ShapeCasts S524288) (h2 : S524288.ShapeCasts S8192x64) (ft : S16384x512.Idx → BitVec 32)
    (e f : S4096x128.Idx → BitVec 32) (he : ∀ j, (e j).toNat < 16384) (z : IVec S4096x128 32) (hz : ∀ j, z j = 0#32) :
    shapeCast S524288x512 (Host.gather (gd wf) ft (broadcastInDim S4096x128x1 ![0, 1] hb (select (cmpi .slt e z) f e))) hs
      = G (shapeCast S8192x64 (shapeCast S524288 e h1) h2) ft := by
  rw [select_id e f he z hz]
  funext p
  have hp : (p 0).val < 524288 := (p 0).isLt
  have h7 := Nat.div_add_mod (p 0).val 128
  have h6 := Nat.div_add_mod (p 0).val 64
  let c : Fin 512 := p 1
  let a : Fin 4096 := ⟨(p 0).val / 128, by omega⟩
  let b : Fin 128 := ⟨(p 0).val % 128, by omega⟩
  rw [shapeCast_apply _ hs p (gIx a b c), gather_at]
  · unfold G blk
    rw [rowsOf64 e h1 h2 _ _ a b (by show ((p 0).val / 64 % 8192) * 64 + (p 0).val % 64 = (p 0).val / 128 * 128 + (p 0).val % 128; omega)]
    have hbc : broadcastInDim S4096x128x1 ![0, 1] hb e (hIx a b) = e (eIx a b) := by
      refine congrArg e (funext fun c => Fin.ext ?_)
      match c with
      | ⟨0, _⟩ => rfl
      | ⟨1, _⟩ => rfl
    have hv : min (broadcastInDim S4096x128x1 ![0, 1] hb e (hIx a b)).toInt.toNat 16383 = (e (eIx a b)).toNat % 16384 := by
      rw [hbc, word_int _ (he _), Nat.mod_eq_of_lt (he _)]; have := he (eIx a b); omega
    exact congrArg (fun r => ft (tIx r c)) (Fin.ext hv)
  · rw [Shape.rowMajor_val_three, Shape.rowMajor_val_two]
    show ((p 0).val / 128 * 128 + (p 0).val % 128) * 512 + (p 1).val = (p 0).val * 512 + (p 1).val
    omega

end Cert.KernelIdeal.Gather
-- ==== Proof.InProj.lean ====
/- The input projection: each row normalized by its root mean square and multiplied into the weight's columns, index by index, for
   the kernel's blocks of 256 rows and for the reference's whole arrays. -/
module

public import proofs.«01_k».proof.Proof.Gen.Kernel2Ideal.Value
public import proofs.«01_k».proof.Proof.Gen.Reference2Ideal.Run
public import Idealize.ShloMosaic.Lib.Pointwise
public import Idealize.ShloMosaic.Lib.Pipeline.Value

@[expose] public section

noncomputable section

namespace Cert.InProj

open Idealize.ShloMosaic Idealize.ShloMosaic.TcCoe Idealize.SL.Sem
open Idealize.ShloMosaic.Pipeline (Dat)
open scoped BigOperators

/-- Entry `k` of a row divided by its root mean square and scaled by `g`. -/
def nrm (row g : Fin 1024 → EReal) (k : Fin 1024) : EReal :=
  row k * Ideal.rsqrt (Ideal.div (∑ j : Fin 1024, row j * row j) (Ideal.ofBits .f32 0x44800000#32) + Ideal.ofBits .f32 0x358637BD#32) * g k

/-- The normalized row times one column of the weight. -/
def prj (row g col : Fin 1024 → EReal) : EReal := ∑ k : Fin 1024, nrm row g k * col k

section Kernel
open Cert.Kernel2Ideal Cert.Kernel2Ideal.Gen

theorem pay3_apply (x : Vec Ideal S256x1024 .f32) (g : Vec Ideal S1x1024 .f32) (r : Fin 256) (k : Fin 1024) :
    k0_pay3 x g (ix2 r k) = nrm (fun j => x (ix2 r j)) (fun j => g (ix2 0 j)) k := by
  pointwise [k0_pay3, nrm]

theorem pay5_apply (x : Vec Ideal S256x1024 .f32) (g : Vec Ideal S1x1024 .f32) (w : Vec Ideal S1024x512 .bf16) (r : Fin 256) (e : Fin 512) :
    k0_pay5 x g w (ix2 r e) = prj (fun j => x (ix2 r j)) (fun j => g (ix2 0 j)) (fun j => w (ix2 j e)) := by
  pointwise [k0_pay5, prj, pay3_apply]

theorem pay7_apply (x : Vec Ideal S256x1024 .f32) (g : Vec Ideal S1x1024 .f32) (w : Vec Ideal S1024x512 .bf16) (r : Fin 256) (e : Fin 512) :
    k0_pay7 x g w (ix2 r e) = prj (fun j => x (ix2 r j)) (fun j => g (ix2 0 j)) (fun j => w (ix2 j e)) := by
  pointwise [k0_pay7, prj, pay3_apply]

theorem pay4_apply (x : Vec Ideal S256x1024 .f32) (g : Vec Ideal S1x1024 .f32) (w : Vec Ideal S1024x512 .bf16) (r : Fin 256) (e : Fin 512) :
    k0_pay4 x g w (ix2 r e) = prj (fun j => x (ix2 r j)) (fun j => g (ix2 0 j)) (fun j => w (ix2 j e)) := by
  pointwise [k0_pay4, prj, pay3_apply]

theorem pay2_apply (x : Vec Ideal S256x1024 .f32) (g : Vec Ideal S1x1024 .f32) (w : Vec Ideal S1024x2048 .bf16) (r : Fin 256) (e : Fin 2048) :
    k0_pay2 (k0_pay3 x g) w (ix2 r e) = prj (fun j => x (ix2 r j)) (fun j => g (ix2 0 j)) (fun j => w (ix2 j e)) := by
  pointwise [k0_pay2, prj, pay3_apply]

theorem hz : (![0, 0] : Fin 2 → Nat) = fun _ => 0 := funext fun a => by fin_cases a <;> rfl

/-- A column of the weight as the launch of column offset `o` reads it. -/
theorem ld_col {n : Nat} (o : Nat) (h : ∀ a, (![0, o] : Fin 2 → Nat) a + (⟨2, ![1024, n]⟩ : Shape).size a ≤ S1024x3584.size a)
    (x : Vec Ideal S1024x3584 .bf16) (k : Fin 1024) (e : Fin n) (h' : o + e.val < 3584) :
    View.ld x (Rect.unit (s := S1024x3584) ![0, o] (⟨2, ![1024, n]⟩ : Shape).size h) (ix2 k e) = x (ix2 k ⟨o + e.val, h'⟩) := by
  refine congrArg x (funext fun a => Fin.ext ?_)
  match a with
  | ⟨0, _⟩ => show 0 + 1 * k.val = k.val; omega
  | ⟨1, _⟩ => show o + 1 * e.val = o + e.val; omega

section Blocks
variable (x : Vec Ideal S256x1024 .f32) (g : Vec Ideal S1x1024 .f32) (w : Vec Ideal S1024x3584 .bf16) (r : Fin 256)

theorem out3_apply (e : Fin 512) (h : 0 + e.val < 3584) : out0_3 x g w (ix2 r e)
    = prj (fun j => x (ix2 r j)) (fun j => g (ix2 0 j)) (fun j => w (ix2 j ⟨0 + e.val, h⟩)) := by
  unfold out0_3
  rw [View.canon_unit_zero hz, View.ld_unit_zero hz, View.ld_unit_zero hz, pay4_apply]
  exact congrArg (prj _ _) (funext fun j => ld_col 0 _ w j e h)

theorem out4_apply (e : Fin 512) (h : 512 + e.val < 3584) : out0_4 x g w (ix2 r e)
    = prj (fun j => x (ix2 r j)) (fun j => g (ix2 0 j)) (fun j => w (ix2 j ⟨512 + e.val, h⟩)) := by
  unfold out0_4
  rw [View.canon_unit_zero hz, View.ld_unit_zero hz, View.ld_unit_zero hz, pay5_apply]
  exact congrArg (prj _ _) (funext fun j => ld_col 512 _ w j e h)

theorem out5_apply (e : Fin 512) (h : 1024 + e.val < 3584) : out0_5 x g w (ix2 r e)
    = prj (fun j => x (ix2 r j)) (fun j => g (ix2 0 j)) (fun j => w (ix2 j ⟨1024 + e.val, h⟩)) := by
  unfold_out out0_5
  rw [View.canon_unit_zero hz, View.ld_unit_zero hz, View.ld_unit_zero hz, pay7_apply]
  exact congrArg (prj _ _) (funext fun j => ld_col 1024 _ w j e h)

theorem out6_apply (e : Fin 512) (h : 512 + e.val < 3584) : out0_6 x g w (ix2 e r)
    = prj (fun j => x (ix2 r j)) (fun j => g (ix2 0 j)) (fun j => w (ix2 j ⟨512 + e.val, h⟩)) := by
  unfold out0_6
  rw [View.canon_unit_zero hz, View.ld_unit_zero hz, View.ld_unit_zero hz]
  refine Eq.trans (b := k0_pay5 x g (View.ld w r0_4) (ix2 r e)) (by pointwise [k0_pay6]) ?_
  rw [pay5_apply]
  exact congrArg (prj _ _) (funext fun j => ld_col 512 _ w j e h)

theorem out7_apply (e : Fin 512) (h : 1024 + e.val < 3584) : out0_7 x g w (ix2 r e)
    = prj (fun j => x (ix2 r j)) (fun j => g (ix2 0 j)) (fun j => w (ix2 j ⟨1024 + e.val, h⟩)) := by
  unfold_out out0_7
  rw [View.canon_unit_zero hz, View.ld_unit_zero hz, View.ld_unit_zero hz]
  refine Eq.trans (b := k0_pay7 x g (View.ld w r0_6) (ix2 r e)) (by pointwise [k0_pay1]) ?_
  rw [pay7_apply]
  exact congrArg (prj _ _) (funext fun j => ld_col 1024 _ w j e h)

theorem out8_apply (e : Fin 2048) (h : 1536 + e.val < 3584) : out0_8 x g w (ix2 r e)
    = prj (fun j => x (ix2 r j)) (fun j => g (ix2 0 j)) (fun j => w (ix2 j ⟨1536 + e.val, h⟩)) := by
  unfold out0_8
  rw [View.canon_unit_zero hz, View.ld_unit_zero hz, View.ld_unit_zero hz, pay2_apply]
  exact congrArg (prj _ _) (funext fun j => ld_col 1536 _ w j e h)

end Blocks

/-! The windows' blocks in their arrays. -/

theorem idx_row0 : ∀ t : Fin cfg0.N, win0_0.index t (0 : Fin 2) = t.val ∧ win0_0.index t (1 : Fin 2) = 0 := (by decide +kernel : ∀ t : Fin grid0.N, _)
theorem idx_row1 : ∀ t : Fin cfg0.N, win0_1.index t (0 : Fin 2) = 0 ∧ win0_1.index t (1 : Fin 2) = 0 := (by decide +kernel : ∀ t : Fin grid0.N, _)
theorem idx_row2 : ∀ t : Fin cfg0.N, win0_2.index t (0 : Fin 2) = 0 ∧ win0_2.index t (1 : Fin 2) = 0 := (by decide +kernel : ∀ t : Fin grid0.N, _)
theorem idx_row3 : ∀ t : Fin cfg0.N, win0_3.index t (0 : Fin 2) = t.val ∧ win0_3.index t (1 : Fin 2) = 0 := (by decide +kernel : ∀ t : Fin grid0.N, _)
theorem idx_row4 : ∀ t : Fin cfg0.N, win0_4.index t (0 : Fin 2) = t.val ∧ win0_4.index t (1 : Fin 2) = 0 := (by decide +kernel : ∀ t : Fin grid0.N, _)
theorem idx_row5 : ∀ t : Fin cfg0.N, win0_5.index t (0 : Fin 2) = t.val ∧ win0_5.index t (1 : Fin 2) = 0 := (by decide +kernel : ∀ t : Fin grid0.N, _)
theorem idx_row6 : ∀ t : Fin cfg0.N, win0_6.index t (0 : Fin 2) = 0 ∧ win0_6.index t (1 : Fin 2) = t.val := (by decide +kernel : ∀ t : Fin grid0.N, _)
theorem idx_row7 : ∀ t : Fin cfg0.N, win0_7.index t (0 : Fin 2) = t.val ∧ win0_7.index t (1 : Fin 2) = 0 := (by decide +kernel : ∀ t : Fin grid0.N, _)
theorem idx_row8 : ∀ t : Fin cfg0.N, win0_8.index t (0 : Fin 2) = t.val ∧ win0_8.index t (1 : Fin 2) = 0 := (by decide +kernel : ∀ t : Fin grid0.N, _)

theorem row_lt (t : Fin cfg0.N) (r : Fin 256) : t.val * 256 + r.val < 4096 := by
  have h : cfg0.N = 16 := N_0
  have := t.isLt
  omega

/-- Row `r` of block `t`, in the whole array. -/
abbrev row (t : Fin cfg0.N) (r : Fin 256) : Fin 4096 := ⟨t.val * 256 + r.val, row_lt t r⟩

variable (m : (ℓ : Loc nD τ sig) → Buf (Elt Ideal) ℓ)

theorem V_v0 (c : Dev nD) : V m c main_v0 = (shapeCast S1x1024 (m ((c : Thread nD τ).loc main_arg1)) shapeCasts_S1024_S1x1024 : FVec Ideal S1x1024 .f32) := by
  show StableHlo.after hostOps0 _ _ = _
  simp only [hostOps0, List.flatten_cons, List.flatten_nil, List.append_nil, List.cons_append, List.nil_append]
  after_results
  rfl
theorem V_v1 (c : Dev nD) : V m c main_v1 = (truncf .bf16 (m ((c : Thread nD τ).loc main_arg2) : FVec Ideal S1024x3584 .f32) bitsLt_bf16_f32 : FVec Ideal S1024x3584 .bf16) := by
  show StableHlo.after hostOps0 _ _ = _
  simp only [hostOps0, List.flatten_cons, List.flatten_nil, List.append_nil, List.cons_append, List.nil_append]
  after_results

abbrev argX (c : Dev nD) : FVec Ideal S4096x1024 .f32 := m ((c : Thread nD τ).loc main_arg0)
abbrev argG (c : Dev nD) : FVec Ideal S1024 .f32 := m ((c : Thread nD τ).loc main_arg1)
abbrev argW (c : Dev nD) : FVec Ideal S1024x3584 .f32 := m ((c : Thread nD τ).loc main_arg2)

theorem iblk0_apply (c : Dev nD) (t : Fin cfg0.N) (r : Fin 256) (k : Fin 1024) : iblk m c 0 t (ix2 r k) = argX m c (ix2 (row t r) k) := by
  obtain ⟨e0, e1⟩ := idx_row0 t
  show V m c main_arg0 (((cfg0.win 0).blk t).view.emb (ix2 r k)) = _
  rw [V_main_arg0]
  refine congrArg _ (funext fun a => Fin.ext ?_)
  match a with
  | ⟨0, _⟩ => show win0_0.index t (0 : Fin 2) * 256 + 1 * r.val = t.val * 256 + r.val; omega
  | ⟨1, _⟩ => show win0_0.index t (1 : Fin 2) * 1024 + 1 * k.val = k.val; omega

theorem iblk1_apply (c : Dev nD) (t : Fin cfg0.N) (k : Fin 1024) : iblk m c 1 t (ix2 0 k) = argG m c (ix1 k) := by
  obtain ⟨e0, e1⟩ := idx_row1 t
  show V m c main_v0 (((cfg0.win 1).blk t).view.emb (ix2 0 k)) = _
  have e : ((cfg0.win 1).blk t).view.emb (ix2 0 k) = (ix2 0 k : S1x1024.Idx) := by
    refine funext fun a => Fin.ext ?_
    match a with
    | ⟨0, _⟩ => show win0_1.index t (0 : Fin 2) * 1 + 1 * 0 = 0; omega
    | ⟨1, _⟩ => show win0_1.index t (1 : Fin 2) * 1024 + 1 * k.val = k.val; omega
  rw [e, V_v0]
  pointwise

theorem iblk2_apply (c : Dev nD) (t : Fin cfg0.N) (k : Fin 1024) (e : Fin 3584) : iblk m c 2 t (ix2 k e) = argW m c (ix2 k e) := by
  obtain ⟨e0, e1⟩ := idx_row2 t
  show V m c main_v1 (((cfg0.win 2).blk t).view.emb (ix2 k e)) = _
  have e : ((cfg0.win 2).blk t).view.emb (ix2 k e) = (ix2 k e : S1024x3584.Idx) := by
    refine funext fun a => Fin.ext ?_
    match a with
    | ⟨0, _⟩ => show win0_2.index t (0 : Fin 2) * 1024 + 1 * k.val = k.val; omega
    | ⟨1, _⟩ => show win0_2.index t (1 : Fin 2) * 3584 + 1 * e.val = e.val; omega
  rw [e, V_v1]
  rfl

/-- Entry `e` of the projected row `r` of the whole arrays. -/
abbrev proj (c : Dev nD) (r : Fin 4096) (e : Fin 3584) : EReal :=
  prj (fun j => argX m c (ix2 r j)) (fun j => argG m c (ix1 j)) (fun j => argW m c (ix2 j e))

theorem prj_blocks (c : Dev nD) (t : Fin cfg0.N) (r : Fin 256) (e : Fin 3584) :
    prj (fun j => iblk m c 0 t (ix2 r j)) (fun j => iblk m c 1 t (ix2 0 j)) (fun j => iblk m c 2 t (ix2 j e)) = proj m c (row t r) e := by
  simp only [iblk0_apply, iblk1_apply, iblk2_apply]

def G3 (c : Dev nD) : Vec Ideal S4096x512 .bf16 := fun i =>
  proj m c ⟨(i 0).val, (i 0).isLt⟩ ⟨0 + (i 1).val, by have h : (i 1).val < 512 := (i 1).isLt; omega⟩

theorem emb3 (t : Fin cfg0.N) (r : Fin 256) (e : Fin 512) :
    ((cfg0.win 3).blk t).view.emb (ix2 r e : S256x512.Idx) = (ix2 (row t r) e : S4096x512.Idx) := by
  obtain ⟨e0, e1⟩ := idx_row3 t
  refine funext fun a => Fin.ext ?_
  match a with
  | ⟨0, _⟩ => show win0_3.index t (0 : Fin 2) * 256 + 1 * r.val = t.val * 256 + r.val; omega
  | ⟨1, _⟩ => show win0_3.index t (1 : Fin 2) * 512 + 1 * e.val = e.val; omega

theorem cover3 (i : S4096x512.Idx) : ∃ t : Fin cfg0.N, (cfg0.win 3).flush t = true ∧ i ∈ ((cfg0.win 3).blk t).view.set := by
  have hN : cfg0.N = 16 := N_0
  have h0 : (i 0).val < 4096 := (i 0).isLt
  have ht : (i 0).val / 256 < cfg0.N := by omega
  let t : Fin cfg0.N := ⟨(i 0).val / 256, ht⟩
  let r : Fin 256 := ⟨(i 0).val % 256, Nat.mod_lt _ (by decide)⟩
  let e : Fin 512 := ⟨(i 1).val, (i 1).isLt⟩
  have hi : i = (ix2 (row t r) e : S4096x512.Idx) := by
    refine funext fun a => Fin.ext ?_
    match a with
    | ⟨0, _⟩ => show (i 0).val = (i 0).val / 256 * 256 + (i 0).val % 256; omega
    | ⟨1, _⟩ => rfl
  refine ⟨t, flush0_3 _, ?_⟩
  have h := ((cfg0.win 3).blk t).view.emb_mem_set (ix2 r e : S256x512.Idx)
  rw [emb3] at h
  exact hi ▸ h

theorem final3 (c : Dev nD) : (dats m 0 c).arrAt 3 cfg0.N = G3 m c := by
  refine (dats m 0 c).arrAt_eq_of_cover 3 (G3 m c) (fun t _ => ?_) cover3
  rw [Cert.Kernel2Ideal.Value.flushed3]
  funext y
  let r : Fin 256 := ⟨(y 0).val, (y 0).isLt⟩
  let e : Fin 512 := ⟨(y 1).val, (y 1).isLt⟩
  have he : 0 + e.val < 3584 := by have := e.isLt; omega
  have hy : y = (ix2 r e : S256x512.Idx) := by
    funext a; match a with
    | ⟨0, _⟩ => rfl
    | ⟨1, _⟩ => rfl
  show out0_3 (iblk m c 0 t) (iblk m c 1 t) (iblk m c 2 t) y = G3 m c (((cfg0.win 3).blk t).view.emb y)
  refine (congrArg _ hy).trans ((out3_apply _ _ _ r e he).trans ((prj_blocks m c t r _).trans ?_))
  exact (congrArg (G3 m c) ((congrArg _ hy).trans (emb3 t r e))).symm

def G4 (c : Dev nD) : Vec Ideal S4096x512 .f32 := fun i =>
  proj m c ⟨(i 0).val, (i 0).isLt⟩ ⟨512 + (i 1).val, by have h : (i 1).val < 512 := (i 1).isLt; omega⟩

theorem emb4 (t : Fin cfg0.N) (r : Fin 256) (e : Fin 512) :
    ((cfg0.win 4).blk t).view.emb (ix2 r e : S256x512.Idx) = (ix2 (row t r) e : S4096x512.Idx) := by
  obtain ⟨e0, e1⟩ := idx_row4 t
  refine funext fun a => Fin.ext ?_
  match a with
  | ⟨0, _⟩ => show win0_4.index t (0 : Fin 2) * 256 + 1 * r.val = t.val * 256 + r.val; omega
  | ⟨1, _⟩ => show win0_4.index t (1 : Fin 2) * 512 + 1 * e.val = e.val; omega

theorem cover4 (i : S4096x512.Idx) : ∃ t : Fin cfg0.N, (cfg0.win 4).flush t = true ∧ i ∈ ((cfg0.win 4).blk t).view.set := by
  have hN : cfg0.N = 16 := N_0
  have h0 : (i 0).val < 4096 := (i 0).isLt
  have ht : (i 0).val / 256 < cfg0.N := by omega
  let t : Fin cfg0.N := ⟨(i 0).val / 256, ht⟩
  let r : Fin 256 := ⟨(i 0).val % 256, Nat.mod_lt _ (by decide)⟩
  let e : Fin 512 := ⟨(i 1).val, (i 1).isLt⟩
  have hi : i = (ix2 (row t r) e : S4096x512.Idx) := by
    refine funext fun a => Fin.ext ?_
    match a with
    | ⟨0, _⟩ => show (i 0).val = (i 0).val / 256 * 256 + (i 0).val % 256; omega
    | ⟨1, _⟩ => rfl
  refine ⟨t, flush0_4 _, ?_⟩
  have h := ((cfg0.win 4).blk t).view.emb_mem_set (ix2 r e : S256x512.Idx)
  rw [emb4] at h
  exact hi ▸ h

theorem final4 (c : Dev nD) : (dats m 0 c).arrAt 4 cfg0.N = G4 m c := by
  refine (dats m 0 c).arrAt_eq_of_cover 4 (G4 m c) (fun t _ => ?_) cover4
  rw [Cert.Kernel2Ideal.Value.flushed4]
  funext y
  let r : Fin 256 := ⟨(y 0).val, (y 0).isLt⟩
  let e : Fin 512 := ⟨(y 1).val, (y 1).isLt⟩
  have he : 512 + e.val < 3584 := by have := e.isLt; omega
  have hy : y = (ix2 r e : S256x512.Idx) := by
    funext a; match a with
    | ⟨0, _⟩ => rfl
    | ⟨1, _⟩ => rfl
  show out0_4 (iblk m c 0 t) (iblk m c 1 t) (iblk m c 2 t) y = G4 m c (((cfg0.win 4).blk t).view.emb y)
  refine (congrArg _ hy).trans ((out4_apply _ _ _ r e he).trans ((prj_blocks m c t r _).trans ?_))
  exact (congrArg (G4 m c) ((congrArg _ hy).trans (emb4 t r e))).symm

def G5 (c : Dev nD) : Vec Ideal S4096x512 .f32 := fun i =>
  proj m c ⟨(i 0).val, (i 0).isLt⟩ ⟨1024 + (i 1).val, by have h : (i 1).val < 512 := (i 1).isLt; omega⟩

theorem emb5 (t : Fin cfg0.N) (r : Fin 256) (e : Fin 512) :
    ((cfg0.win 5).blk t).view.emb (ix2 r e : S256x512.Idx) = (ix2 (row t r) e : S4096x512.Idx) := by
  obtain ⟨e0, e1⟩ := idx_row5 t
  refine funext fun a => Fin.ext ?_
  match a with
  | ⟨0, _⟩ => show win0_5.index t (0 : Fin 2) * 256 + 1 * r.val = t.val * 256 + r.val; omega
  | ⟨1, _⟩ => show win0_5.index t (1 : Fin 2) * 512 + 1 * e.val = e.val; omega

theorem cover5 (i : S4096x512.Idx) : ∃ t : Fin cfg0.N, (cfg0.win 5).flush t = true ∧ i ∈ ((cfg0.win 5).blk t).view.set := by
  have hN : cfg0.N = 16 := N_0
  have h0 : (i 0).val < 4096 := (i 0).isLt
  have ht : (i 0).val / 256 < cfg0.N := by omega
  let t : Fin cfg0.N := ⟨(i 0).val / 256, ht⟩
  let r : Fin 256 := ⟨(i 0).val % 256, Nat.mod_lt _ (by decide)⟩
  let e : Fin 512 := ⟨(i 1).val, (i 1).isLt⟩
  have hi : i = (ix2 (row t r) e : S4096x512.Idx) := by
    refine funext fun a => Fin.ext ?_
    match a with
    | ⟨0, _⟩ => show (i 0).val = (i 0).val / 256 * 256 + (i 0).val % 256; omega
    | ⟨1, _⟩ => rfl
  refine ⟨t, flush0_5 _, ?_⟩
  have h := ((cfg0.win 5).blk t).view.emb_mem_set (ix2 r e : S256x512.Idx)
  rw [emb5] at h
  exact hi ▸ h

theorem final5 (c : Dev nD) : (dats m 0 c).arrAt 5 cfg0.N = G5 m c := by
  refine (dats m 0 c).arrAt_eq_of_cover 5 (G5 m c) (fun t _ => ?_) cover5
  rw [Cert.Kernel2Ideal.Value.flushed5]
  funext y
  let r : Fin 256 := ⟨(y 0).val, (y 0).isLt⟩
  let e : Fin 512 := ⟨(y 1).val, (y 1).isLt⟩
  have he : 1024 + e.val < 3584 := by have := e.isLt; omega
  have hy : y = (ix2 r e : S256x512.Idx) := by
    funext a; match a with
    | ⟨0, _⟩ => rfl
    | ⟨1, _⟩ => rfl
  show out0_5 (iblk m c 0 t) (iblk m c 1 t) (iblk m c 2 t) y = G5 m c (((cfg0.win 5).blk t).view.emb y)
  refine (congrArg _ hy).trans ((out5_apply _ _ _ r e he).trans ((prj_blocks m c t r _).trans ?_))
  exact (congrArg (G5 m c) ((congrArg _ hy).trans (emb5 t r e))).symm

def G6 (c : Dev nD) : Vec Ideal S512x4096 .bf16 := fun i =>
  proj m c ⟨(i 1).val, (i 1).isLt⟩ ⟨512 + (i 0).val, by have h : (i 0).val < 512 := (i 0).isLt; omega⟩

theorem emb6 (t : Fin cfg0.N) (r : Fin 256) (e : Fin 512) :
    ((cfg0.win 6).blk t).view.emb (ix2 e r : S512x256.Idx) = (ix2 e (row t r) : S512x4096.Idx) := by
  obtain ⟨e0, e1⟩ := idx_row6 t
  refine funext fun a => Fin.ext ?_
  match a with
  | ⟨1, _⟩ => show win0_6.index t (1 : Fin 2) * 256 + 1 * r.val = t.val * 256 + r.val; omega
  | ⟨0, _⟩ => show win0_6.index t (0 : Fin 2) * 512 + 1 * e.val = e.val; omega

theorem cover6 (i : S512x4096.Idx) : ∃ t : Fin cfg0.N, (cfg0.win 6).flush t = true ∧ i ∈ ((cfg0.win 6).blk t).view.set := by
  have hN : cfg0.N = 16 := N_0
  have h0 : (i 1).val < 4096 := (i 1).isLt
  have ht : (i 1).val / 256 < cfg0.N := by omega
  let t : Fin cfg0.N := ⟨(i 1).val / 256, ht⟩
  let r : Fin 256 := ⟨(i 1).val % 256, Nat.mod_lt _ (by decide)⟩
  let e : Fin 512 := ⟨(i 0).val, (i 0).isLt⟩
  have hi : i = (ix2 e (row t r) : S512x4096.Idx) := by
    refine funext fun a => Fin.ext ?_
    match a with
    | ⟨1, _⟩ => show (i 1).val = (i 1).val / 256 * 256 + (i 1).val % 256; omega
    | ⟨0, _⟩ => rfl
  refine ⟨t, flush0_6 _, ?_⟩
  have h := ((cfg0.win 6).blk t).view.emb_mem_set (ix2 e r : S512x256.Idx)
  rw [emb6] at h
  exact hi ▸ h

theorem final6 (c : Dev nD) : (dats m 0 c).arrAt 6 cfg0.N = G6 m c := by
  refine (dats m 0 c).arrAt_eq_of_cover 6 (G6 m c) (fun t _ => ?_) cover6
  rw [Cert.Kernel2Ideal.Value.flushed6]
  funext y
  let r : Fin 256 := ⟨(y 1).val, (y 1).isLt⟩
  let e : Fin 512 := ⟨(y 0).val, (y 0).isLt⟩
  have he : 512 + e.val < 3584 := by have := e.isLt; omega
  have hy : y = (ix2 e r : S512x256.Idx) := by
    funext a; match a with
    | ⟨0, _⟩ => rfl
    | ⟨1, _⟩ => rfl
  show out0_6 (iblk m c 0 t) (iblk m c 1 t) (iblk m c 2 t) y = G6 m c (((cfg0.win 6).blk t).view.emb y)
  refine (congrArg _ hy).trans ((out6_apply _ _ _ r e he).trans ((prj_blocks m c t r _).trans ?_))
  exact (congrArg (G6 m c) ((congrArg _ hy).trans (emb6 t r e))).symm

def G7 (c : Dev nD) : Vec Ideal S4096x512 .bf16 := fun i =>
  proj m c ⟨(i 0).val, (i 0).isLt⟩ ⟨1024 + (i 1).val, by have h : (i 1).val < 512 := (i 1).isLt; omega⟩

theorem emb7 (t : Fin cfg0.N) (r : Fin 256) (e : Fin 512) :
    ((cfg0.win 7).blk t).view.emb (ix2 r e : S256x512.Idx) = (ix2 (row t r) e : S4096x512.Idx) := by
  obtain ⟨e0, e1⟩ := idx_row7 t
  refine funext fun a => Fin.ext ?_
  match a with
  | ⟨0, _⟩ => show win0_7.index t (0 : Fin 2) * 256 + 1 * r.val = t.val * 256 + r.val; omega
  | ⟨1, _⟩ => show win0_7.index t (1 : Fin 2) * 512 + 1 * e.val = e.val; omega

theorem cover7 (i : S4096x512.Idx) : ∃ t : Fin cfg0.N, (cfg0.win 7).flush t = true ∧ i ∈ ((cfg0.win 7).blk t).view.set := by
  have hN : cfg0.N = 16 := N_0
  have h0 : (i 0).val < 4096 := (i 0).isLt
  have ht : (i 0).val / 256 < cfg0.N := by omega
  let t : Fin cfg0.N := ⟨(i 0).val / 256, ht⟩
  let r : Fin 256 := ⟨(i 0).val % 256, Nat.mod_lt _ (by decide)⟩
  let e : Fin 512 := ⟨(i 1).val, (i 1).isLt⟩
  have hi : i = (ix2 (row t r) e : S4096x512.Idx) := by
    refine funext fun a => Fin.ext ?_
    match a with
    | ⟨0, _⟩ => show (i 0).val = (i 0).val / 256 * 256 + (i 0).val % 256; omega
    | ⟨1, _⟩ => rfl
  refine ⟨t, flush0_7 _, ?_⟩
  have h := ((cfg0.win 7).blk t).view.emb_mem_set (ix2 r e : S256x512.Idx)
  rw [emb7] at h
  exact hi ▸ h

theorem final7 (c : Dev nD) : (dats m 0 c).arrAt 7 cfg0.N = G7 m c := by
  refine (dats m 0 c).arrAt_eq_of_cover 7 (G7 m c) (fun t _ => ?_) cover7
  rw [Cert.Kernel2Ideal.Value.flushed7]
  funext y
  let r : Fin 256 := ⟨(y 0).val, (y 0).isLt⟩
  let e : Fin 512 := ⟨(y 1).val, (y 1).isLt⟩
  have he : 1024 + e.val < 3584 := by have := e.isLt; omega
  have hy : y = (ix2 r e : S256x512.Idx) := by
    funext a; match a with
    | ⟨0, _⟩ => rfl
    | ⟨1, _⟩ => rfl
  show out0_7 (iblk m c 0 t) (iblk m c 1 t) (iblk m c 2 t) y = G7 m c (((cfg0.win 7).blk t).view.emb y)
  refine (congrArg _ hy).trans ((out7_apply _ _ _ r e he).trans ((prj_blocks m c t r _).trans ?_))
  exact (congrArg (G7 m c) ((congrArg _ hy).trans (emb7 t r e))).symm

def G8 (c : Dev nD) : Vec Ideal S4096x2048 .f32 := fun i =>
  proj m c ⟨(i 0).val, (i 0).isLt⟩ ⟨1536 + (i 1).val, by have h : (i 1).val < 2048 := (i 1).isLt; omega⟩

theorem emb8 (t : Fin cfg0.N) (r : Fin 256) (e : Fin 2048) :
    ((cfg0.win 8).blk t).view.emb (ix2 r e : S256x2048.Idx) = (ix2 (row t r) e : S4096x2048.Idx) := by
  obtain ⟨e0, e1⟩ := idx_row8 t
  refine funext fun a => Fin.ext ?_
  match a with
  | ⟨0, _⟩ => show win0_8.index t (0 : Fin 2) * 256 + 1 * r.val = t.val * 256 + r.val; omega
  | ⟨1, _⟩ => show win0_8.index t (1 : Fin 2) * 2048 + 1 * e.val = e.val; omega

theorem cover8 (i : S4096x2048.Idx) : ∃ t : Fin cfg0.N, (cfg0.win 8).flush t = true ∧ i ∈ ((cfg0.win 8).blk t).view.set := by
  have hN : cfg0.N = 16 := N_0
  have h0 : (i 0).val < 4096 := (i 0).isLt
  have ht : (i 0).val / 256 < cfg0.N := by omega
  let t : Fin cfg0.N := ⟨(i 0).val / 256, ht⟩
  let r : Fin 256 := ⟨(i 0).val % 256, Nat.mod_lt _ (by decide)⟩
  let e : Fin 2048 := ⟨(i 1).val, (i 1).isLt⟩
  have hi : i = (ix2 (row t r) e : S4096x2048.Idx) := by
    refine funext fun a => Fin.ext ?_
    match a with
    | ⟨0, _⟩ => show (i 0).val = (i 0).val / 256 * 256 + (i 0).val % 256; omega
    | ⟨1, _⟩ => rfl
  refine ⟨t, flush0_8 _, ?_⟩
  have h := ((cfg0.win 8).blk t).view.emb_mem_set (ix2 r e : S256x2048.Idx)
  rw [emb8] at h
  exact hi ▸ h

theorem final8 (c : Dev nD) : (dats m 0 c).arrAt 8 cfg0.N = G8 m c := by
  refine (dats m 0 c).arrAt_eq_of_cover 8 (G8 m c) (fun t _ => ?_) cover8
  rw [Cert.Kernel2Ideal.Value.flushed8]
  funext y
  let r : Fin 256 := ⟨(y 0).val, (y 0).isLt⟩
  let e : Fin 2048 := ⟨(y 1).val, (y 1).isLt⟩
  have he : 1536 + e.val < 3584 := by have := e.isLt; omega
  have hy : y = (ix2 r e : S256x2048.Idx) := by
    funext a; match a with
    | ⟨0, _⟩ => rfl
    | ⟨1, _⟩ => rfl
  show out0_8 (iblk m c 0 t) (iblk m c 1 t) (iblk m c 2 t) y = G8 m c (((cfg0.win 8).blk t).view.emb y)
  refine (congrArg _ hy).trans ((out8_apply _ _ _ r e he).trans ((prj_blocks m c t r _).trans ?_))
  exact (congrArg (G8 m c) ((congrArg _ hy).trans (emb8 t r e))).symm

end Kernel

section Reference
open Cert.Reference2Ideal Cert.Reference2Ideal.Gen

/-- The whole projection as the reference composes it. -/
def whole (x : FVec Ideal S4096x1024 .f32) (g : FVec Ideal S1024 .f32) (w : FVec Ideal S1024x3584 .f32) : FVec Ideal S4096x3584 .f32 :=
  Host.dotGeneral dot_S4096x1024_S1024x3584_S4096x3584_1_0_0_1_n_n none (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 g))) w

theorem whole_apply (x : FVec Ideal S4096x1024 .f32) (g : FVec Ideal S1024 .f32) (w : FVec Ideal S1024x3584 .f32) (r : Fin 4096) (e : Fin 3584) :
    whole x g w (ix2 r e) = prj (fun j => x (ix2 r j)) (fun j => g (ix1 j)) (fun j => w (ix2 j e)) := by
  pointwise [whole, prj, nrm]

/-! The reference's results at an index: columns of the whole projection. -/

variable (x : FVec Ideal S4096x1024 .f32) (g : FVec Ideal S1024 .f32) (w : FVec Ideal S1024x3584 .f32)

theorem slice_apply (z : FVec Ideal S4096x3584 .f32) {n : Nat} (o : Nat) (h : S4096x3584.Slices ![0, o] (⟨2, ![4096, n]⟩ : Shape))
    (r : Fin 4096) (e : Fin n) (h' : o + e.val < 3584) : extractStridedSlice ⟨2, ![4096, n]⟩ ![0, o] z h (ix2 r e) = z (ix2 r ⟨o + e.val, h'⟩) :=
  extractStridedSlice_apply _ _ _ _ _ fun a => match a with
    | ⟨0, _⟩ => by show r.val = 0 + r.val; omega
    | ⟨1, _⟩ => rfl

theorem transpose_slice_apply (z : FVec Ideal S4096x512 .f32) (r : Fin 4096) (e : Fin 512) :
    transpose S512x4096 [1, 0] z transposes_S4096x512_S512x4096_1_0 (ix2 e r) = z (ix2 r e) := by
  pointwise

end Reference

/-! The kernel's arrays are the reference's. -/

section Both
open Cert.Kernel2Ideal (nD τ sig)
open Cert.Reference2Ideal Cert.Reference2Ideal.Gen

variable (m : (ℓ : Loc Cert.Kernel2Ideal.nD Cert.Kernel2Ideal.τ Cert.Kernel2Ideal.sig) → Buf (Elt Ideal) ℓ) (c : Dev Cert.Kernel2Ideal.nD)

theorem ix2_eta {a b : Nat} (i : (⟨2, ![a, b]⟩ : Shape).Idx) : ix2 (n0 := a) (n1 := b) ⟨(i 0).val, (i 0).isLt⟩ ⟨(i 1).val, (i 1).isLt⟩ = i := by
  funext k; match k with
  | ⟨0, _⟩ => rfl
  | ⟨1, _⟩ => rfl

theorem proj_eq (r : Fin 4096) (e : Fin 3584) : proj m c r e = whole (argX m c) (argG m c) (argW m c) (ix2 r e) :=
  (whole_apply _ _ _ _ _).symm

theorem slice_eq {n : Nat} (o : Nat) (h : S4096x3584.Slices ![0, o] (⟨2, ![4096, n]⟩ : Shape)) (hn : o + n ≤ 3584) (i : (⟨2, ![4096, n]⟩ : Shape).Idx) :
    extractStridedSlice ⟨2, ![4096, n]⟩ ![0, o] (whole (argX m c) (argG m c) (argW m c)) h i
      = proj m c ⟨(i 0).val, (i 0).isLt⟩ ⟨o + (i 1).val, by have h : (i 1).val < n := (i 1).isLt; omega⟩ := by
  have hi : (i 1).val < n := (i 1).isLt
  rw [proj_eq]
  refine (congrArg _ (ix2_eta i).symm).trans (slice_apply _ o h _ _ (by show o + (i 1).val < 3584; omega))

theorem ref3 : truncf .bf16 (extractStridedSlice S4096x512 ![0, 0] (whole (argX m c) (argG m c) (argW m c)) slices_S4096x3584_S4096x512_0_0) bitsLt_bf16_f32
    = G3 m c := funext fun i => slice_eq m c 0 slices_S4096x3584_S4096x512_0_0 (by decide) i
theorem ref4 : extractStridedSlice S4096x512 ![0, 512] (whole (argX m c) (argG m c) (argW m c)) slices_S4096x3584_S4096x512_0_512
    = G4 m c := funext fun i => slice_eq m c 512 _ (by decide) i
theorem ref5 : extractStridedSlice S4096x512 ![0, 1024] (whole (argX m c) (argG m c) (argW m c)) slices_S4096x3584_S4096x512_0_1024
    = G5 m c := funext fun i => slice_eq m c 1024 _ (by decide) i
theorem ref6 : truncf .bf16 (transpose S512x4096 [1, 0] (extractStridedSlice S4096x512 ![0, 512] (whole (argX m c) (argG m c) (argW m c)) slices_S4096x3584_S4096x512_0_512) transposes_S4096x512_S512x4096_1_0) bitsLt_bf16_f32
    = G6 m c := by
  rw [ref4]
  funext i
  exact (congrArg _ (ix2_eta i).symm).trans (transpose_slice_apply (G4 m c) ⟨(i 1).val, (i 1).isLt⟩ ⟨(i 0).val, (i 0).isLt⟩)
theorem ref7 : truncf .bf16 (extractStridedSlice S4096x512 ![0, 1024] (whole (argX m c) (argG m c) (argW m c)) slices_S4096x3584_S4096x512_0_1024) bitsLt_bf16_f32
    = G7 m c := funext fun i => slice_eq m c 1024 slices_S4096x3584_S4096x512_0_1024 (by decide) i
theorem ref8 : extractStridedSlice S4096x2048 ![0, 1536] (whole (argX m c) (argG m c) (argW m c)) slices_S4096x3584_S4096x2048_0_1536
    = G8 m c := funext fun i => slice_eq m c 1536 _ (by decide) i

end Both

end Cert.InProj

end
-- ==== Proof.InProjS.lean ====
/- The input projection of the sample's 128 rows, one block of them: each entry is Proof/InProj.lean's `prj`, for the kernel's arrays and for
   the reference's. -/
module

public import proofs.«01_k».proof.Proof.Gen.Kernel4Ideal.Value
public import proofs.«01_k».proof.Proof.Gen.Reference4Ideal.Run
public import proofs.«01_k».proof.Proof.InProj
public import Idealize.ShloMosaic.Lib.Pointwise
public import Idealize.ShloMosaic.Lib.Pipeline.Value

@[expose] public section

noncomputable section

namespace Cert.InProjS

open Idealize.ShloMosaic Idealize.ShloMosaic.TcCoe Idealize.SL.Sem
open Idealize.ShloMosaic.Pipeline (Dat)
open scoped BigOperators

open Cert.InProj (nrm prj)

section Kernel
open Cert.Kernel4Ideal Cert.Kernel4Ideal.Gen

theorem pay3_apply (x : Vec Ideal S128x1024 .f32) (g : Vec Ideal S1x1024 .f32) (r : Fin 128) (k : Fin 1024) :
    k0_pay3 x g (ix2 r k) = nrm (fun j => x (ix2 r j)) (fun j => g (ix2 0 j)) k := by
  pointwise [k0_pay3, nrm]

theorem pay5_apply (x : Vec Ideal S128x1024 .f32) (g : Vec Ideal S1x1024 .f32) (w : Vec Ideal S1024x512 .bf16) (r : Fin 128) (e : Fin 512) :
    k0_pay5 x g w (ix2 r e) = prj (fun j => x (ix2 r j)) (fun j => g (ix2 0 j)) (fun j => w (ix2 j e)) := by
  pointwise [k0_pay5, prj, pay3_apply]

theorem pay7_apply (x : Vec Ideal S128x1024 .f32) (g : Vec Ideal S1x1024 .f32) (w : Vec Ideal S1024x512 .bf16) (r : Fin 128) (e : Fin 512) :
    k0_pay7 x g w (ix2 r e) = prj (fun j => x (ix2 r j)) (fun j => g (ix2 0 j)) (fun j => w (ix2 j e)) := by
  pointwise [k0_pay7, prj, pay3_apply]

theorem pay4_apply (x : Vec Ideal S128x1024 .f32) (g : Vec Ideal S1x1024 .f32) (w : Vec Ideal S1024x512 .bf16) (r : Fin 128) (e : Fin 512) :
    k0_pay4 x g w (ix2 r e) = prj (fun j => x (ix2 r j)) (fun j => g (ix2 0 j)) (fun j => w (ix2 j e)) := by
  pointwise [k0_pay4, prj, pay3_apply]

theorem pay2_apply (x : Vec Ideal S128x1024 .f32) (g : Vec Ideal S1x1024 .f32) (w : Vec Ideal S1024x2048 .bf16) (r : Fin 128) (e : Fin 2048) :
    k0_pay2 (k0_pay3 x g) w (ix2 r e) = prj (fun j => x (ix2 r j)) (fun j => g (ix2 0 j)) (fun j => w (ix2 j e)) := by
  pointwise [k0_pay2, prj, pay3_apply]

theorem hz : (![0, 0] : Fin 2 → Nat) = fun _ => 0 := funext fun a => by fin_cases a <;> rfl

/-- A column of the weight as the launch of column offset `o` reads it. -/
theorem ld_col {n : Nat} (o : Nat) (h : ∀ a, (![0, o] : Fin 2 → Nat) a + (⟨2, ![1024, n]⟩ : Shape).size a ≤ S1024x3584.size a)
    (x : Vec Ideal S1024x3584 .bf16) (k : Fin 1024) (e : Fin n) (h' : o + e.val < 3584) :
    View.ld x (Rect.unit (s := S1024x3584) ![0, o] (⟨2, ![1024, n]⟩ : Shape).size h) (ix2 k e) = x (ix2 k ⟨o + e.val, h'⟩) := by
  refine congrArg x (funext fun a => Fin.ext ?_)
  match a with
  | ⟨0, _⟩ => show 0 + 1 * k.val = k.val; omega
  | ⟨1, _⟩ => show o + 1 * e.val = o + e.val; omega

section Blocks
variable (x : Vec Ideal S128x1024 .f32) (g : Vec Ideal S1x1024 .f32) (w : Vec Ideal S1024x3584 .bf16) (r : Fin 128)

theorem out3_apply (e : Fin 512) (h : 0 + e.val < 3584) : out0_3 x g w (ix2 r e)
    = prj (fun j => x (ix2 r j)) (fun j => g (ix2 0 j)) (fun j => w (ix2 j ⟨0 + e.val, h⟩)) := by
  unfold out0_3
  rw [View.canon_unit_zero hz, View.ld_unit_zero hz, View.ld_unit_zero hz, pay4_apply]
  exact congrArg (prj _ _) (funext fun j => ld_col 0 _ w j e h)

theorem out4_apply (e : Fin 512) (h : 512 + e.val < 3584) : out0_4 x g w (ix2 r e)
    = prj (fun j => x (ix2 r j)) (fun j => g (ix2 0 j)) (fun j => w (ix2 j ⟨512 + e.val, h⟩)) := by
  unfold out0_4
  rw [View.canon_unit_zero hz, View.ld_unit_zero hz, View.ld_unit_zero hz, pay5_apply]
  exact congrArg (prj _ _) (funext fun j => ld_col 512 _ w j e h)

theorem out5_apply (e : Fin 512) (h : 1024 + e.val < 3584) : out0_5 x g w (ix2 r e)
    = prj (fun j => x (ix2 r j)) (fun j => g (ix2 0 j)) (fun j => w (ix2 j ⟨1024 + e.val, h⟩)) := by
  unfold_out out0_5
  rw [View.canon_unit_zero hz, View.ld_unit_zero hz, View.ld_unit_zero hz, pay7_apply]
  exact congrArg (prj _ _) (funext fun j => ld_col 1024 _ w j e h)

theorem out6_apply (e : Fin 512) (h : 512 + e.val < 3584) : out0_6 x g w (ix2 e r)
    = prj (fun j => x (ix2 r j)) (fun j => g (ix2 0 j)) (fun j => w (ix2 j ⟨512 + e.val, h⟩)) := by
  unfold out0_6
  rw [View.canon_unit_zero hz, View.ld_unit_zero hz, View.ld_unit_zero hz]
  refine Eq.trans (b := k0_pay5 x g (View.ld w r0_4) (ix2 r e)) (by pointwise [k0_pay6]) ?_
  rw [pay5_apply]
  exact congrArg (prj _ _) (funext fun j => ld_col 512 _ w j e h)

theorem out7_apply (e : Fin 512) (h : 1024 + e.val < 3584) : out0_7 x g w (ix2 r e)
    = prj (fun j => x (ix2 r j)) (fun j => g (ix2 0 j)) (fun j => w (ix2 j ⟨1024 + e.val, h⟩)) := by
  unfold_out out0_7
  rw [View.canon_unit_zero hz, View.ld_unit_zero hz, View.ld_unit_zero hz]
  refine Eq.trans (b := k0_pay7 x g (View.ld w r0_6) (ix2 r e)) (by pointwise [k0_pay1]) ?_
  rw [pay7_apply]
  exact congrArg (prj _ _) (funext fun j => ld_col 1024 _ w j e h)

theorem out8_apply (e : Fin 2048) (h : 1536 + e.val < 3584) : out0_8 x g w (ix2 r e)
    = prj (fun j => x (ix2 r j)) (fun j => g (ix2 0 j)) (fun j => w (ix2 j ⟨1536 + e.val, h⟩)) := by
  unfold out0_8
  rw [View.canon_unit_zero hz, View.ld_unit_zero hz, View.ld_unit_zero hz, pay2_apply]
  exact congrArg (prj _ _) (funext fun j => ld_col 1536 _ w j e h)

end Blocks

/-! The windows' blocks in their arrays. -/

theorem idx_row0 : ∀ t : Fin cfg0.N, win0_0.index t (0 : Fin 2) = t.val ∧ win0_0.index t (1 : Fin 2) = 0 := (by decide +kernel : ∀ t : Fin grid0.N, _)
theorem idx_row1 : ∀ t : Fin cfg0.N, win0_1.index t (0 : Fin 2) = 0 ∧ win0_1.index t (1 : Fin 2) = 0 := (by decide +kernel : ∀ t : Fin grid0.N, _)
theorem idx_row2 : ∀ t : Fin cfg0.N, win0_2.index t (0 : Fin 2) = 0 ∧ win0_2.index t (1 : Fin 2) = 0 := (by decide +kernel : ∀ t : Fin grid0.N, _)
theorem idx_row3 : ∀ t : Fin cfg0.N, win0_3.index t (0 : Fin 2) = t.val ∧ win0_3.index t (1 : Fin 2) = 0 := (by decide +kernel : ∀ t : Fin grid0.N, _)
theorem idx_row4 : ∀ t : Fin cfg0.N, win0_4.index t (0 : Fin 2) = t.val ∧ win0_4.index t (1 : Fin 2) = 0 := (by decide +kernel : ∀ t : Fin grid0.N, _)
theorem idx_row5 : ∀ t : Fin cfg0.N, win0_5.index t (0 : Fin 2) = t.val ∧ win0_5.index t (1 : Fin 2) = 0 := (by decide +kernel : ∀ t : Fin grid0.N, _)
theorem idx_row6 : ∀ t : Fin cfg0.N, win0_6.index t (0 : Fin 2) = 0 ∧ win0_6.index t (1 : Fin 2) = t.val := (by decide +kernel : ∀ t : Fin grid0.N, _)
theorem idx_row7 : ∀ t : Fin cfg0.N, win0_7.index t (0 : Fin 2) = t.val ∧ win0_7.index t (1 : Fin 2) = 0 := (by decide +kernel : ∀ t : Fin grid0.N, _)
theorem idx_row8 : ∀ t : Fin cfg0.N, win0_8.index t (0 : Fin 2) = t.val ∧ win0_8.index t (1 : Fin 2) = 0 := (by decide +kernel : ∀ t : Fin grid0.N, _)

theorem row_lt (t : Fin cfg0.N) (r : Fin 128) : t.val * 128 + r.val < 128 := by
  have h : cfg0.N = 1 := N_0
  have := t.isLt
  omega

/-- Row `r` of block `t`, in the whole array. -/
abbrev row (t : Fin cfg0.N) (r : Fin 128) : Fin 128 := ⟨t.val * 128 + r.val, row_lt t r⟩

variable (m : (ℓ : Loc nD τ sig) → Buf (Elt Ideal) ℓ)

theorem V_v0 (c : Dev nD) : V m c main_v0 = (shapeCast S1x1024 (m ((c : Thread nD τ).loc main_arg1)) shapeCasts_S1024_S1x1024 : FVec Ideal S1x1024 .f32) := by
  show StableHlo.after hostOps0 _ _ = _
  simp only [hostOps0, List.flatten_cons, List.flatten_nil, List.append_nil, List.cons_append, List.nil_append]
  after_results
  rfl
theorem V_v1 (c : Dev nD) : V m c main_v1 = (truncf .bf16 (m ((c : Thread nD τ).loc main_arg2) : FVec Ideal S1024x3584 .f32) bitsLt_bf16_f32 : FVec Ideal S1024x3584 .bf16) := by
  show StableHlo.after hostOps0 _ _ = _
  simp only [hostOps0, List.flatten_cons, List.flatten_nil, List.append_nil, List.cons_append, List.nil_append]
  after_results

abbrev argX (c : Dev nD) : FVec Ideal S128x1024 .f32 := m ((c : Thread nD τ).loc main_arg0)
abbrev argG (c : Dev nD) : FVec Ideal S1024 .f32 := m ((c : Thread nD τ).loc main_arg1)
abbrev argW (c : Dev nD) : FVec Ideal S1024x3584 .f32 := m ((c : Thread nD τ).loc main_arg2)

theorem iblk0_apply (c : Dev nD) (t : Fin cfg0.N) (r : Fin 128) (k : Fin 1024) : iblk m c 0 t (ix2 r k) = argX m c (ix2 (row t r) k) := by
  obtain ⟨e0, e1⟩ := idx_row0 t
  show V m c main_arg0 (((cfg0.win 0).blk t).view.emb (ix2 r k)) = _
  rw [V_main_arg0]
  refine congrArg _ (funext fun a => Fin.ext ?_)
  match a with
  | ⟨0, _⟩ => show win0_0.index t (0 : Fin 2) * 128 + 1 * r.val = t.val * 128 + r.val; omega
  | ⟨1, _⟩ => show win0_0.index t (1 : Fin 2) * 1024 + 1 * k.val = k.val; omega

theorem iblk1_apply (c : Dev nD) (t : Fin cfg0.N) (k : Fin 1024) : iblk m c 1 t (ix2 0 k) = argG m c (ix1 k) := by
  obtain ⟨e0, e1⟩ := idx_row1 t
  show V m c main_v0 (((cfg0.win 1).blk t).view.emb (ix2 0 k)) = _
  have e : ((cfg0.win 1).blk t).view.emb (ix2 0 k) = (ix2 0 k : S1x1024.Idx) := by
    refine funext fun a => Fin.ext ?_
    match a with
    | ⟨0, _⟩ => show win0_1.index t (0 : Fin 2) * 1 + 1 * 0 = 0; omega
    | ⟨1, _⟩ => show win0_1.index t (1 : Fin 2) * 1024 + 1 * k.val = k.val; omega
  rw [e, V_v0]
  pointwise

theorem iblk2_apply (c : Dev nD) (t : Fin cfg0.N) (k : Fin 1024) (e : Fin 3584) : iblk m c 2 t (ix2 k e) = argW m c (ix2 k e) := by
  obtain ⟨e0, e1⟩ := idx_row2 t
  show V m c main_v1 (((cfg0.win 2).blk t).view.emb (ix2 k e)) = _
  have e : ((cfg0.win 2).blk t).view.emb (ix2 k e) = (ix2 k e : S1024x3584.Idx) := by
    refine funext fun a => Fin.ext ?_
    match a with
    | ⟨0, _⟩ => show win0_2.index t (0 : Fin 2) * 1024 + 1 * k.val = k.val; omega
    | ⟨1, _⟩ => show win0_2.index t (1 : Fin 2) * 3584 + 1 * e.val = e.val; omega
  rw [e, V_v1]
  rfl

/-- Entry `e` of the projected row `r` of the whole arrays. -/
abbrev proj (c : Dev nD) (r : Fin 128) (e : Fin 3584) : EReal :=
  prj (fun j => argX m c (ix2 r j)) (fun j => argG m c (ix1 j)) (fun j => argW m c (ix2 j e))

theorem prj_blocks (c : Dev nD) (t : Fin cfg0.N) (r : Fin 128) (e : Fin 3584) :
    prj (fun j => iblk m c 0 t (ix2 r j)) (fun j => iblk m c 1 t (ix2 0 j)) (fun j => iblk m c 2 t (ix2 j e)) = proj m c (row t r) e := by
  simp only [iblk0_apply, iblk1_apply, iblk2_apply]

def G3 (c : Dev nD) : Vec Ideal S128x512 .bf16 := fun i =>
  proj m c ⟨(i 0).val, (i 0).isLt⟩ ⟨0 + (i 1).val, by have h : (i 1).val < 512 := (i 1).isLt; omega⟩

theorem emb3 (t : Fin cfg0.N) (r : Fin 128) (e : Fin 512) :
    ((cfg0.win 3).blk t).view.emb (ix2 r e : S128x512.Idx) = (ix2 (row t r) e : S128x512.Idx) := by
  obtain ⟨e0, e1⟩ := idx_row3 t
  refine funext fun a => Fin.ext ?_
  match a with
  | ⟨0, _⟩ => show win0_3.index t (0 : Fin 2) * 128 + 1 * r.val = t.val * 128 + r.val; omega
  | ⟨1, _⟩ => show win0_3.index t (1 : Fin 2) * 512 + 1 * e.val = e.val; omega

theorem cover3 (i : S128x512.Idx) : ∃ t : Fin cfg0.N, (cfg0.win 3).flush t = true ∧ i ∈ ((cfg0.win 3).blk t).view.set := by
  have hN : cfg0.N = 1 := N_0
  have h0 : (i 0).val < 128 := (i 0).isLt
  have ht : (i 0).val / 128 < cfg0.N := by omega
  let t : Fin cfg0.N := ⟨(i 0).val / 128, ht⟩
  let r : Fin 128 := ⟨(i 0).val % 128, Nat.mod_lt _ (by decide)⟩
  let e : Fin 512 := ⟨(i 1).val, (i 1).isLt⟩
  have hi : i = (ix2 (row t r) e : S128x512.Idx) := by
    refine funext fun a => Fin.ext ?_
    match a with
    | ⟨0, _⟩ => show (i 0).val = (i 0).val / 128 * 128 + (i 0).val % 128; omega
    | ⟨1, _⟩ => rfl
  refine ⟨t, flush0_3 _, ?_⟩
  have h := ((cfg0.win 3).blk t).view.emb_mem_set (ix2 r e : S128x512.Idx)
  rw [emb3] at h
  exact hi ▸ h

theorem final3 (c : Dev nD) : (dats m 0 c).arrAt 3 cfg0.N = G3 m c := by
  refine (dats m 0 c).arrAt_eq_of_cover 3 (G3 m c) (fun t _ => ?_) cover3
  rw [Cert.Kernel4Ideal.Value.flushed3]
  funext y
  let r : Fin 128 := ⟨(y 0).val, (y 0).isLt⟩
  let e : Fin 512 := ⟨(y 1).val, (y 1).isLt⟩
  have he : 0 + e.val < 3584 := by have := e.isLt; omega
  have hy : y = (ix2 r e : S128x512.Idx) := by
    funext a; match a with
    | ⟨0, _⟩ => rfl
    | ⟨1, _⟩ => rfl
  show out0_3 (iblk m c 0 t) (iblk m c 1 t) (iblk m c 2 t) y = G3 m c (((cfg0.win 3).blk t).view.emb y)
  refine (congrArg _ hy).trans ((out3_apply _ _ _ r e he).trans ((prj_blocks m c t r _).trans ?_))
  exact (congrArg (G3 m c) ((congrArg _ hy).trans (emb3 t r e))).symm

def G4 (c : Dev nD) : Vec Ideal S128x512 .f32 := fun i =>
  proj m c ⟨(i 0).val, (i 0).isLt⟩ ⟨512 + (i 1).val, by have h : (i 1).val < 512 := (i 1).isLt; omega⟩

theorem emb4 (t : Fin cfg0.N) (r : Fin 128) (e : Fin 512) :
    ((cfg0.win 4).blk t).view.emb (ix2 r e : S128x512.Idx) = (ix2 (row t r) e : S128x512.Idx) := by
  obtain ⟨e0, e1⟩ := idx_row4 t
  refine funext fun a => Fin.ext ?_
  match a with
  | ⟨0, _⟩ => show win0_4.index t (0 : Fin 2) * 128 + 1 * r.val = t.val * 128 + r.val; omega
  | ⟨1, _⟩ => show win0_4.index t (1 : Fin 2) * 512 + 1 * e.val = e.val; omega

theorem cover4 (i : S128x512.Idx) : ∃ t : Fin cfg0.N, (cfg0.win 4).flush t = true ∧ i ∈ ((cfg0.win 4).blk t).view.set := by
  have hN : cfg0.N = 1 := N_0
  have h0 : (i 0).val < 128 := (i 0).isLt
  have ht : (i 0).val / 128 < cfg0.N := by omega
  let t : Fin cfg0.N := ⟨(i 0).val / 128, ht⟩
  let r : Fin 128 := ⟨(i 0).val % 128, Nat.mod_lt _ (by decide)⟩
  let e : Fin 512 := ⟨(i 1).val, (i 1).isLt⟩
  have hi : i = (ix2 (row t r) e : S128x512.Idx) := by
    refine funext fun a => Fin.ext ?_
    match a with
    | ⟨0, _⟩ => show (i 0).val = (i 0).val / 128 * 128 + (i 0).val % 128; omega
    | ⟨1, _⟩ => rfl
  refine ⟨t, flush0_4 _, ?_⟩
  have h := ((cfg0.win 4).blk t).view.emb_mem_set (ix2 r e : S128x512.Idx)
  rw [emb4] at h
  exact hi ▸ h

theorem final4 (c : Dev nD) : (dats m 0 c).arrAt 4 cfg0.N = G4 m c := by
  refine (dats m 0 c).arrAt_eq_of_cover 4 (G4 m c) (fun t _ => ?_) cover4
  rw [Cert.Kernel4Ideal.Value.flushed4]
  funext y
  let r : Fin 128 := ⟨(y 0).val, (y 0).isLt⟩
  let e : Fin 512 := ⟨(y 1).val, (y 1).isLt⟩
  have he : 512 + e.val < 3584 := by have := e.isLt; omega
  have hy : y = (ix2 r e : S128x512.Idx) := by
    funext a; match a with
    | ⟨0, _⟩ => rfl
    | ⟨1, _⟩ => rfl
  show out0_4 (iblk m c 0 t) (iblk m c 1 t) (iblk m c 2 t) y = G4 m c (((cfg0.win 4).blk t).view.emb y)
  refine (congrArg _ hy).trans ((out4_apply _ _ _ r e he).trans ((prj_blocks m c t r _).trans ?_))
  exact (congrArg (G4 m c) ((congrArg _ hy).trans (emb4 t r e))).symm

def G5 (c : Dev nD) : Vec Ideal S128x512 .f32 := fun i =>
  proj m c ⟨(i 0).val, (i 0).isLt⟩ ⟨1024 + (i 1).val, by have h : (i 1).val < 512 := (i 1).isLt; omega⟩

theorem emb5 (t : Fin cfg0.N) (r : Fin 128) (e : Fin 512) :
    ((cfg0.win 5).blk t).view.emb (ix2 r e : S128x512.Idx) = (ix2 (row t r) e : S128x512.Idx) := by
  obtain ⟨e0, e1⟩ := idx_row5 t
  refine funext fun a => Fin.ext ?_
  match a with
  | ⟨0, _⟩ => show win0_5.index t (0 : Fin 2) * 128 + 1 * r.val = t.val * 128 + r.val; omega
  | ⟨1, _⟩ => show win0_5.index t (1 : Fin 2) * 512 + 1 * e.val = e.val; omega

theorem cover5 (i : S128x512.Idx) : ∃ t : Fin cfg0.N, (cfg0.win 5).flush t = true ∧ i ∈ ((cfg0.win 5).blk t).view.set := by
  have hN : cfg0.N = 1 := N_0
  have h0 : (i 0).val < 128 := (i 0).isLt
  have ht : (i 0).val / 128 < cfg0.N := by omega
  let t : Fin cfg0.N := ⟨(i 0).val / 128, ht⟩
  let r : Fin 128 := ⟨(i 0).val % 128, Nat.mod_lt _ (by decide)⟩
  let e : Fin 512 := ⟨(i 1).val, (i 1).isLt⟩
  have hi : i = (ix2 (row t r) e : S128x512.Idx) := by
    refine funext fun a => Fin.ext ?_
    match a with
    | ⟨0, _⟩ => show (i 0).val = (i 0).val / 128 * 128 + (i 0).val % 128; omega
    | ⟨1, _⟩ => rfl
  refine ⟨t, flush0_5 _, ?_⟩
  have h := ((cfg0.win 5).blk t).view.emb_mem_set (ix2 r e : S128x512.Idx)
  rw [emb5] at h
  exact hi ▸ h

theorem final5 (c : Dev nD) : (dats m 0 c).arrAt 5 cfg0.N = G5 m c := by
  refine (dats m 0 c).arrAt_eq_of_cover 5 (G5 m c) (fun t _ => ?_) cover5
  rw [Cert.Kernel4Ideal.Value.flushed5]
  funext y
  let r : Fin 128 := ⟨(y 0).val, (y 0).isLt⟩
  let e : Fin 512 := ⟨(y 1).val, (y 1).isLt⟩
  have he : 1024 + e.val < 3584 := by have := e.isLt; omega
  have hy : y = (ix2 r e : S128x512.Idx) := by
    funext a; match a with
    | ⟨0, _⟩ => rfl
    | ⟨1, _⟩ => rfl
  show out0_5 (iblk m c 0 t) (iblk m c 1 t) (iblk m c 2 t) y = G5 m c (((cfg0.win 5).blk t).view.emb y)
  refine (congrArg _ hy).trans ((out5_apply _ _ _ r e he).trans ((prj_blocks m c t r _).trans ?_))
  exact (congrArg (G5 m c) ((congrArg _ hy).trans (emb5 t r e))).symm

def G6 (c : Dev nD) : Vec Ideal S512x128 .bf16 := fun i =>
  proj m c ⟨(i 1).val, (i 1).isLt⟩ ⟨512 + (i 0).val, by have h : (i 0).val < 512 := (i 0).isLt; omega⟩

theorem emb6 (t : Fin cfg0.N) (r : Fin 128) (e : Fin 512) :
    ((cfg0.win 6).blk t).view.emb (ix2 e r : S512x128.Idx) = (ix2 e (row t r) : S512x128.Idx) := by
  obtain ⟨e0, e1⟩ := idx_row6 t
  refine funext fun a => Fin.ext ?_
  match a with
  | ⟨1, _⟩ => show win0_6.index t (1 : Fin 2) * 128 + 1 * r.val = t.val * 128 + r.val; omega
  | ⟨0, _⟩ => show win0_6.index t (0 : Fin 2) * 512 + 1 * e.val = e.val; omega

theorem cover6 (i : S512x128.Idx) : ∃ t : Fin cfg0.N, (cfg0.win 6).flush t = true ∧ i ∈ ((cfg0.win 6).blk t).view.set := by
  have hN : cfg0.N = 1 := N_0
  have h0 : (i 1).val < 128 := (i 1).isLt
  have ht : (i 1).val / 128 < cfg0.N := by omega
  let t : Fin cfg0.N := ⟨(i 1).val / 128, ht⟩
  let r : Fin 128 := ⟨(i 1).val % 128, Nat.mod_lt _ (by decide)⟩
  let e : Fin 512 := ⟨(i 0).val, (i 0).isLt⟩
  have hi : i = (ix2 e (row t r) : S512x128.Idx) := by
    refine funext fun a => Fin.ext ?_
    match a with
    | ⟨1, _⟩ => show (i 1).val = (i 1).val / 128 * 128 + (i 1).val % 128; omega
    | ⟨0, _⟩ => rfl
  refine ⟨t, flush0_6 _, ?_⟩
  have h := ((cfg0.win 6).blk t).view.emb_mem_set (ix2 e r : S512x128.Idx)
  rw [emb6] at h
  exact hi ▸ h

theorem final6 (c : Dev nD) : (dats m 0 c).arrAt 6 cfg0.N = G6 m c := by
  refine (dats m 0 c).arrAt_eq_of_cover 6 (G6 m c) (fun t _ => ?_) cover6
  rw [Cert.Kernel4Ideal.Value.flushed6]
  funext y
  let r : Fin 128 := ⟨(y 1).val, (y 1).isLt⟩
  let e : Fin 512 := ⟨(y 0).val, (y 0).isLt⟩
  have he : 512 + e.val < 3584 := by have := e.isLt; omega
  have hy : y = (ix2 e r : S512x128.Idx) := by
    funext a; match a with
    | ⟨0, _⟩ => rfl
    | ⟨1, _⟩ => rfl
  show out0_6 (iblk m c 0 t) (iblk m c 1 t) (iblk m c 2 t) y = G6 m c (((cfg0.win 6).blk t).view.emb y)
  refine (congrArg _ hy).trans ((out6_apply _ _ _ r e he).trans ((prj_blocks m c t r _).trans ?_))
  exact (congrArg (G6 m c) ((congrArg _ hy).trans (emb6 t r e))).symm

def G7 (c : Dev nD) : Vec Ideal S128x512 .bf16 := fun i =>
  proj m c ⟨(i 0).val, (i 0).isLt⟩ ⟨1024 + (i 1).val, by have h : (i 1).val < 512 := (i 1).isLt; omega⟩

theorem emb7 (t : Fin cfg0.N) (r : Fin 128) (e : Fin 512) :
    ((cfg0.win 7).blk t).view.emb (ix2 r e : S128x512.Idx) = (ix2 (row t r) e : S128x512.Idx) := by
  obtain ⟨e0, e1⟩ := idx_row7 t
  refine funext fun a => Fin.ext ?_
  match a with
  | ⟨0, _⟩ => show win0_7.index t (0 : Fin 2) * 128 + 1 * r.val = t.val * 128 + r.val; omega
  | ⟨1, _⟩ => show win0_7.index t (1 : Fin 2) * 512 + 1 * e.val = e.val; omega

theorem cover7 (i : S128x512.Idx) : ∃ t : Fin cfg0.N, (cfg0.win 7).flush t = true ∧ i ∈ ((cfg0.win 7).blk t).view.set := by
  have hN : cfg0.N = 1 := N_0
  have h0 : (i 0).val < 128 := (i 0).isLt
  have ht : (i 0).val / 128 < cfg0.N := by omega
  let t : Fin cfg0.N := ⟨(i 0).val / 128, ht⟩
  let r : Fin 128 := ⟨(i 0).val % 128, Nat.mod_lt _ (by decide)⟩
  let e : Fin 512 := ⟨(i 1).val, (i 1).isLt⟩
  have hi : i = (ix2 (row t r) e : S128x512.Idx) := by
    refine funext fun a => Fin.ext ?_
    match a with
    | ⟨0, _⟩ => show (i 0).val = (i 0).val / 128 * 128 + (i 0).val % 128; omega
    | ⟨1, _⟩ => rfl
  refine ⟨t, flush0_7 _, ?_⟩
  have h := ((cfg0.win 7).blk t).view.emb_mem_set (ix2 r e : S128x512.Idx)
  rw [emb7] at h
  exact hi ▸ h

theorem final7 (c : Dev nD) : (dats m 0 c).arrAt 7 cfg0.N = G7 m c := by
  refine (dats m 0 c).arrAt_eq_of_cover 7 (G7 m c) (fun t _ => ?_) cover7
  rw [Cert.Kernel4Ideal.Value.flushed7]
  funext y
  let r : Fin 128 := ⟨(y 0).val, (y 0).isLt⟩
  let e : Fin 512 := ⟨(y 1).val, (y 1).isLt⟩
  have he : 1024 + e.val < 3584 := by have := e.isLt; omega
  have hy : y = (ix2 r e : S128x512.Idx) := by
    funext a; match a with
    | ⟨0, _⟩ => rfl
    | ⟨1, _⟩ => rfl
  show out0_7 (iblk m c 0 t) (iblk m c 1 t) (iblk m c 2 t) y = G7 m c (((cfg0.win 7).blk t).view.emb y)
  refine (congrArg _ hy).trans ((out7_apply _ _ _ r e he).trans ((prj_blocks m c t r _).trans ?_))
  exact (congrArg (G7 m c) ((congrArg _ hy).trans (emb7 t r e))).symm

def G8 (c : Dev nD) : Vec Ideal S128x2048 .f32 := fun i =>
  proj m c ⟨(i 0).val, (i 0).isLt⟩ ⟨1536 + (i 1).val, by have h : (i 1).val < 2048 := (i 1).isLt; omega⟩

theorem emb8 (t : Fin cfg0.N) (r : Fin 128) (e : Fin 2048) :
    ((cfg0.win 8).blk t).view.emb (ix2 r e : S128x2048.Idx) = (ix2 (row t r) e : S128x2048.Idx) := by
  obtain ⟨e0, e1⟩ := idx_row8 t
  refine funext fun a => Fin.ext ?_
  match a with
  | ⟨0, _⟩ => show win0_8.index t (0 : Fin 2) * 128 + 1 * r.val = t.val * 128 + r.val; omega
  | ⟨1, _⟩ => show win0_8.index t (1 : Fin 2) * 2048 + 1 * e.val = e.val; omega

theorem cover8 (i : S128x2048.Idx) : ∃ t : Fin cfg0.N, (cfg0.win 8).flush t = true ∧ i ∈ ((cfg0.win 8).blk t).view.set := by
  have hN : cfg0.N = 1 := N_0
  have h0 : (i 0).val < 128 := (i 0).isLt
  have ht : (i 0).val / 128 < cfg0.N := by omega
  let t : Fin cfg0.N := ⟨(i 0).val / 128, ht⟩
  let r : Fin 128 := ⟨(i 0).val % 128, Nat.mod_lt _ (by decide)⟩
  let e : Fin 2048 := ⟨(i 1).val, (i 1).isLt⟩
  have hi : i = (ix2 (row t r) e : S128x2048.Idx) := by
    refine funext fun a => Fin.ext ?_
    match a with
    | ⟨0, _⟩ => show (i 0).val = (i 0).val / 128 * 128 + (i 0).val % 128; omega
    | ⟨1, _⟩ => rfl
  refine ⟨t, flush0_8 _, ?_⟩
  have h := ((cfg0.win 8).blk t).view.emb_mem_set (ix2 r e : S128x2048.Idx)
  rw [emb8] at h
  exact hi ▸ h

theorem final8 (c : Dev nD) : (dats m 0 c).arrAt 8 cfg0.N = G8 m c := by
  refine (dats m 0 c).arrAt_eq_of_cover 8 (G8 m c) (fun t _ => ?_) cover8
  rw [Cert.Kernel4Ideal.Value.flushed8]
  funext y
  let r : Fin 128 := ⟨(y 0).val, (y 0).isLt⟩
  let e : Fin 2048 := ⟨(y 1).val, (y 1).isLt⟩
  have he : 1536 + e.val < 3584 := by have := e.isLt; omega
  have hy : y = (ix2 r e : S128x2048.Idx) := by
    funext a; match a with
    | ⟨0, _⟩ => rfl
    | ⟨1, _⟩ => rfl
  show out0_8 (iblk m c 0 t) (iblk m c 1 t) (iblk m c 2 t) y = G8 m c (((cfg0.win 8).blk t).view.emb y)
  refine (congrArg _ hy).trans ((out8_apply _ _ _ r e he).trans ((prj_blocks m c t r _).trans ?_))
  exact (congrArg (G8 m c) ((congrArg _ hy).trans (emb8 t r e))).symm

end Kernel

section Reference
open Cert.Reference4Ideal Cert.Reference4Ideal.Gen

/-- The whole projection as the reference composes it. -/
def whole (x : FVec Ideal S128x1024 .f32) (g : FVec Ideal S1024 .f32) (w : FVec Ideal S1024x3584 .f32) : FVec Ideal S128x3584 .f32 :=
  Host.dotGeneral dot_S128x1024_S1024x3584_S128x3584_1_0_0_1_n_n none (mulf (mulf x (broadcastInDim S128x1024 ![0, 1] bcast_S128x1_S128x1024_0_1 (Host.rsqrt (addf (Host.divf (broadcastInDim S128x1 ![0] bcast_S128_S128x1_0 (Host.reduceAdd (mulf x x) (constant S_ .f32 0x00000000#32) reducesTo_S128x1024_S128_d1 h_S_)) (broadcastInDim S128x1 ![] bcast_S_S128x1 (constant S_ .f32 0x44800000#32))) (broadcastInDim S128x1 ![] bcast_S_S128x1 (constant S_ .f32 0x358637BD#32)))))) (broadcastInDim S128x1024 ![0, 1] bcast_S1x1024_S128x1024_0_1 (broadcastInDim S1x1024 ![1] bcast_S1024_S1x1024_1 g))) w

theorem whole_apply (x : FVec Ideal S128x1024 .f32) (g : FVec Ideal S1024 .f32) (w : FVec Ideal S1024x3584 .f32) (r : Fin 128) (e : Fin 3584) :
    whole x g w (ix2 r e) = prj (fun j => x (ix2 r j)) (fun j => g (ix1 j)) (fun j => w (ix2 j e)) := by
  pointwise [whole, prj, nrm]

/-! The reference's results at an index: columns of the whole projection. -/

variable (x : FVec Ideal S128x1024 .f32) (g : FVec Ideal S1024 .f32) (w : FVec Ideal S1024x3584 .f32)

theorem slice_apply (z : FVec Ideal S128x3584 .f32) {n : Nat} (o : Nat) (h : S128x3584.Slices ![0, o] (⟨2, ![128, n]⟩ : Shape))
    (r : Fin 128) (e : Fin n) (h' : o + e.val < 3584) : extractStridedSlice ⟨2, ![128, n]⟩ ![0, o] z h (ix2 r e) = z (ix2 r ⟨o + e.val, h'⟩) :=
  extractStridedSlice_apply _ _ _ _ _ fun a => match a with
    | ⟨0, _⟩ => by show r.val = 0 + r.val; omega
    | ⟨1, _⟩ => rfl

theorem transpose_slice_apply (z : FVec Ideal S128x512 .f32) (r : Fin 128) (e : Fin 512) :
    transpose S512x128 [1, 0] z transposes_S128x512_S512x128_1_0 (ix2 e r) = z (ix2 r e) := by
  pointwise

end Reference

/-! The kernel's arrays are the reference's. -/

section Both
open Cert.Kernel4Ideal (nD τ sig)
open Cert.Reference4Ideal Cert.Reference4Ideal.Gen

variable (m : (ℓ : Loc Cert.Kernel4Ideal.nD Cert.Kernel4Ideal.τ Cert.Kernel4Ideal.sig) → Buf (Elt Ideal) ℓ) (c : Dev Cert.Kernel4Ideal.nD)

theorem proj_eq (r : Fin 128) (e : Fin 3584) : proj m c r e = whole (argX m c) (argG m c) (argW m c) (ix2 r e) :=
  (whole_apply _ _ _ _ _).symm

theorem slice_eq {n : Nat} (o : Nat) (h : S128x3584.Slices ![0, o] (⟨2, ![128, n]⟩ : Shape)) (hn : o + n ≤ 3584) (i : (⟨2, ![128, n]⟩ : Shape).Idx) :
    extractStridedSlice ⟨2, ![128, n]⟩ ![0, o] (whole (argX m c) (argG m c) (argW m c)) h i
      = proj m c ⟨(i 0).val, (i 0).isLt⟩ ⟨o + (i 1).val, by have h : (i 1).val < n := (i 1).isLt; omega⟩ := by
  have hi : (i 1).val < n := (i 1).isLt
  rw [proj_eq]
  refine (congrArg _ (Cert.InProj.ix2_eta i).symm).trans (slice_apply _ o h _ _ (by show o + (i 1).val < 3584; omega))

theorem ref3 : truncf .bf16 (extractStridedSlice S128x512 ![0, 0] (whole (argX m c) (argG m c) (argW m c)) slices_S128x3584_S128x512_0_0) bitsLt_bf16_f32
    = G3 m c := funext fun i => slice_eq m c 0 slices_S128x3584_S128x512_0_0 (by decide) i
theorem ref4 : extractStridedSlice S128x512 ![0, 512] (whole (argX m c) (argG m c) (argW m c)) slices_S128x3584_S128x512_0_512
    = G4 m c := funext fun i => slice_eq m c 512 _ (by decide) i
theorem ref5 : extractStridedSlice S128x512 ![0, 1024] (whole (argX m c) (argG m c) (argW m c)) slices_S128x3584_S128x512_0_1024
    = G5 m c := funext fun i => slice_eq m c 1024 _ (by decide) i
theorem ref6 : truncf .bf16 (transpose S512x128 [1, 0] (extractStridedSlice S128x512 ![0, 512] (whole (argX m c) (argG m c) (argW m c)) slices_S128x3584_S128x512_0_512) transposes_S128x512_S512x128_1_0) bitsLt_bf16_f32
    = G6 m c := by
  rw [ref4]
  funext i
  exact (congrArg _ (Cert.InProj.ix2_eta i).symm).trans (transpose_slice_apply (G4 m c) ⟨(i 1).val, (i 1).isLt⟩ ⟨(i 0).val, (i 0).isLt⟩)
theorem ref7 : truncf .bf16 (extractStridedSlice S128x512 ![0, 1024] (whole (argX m c) (argG m c) (argW m c)) slices_S128x3584_S128x512_0_1024) bitsLt_bf16_f32
    = G7 m c := funext fun i => slice_eq m c 1024 slices_S128x3584_S128x512_0_1024 (by decide) i
theorem ref8 : extractStridedSlice S128x2048 ![0, 1536] (whole (argX m c) (argG m c) (argW m c)) slices_S128x3584_S128x2048_0_1536
    = G8 m c := funext fun i => slice_eq m c 1536 _ (by decide) i

end Both

end Cert.InProjS

end
-- ==== Proof.AttnState.lean ====
/- A buffer of four slabs: one slab read, one slab written, over whole contents. -/
module

public import Idealize.ShloMosaic.Lib.Pipeline
public import Idealize.ShloMosaic.Lib.Pointwise

@[expose] public section

noncomputable section

namespace Cert.Attn

open Idealize.ShloMosaic Idealize.ShloMosaic.TcCoe

/-- Four slabs. -/
abbrev Slabs : Shape := ⟨3, ![4, 128, 128]⟩
/-- One slab. -/
abbrev Slab : Shape := ⟨3, ![1, 128, 128]⟩

variable {α : Type}

/-- The place in a slab of a place in the buffer. -/
def inSlab (y : Slabs.Idx) : Slab.Idx := ix3 (n0 := 1) (n1 := 128) (n2 := 128) 0 (y 1) (y 2)

/-- The place in the buffer of a place in slab `a`. -/
def ofSlab (a : Fin 4) (x : Slab.Idx) : Slabs.Idx := ix3 (n0 := 4) (n1 := 128) (n2 := 128) a (x 1) (x 2)

theorem inSlab_of (a : Fin 4) (x : Slab.Idx) : inSlab (ofSlab a x) = x := by
  have h0 : (x 0).val < 1 := (x 0).isLt
  funext i
  match i with
  | ⟨0, _⟩ => exact Fin.ext (show 0 = (x 0).val by omega)
  | ⟨1, _⟩ => rfl
  | ⟨2, _⟩ => rfl

/-- Slab `a` of the contents. -/
def slab (a : Fin 4) (M : Slabs.Idx → α) : Slab.Idx → α := fun x => M (ofSlab a x)

/-- The contents with slab `a` replaced. -/
def setSlab (a : Fin 4) (P : Slab.Idx → α) (M : Slabs.Idx → α) : Slabs.Idx → α :=
  fun y => if (y 0).val = a.val then P (inSlab y) else M y

theorem slab_set (a : Fin 4) (P : Slab.Idx → α) (M : Slabs.Idx → α) : slab a (setSlab a P M) = P := by
  funext x
  unfold slab setSlab
  exact (if_pos (show a.val = a.val from rfl)).trans (congrArg P (inSlab_of a x))

theorem slab_set_ne {a b : Fin 4} (h : a.val ≠ b.val) (P : Slab.Idx → α) (M : Slabs.Idx → α) : slab a (setSlab b P M) = slab a M := by
  funext x
  unfold slab setSlab
  exact if_neg h

/-- All four slabs. -/
def allSlabs (P : Fin 4 → Slab.Idx → α) : Slabs.Idx → α := fun y => P (y 0) (inSlab y)

theorem slab_all (a : Fin 4) (P : Fin 4 → Slab.Idx → α) : slab a (allSlabs P) = P a := by
  funext x
  exact congrArg (P a) (inSlab_of a x)

theorem set_all (P : Fin 4 → Slab.Idx → α) (M : Slabs.Idx → α) :
    setSlab 3 (P 3) (setSlab 2 (P 2) (setSlab 1 (P 1) (setSlab 0 (P 0) M))) = allSlabs P := by
  funext y
  unfold setSlab allSlabs
  have h4 : ∀ a : Fin 4, a = 0 ∨ a = 1 ∨ a = 2 ∨ a = 3 := by decide
  rcases h4 (y 0) with h | h | h | h <;> rw [h] <;> simp

/-- Four slabs in order. -/
def sl4 (m0 m1 m2 m3 : Slab.Idx → α) : Slabs.Idx → α := allSlabs ![m0, m1, m2, m3]

theorem sl4_slabs (M : Slabs.Idx → α) : sl4 (slab 0 M) (slab 1 M) (slab 2 M) (slab 3 M) = M := by
  funext y
  unfold sl4 allSlabs
  have h4 : ∀ a : Fin 4, a = 0 ∨ a = 1 ∨ a = 2 ∨ a = 3 := by decide
  have e : ∀ a : Fin 4, y 0 = a → slab a M (inSlab y) = M y := by
    intro a ha
    unfold slab
    congr 1
    funext i
    match i with
    | ⟨0, _⟩ => exact ha.symm
    | ⟨1, _⟩ => rfl
    | ⟨2, _⟩ => rfl
  rcases h4 (y 0) with h | h | h | h <;> rw [h] <;> exact e _ h

theorem sl4_all (P : Fin 4 → Slab.Idx → α) : sl4 (P 0) (P 1) (P 2) (P 3) = allSlabs P := by
  funext y
  unfold sl4 allSlabs
  have h4 : ∀ a : Fin 4, a = 0 ∨ a = 1 ∨ a = 2 ∨ a = 3 := by decide
  rcases h4 (y 0) with h | h | h | h <;> rw [h] <;> rfl

theorem slab_sl4_0 (m0 m1 m2 m3 : Slab.Idx → α) : slab 0 (sl4 m0 m1 m2 m3) = m0 := slab_all 0 _
theorem slab_sl4_1 (m0 m1 m2 m3 : Slab.Idx → α) : slab 1 (sl4 m0 m1 m2 m3) = m1 := slab_all 1 _
theorem slab_sl4_2 (m0 m1 m2 m3 : Slab.Idx → α) : slab 2 (sl4 m0 m1 m2 m3) = m2 := slab_all 2 _
theorem slab_sl4_3 (m0 m1 m2 m3 : Slab.Idx → α) : slab 3 (sl4 m0 m1 m2 m3) = m3 := slab_all 3 _

theorem set_sl4_0 (P m0 m1 m2 m3 : Slab.Idx → α) : setSlab 0 P (sl4 m0 m1 m2 m3) = sl4 P m1 m2 m3 := by
  funext y
  unfold setSlab sl4 allSlabs
  have h4 : ∀ a : Fin 4, a = 0 ∨ a = 1 ∨ a = 2 ∨ a = 3 := by decide
  rcases h4 (y 0) with h | h | h | h <;> rw [h] <;> rfl
theorem set_sl4_1 (P m0 m1 m2 m3 : Slab.Idx → α) : setSlab 1 P (sl4 m0 m1 m2 m3) = sl4 m0 P m2 m3 := by
  funext y
  unfold setSlab sl4 allSlabs
  have h4 : ∀ a : Fin 4, a = 0 ∨ a = 1 ∨ a = 2 ∨ a = 3 := by decide
  rcases h4 (y 0) with h | h | h | h <;> rw [h] <;> rfl
theorem set_sl4_2 (P m0 m1 m2 m3 : Slab.Idx → α) : setSlab 2 P (sl4 m0 m1 m2 m3) = sl4 m0 m1 P m3 := by
  funext y
  unfold setSlab sl4 allSlabs
  have h4 : ∀ a : Fin 4, a = 0 ∨ a = 1 ∨ a = 2 ∨ a = 3 := by decide
  rcases h4 (y 0) with h | h | h | h <;> rw [h] <;> rfl
theorem set_sl4_3 (P m0 m1 m2 m3 : Slab.Idx → α) : setSlab 3 P (sl4 m0 m1 m2 m3) = sl4 m0 m1 m2 P := by
  funext y
  unfold setSlab sl4 allSlabs
  have h4 : ∀ a : Fin 4, a = 0 ∨ a = 1 ∨ a = 2 ∨ a = 3 := by decide
  rcases h4 (y 0) with h | h | h | h <;> rw [h] <;> rfl

variable {sig : RefSig} {κ : Kind} {sp : Space} {e : EltTy} {Val : EltTy → Type} {m : Memref sig κ sp Slabs e}

theorem unread_writes (h : m.IsWhole) (f : m.view.ty.Contents Val) (a : Fin 4) (off : Fin 3 → ℕ) (ho : off = ![a.val, 0, 0]) (inb)
    (P : Slab.Idx → Val e) (L : List (View.Piece Val Slabs e)) :
    m.view.writes Val f ((⟨Rect.unit (s := Slabs) off Slab.size inb, P⟩ : View.Piece Val Slabs e) :: L)
      = h.unread (setSlab a P (m.view.read Val (m.view.writes Val f L))) := by
  subst ho
  apply h.eq_unread
  funext y
  by_cases hy : (y 0).val = a.val
  · have hit := View.read_writes_cons_hit_of_coords m.view f (Rect.unit (s := Slabs) ![a.val, 0, 0] Slab.size inb) P L
      (inSlab y) y (by
        intro i
        match i with
        | ⟨0, _⟩ => show (y 0).val = a.val + 1 * 0; omega
        | ⟨1, _⟩ => show (y 1).val = 0 + 1 * (y 1).val; omega
        | ⟨2, _⟩ => show (y 2).val = 0 + 1 * (y 2).val; omega)
    rw [hit]
    unfold setSlab
    rw [if_pos hy]
  · have miss := View.read_writes_cons_miss_of_axis m.view f (⟨Rect.unit (s := Slabs) ![a.val, 0, 0] Slab.size inb, P⟩ : View.Piece Val Slabs e) L y 0 a.val 1 rfl rfl rfl (by
      omega)
    rw [miss]
    unfold setSlab
    rw [if_neg hy]

theorem unread_writes_whole (h : m.IsWhole) (f : m.view.ty.Contents Val) (inb) (P : Slabs.Idx → Val e) :
    m.view.writes Val f [(⟨Rect.unit (s := Slabs) ![0, 0, 0] Slabs.size inb, P⟩ : View.Piece Val Slabs e)] = h.unread P := by
  apply h.eq_unread
  funext y
  exact View.read_writes_cons_hit_of_coords m.view f (Rect.unit (s := Slabs) ![0, 0, 0] Slabs.size inb) P [] y y (by
    intro i
    match i with
    | ⟨0, _⟩ => show (y 0).val = 0 + 1 * (y 0).val; omega
    | ⟨1, _⟩ => show (y 1).val = 0 + 1 * (y 1).val; omega
    | ⟨2, _⟩ => show (y 2).val = 0 + 1 * (y 2).val; omega)

theorem readAt_slab (f : m.view.ty.Contents Val) (a : Fin 4) (off : Fin 3 → ℕ) (ho : off = ![a.val, 0, 0]) (inb) :
    m.view.readAt Val (Rect.unit (s := Slabs) off Slab.size inb).toLoadRect f = slab a (m.view.read Val f) := by
  subst ho
  funext x
  rw [View.readAt_apply]
  unfold slab
  congr 1
  funext i
  have h0 : (x 0).val < 1 := (x 0).isLt
  match i with
  | ⟨0, _⟩ => exact Fin.ext (show a.val + 1 * (x 0).val = a.val by omega)
  | ⟨1, _⟩ => exact Fin.ext (show 0 + 1 * (x 1).val = (x 1).val by omega)
  | ⟨2, _⟩ => exact Fin.ext (show 0 + 1 * (x 2).val = (x 2).val by omega)

theorem readAt_whole (f : m.view.ty.Contents Val) (inb) :
    m.view.readAt Val (Rect.unit (s := Slabs) ![0, 0, 0] Slabs.size inb).toLoadRect f = m.view.read Val f := by
  funext x
  rw [View.readAt_apply]
  congr 1
  funext i
  match i with
  | ⟨0, _⟩ => exact Fin.ext (show 0 + 1 * (x 0).val = (x 0).val by omega)
  | ⟨1, _⟩ => exact Fin.ext (show 0 + 1 * (x 1).val = (x 1).val by omega)
  | ⟨2, _⟩ => exact Fin.ext (show 0 + 1 * (x 2).val = (x 2).val by omega)

end Cert.Attn
-- ==== Proof.AttnRun.lean ====
/- One run of the attention's body, part by part, over whole contents. -/
module

public import proofs.«01_k».proof.Proof.Gen.Kernel3Ideal.Frame.Runs
public import proofs.«01_k».proof.Proof.AttnState

@[expose] public section

set_option maxRecDepth 16384

noncomputable section

namespace Cert.Kernel3Ideal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal.Gen Cert.Attn

variable {F : FTy → Type} [FloatOps F] [Named F]

local notation "𝕄" => MT nD τ sig Unit (Elt F) ℕ (UR sig nD τ) ℕ

/-- A lane number divided by `d`, rounded down, as the kernel computes it. -/
def laneDiv (d : BitVec 32) (v : IVec S128x128 32) : IVec S128x128 32 :=
  select (andi (cmpi .ne (subi (extui 32 (cmpi .sgt v (broadcast S128x128 0#32)) natLt_1_32) (extui 32 (cmpi .slt v (broadcast S128x128 0#32)) natLt_1_32))
        (broadcast S128x128 (Scalar.subi (Scalar.extui (Scalar.cmpi .sgt d 0#32)) (Scalar.extui (Scalar.cmpi .slt d 0#32)))))
      (cmpi .ne (remsi v (broadcast S128x128 d)) (broadcast S128x128 0#32)))
    (subi (divsi v (broadcast S128x128 d)) (broadcast S128x128 1#32)) (divsi v (broadcast S128x128 d))

/-- The lanes of group `n` of size `d`. -/
def laneIs (d n : BitVec 32) (v : IVec S128x128 32) : IVec S128x128 1 := cmpi .eq (laneDiv d v) (broadcast S128x128 n)

/-- The lane numbers. -/
def lanes : IVec S128x128 32 := iota .tc S128x128 32 [1] iota_S128x128_d1_w32

/-- The queries of one head's half, scaled, the other lanes zero. -/
def qMask (n : BitVec 32) (q : Vec F S128x128 .bf16) : FVec F S128x128 .bf16 :=
  truncf .bf16 (select (laneIs 32#32 n lanes) (k0_pay54 q) (broadcast S128x128 (Scalar.ofBits .f32 0x00000000#32))) bitsLt_bf16_f32

/-- The values of one head, the other head's lanes one. -/
def vAug (n : BitVec 32) (vv : Vec F S128x128 .bf16) : FVec F S128x128 .bf16 :=
  select (laneIs 64#32 n lanes) (shapeCast S128x128 vv shapeCasts_S128x128_S128x128) (broadcast S128x128 (Scalar.ofBits .bf16 0x3F80#16))

/-- The products of queries and keys. -/
def qk (q : FVec F S128x128 .bf16) (kt : Vec F S128x128 .bf16) : FVec F S128x128 .f32 :=
  matmul dot_S128x128_S128x128_S128x128_1_0_0_1_n_n none q (shapeCast S128x128 kt shapeCasts_S128x128_S128x128 : FVec F S128x128 .bf16) (constant S128x128 .f32 0x00000000#32)

def mNew (s : FVec F S128x128 .f32) (mo : Vec F S1x128x128 .f32) : FVec F S128x128 .f32 :=
  maximumf (shapeCast S128x128 mo shapeCasts_S1x128x128_S128x128)
    (broadcastTo S128x128 (shapeCast S128x1 (multiReduction .maximumf [1] S128 s 0xFF800000#32 reduces_S128x128_S128 (.inl rfl) rfl) shapeCasts_S128_S128x1) broadcasts_S128x1_S128x128)

/-- The running maxima after a block. -/
def stepM (s : FVec F S128x128 .f32) (mo : Vec F S1x128x128 .f32) : FVec F S1x128x128 .f32 :=
  shapeCast S1x128x128 (mNew s mo) shapeCasts_S128x128_S1x128x128

/-- The running sums after a block, as a plane. -/
def sA (s : FVec F S128x128 .f32) (va : FVec F S128x128 .bf16) (mo ao : Vec F S1x128x128 .f32) : FVec F S128x128 .f32 :=
  addf (mulf (shapeCast S128x128 ao shapeCasts_S1x128x128_S128x128) (exp2 (subf (shapeCast S128x128 mo shapeCasts_S1x128x128_S128x128) (mNew s mo))))
    (matmul dot_S128x128_S128x128_S128x128_1_0_0_1_n_n none (truncf .bf16 (exp2 (subf s (mNew s mo))) bitsLt_bf16_f32) va (constant S128x128 .f32 0x00000000#32))

/-- The running sums after a block. -/
def stepA (s : FVec F S128x128 .f32) (va : FVec F S128x128 .bf16) (mo ao : Vec F S1x128x128 .f32) : FVec F S1x128x128 .f32 :=
  shapeCast S1x128x128 (sA s va mo ao) shapeCasts_S128x128_S1x128x128

/-- A block of keys over the four running maxima. -/
def blkM (s : Fin 4 → FVec F S128x128 .f32) (M : Vec F S4x128x128 .f32) : Vec F S4x128x128 .f32 := allSlabs fun a => stepM (s a) (slab a M)

/-- A block of keys over the four running sums. -/
def blkA (s : Fin 4 → FVec F S128x128 .f32) (va : Fin 4 → FVec F S128x128 .bf16) (M A : Vec F S4x128x128 .f32) : Vec F S4x128x128 .f32 :=
  allSlabs fun a => stepA (s a) (va a) (slab a M) (slab a A)

/-- The sums' denominators: the lanes of the other head hold them. -/
def lrow (n : BitVec 32) (a : Vec F S1x128x128 .f32) : FVec F S128x128 .f32 :=
  broadcastTo S128x128 (shapeCast S128x1 (multiReduction .maximumf [1] S128 (select (laneIs 64#32 n lanes) (broadcast S128x128 (Scalar.ofBits .f32 0x00000000#32) : FVec F S128x128 .f32) (shapeCast S128x128 a shapeCasts_S1x128x128_S128x128 : FVec F S128x128 .f32)) 0xFF800000#32 reduces_S128x128_S128 (.inl rfl) rfl) shapeCasts_S128_S128x1) broadcasts_S128x1_S128x128

/-- One head's difference of the two attentions. -/
def headO (n : BitVec 32) (lam : F .f32) (a1 a2 : Vec F S1x128x128 .f32) : FVec F S128x128 .f32 :=
  subf (divf (shapeCast S128x128 a1 shapeCasts_S1x128x128_S128x128) (lrow n a1))
    (mulf (broadcast S128x128 lam) (divf (shapeCast S128x128 a2 shapeCasts_S1x128x128_S128x128) (lrow n a2)))

/-- Its root-mean-square norm over its lanes. -/
def headN (n : BitVec 32) (o : FVec F S128x128 .f32) : FVec F S128x128 .f32 :=
  mulf o (broadcastTo S128x128 (rsqrt (addf (mulf (shapeCast S128x1 (multiReduction .add [1] S128 (select (laneIs 64#32 n lanes) (mulf o o) (broadcast S128x128 (Scalar.ofBits .f32 0x00000000#32))) 0x00000000#32 reduces_S128x128_S128 (.inl rfl) rfl) shapeCasts_S128_S128x1)
    (broadcast S128x1 (Scalar.ofBits .f32 0x3C800000#32))) (broadcast S128x1 (Scalar.ofBits .f32 0x358637BD#32)))) broadcasts_S128x1_S128x128)

/-- The result's block from the four slabs of sums. -/
def outV (lam : F .f32) (g : Vec F S1x128 .f32) (a : Fin 4 → Vec F S1x128x128 .f32) : FVec F S128x128 .bf16 :=
  truncf .bf16 (mulf (select (laneIs 64#32 0#32 lanes) (headN 0#32 (headO 0#32 lam (a 0) (a 1))) (headN 1#32 (headO 1#32 lam (a 2) (a 3))))
    (broadcastTo S128x128 (shapeCast S1x128 g shapeCasts_S1x128_S1x128) broadcasts_S1x128_S128x128)) bitsLt_bf16_f32

variable (c : Dev nD) (i : grid0.Coords)
  (arg3 : Memref sig .tc .smem S1 .f32) (harg3 : arg3.IsWhole) (arg4 : Memref sig .tc .vmem S128x128 .bf16) (harg4 : arg4.IsWhole)
  (arg5 : Memref sig .tc .vmem S128x4096 .bf16) (harg5 : arg5.IsWhole) (arg6 : Memref sig .tc .vmem S4096x128 .bf16) (harg6 : arg6.IsWhole)
  (arg7 : Memref sig .tc .vmem S1x2x2x128x128 .f32) (harg7 : arg7.IsWhole) (arg8 : Memref sig .tc .vmem S1x128 .f32) (harg8 : arg8.IsWhole)
  (arg9 : Memref sig .tc .vmem S128x128 .bf16) (harg9 : arg9.IsWhole) (arg10 : Memref sig .tc .vmem S4x128x128 .f32) (harg10 : arg10.IsWhole)
  (arg11 : Memref sig .tc .vmem S4x128x128 .f32) (harg11 : arg11.IsWhole)

/-- A whole buffer held at the contents it reads. -/
abbrev At {sp : Space} {s : Shape} {e : EltTy} (c : Dev nD) {a : Memref sig .tc sp s e} (h : a.IsWhole) (X : s.Idx → Elt F e) : sProp 𝕄 :=
  (a.view.loc (c : Thread nD τ) ↦[a.view.set]{fullShare} h.unread X)

/-- A bias tile. -/
def tile (hh dp : Fin 2) (x : Vec F S1x2x2x128x128 .f32) : Vec F S1x1x1x128x128 .f32 := fun y => x (fun
  | ⟨0, _⟩ => (0 : Fin 1) | ⟨1, _⟩ => hh | ⟨2, _⟩ => dp | ⟨3, _⟩ => y 3 | ⟨4, _⟩ => y 4)

/-- The one place of a one-element array. -/
def o1 : S1.Idx := fun | ⟨0, _⟩ => (0 : Fin 1)

theorem eq_o1 (z : S1.Idx) : z = o1 := by
  funext d
  match d with
  | ⟨0, _⟩ => exact Fin.ext (by have : (z 0).val < 1 := (z 0).isLt; show (z 0).val = 0; omega)

theorem readAt_tile (hh dp : Fin 2) (off : Fin 5 → ℕ) (ho : off = ![0, hh.val, dp.val, 0, 0]) (inb) (f : arg7.view.ty.Contents (Elt F)) :
    arg7.view.readAt (Elt F) (Rect.unit (s := S1x2x2x128x128) off S1x1x1x128x128.size inb).toLoadRect f = tile hh dp (arg7.view.read (Elt F) f) := by
  subst ho
  funext x
  rw [View.readAt_apply]
  unfold tile
  congr 1
  funext i
  have h0 : (x 0).val < 1 := (x 0).isLt
  have h1 : (x 1).val < 1 := (x 1).isLt
  have h2 : (x 2).val < 1 := (x 2).isLt
  match i with
  | ⟨0, _⟩ => exact Fin.ext (show 0 + 1 * (x 0).val = 0 by omega)
  | ⟨1, _⟩ => exact Fin.ext (show hh.val + 1 * (x 1).val = hh.val by omega)
  | ⟨2, _⟩ => exact Fin.ext (show dp.val + 1 * (x 2).val = dp.val by omega)
  | ⟨3, _⟩ => exact Fin.ext (show 0 + 1 * (x 3).val = (x 3).val by omega)
  | ⟨4, _⟩ => exact Fin.ext (show 0 + 1 * (x 4).val = (x 4).val by omega)

/-- The columns of the transposed keys a block reads. -/
def ktAt (off : Fin 2 → ℕ) (inb : ∀ d : Fin 2, off d + S128x128.size d ≤ S128x4096.size d) (x : Vec F S128x4096 .bf16) : Vec F S128x128 .bf16 := View.ld x (Rect.unit (s := S128x4096) off ![128, 128] inb)

/-- The rows of the values a block reads. -/
def vAt (off : Fin 2 → ℕ) (inb : ∀ d : Fin 2, off d + S128x128.size d ≤ S4096x128.size d) (x : Vec F S4096x128 .bf16) : Vec F S128x128 .bf16 := View.ld x (Rect.unit (s := S4096x128) off ![128, 128] inb)

/-- The four masked queries. -/
def qs (q : Vec F S128x128 .bf16) (a : Fin 4) : FVec F S128x128 .bf16 := qMask (BitVec.ofNat 32 a.val) q

/-- The values a slab's sums take, with its ones. -/
def vs (vv : Vec F S128x128 .bf16) (a : Fin 4) : FVec F S128x128 .bf16 := vAug (BitVec.ofNat 32 (a.val / 2)) vv

theorem trip (q : Vec F S128x128 .bf16) (x2 : Vec F S128x4096 .bf16) (x3 : Vec F S4096x128 .bf16) (M A : Vec F S4x128x128 .f32) (E : Set ℕ)
    (arg2 : BitVec 32) (v127 : FVec F S4x128x128 .f32) (v128 : Vec F S4x128x128 .f32) (k : Fin (k0_t1_loop i).trips) (K : _ → sProp 𝕄) :
    iprop(At c harg5 x2 ∗ At c harg6 x3 ∗ At c harg10 M ∗ At c harg11 A
      ∗ (iprop(At c harg5 x2 ∗ At c harg6 x3
            ∗ At c harg10 (blkM (fun a => qk (qs q a) (ktAt (k0_off1 i k) (k0_off1_inb i k) x2)) M)
            ∗ At c harg11 (blkA (fun a => qk (qs q a) (ktAt (k0_off1 i k) (k0_off1_inb i k) x2)) (vs (vAt (k0_off2 i k) (k0_off2_inb i k) x3)) M A))
          -∗ K ⟨⟩))
    ⊢ wp frame (wpE (defs₀ (F := F)) Variants.none c none) E
        (k0_t1_body i arg3 harg3 arg4 harg4 arg5 harg5 arg6 harg6 arg7 harg7 arg8 harg8 arg9 harg9 arg10 harg10 arg11 harg11 arg2 lanes (qs q 0) (qs q 1) (qs q 2) (qs q 3) v127 v128 k ()) K := by
  unfold k0_t1_body
  iintro ⟨H5, H6, H10, H11, Hk⟩
  sl_exec
  sl_step
  sl_unfold_run_names
  simp only [unread_writes harg10 _ 3 ![3, 0, 0] rfl, unread_writes harg10 _ 2 ![2, 0, 0] rfl, unread_writes harg10 _ 1 ![1, 0, 0] rfl, unread_writes harg10 _ 0 ![0, 0, 0] rfl,
    unread_writes harg11 _ 3 ![3, 0, 0] rfl, unread_writes harg11 _ 2 ![2, 0, 0] rfl, unread_writes harg11 _ 1 ![1, 0, 0] rfl, unread_writes harg11 _ 0 ![0, 0, 0] rfl,
    readAt_slab _ 3 ![3, 0, 0] rfl, readAt_slab _ 2 ![2, 0, 0] rfl, readAt_slab _ 1 ![1, 0, 0] rfl, readAt_slab _ 0 ![0, 0, 0] rfl,
    View.writes_nil, Memref.IsWhole.read_unread]
  simp only [View.readAt_eq_ld, Memref.IsWhole.read_unread]
  iapply Hk
  unfold blkM blkA
  rw [← set_all _ M, ← set_all _ A]
  isplitl [H5]
  · iexact H5
  isplitl [H6]
  · iexact H6
  isplitl [H10]
  · iexact H10
  · iexact H11

/-- The scores of a far block. -/
def farS (q : Vec F S128x128 .bf16) (x2 : Vec F S128x4096 .bf16) (k : Fin (k0_t1_loop i).trips) (a : Fin 4) : FVec F S128x128 .f32 :=
  qk (qs q a) (ktAt (k0_off1 i k) (k0_off1_inb i k) x2)

/-- The running maxima and sums after the first far blocks. -/
def far (q : Vec F S128x128 .bf16) (x2 : Vec F S128x4096 .bf16) (x3 : Vec F S4096x128 .bf16) : ℕ → Vec F S4x128x128 .f32 × Vec F S4x128x128 .f32
  | 0 => (k0_pay63, k0_pay65 k0_pay64)
  | n + 1 =>
    let p := far q x2 x3 n
    if h : n < (k0_t1_loop i).trips then (blkM (farS i q x2 ⟨n, h⟩) p.1, blkA (farS i q x2 ⟨n, h⟩) (vs (vAt (k0_off2 i ⟨n, h⟩) (k0_off2_inb i ⟨n, h⟩) x3)) p.1 p.2) else p

/-- The bias tile's head of a slab. -/
def hd (a : Fin 4) : Fin 2 := ⟨a.val / 2, by omega⟩

/-- The scores of the block before the diagonal. -/
def prevS (q : Vec F S128x128 .bf16) (x2 : Vec F S128x4096 .bf16) (x4 : Vec F S1x2x2x128x128 .f32) (a : Fin 4) : FVec F S128x128 .f32 :=
  addf (qk (qs q a) (ktAt (k0_off5 i) (k0_off5_inb i) x2)) (addf (shapeCast S128x128 (tile (hd a) 1 x4) shapeCasts_S1x1x1x128x128_S128x128) (broadcast S128x128 (k0_pay68 (BitVec.ofNat 32 (i 2).val))))

/-- The scores of the diagonal block. -/
def diagS (q : Vec F S128x128 .bf16) (x2 : Vec F S128x4096 .bf16) (x4 : Vec F S1x2x2x128x128 .f32) (a : Fin 4) : FVec F S128x128 .f32 :=
  addf (qk (qs q a) (ktAt (k0_off7 i) (k0_off7_inb i) x2)) (shapeCast S128x128 (tile (hd a) 0 x4) shapeCasts_S1x1x1x128x128_S128x128)

/-- The running maxima after the far blocks and the block before the diagonal. -/
def m1 (q : Vec F S128x128 .bf16) (x2 : Vec F S128x4096 .bf16) (x3 : Vec F S4096x128 .bf16) (x4 : Vec F S1x2x2x128x128 .f32) (a : Fin 4) : Vec F S1x128x128 .f32 :=
  stepM (prevS i q x2 x4 a) (slab a (far i q x2 x3 (k0_t1_loop i).trips).1)

/-- The running sums there. -/
def a1 (q : Vec F S128x128 .bf16) (x2 : Vec F S128x4096 .bf16) (x3 : Vec F S4096x128 .bf16) (x4 : Vec F S1x2x2x128x128 .f32) (a : Fin 4) : Vec F S1x128x128 .f32 :=
  stepA (prevS i q x2 x4 a) (vs (vAt (k0_off6 i) (k0_off6_inb i) x3) a) (slab a (far i q x2 x3 (k0_t1_loop i).trips).1) (slab a (far i q x2 x3 (k0_t1_loop i).trips).2)

/-- The running maxima after the diagonal block. -/
def m2 (q : Vec F S128x128 .bf16) (x2 : Vec F S128x4096 .bf16) (x3 : Vec F S4096x128 .bf16) (x4 : Vec F S1x2x2x128x128 .f32) (a : Fin 4) : Vec F S1x128x128 .f32 :=
  stepM (diagS i q x2 x4 a) (m1 i q x2 x3 x4 a)

/-- The sums after the diagonal block. -/
def a2 (q : Vec F S128x128 .bf16) (x2 : Vec F S128x4096 .bf16) (x3 : Vec F S4096x128 .bf16) (x4 : Vec F S1x2x2x128x128 .f32) (a : Fin 4) : Vec F S1x128x128 .f32 :=
  stepA (diagS i q x2 x4 a) (vs (vAt (k0_off8 i) (k0_off8_inb i) x3) a) (m1 i q x2 x3 x4 a) (a1 i q x2 x3 x4 a)

theorem trips2 (i : grid0.Coords) : (k0_t2_loop i).trips = 0 := by
  have h : ∀ n : Fin 32, (let v133 : BitVec 32 := Scalar.subi (Scalar.maxsi (Scalar.subi (BitVec.ofNat 32 n.val) 1#32) 0#32) 0#32
      let v137 : BitVec 32 := Scalar.addi 0#32 (Scalar.muli (Scalar.divsi v133 1#32) 1#32)
      (⟨v137, Scalar.addi 0#32 v133, 1#32⟩ : Scf.Loop 32)).trips = 0 := by decide +kernel
  exact h (i 2)

theorem hz2 : (![0, 0] : Fin 2 → ℕ) = fun _ => 0 := by
  funext d
  match d with
  | ⟨0, _⟩ => rfl
  | ⟨1, _⟩ => rfl

theorem part9 (q : Vec F S128x128 .bf16) (E : Set ℕ) (K : _ → sProp 𝕄) :
    iprop(At c harg4 q ∗ (At c harg4 q -∗ K ⟨BitVec.ofNat 32 (i 2).val, lanes, lanes, k0_pay54 q, qs q 0, 32#32, k0_pay56, k0_pay57, k0_pay58⟩))
    ⊢ wp frame (wpE (defs₀ (F := F)) Variants.none c none) E
        (k0_part9 i arg3 harg3 arg4 harg4 arg5 harg5 arg6 harg6 arg7 harg7 arg8 harg8 arg9 harg9 arg10 harg10 arg11 harg11) K := by
  rw [k0_part9_eq_skeleton]
  unfold k0_part9_skel
  iintro ⟨H4, Hk⟩
  sl_exec
  sl_step
  have e : View.readAt (Elt F) arg4.view (Rect.unit (s := S128x128) ![0, 0] S128x128.size inb_S128x128_S128x128_0_0).toLoadRect (harg4.unread q) = q := by
    rw [View.readAt_eq_ld, harg4.read_unread]
    exact View.ld_unit_zero (S := S128x128) hz2 _ _
  sl_unfold_run_names
  rw [e, show k0_pay55 q = qs q 0 from rfl, show iota .tc S128x128 32 [1] iota_S128x128_d1_w32 = lanes from rfl]
  iapply Hk
  iexact H4

theorem part10 (q : Vec F S128x128 .bf16) (E : Set ℕ) (K : _ → sProp 𝕄) :
    K ⟨qs q 1, k0_pay60 lanes⟩
    ⊢ wp frame (wpE (defs₀ (F := F)) Variants.none c none) E
        (k0_part10 i arg3 harg3 arg4 harg4 arg5 harg5 arg6 harg6 arg7 harg7 arg8 harg8 arg9 harg9 arg10 harg10 arg11 harg11 lanes (k0_pay54 q) 32#32 k0_pay56 k0_pay57 k0_pay58) K := by
  rw [k0_part10_eq_skeleton]
  unfold k0_part10_skel
  iintro Hk
  sl_exec
  sl_step
  rw [show k0_pay59 lanes (k0_pay54 q) (32#32) k0_pay56 k0_pay57 k0_pay58 = qs q 1 from rfl]
  iexact Hk

theorem part11 (q : Vec F S128x128 .bf16) (M A : Vec F S4x128x128 .f32) (E : Set ℕ) (K : _ → sProp 𝕄) :
    iprop(At c harg10 M ∗ At c harg11 A ∗ (iprop(At c harg10 k0_pay63 ∗ At c harg11 A) -∗ K ⟨qs q 2, qs q 3, k0_pay64, A⟩))
    ⊢ wp frame (wpE (defs₀ (F := F)) Variants.none c none) E
        (k0_part11 i arg3 harg3 arg4 harg4 arg5 harg5 arg6 harg6 arg7 harg7 arg8 harg8 arg9 harg9 arg10 harg10 arg11 harg11 lanes (k0_pay54 q) (k0_pay60 lanes)) K := by
  rw [k0_part11_eq_skeleton]
  unfold k0_part11_skel
  iintro ⟨H10, H11, Hk⟩
  sl_exec
  sl_step
  sl_unfold_run_names
  rw [unread_writes_whole harg10 _ _ _, readAt_whole, harg11.read_unread, show k0_pay61 (k0_pay54 q) (k0_pay60 lanes) = qs q 2 from rfl,
    show k0_pay62 lanes (k0_pay54 q) = qs q 3 from rfl]
  iapply Hk
  isplitl [H10]
  · iexact H10
  · iexact H11

theorem storeAll (A P : Vec F S4x128x128 .f32) (E : Set ℕ) (h1) (h2) (K : _ → sProp 𝕄) :
    iprop(At c harg11 A ∗ (At c harg11 P -∗ K ⟨⟩))
    ⊢ wp frame (wpE (defs₀ (F := F)) Variants.none c none) E
        (Prog.lift (.store arg11 (Rect.unit (s := S4x128x128) ![0, 0, 0] S4x128x128.size inb_S4x128x128_S4x128x128_0_0_0) P Finset.univ h1 h2)) K := by
  iintro ⟨H11, Hk⟩
  sl_exec
  sl_step
  sl_unfold_run_names
  rw [unread_writes_whole harg11 _ _ _]
  iapply Hk
  iexact H11

theorem loops (q : Vec F S128x128 .bf16) (x2 : Vec F S128x4096 .bf16) (x3 : Vec F S4096x128 .bf16) (M A : Vec F S4x128x128 .f32) (E : Set ℕ)
    (v128 : Vec F S4x128x128 .f32) (K : _ → sProp 𝕄) :
    iprop(At c harg5 x2 ∗ At c harg6 x3 ∗ At c harg10 (far i q x2 x3 0).1 ∗ At c harg11 A
      ∗ (iprop(At c harg5 x2 ∗ At c harg6 x3 ∗ At c harg10 (far i q x2 x3 (k0_t1_loop i).trips).1 ∗ At c harg11 (far i q x2 x3 (k0_t1_loop i).trips).2)
          -∗ K ⟨k0_pay68 (BitVec.ofNat 32 (i 2).val), k0_pay69 (ktAt (k0_off5 i) (k0_off5_inb i) x2), k0_pay70 (vAt (k0_off6 i) (k0_off6_inb i) x3), 64#32, k0_pay71 lanes, k0_pay72 lanes⟩))
    ⊢ wp frame (wpE (defs₀ (F := F)) Variants.none c none) E
        (k0_part12 i arg3 harg3 arg4 harg4 arg5 harg5 arg6 harg6 arg7 harg7 arg8 harg8 arg9 harg9 arg10 harg10 arg11 harg11 (BitVec.ofNat 32 (i 2).val) lanes (qs q 0) (qs q 1) (qs q 2) (qs q 3) k0_pay64 v128) K := by
  rw [k0_part12_eq_skeleton]
  unfold k0_part12_skel
  simp only [wp_bind]
  iintro ⟨H5, H6, H10, H11, Hk⟩
  iapply (storeAll c (arg11 := arg11) (harg11 := harg11))
  isplitl [H11]
  · iexact H11
  iintro H11
  iapply (Scf.wp_for frame (wpE (defs₀ (F := F)) Variants.none c none) E (k0_t1_loop i).lb (k0_t1_loop i).ub (k0_t1_loop i).st (k0_t1_ok i) _ _
    (fun n _ => iprop(At c harg5 x2 ∗ At c harg6 x3 ∗ At c harg10 (far i q x2 x3 n).1 ∗ At c harg11 (far i q x2 x3 n).2))
    (fun k acc => by
      iintro ⟨H5, H6, H10, H11⟩
      iapply (trip c i (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) q x2 x3 (far i q x2 x3 k.val).1 (far i q x2 x3 k.val).2)
      isplitl [H5]
      · iexact H5
      isplitl [H6]
      · iexact H6
      isplitl [H10]
      · iexact H10
      isplitl [H11]
      · iexact H11
      have e : far i q x2 x3 (k.val + 1) = (blkM (farS i q x2 k) (far i q x2 x3 k.val).1, blkA (farS i q x2 k) (vs (vAt (k0_off2 i k) (k0_off2_inb i k) x3)) (far i q x2 x3 k.val).1 (far i q x2 x3 k.val).2) := dif_pos k.isLt
      rw [e]
      iintro H
      iexact H))
  isplitl [H5 H6 H10 H11]
  · isplitl [H5]
    · iexact H5
    isplitl [H6]
    · iexact H6
    isplitl [H10]
    · iexact H10
    · iexact H11
  iintro %acc ⟨H5, H6, H10, H11⟩
  iapply (Scf.wp_for frame (wpE (defs₀ (F := F)) Variants.none c none) E (k0_t2_loop i).lb (k0_t2_loop i).ub (k0_t2_loop i).st (k0_t2_ok i) _ _
    (fun n _ => iprop(At c harg5 x2 ∗ At c harg6 x3 ∗ At c harg10 (far i q x2 x3 (k0_t1_loop i).trips).1 ∗ At c harg11 (far i q x2 x3 (k0_t1_loop i).trips).2))
    (fun k acc => (Nat.not_lt_zero _ (lt_of_lt_of_eq k.isLt (trips2 i))).elim))
  isplitl [H5 H6 H10 H11]
  · isplitl [H5]
    · iexact H5
    isplitl [H6]
    · iexact H6
    isplitl [H10]
    · iexact H10
    · iexact H11
  iintro %acc2 ⟨H5, H6, H10, H11⟩
  simp only [← wp_bind]
  sl_exec
  sl_step
  sl_unfold_run_names
  simp only [View.readAt_eq_ld, Memref.IsWhole.read_unread]
  unfold ktAt vAt
  iapply Hk
  isplitl [H5]
  · iexact H5
  isplitl [H6]
  · iexact H6
  isplitl [H10]
  · iexact H10
  · iexact H11

theorem part13 (x0 : Vec F S1 .f32) (q : Vec F S128x128 .bf16) (x2 : Vec F S128x4096 .bf16) (x3 : Vec F S4096x128 .bf16) (x4 : Vec F S1x2x2x128x128 .f32) (m0 m1 m2 m3 a0 a1 a2 a3 : Vec F S1x128x128 .f32) (E : Set ℕ) (K : _ → sProp 𝕄) :
    iprop(At c harg7 x4 ∗ At c harg10 (sl4 m0 m1 m2 m3) ∗ At c harg11 (sl4 a0 a1 a2 a3) ∗ (iprop(At c harg7 x4 ∗ At c harg10 (sl4 m0 m1 m2 m3) ∗ At c harg11 (sl4 (stepA (prevS i q x2 x4 0) (vs (vAt (k0_off6 i) (k0_off6_inb i) x3) 0) m0 a0) a1 a2 a3)) -∗ K ⟨vs (vAt (k0_off6 i) (k0_off6_inb i) x3) 0, mNew (prevS i q x2 x4 0) m0⟩))
    ⊢ wp frame (wpE (defs₀ (F := F)) Variants.none c none) E (k0_part13 i arg3 harg3 arg4 harg4 arg5 harg5 arg6 harg6 arg7 harg7 arg8 harg8 arg9 harg9 arg10 harg10 arg11 harg11 lanes (qs q 0) (k0_pay68 (BitVec.ofNat 32 (i 2).val)) (k0_pay69 (ktAt (k0_off5 i) (k0_off5_inb i) x2)) (k0_pay70 (vAt (k0_off6 i) (k0_off6_inb i) x3)) 64#32 (k0_pay71 lanes) (k0_pay72 lanes)) K := by
  rw [k0_part13_eq_skeleton]
  unfold k0_part13_skel
  iintro ⟨H7, H10, H11, Hk⟩
  sl_exec
  sl_step
  sl_unfold_run_names
  simp only [unread_writes harg10 _ 3 ![3, 0, 0] rfl, unread_writes harg10 _ 2 ![2, 0, 0] rfl, unread_writes harg10 _ 1 ![1, 0, 0] rfl, unread_writes harg10 _ 0 ![0, 0, 0] rfl,
    unread_writes harg11 _ 3 ![3, 0, 0] rfl, unread_writes harg11 _ 2 ![2, 0, 0] rfl, unread_writes harg11 _ 1 ![1, 0, 0] rfl, unread_writes harg11 _ 0 ![0, 0, 0] rfl,
    readAt_slab _ 3 ![3, 0, 0] rfl, readAt_slab _ 2 ![2, 0, 0] rfl, readAt_slab _ 1 ![1, 0, 0] rfl, readAt_slab _ 0 ![0, 0, 0] rfl,
    readAt_tile arg7 0 0 ![0, 0, 0, 0, 0] rfl, readAt_tile arg7 0 1 ![0, 0, 1, 0, 0] rfl, readAt_tile arg7 1 0 ![0, 1, 0, 0, 0] rfl, readAt_tile arg7 1 1 ![0, 1, 1, 0, 0] rfl,
    slab_sl4_0, slab_sl4_1, slab_sl4_2, slab_sl4_3, set_sl4_0, set_sl4_1, set_sl4_2, set_sl4_3,
    View.writes_nil, Memref.IsWhole.read_unread]
  show Entails' _ (K ⟨vs (vAt (k0_off6 i) (k0_off6_inb i) x3) 0, mNew (prevS i q x2 x4 0) m0⟩)
  iapply Hk
  isplitl [H7]
  · iexact H7
  isplitl [H10]
  · iexact H10
  iexact H11

theorem part14 (x0 : Vec F S1 .f32) (q : Vec F S128x128 .bf16) (x2 : Vec F S128x4096 .bf16) (x3 : Vec F S4096x128 .bf16) (x4 : Vec F S1x2x2x128x128 .f32) (m0 m1 m2 m3 a0 a1 a2 a3 : Vec F S1x128x128 .f32) (E : Set ℕ) (K : _ → sProp 𝕄) :
    iprop(At c harg7 x4 ∗ At c harg10 (sl4 m0 m1 m2 m3) ∗ At c harg11 (sl4 a0 a1 a2 a3) ∗ (iprop(At c harg7 x4 ∗ At c harg10 (sl4 (stepM (prevS i q x2 x4 0) m0) (stepM (prevS i q x2 x4 1) m1) m2 m3) ∗ At c harg11 (sl4 a0 (stepA (prevS i q x2 x4 1) (vs (vAt (k0_off6 i) (k0_off6_inb i) x3) 1) m1 a1) a2 a3)) -∗ K ⟨64#32, k0_pay84 lanes, 0#32⟩))
    ⊢ wp frame (wpE (defs₀ (F := F)) Variants.none c none) E (k0_part14 i arg3 harg3 arg4 harg4 arg5 harg5 arg6 harg6 arg7 harg7 arg8 harg8 arg9 harg9 arg10 harg10 arg11 harg11 lanes (qs q 1) (k0_pay68 (BitVec.ofNat 32 (i 2).val)) (k0_pay69 (ktAt (k0_off5 i) (k0_off5_inb i) x2)) (vs (vAt (k0_off6 i) (k0_off6_inb i) x3) 0) (mNew (prevS i q x2 x4 0) m0)) K := by
  rw [k0_part14_eq_skeleton]
  unfold k0_part14_skel
  iintro ⟨H7, H10, H11, Hk⟩
  sl_exec
  sl_step
  sl_unfold_run_names
  simp only [unread_writes harg10 _ 3 ![3, 0, 0] rfl, unread_writes harg10 _ 2 ![2, 0, 0] rfl, unread_writes harg10 _ 1 ![1, 0, 0] rfl, unread_writes harg10 _ 0 ![0, 0, 0] rfl,
    unread_writes harg11 _ 3 ![3, 0, 0] rfl, unread_writes harg11 _ 2 ![2, 0, 0] rfl, unread_writes harg11 _ 1 ![1, 0, 0] rfl, unread_writes harg11 _ 0 ![0, 0, 0] rfl,
    readAt_slab _ 3 ![3, 0, 0] rfl, readAt_slab _ 2 ![2, 0, 0] rfl, readAt_slab _ 1 ![1, 0, 0] rfl, readAt_slab _ 0 ![0, 0, 0] rfl,
    readAt_tile arg7 0 0 ![0, 0, 0, 0, 0] rfl, readAt_tile arg7 0 1 ![0, 0, 1, 0, 0] rfl, readAt_tile arg7 1 0 ![0, 1, 0, 0, 0] rfl, readAt_tile arg7 1 1 ![0, 1, 1, 0, 0] rfl,
    slab_sl4_0, slab_sl4_1, slab_sl4_2, slab_sl4_3, set_sl4_0, set_sl4_1, set_sl4_2, set_sl4_3,
    View.writes_nil, Memref.IsWhole.read_unread]
  show Entails' _ (K ⟨64#32, k0_pay84 lanes, 0#32⟩)
  iapply Hk
  isplitl [H7]
  · iexact H7
  isplitl [H10]
  · iexact H10
  iexact H11

theorem part15 (x0 : Vec F S1 .f32) (q : Vec F S128x128 .bf16) (x2 : Vec F S128x4096 .bf16) (x3 : Vec F S4096x128 .bf16) (x4 : Vec F S1x2x2x128x128 .f32) (m0 m1 m2 m3 a0 a1 a2 a3 : Vec F S1x128x128 .f32) (E : Set ℕ) (K : _ → sProp 𝕄) :
    iprop(At c harg7 x4 ∗ At c harg10 (sl4 m0 m1 m2 m3) ∗ At c harg11 (sl4 a0 a1 a2 a3) ∗ (iprop(At c harg7 x4 ∗ At c harg10 (sl4 m0 m1 m2 m3) ∗ At c harg11 (sl4 a0 a1 a2 a3)) -∗ K ⟨vs (vAt (k0_off6 i) (k0_off6_inb i) x3) 2, mNew (prevS i q x2 x4 2) m2, exp2 (subf (prevS i q x2 x4 2) (mNew (prevS i q x2 x4 2) m2)), exp2 (subf (shapeCast S128x128 m2 shapeCasts_S1x128x128_S128x128) (mNew (prevS i q x2 x4 2) m2))⟩))
    ⊢ wp frame (wpE (defs₀ (F := F)) Variants.none c none) E (k0_part15 i arg3 harg3 arg4 harg4 arg5 harg5 arg6 harg6 arg7 harg7 arg8 harg8 arg9 harg9 arg10 harg10 arg11 harg11 lanes (qs q 2) (k0_pay68 (BitVec.ofNat 32 (i 2).val)) (k0_pay69 (ktAt (k0_off5 i) (k0_off5_inb i) x2)) (k0_pay70 (vAt (k0_off6 i) (k0_off6_inb i) x3)) 64#32 (k0_pay84 lanes) 0#32) K := by
  rw [k0_part15_eq_skeleton]
  unfold k0_part15_skel
  iintro ⟨H7, H10, H11, Hk⟩
  sl_exec
  sl_step
  sl_unfold_run_names
  simp only [unread_writes harg10 _ 3 ![3, 0, 0] rfl, unread_writes harg10 _ 2 ![2, 0, 0] rfl, unread_writes harg10 _ 1 ![1, 0, 0] rfl, unread_writes harg10 _ 0 ![0, 0, 0] rfl,
    unread_writes harg11 _ 3 ![3, 0, 0] rfl, unread_writes harg11 _ 2 ![2, 0, 0] rfl, unread_writes harg11 _ 1 ![1, 0, 0] rfl, unread_writes harg11 _ 0 ![0, 0, 0] rfl,
    readAt_slab _ 3 ![3, 0, 0] rfl, readAt_slab _ 2 ![2, 0, 0] rfl, readAt_slab _ 1 ![1, 0, 0] rfl, readAt_slab _ 0 ![0, 0, 0] rfl,
    readAt_tile arg7 0 0 ![0, 0, 0, 0, 0] rfl, readAt_tile arg7 0 1 ![0, 0, 1, 0, 0] rfl, readAt_tile arg7 1 0 ![0, 1, 0, 0, 0] rfl, readAt_tile arg7 1 1 ![0, 1, 1, 0, 0] rfl,
    slab_sl4_0, slab_sl4_1, slab_sl4_2, slab_sl4_3, set_sl4_0, set_sl4_1, set_sl4_2, set_sl4_3,
    View.writes_nil, Memref.IsWhole.read_unread]
  show Entails' _ (K ⟨vs (vAt (k0_off6 i) (k0_off6_inb i) x3) 2, mNew (prevS i q x2 x4 2) m2, exp2 (subf (prevS i q x2 x4 2) (mNew (prevS i q x2 x4 2) m2)), exp2 (subf (shapeCast S128x128 m2 shapeCasts_S1x128x128_S128x128) (mNew (prevS i q x2 x4 2) m2))⟩)
  iapply Hk
  isplitl [H7]
  · iexact H7
  isplitl [H10]
  · iexact H10
  iexact H11

theorem part16 (x0 : Vec F S1 .f32) (q : Vec F S128x128 .bf16) (x2 : Vec F S128x4096 .bf16) (x3 : Vec F S4096x128 .bf16) (x4 : Vec F S1x2x2x128x128 .f32) (m0 m1 m2 m3 a0 a1 a2 a3 : Vec F S1x128x128 .f32) (E : Set ℕ) (K : _ → sProp 𝕄) :
    iprop(At c harg7 x4 ∗ At c harg10 (sl4 m0 m1 m2 m3) ∗ At c harg11 (sl4 a0 a1 a2 a3) ∗ (iprop(At c harg7 x4 ∗ At c harg10 (sl4 m0 m1 (stepM (prevS i q x2 x4 2) m2) m3) ∗ At c harg11 (sl4 a0 a1 (stepA (prevS i q x2 x4 2) (vs (vAt (k0_off6 i) (k0_off6_inb i) x3) 2) m2 a2) a3)) -∗ K ⟨mNew (prevS i q x2 x4 3) m3, sA (prevS i q x2 x4 3) (vs (vAt (k0_off6 i) (k0_off6_inb i) x3) 3) m3 a3⟩))
    ⊢ wp frame (wpE (defs₀ (F := F)) Variants.none c none) E (k0_part16 i arg3 harg3 arg4 harg4 arg5 harg5 arg6 harg6 arg7 harg7 arg8 harg8 arg9 harg9 arg10 harg10 arg11 harg11 (qs q 3) (k0_pay68 (BitVec.ofNat 32 (i 2).val)) (k0_pay69 (ktAt (k0_off5 i) (k0_off5_inb i) x2)) (vs (vAt (k0_off6 i) (k0_off6_inb i) x3) 2) (mNew (prevS i q x2 x4 2) m2) (exp2 (subf (prevS i q x2 x4 2) (mNew (prevS i q x2 x4 2) m2))) (exp2 (subf (shapeCast S128x128 m2 shapeCasts_S1x128x128_S128x128 : FVec F S128x128 .f32) (mNew (prevS i q x2 x4 2) m2)))) K := by
  rw [k0_part16_eq_skeleton]
  unfold k0_part16_skel
  iintro ⟨H7, H10, H11, Hk⟩
  sl_exec
  sl_step
  sl_unfold_run_names
  simp only [unread_writes harg10 _ 3 ![3, 0, 0] rfl, unread_writes harg10 _ 2 ![2, 0, 0] rfl, unread_writes harg10 _ 1 ![1, 0, 0] rfl, unread_writes harg10 _ 0 ![0, 0, 0] rfl,
    unread_writes harg11 _ 3 ![3, 0, 0] rfl, unread_writes harg11 _ 2 ![2, 0, 0] rfl, unread_writes harg11 _ 1 ![1, 0, 0] rfl, unread_writes harg11 _ 0 ![0, 0, 0] rfl,
    readAt_slab _ 3 ![3, 0, 0] rfl, readAt_slab _ 2 ![2, 0, 0] rfl, readAt_slab _ 1 ![1, 0, 0] rfl, readAt_slab _ 0 ![0, 0, 0] rfl,
    readAt_tile arg7 0 0 ![0, 0, 0, 0, 0] rfl, readAt_tile arg7 0 1 ![0, 0, 1, 0, 0] rfl, readAt_tile arg7 1 0 ![0, 1, 0, 0, 0] rfl, readAt_tile arg7 1 1 ![0, 1, 1, 0, 0] rfl,
    slab_sl4_0, slab_sl4_1, slab_sl4_2, slab_sl4_3, set_sl4_0, set_sl4_1, set_sl4_2, set_sl4_3,
    View.writes_nil, Memref.IsWhole.read_unread]
  show Entails' _ (K ⟨mNew (prevS i q x2 x4 3) m3, sA (prevS i q x2 x4 3) (vs (vAt (k0_off6 i) (k0_off6_inb i) x3) 3) m3 a3⟩)
  iapply Hk
  isplitl [H7]
  · iexact H7
  isplitl [H10]
  · iexact H10
  iexact H11

theorem part17 (x0 : Vec F S1 .f32) (q : Vec F S128x128 .bf16) (x2 : Vec F S128x4096 .bf16) (x3 : Vec F S4096x128 .bf16) (x4 : Vec F S1x2x2x128x128 .f32) (m0 m1 m2 m3 a0 a1 a2 a3 : Vec F S1x128x128 .f32) (E : Set ℕ) (K : _ → sProp 𝕄) :
    iprop(At c harg5 x2 ∗ At c harg6 x3 ∗ At c harg10 (sl4 m0 m1 m2 m3) ∗ At c harg11 (sl4 a0 a1 a2 a3) ∗ (iprop(At c harg5 x2 ∗ At c harg6 x3 ∗ At c harg10 (sl4 m0 m1 m2 (stepM (prevS i q x2 x4 3) m3)) ∗ At c harg11 (sl4 a0 a1 a2 (stepA (prevS i q x2 x4 3) (vs (vAt (k0_off6 i) (k0_off6_inb i) x3) 3) m3 a3))) -∗ K ⟨k0_pay99 (ktAt (k0_off7 i) (k0_off7_inb i) x2), k0_pay100 (vAt (k0_off8 i) (k0_off8_inb i) x3), k0_pay101 lanes, k0_pay102⟩))
    ⊢ wp frame (wpE (defs₀ (F := F)) Variants.none c none) E (k0_part17 i arg3 harg3 arg4 harg4 arg5 harg5 arg6 harg6 arg7 harg7 arg8 harg8 arg9 harg9 arg10 harg10 arg11 harg11 (BitVec.ofNat 32 (i 2).val) lanes (mNew (prevS i q x2 x4 3) m3) (sA (prevS i q x2 x4 3) (vs (vAt (k0_off6 i) (k0_off6_inb i) x3) 3) m3 a3)) K := by
  rw [k0_part17_eq_skeleton]
  unfold k0_part17_skel
  iintro ⟨H5, H6, H10, H11, Hk⟩
  sl_exec
  sl_step
  sl_unfold_run_names
  simp only [unread_writes harg10 _ 3 ![3, 0, 0] rfl, unread_writes harg10 _ 2 ![2, 0, 0] rfl, unread_writes harg10 _ 1 ![1, 0, 0] rfl, unread_writes harg10 _ 0 ![0, 0, 0] rfl,
    unread_writes harg11 _ 3 ![3, 0, 0] rfl, unread_writes harg11 _ 2 ![2, 0, 0] rfl, unread_writes harg11 _ 1 ![1, 0, 0] rfl, unread_writes harg11 _ 0 ![0, 0, 0] rfl,
    readAt_slab _ 3 ![3, 0, 0] rfl, readAt_slab _ 2 ![2, 0, 0] rfl, readAt_slab _ 1 ![1, 0, 0] rfl, readAt_slab _ 0 ![0, 0, 0] rfl,
    readAt_tile arg7 0 0 ![0, 0, 0, 0, 0] rfl, readAt_tile arg7 0 1 ![0, 0, 1, 0, 0] rfl, readAt_tile arg7 1 0 ![0, 1, 0, 0, 0] rfl, readAt_tile arg7 1 1 ![0, 1, 1, 0, 0] rfl,
    slab_sl4_0, slab_sl4_1, slab_sl4_2, slab_sl4_3, set_sl4_0, set_sl4_1, set_sl4_2, set_sl4_3,
    View.writes_nil, Memref.IsWhole.read_unread]
  simp only [View.readAt_eq_ld, Memref.IsWhole.read_unread]
  show Entails' _ (K ⟨k0_pay99 (ktAt (k0_off7 i) (k0_off7_inb i) x2), k0_pay100 (vAt (k0_off8 i) (k0_off8_inb i) x3), k0_pay101 lanes, k0_pay102⟩)
  iapply Hk
  isplitl [H5]
  · iexact H5
  isplitl [H6]
  · iexact H6
  isplitl [H10]
  · iexact H10
  iexact H11

theorem part18 (x0 : Vec F S1 .f32) (q : Vec F S128x128 .bf16) (x2 : Vec F S128x4096 .bf16) (x3 : Vec F S4096x128 .bf16) (x4 : Vec F S1x2x2x128x128 .f32) (m0 m1 m2 m3 a0 a1 a2 a3 : Vec F S1x128x128 .f32) (E : Set ℕ) (K : _ → sProp 𝕄) :
    iprop(At c harg7 x4 ∗ At c harg10 (sl4 m0 m1 m2 m3) ∗ At c harg11 (sl4 a0 a1 a2 a3) ∗ (iprop(At c harg7 x4 ∗ At c harg10 (sl4 (stepM (diagS i q x2 x4 0) m0) m1 m2 m3) ∗ At c harg11 (sl4 (stepA (diagS i q x2 x4 0) (vs (vAt (k0_off8 i) (k0_off8_inb i) x3) 0) m0 a0) a1 a2 a3)) -∗ K ⟨vs (vAt (k0_off8 i) (k0_off8_inb i) x3) 0, (diagS i q x2 x4 1)⟩))
    ⊢ wp frame (wpE (defs₀ (F := F)) Variants.none c none) E (k0_part18 i arg3 harg3 arg4 harg4 arg5 harg5 arg6 harg6 arg7 harg7 arg8 harg8 arg9 harg9 arg10 harg10 arg11 harg11 (qs q 0) (qs q 1) (k0_pay99 (ktAt (k0_off7 i) (k0_off7_inb i) x2)) (k0_pay100 (vAt (k0_off8 i) (k0_off8_inb i) x3)) (k0_pay101 lanes) k0_pay102) K := by
  rw [k0_part18_eq_skeleton]
  unfold k0_part18_skel
  iintro ⟨H7, H10, H11, Hk⟩
  sl_exec
  sl_step
  sl_unfold_run_names
  simp only [unread_writes harg10 _ 3 ![3, 0, 0] rfl, unread_writes harg10 _ 2 ![2, 0, 0] rfl, unread_writes harg10 _ 1 ![1, 0, 0] rfl, unread_writes harg10 _ 0 ![0, 0, 0] rfl,
    unread_writes harg11 _ 3 ![3, 0, 0] rfl, unread_writes harg11 _ 2 ![2, 0, 0] rfl, unread_writes harg11 _ 1 ![1, 0, 0] rfl, unread_writes harg11 _ 0 ![0, 0, 0] rfl,
    readAt_slab _ 3 ![3, 0, 0] rfl, readAt_slab _ 2 ![2, 0, 0] rfl, readAt_slab _ 1 ![1, 0, 0] rfl, readAt_slab _ 0 ![0, 0, 0] rfl,
    readAt_tile arg7 0 0 ![0, 0, 0, 0, 0] rfl, readAt_tile arg7 0 1 ![0, 0, 1, 0, 0] rfl, readAt_tile arg7 1 0 ![0, 1, 0, 0, 0] rfl, readAt_tile arg7 1 1 ![0, 1, 1, 0, 0] rfl,
    slab_sl4_0, slab_sl4_1, slab_sl4_2, slab_sl4_3, set_sl4_0, set_sl4_1, set_sl4_2, set_sl4_3,
    View.writes_nil, Memref.IsWhole.read_unread]
  show Entails' _ (K ⟨vs (vAt (k0_off8 i) (k0_off8_inb i) x3) 0, (diagS i q x2 x4 1)⟩)
  iapply Hk
  isplitl [H7]
  · iexact H7
  isplitl [H10]
  · iexact H10
  iexact H11

theorem part19 (x0 : Vec F S1 .f32) (q : Vec F S128x128 .bf16) (x2 : Vec F S128x4096 .bf16) (x3 : Vec F S4096x128 .bf16) (x4 : Vec F S1x2x2x128x128 .f32) (m0 m1 m2 m3 a0 a1 a2 a3 : Vec F S1x128x128 .f32) (E : Set ℕ) (K : _ → sProp 𝕄) :
    iprop(At c harg10 (sl4 m0 m1 m2 m3) ∗ At c harg11 (sl4 a0 a1 a2 a3) ∗ (iprop(At c harg10 (sl4 m0 (stepM (diagS i q x2 x4 1) m1) m2 m3) ∗ At c harg11 (sl4 a0 (stepA (diagS i q x2 x4 1) (vs (vAt (k0_off8 i) (k0_off8_inb i) x3) 1) m1 a1) a2 a3)) -∗ K ⟨k0_pay114 lanes, k0_pay115 lanes, k0_pay116 lanes⟩))
    ⊢ wp frame (wpE (defs₀ (F := F)) Variants.none c none) E (k0_part19 i arg3 harg3 arg4 harg4 arg5 harg5 arg6 harg6 arg7 harg7 arg8 harg8 arg9 harg9 arg10 harg10 arg11 harg11 lanes (vs (vAt (k0_off8 i) (k0_off8_inb i) x3) 0) (diagS i q x2 x4 1)) K := by
  rw [k0_part19_eq_skeleton]
  unfold k0_part19_skel
  iintro ⟨H10, H11, Hk⟩
  sl_exec
  sl_step
  sl_unfold_run_names
  simp only [unread_writes harg10 _ 3 ![3, 0, 0] rfl, unread_writes harg10 _ 2 ![2, 0, 0] rfl, unread_writes harg10 _ 1 ![1, 0, 0] rfl, unread_writes harg10 _ 0 ![0, 0, 0] rfl,
    unread_writes harg11 _ 3 ![3, 0, 0] rfl, unread_writes harg11 _ 2 ![2, 0, 0] rfl, unread_writes harg11 _ 1 ![1, 0, 0] rfl, unread_writes harg11 _ 0 ![0, 0, 0] rfl,
    readAt_slab _ 3 ![3, 0, 0] rfl, readAt_slab _ 2 ![2, 0, 0] rfl, readAt_slab _ 1 ![1, 0, 0] rfl, readAt_slab _ 0 ![0, 0, 0] rfl,
    readAt_tile arg7 0 0 ![0, 0, 0, 0, 0] rfl, readAt_tile arg7 0 1 ![0, 0, 1, 0, 0] rfl, readAt_tile arg7 1 0 ![0, 1, 0, 0, 0] rfl, readAt_tile arg7 1 1 ![0, 1, 1, 0, 0] rfl,
    slab_sl4_0, slab_sl4_1, slab_sl4_2, slab_sl4_3, set_sl4_0, set_sl4_1, set_sl4_2, set_sl4_3,
    View.writes_nil, Memref.IsWhole.read_unread]
  show Entails' _ (K ⟨k0_pay114 lanes, k0_pay115 lanes, k0_pay116 lanes⟩)
  iapply Hk
  isplitl [H10]
  · iexact H10
  iexact H11

theorem part20 (x0 : Vec F S1 .f32) (q : Vec F S128x128 .bf16) (x2 : Vec F S128x4096 .bf16) (x3 : Vec F S4096x128 .bf16) (x4 : Vec F S1x2x2x128x128 .f32) (m0 m1 m2 m3 a0 a1 a2 a3 : Vec F S1x128x128 .f32) (E : Set ℕ) (K : _ → sProp 𝕄) :
    iprop(At c harg7 x4 ∗ At c harg10 (sl4 m0 m1 m2 m3) ∗ At c harg11 (sl4 a0 a1 a2 a3) ∗ (iprop(At c harg7 x4 ∗ At c harg10 (sl4 m0 m1 m2 m3) ∗ At c harg11 (sl4 a0 a1 (stepA (diagS i q x2 x4 2) (vs (vAt (k0_off8 i) (k0_off8_inb i) x3) 2) m2 a2) a3)) -∗ K ⟨vs (vAt (k0_off8 i) (k0_off8_inb i) x3) 2, mNew (diagS i q x2 x4 2) m2⟩))
    ⊢ wp frame (wpE (defs₀ (F := F)) Variants.none c none) E (k0_part20 i arg3 harg3 arg4 harg4 arg5 harg5 arg6 harg6 arg7 harg7 arg8 harg8 arg9 harg9 arg10 harg10 arg11 harg11 (qs q 2) (k0_pay99 (ktAt (k0_off7 i) (k0_off7_inb i) x2)) (k0_pay100 (vAt (k0_off8 i) (k0_off8_inb i) x3)) (k0_pay114 lanes) (k0_pay115 lanes) (k0_pay116 lanes)) K := by
  rw [k0_part20_eq_skeleton]
  unfold k0_part20_skel
  iintro ⟨H7, H10, H11, Hk⟩
  sl_exec
  sl_step
  sl_unfold_run_names
  simp only [unread_writes harg10 _ 3 ![3, 0, 0] rfl, unread_writes harg10 _ 2 ![2, 0, 0] rfl, unread_writes harg10 _ 1 ![1, 0, 0] rfl, unread_writes harg10 _ 0 ![0, 0, 0] rfl,
    unread_writes harg11 _ 3 ![3, 0, 0] rfl, unread_writes harg11 _ 2 ![2, 0, 0] rfl, unread_writes harg11 _ 1 ![1, 0, 0] rfl, unread_writes harg11 _ 0 ![0, 0, 0] rfl,
    readAt_slab _ 3 ![3, 0, 0] rfl, readAt_slab _ 2 ![2, 0, 0] rfl, readAt_slab _ 1 ![1, 0, 0] rfl, readAt_slab _ 0 ![0, 0, 0] rfl,
    readAt_tile arg7 0 0 ![0, 0, 0, 0, 0] rfl, readAt_tile arg7 0 1 ![0, 0, 1, 0, 0] rfl, readAt_tile arg7 1 0 ![0, 1, 0, 0, 0] rfl, readAt_tile arg7 1 1 ![0, 1, 1, 0, 0] rfl,
    slab_sl4_0, slab_sl4_1, slab_sl4_2, slab_sl4_3, set_sl4_0, set_sl4_1, set_sl4_2, set_sl4_3,
    View.writes_nil, Memref.IsWhole.read_unread]
  show Entails' _ (K ⟨vs (vAt (k0_off8 i) (k0_off8_inb i) x3) 2, mNew (diagS i q x2 x4 2) m2⟩)
  iapply Hk
  isplitl [H7]
  · iexact H7
  isplitl [H10]
  · iexact H10
  iexact H11

theorem part21 (x0 : Vec F S1 .f32) (q : Vec F S128x128 .bf16) (x2 : Vec F S128x4096 .bf16) (x3 : Vec F S4096x128 .bf16) (x4 : Vec F S1x2x2x128x128 .f32) (m0 m1 m2 m3 a0 a1 a2 a3 : Vec F S1x128x128 .f32) (E : Set ℕ) (K : _ → sProp 𝕄) :
    iprop(At c harg3 x0 ∗ At c harg7 x4 ∗ At c harg10 (sl4 m0 m1 m2 m3) ∗ At c harg11 (sl4 a0 a1 a2 a3) ∗ (iprop(At c harg3 x0 ∗ At c harg7 x4 ∗ At c harg10 (sl4 m0 m1 (stepM (diagS i q x2 x4 2) m2) (stepM (diagS i q x2 x4 3) m3)) ∗ At c harg11 (sl4 a0 a1 a2 (stepA (diagS i q x2 x4 3) (vs (vAt (k0_off8 i) (k0_off8_inb i) x3) 3) m3 a3))) -∗ K ⟨x0 o1, 64#32, k0_pay128 lanes, k0_pay129 lanes, 0#32⟩))
    ⊢ wp frame (wpE (defs₀ (F := F)) Variants.none c none) E (k0_part21 i arg3 harg3 arg4 harg4 arg5 harg5 arg6 harg6 arg7 harg7 arg8 harg8 arg9 harg9 arg10 harg10 arg11 harg11 lanes (qs q 3) (k0_pay99 (ktAt (k0_off7 i) (k0_off7_inb i) x2)) (vs (vAt (k0_off8 i) (k0_off8_inb i) x3) 2) (mNew (diagS i q x2 x4 2) m2)) K := by
  rw [k0_part21_eq_skeleton]
  unfold k0_part21_skel
  iintro ⟨H3, H7, H10, H11, Hk⟩
  sl_exec
  sl_step
  sl_unfold_run_names
  simp only [unread_writes harg10 _ 3 ![3, 0, 0] rfl, unread_writes harg10 _ 2 ![2, 0, 0] rfl, unread_writes harg10 _ 1 ![1, 0, 0] rfl, unread_writes harg10 _ 0 ![0, 0, 0] rfl,
    unread_writes harg11 _ 3 ![3, 0, 0] rfl, unread_writes harg11 _ 2 ![2, 0, 0] rfl, unread_writes harg11 _ 1 ![1, 0, 0] rfl, unread_writes harg11 _ 0 ![0, 0, 0] rfl,
    readAt_slab _ 3 ![3, 0, 0] rfl, readAt_slab _ 2 ![2, 0, 0] rfl, readAt_slab _ 1 ![1, 0, 0] rfl, readAt_slab _ 0 ![0, 0, 0] rfl,
    readAt_tile arg7 0 0 ![0, 0, 0, 0, 0] rfl, readAt_tile arg7 0 1 ![0, 0, 1, 0, 0] rfl, readAt_tile arg7 1 0 ![0, 1, 0, 0, 0] rfl, readAt_tile arg7 1 1 ![0, 1, 1, 0, 0] rfl,
    slab_sl4_0, slab_sl4_1, slab_sl4_2, slab_sl4_3, set_sl4_0, set_sl4_1, set_sl4_2, set_sl4_3,
    View.writes_nil, Memref.IsWhole.read_unread]
  simp only [View.readAt_apply, Memref.IsWhole.read_unread]
  rw [eq_o1 ((Rect.unit (s := S1) ![0] ![1] inb_S1_S1_0).idx _)]
  show Entails' _ (K ⟨x0 o1, 64#32, k0_pay128 lanes, k0_pay129 lanes, 0#32⟩)
  iapply Hk
  isplitl [H3]
  · iexact H3
  isplitl [H7]
  · iexact H7
  isplitl [H10]
  · iexact H10
  iexact H11

theorem unread_out (f : arg9.view.ty.Contents (Elt F)) (inb) (P : Vec F S128x128 .bf16) :
    arg9.view.writes (Elt F) f [(⟨Rect.unit (s := S128x128) ![0, 0] S128x128.size inb, P⟩ : View.Piece (Elt F) S128x128 .bf16)] = harg9.unread P := by
  apply harg9.eq_unread
  funext y
  exact View.read_writes_cons_hit_of_coords arg9.view f (Rect.unit (s := S128x128) ![0, 0] S128x128.size inb) P [] y y (by
    intro d
    match d with
    | ⟨0, _⟩ => show (y 0).val = 0 + 1 * (y 0).val; omega
    | ⟨1, _⟩ => show (y 1).val = 0 + 1 * (y 1).val; omega)

/-- The whole run: what it leaves, from any contents of the result's and the scratch buffers. -/
theorem body (x0 : Vec F S1 .f32) (q : Vec F S128x128 .bf16) (x2 : Vec F S128x4096 .bf16) (x3 : Vec F S4096x128 .bf16) (x4 : Vec F S1x2x2x128x128 .f32)
    (x5 : Vec F S1x128 .f32) (Y : Vec F S128x128 .bf16) (M A : Vec F S4x128x128 .f32) (E : Set ℕ) (K : _ → sProp 𝕄) :
    iprop(At c harg3 x0 ∗ At c harg4 q ∗ At c harg5 x2 ∗ At c harg6 x3 ∗ At c harg7 x4 ∗ At c harg8 x5 ∗ At c harg9 Y ∗ At c harg10 M ∗ At c harg11 A
      ∗ (iprop(At c harg3 x0 ∗ At c harg4 q ∗ At c harg5 x2 ∗ At c harg6 x3 ∗ At c harg7 x4 ∗ At c harg8 x5
          ∗ At c harg9 (outV (x0 o1) x5 (a2 i q x2 x3 x4))
          ∗ At c harg10 (sl4 (m2 i q x2 x3 x4 0) (m2 i q x2 x3 x4 1) (m2 i q x2 x3 x4 2) (m2 i q x2 x3 x4 3))
          ∗ At c harg11 (sl4 (a2 i q x2 x3 x4 0) (a2 i q x2 x3 x4 1) (a2 i q x2 x3 x4 2) (a2 i q x2 x3 x4 3)))
          -∗ K ⟨⟩))
    ⊢ wp frame (wpE (defs₀ (F := F)) Variants.none c none) E
        (cc0_attn_prompt i arg3 harg3 arg4 harg4 arg5 harg5 arg6 harg6 arg7 harg7 arg8 harg8 arg9 harg9 arg10 harg10 arg11 harg11) K := by
  unfold cc0_attn_prompt
  iintro ⟨H3, H4, H5, H6, H7, H8, H9, H10, H11, Hk⟩
  rw [wp_bind]
  iapply (part9 c i (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) q E)
  isplitl [H4]
  · iexact H4
  iintro H4
  rw [wp_bind]
  iapply (part10 c i (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) q E)
  rw [wp_bind]
  iapply (part11 c i (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) q M A E)
  isplitl [H10]
  · iexact H10
  isplitl [H11]
  · iexact H11
  iintro ⟨H10, H11⟩
  rw [wp_bind]
  iapply (loops c i (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) q x2 x3 M A E)
  isplitl [H5]
  · iexact H5
  isplitl [H6]
  · iexact H6
  isplitl [H10]
  · iexact H10
  isplitl [H11]
  · iexact H11
  iintro ⟨H5, H6, H10, H11⟩
  rw [← sl4_slabs (far i q x2 x3 (k0_t1_loop i).trips).1, ← sl4_slabs (far i q x2 x3 (k0_t1_loop i).trips).2]
  rw [wp_bind]
  iapply (part13 c i (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) x0 q x2 x3 x4 _ _ _ _ _ _ _ _ E)
  isplitl [H7]
  · iexact H7
  isplitl [H10]
  · iexact H10
  isplitl [H11]
  · iexact H11
  iintro ⟨H7, H10, H11⟩
  rw [wp_bind]
  iapply (part14 c i (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) x0 q x2 x3 x4 _ _ _ _ _ _ _ _ E)
  isplitl [H7]
  · iexact H7
  isplitl [H10]
  · iexact H10
  isplitl [H11]
  · iexact H11
  iintro ⟨H7, H10, H11⟩
  rw [wp_bind]
  iapply (part15 c i (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) x0 q x2 x3 x4 _ _ _ _ _ _ _ _ E)
  isplitl [H7]
  · iexact H7
  isplitl [H10]
  · iexact H10
  isplitl [H11]
  · iexact H11
  iintro ⟨H7, H10, H11⟩
  rw [wp_bind]
  iapply (part16 c i (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) x0 q x2 x3 x4 _ _ _ _ _ _ _ _ E)
  isplitl [H7]
  · iexact H7
  isplitl [H10]
  · iexact H10
  isplitl [H11]
  · iexact H11
  iintro ⟨H7, H10, H11⟩
  rw [wp_bind]
  iapply (part17 c i (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) x0 q x2 x3 x4 _ _ _ _ _ _ _ _ E)
  isplitl [H5]
  · iexact H5
  isplitl [H6]
  · iexact H6
  isplitl [H10]
  · iexact H10
  isplitl [H11]
  · iexact H11
  iintro ⟨H5, H6, H10, H11⟩
  rw [wp_bind]
  iapply (part18 c i (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) x0 q x2 x3 x4 _ _ _ _ _ _ _ _ E)
  isplitl [H7]
  · iexact H7
  isplitl [H10]
  · iexact H10
  isplitl [H11]
  · iexact H11
  iintro ⟨H7, H10, H11⟩
  rw [wp_bind]
  iapply (part19 c i (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) x0 q x2 x3 x4 _ _ _ _ _ _ _ _ E)
  isplitl [H10]
  · iexact H10
  isplitl [H11]
  · iexact H11
  iintro ⟨H10, H11⟩
  rw [wp_bind]
  iapply (part20 c i (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) x0 q x2 x3 x4 _ _ _ _ _ _ _ _ E)
  isplitl [H7]
  · iexact H7
  isplitl [H10]
  · iexact H10
  isplitl [H11]
  · iexact H11
  iintro ⟨H7, H10, H11⟩
  rw [wp_bind]
  iapply (part21 c i (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) x0 q x2 x3 x4 _ _ _ _ _ _ _ _ E)
  isplitl [H3]
  · iexact H3
  isplitl [H7]
  · iexact H7
  isplitl [H10]
  · iexact H10
  isplitl [H11]
  · iexact H11
  iintro ⟨H3, H7, H10, H11⟩
  sl_exec
  sl_step
  sl_unfold_run_names
  simp only [readAt_slab _ 3 ![3, 0, 0] rfl, readAt_slab _ 2 ![2, 0, 0] rfl, readAt_slab _ 1 ![1, 0, 0] rfl, readAt_slab _ 0 ![0, 0, 0] rfl,
    slab_sl4_0, slab_sl4_1, slab_sl4_2, slab_sl4_3, View.readAt_eq_ld, View.ld_unit_zero (S := S1x128) hz2, Memref.IsWhole.read_unread]
  rw [unread_out arg9 harg9]
  iapply Hk
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  iexact H11

end Cert.Kernel3Ideal.Att
-- ==== Proof.AttnMath.lean ====
/- The online softmax of one row of queries: what the running maximum and the running sums hold after each block of keys, and the
   quotient they end in. -/
module

public import Idealize.ShloMosaic.Lib.Pointwise

@[expose] public section

noncomputable section

namespace Cert.Attn

open Idealize.ShloMosaic
open scoped BigOperators

/-- The weight of a score: two to its power, nothing at −∞. -/
def wt (s : EReal) : ℝ := (Ideal.exp2 s).toReal

theorem wt_bot : wt ⊥ = 0 := by simp [wt]
theorem wt_coe (r : ℝ) : wt (r : EReal) = (2 : ℝ) ^ r := by simp [wt]

/-- A row's running maximum `m` and sums `acc`, lane by lane, against the sums `E` of the weights so far. -/
def RowInv (m acc : Fin 128 → EReal) (E : Fin 128 → ℝ) : Prop :=
  ((∀ l, m l = ⊥) ∧ (∀ l, acc l = 0) ∧ ∀ l, E l = 0) ∨
    ∃ μ : ℝ, (∀ l, m l = (μ : EReal)) ∧ ∀ l, acc l = (((2 : ℝ) ^ (-μ) * E l : ℝ) : EReal)

/-- The running maximum after a block of scores. -/
def newM (m s : Fin 128 → EReal) (l : Fin 128) : EReal := max (m l) (Finset.univ.fold max ⊥ s)

/-- The running sums after a block of scores with its values. -/
def newA (m acc s : Fin 128 → EReal) (v : Fin 128 → Fin 128 → EReal) (l : Fin 128) : EReal :=
  acc l * Ideal.exp2 (m l - newM m s l) + ∑ k : Fin 128, Ideal.exp2 (s k - newM m s k) * v k l

theorem exp2_sub {s : EReal} (hs : s ≠ ⊤) (μ : ℝ) : Ideal.exp2 (s - (μ : EReal)) = (((2 : ℝ) ^ (-μ) * wt s : ℝ) : EReal) := by
  induction s with
  | bot => rw [wt_bot, EReal.bot_sub]; simp
  | coe r =>
    rw [wt_coe, ← EReal.coe_sub, Ideal.exp2_coe, ← Real.rpow_add two_pos]
    exact congrArg _ (congrArg _ (by ring))
  | top => exact absurd rfl hs

theorem fold_max_cases (s : Fin 128 → EReal) (hs : ∀ k, s k ≠ ⊤) :
    ((Finset.univ.fold max ⊥ s = ⊥) ∧ ∀ k, s k = ⊥) ∨ ∃ σ : ℝ, Finset.univ.fold max ⊥ s = (σ : EReal) := by
  have e : Finset.univ.fold max ⊥ s = Finset.univ.sup s := rfl
  rw [e]
  obtain ⟨k, -, hk⟩ := Finset.exists_mem_eq_sup Finset.univ ⟨0, Finset.mem_univ 0⟩ s
  cases hb : s k with
  | bot =>
    left
    refine ⟨by rw [hk, hb], fun k' => ?_⟩
    have := Finset.le_sup (f := s) (Finset.mem_univ k')
    rw [hk, hb] at this
    exact le_bot_iff.1 this
  | coe r => right; exact ⟨r, by rw [hk, hb]⟩
  | top => exact absurd hb (hs k)

theorem coe_sum (f : Fin 128 → ℝ) : ((∑ k, f k : ℝ) : EReal) = ∑ k, ((f k : ℝ) : EReal) := by
  induction (Finset.univ : Finset (Fin 128)) using Finset.induction_on with
  | empty => simp
  | insert a s ha ih => rw [Finset.sum_insert ha, Finset.sum_insert ha, EReal.coe_add, ih]

theorem newA_real {m acc s : Fin 128 → EReal} {E : Fin 128 → ℝ} {V : Fin 128 → Fin 128 → ℝ} (hs : ∀ k, s k ≠ ⊤) (μ : ℝ)
    (hM : ∀ l, newM m s l = (μ : EReal)) (hacc : ∀ l, acc l * Ideal.exp2 (m l - (μ : EReal)) = (((2 : ℝ) ^ (-μ) * E l : ℝ) : EReal)) (l : Fin 128) :
    newA m acc s (fun k l => ((V k l : ℝ) : EReal)) l = (((2 : ℝ) ^ (-μ) * (E l + ∑ k, wt (s k) * V k l) : ℝ) : EReal) := by
  unfold newA
  simp only [hM, exp2_sub (hs _), hacc]
  rw [mul_add, Finset.mul_sum, EReal.coe_add, coe_sum]
  refine congrArg _ (Finset.sum_congr rfl fun k _ => ?_)
  rw [← EReal.coe_mul]
  exact congrArg _ (by ring)

/-- One block of keys. -/
theorem RowInv.step {m acc s : Fin 128 → EReal} {E : Fin 128 → ℝ} (h : RowInv m acc E) (V : Fin 128 → Fin 128 → ℝ) (hs : ∀ k, s k ≠ ⊤) :
    RowInv (newM m s) (newA m acc s (fun k l => ((V k l : ℝ) : EReal))) (fun l => E l + ∑ k, wt (s k) * V k l) := by
  rcases h with ⟨hm, ha, hE⟩ | ⟨μ, hm, ha⟩
  · rcases fold_max_cases s hs with ⟨hf, hb⟩ | ⟨σ, hf⟩
    · left
      have hM : ∀ l, newM m s l = ⊥ := fun l => by rw [newM, hm, hf, max_self]
      refine ⟨hM, fun l => ?_, fun l => ?_⟩
      · unfold newA
        simp [hM, hb, ha]
      · simp [hb, hE, wt_bot]
    · right
      have hM : ∀ l, newM m s l = (σ : EReal) := fun l => by rw [newM, hm, hf]; exact max_eq_right bot_le
      exact ⟨σ, hM, newA_real hs σ hM fun l => by rw [ha, hE]; simp⟩
  · right
    obtain ⟨ν, hν⟩ : ∃ ν : ℝ, ∀ l, newM m s l = (ν : EReal) := by
      rcases fold_max_cases s hs with ⟨hf, -⟩ | ⟨σ, hf⟩
      · exact ⟨μ, fun l => by rw [newM, hm, hf]; exact max_eq_left bot_le⟩
      · exact ⟨max μ σ, fun l => by rw [newM, hm, hf]; exact (EReal.coe_strictMono.monotone.map_max).symm⟩
    refine ⟨ν, hν, newA_real hs ν hν fun l => ?_⟩
    rw [hm, ha, exp2_sub (EReal.coe_ne_top μ), wt_coe, ← EReal.coe_mul]
    refine congrArg _ ?_
    have : (2 : ℝ) ^ (-μ) * (2 : ℝ) ^ μ = 1 := by rw [← Real.rpow_add two_pos]; simp
    linear_combination ((2 : ℝ) ^ (-ν) * E l) * this

/-- The largest of the sums over the lanes that count keys is the sum of the weights, and the quotients are the weighted means. -/
theorem RowInv.ratio {m acc : Fin 128 → EReal} {E : Fin 128 → ℝ} (h : RowInv m acc E) (own : Fin 128 → Prop) [DecidablePred own]
    {L : ℝ} (hL : 0 < L) (hE : ∀ l, ¬ own l → E l = L) (l0 : Fin 128) (h0 : ¬ own l0) (l : Fin 128) :
    Ideal.div (acc l) (Finset.univ.fold max ⊥ fun k => if own k then 0 else acc k) = ((E l / L : ℝ) : EReal) := by
  rcases h with ⟨-, -, h⟩ | ⟨μ, -, ha⟩
  · exact absurd ((hE l0 h0).symm.trans (h l0)) hL.ne'
  have hp : 0 < (2 : ℝ) ^ (-μ) := Real.rpow_pos_of_pos two_pos _
  have hf : (Finset.univ.fold max ⊥ fun k => if own k then 0 else acc k) = (((2 : ℝ) ^ (-μ) * L : ℝ) : EReal) := by
    have e : (Finset.univ.fold max ⊥ fun k => if own k then 0 else acc k) = Finset.univ.sup fun k => if own k then 0 else acc k := rfl
    rw [e]
    apply le_antisymm
    · refine Finset.sup_le fun k _ => ?_
      by_cases hk : own k
      · rw [if_pos hk]; exact_mod_cast (mul_pos hp hL).le
      · rw [if_neg hk, ha, hE k hk]
    · refine le_trans (le_of_eq ?_) (Finset.le_sup (f := fun k => if own k then 0 else acc k) (Finset.mem_univ l0))
      show _ = if own l0 then 0 else acc l0
      rw [if_neg h0, ha, hE l0 h0]
  rw [hf, ha, Ideal.div_coe (mul_pos hp hL).ne', ← EReal.coe_mul]
  refine congrArg _ ?_
  field_simp

end Cert.Attn
-- ==== Proof.AttnStep.lean ====
/- The attention kernel's block of keys as functions of whole arrays, and what they hold at an index. -/
module

public import proofs.«01_k».proof.Proof.AttnRun
public import proofs.«01_k».proof.Proof.AttnMath
public import Idealize.ShloMosaic.Lib.Pointwise

@[expose] public section

noncomputable section

namespace Cert.Attn

open Idealize.ShloMosaic Idealize.ShloMosaic.TcCoe
open Cert.Kernel3Ideal Cert.Kernel3Ideal.Gen Cert.Kernel3Ideal.Att
open scoped BigOperators

/-! ## At an index -/

/-- The lane's group, as a word. -/
def divw (d x : BitVec 32) : BitVec 32 :=
  Scalar.select (IntOp.andi (IntOp.cmpi .ne (IntOp.subi (BitVec.setWidth 32 (IntOp.cmpi .sgt x 0#32)) (BitVec.setWidth 32 (IntOp.cmpi .slt x 0#32)))
        (Scalar.subi (Scalar.extui (Scalar.cmpi .sgt d 0#32)) (Scalar.extui (Scalar.cmpi .slt d 0#32))))
      (IntOp.cmpi .ne (IntOp.remsi .vector x d) 0#32))
    (IntOp.subi (IntOp.divsi .vector x d) 1#32) (IntOp.divsi .vector x d)

theorem lanes_apply (r l : Fin 128) : lanes (ix2 r l) = BitVec.ofNat 32 l.val := by
  pointwise [lanes]

theorem laneDiv_apply (d : BitVec 32) (r l : Fin 128) : laneDiv d lanes (ix2 r l) = divw d (BitVec.ofNat 32 l.val) := by
  rw [← lanes_apply r l]
  generalize lanes = v
  simp only [laneDiv, divw, select, andi, cmpi, subi, extui, remsi, divsi, broadcast]

theorem divw64 : ∀ l : Fin 128, divw 64#32 (BitVec.ofNat 32 l.val) = BitVec.ofNat 32 (l.val / 64) := by decide +kernel
theorem divw32 : ∀ l : Fin 128, divw 32#32 (BitVec.ofNat 32 l.val) = BitVec.ofNat 32 (l.val / 32) := by decide +kernel

theorem laneIs64 (n : Fin 2) (r l : Fin 128) :
    laneIs 64#32 (BitVec.ofNat 32 n.val) lanes (ix2 r l) = if l.val / 64 = n.val then 1 else 0 := by
  have h : laneIs 64#32 (BitVec.ofNat 32 n.val) lanes (ix2 r l)
      = IntOp.cmpi .eq (laneDiv 64#32 lanes (ix2 r l)) (BitVec.ofNat 32 n.val) := by
    simp only [laneIs, cmpi, broadcast]
  rw [h, laneDiv_apply, divw64]
  clear h; revert l n; decide +kernel

theorem laneIs32 (n : Fin 4) (r l : Fin 128) :
    laneIs 32#32 (BitVec.ofNat 32 n.val) lanes (ix2 r l) = if l.val / 32 = n.val then 1 else 0 := by
  have h : laneIs 32#32 (BitVec.ofNat 32 n.val) lanes (ix2 r l)
      = IntOp.cmpi .eq (laneDiv 32#32 lanes (ix2 r l)) (BitVec.ofNat 32 n.val) := by
    simp only [laneIs, cmpi, broadcast]
  rw [h, laneDiv_apply, divw32]
  clear h; revert l n; decide +kernel

theorem ninf : Ideal.ofBits .f32 0xFF800000#32 = ⊥ := by simp [Ideal.ofBits, Ideal.ieee]

theorem mNew_apply (s : FVec Ideal S128x128 .f32) (mo : Vec Ideal S1x128x128 .f32) (r l : Fin 128) :
    mNew s mo (ix2 r l) = newM (fun k => mo (ix3 0 r k)) (fun k => s (ix2 r k)) l := by
  pointwise [mNew, newM, ninf]

theorem stepM_apply (s : FVec Ideal S128x128 .f32) (mo : Vec Ideal S1x128x128 .f32) (r l : Fin 128) :
    stepM s mo (ix3 0 r l) = newM (fun k => mo (ix3 0 r k)) (fun k => s (ix2 r k)) l := by
  rw [← mNew_apply]
  pointwise [stepM]

theorem stepA_apply (s : FVec Ideal S128x128 .f32) (va : FVec Ideal S128x128 .bf16) (mo ao : Vec Ideal S1x128x128 .f32) (r l : Fin 128) :
    stepA s va mo ao (ix3 0 r l)
      = newA (fun k => mo (ix3 0 r k)) (fun k => ao (ix3 0 r k)) (fun k => s (ix2 r k)) (fun k l => va (ix2 k l)) l := by
  have h := fun l => mNew_apply s mo r l
  unfold newA
  simp only [← h]
  generalize hm : mNew s mo = M
  unfold stepA sA
  rw [hm]
  pointwise []
  rfl

theorem qk_apply (q : FVec Ideal S128x128 .bf16) (kt : Vec Ideal S128x128 .bf16) (r l : Fin 128) :
    qk q kt (ix2 r l) = ∑ d, q (ix2 r d) * kt (ix2 d l) := by
  pointwise [qk]

theorem vAug_apply (n : Fin 2) (vv : Vec Ideal S128x128 .bf16) (r l : Fin 128) :
    vAug (BitVec.ofNat 32 n.val) vv (ix2 r l) = if l.val / 64 = n.val then vv (ix2 r l) else 1 := by
  have h : vAug (BitVec.ofNat 32 n.val) vv (ix2 r l)
      = Scalar.select (laneIs 64#32 (BitVec.ofNat 32 n.val) lanes (ix2 r l)) (vv (ix2 r l)) 1 := by
    pointwise [vAug]
  rw [h, laneIs64]
  split <;> simp [Scalar.select]

theorem qMask_apply (n : Fin 4) (q : Vec Ideal S128x128 .bf16) (r l : Fin 128) :
    qMask (BitVec.ofNat 32 n.val) q (ix2 r l) = if l.val / 32 = n.val then k0_pay54 (F := Ideal) q (ix2 r l) else 0 := by
  have h : qMask (BitVec.ofNat 32 n.val) q (ix2 r l)
      = Scalar.select (laneIs 32#32 (BitVec.ofNat 32 n.val) lanes (ix2 r l)) (k0_pay54 (F := Ideal) q (ix2 r l)) 0 := by
    pointwise [qMask]
  rw [h, laneIs32]
  split <;> simp [Scalar.select]

theorem pay54_apply (q : Vec Ideal S128x128 .bf16) (r l : Fin 128) :
    k0_pay54 (F := Ideal) q (ix2 r l) = q (ix2 r l) * (((11863283 / 67108864 : ℝ) * (Real.log 2)⁻¹ : ℝ) : EReal) := by
  pointwise [k0_pay54]
  rfl

end Cert.Attn
-- ==== Proof.AttnFrame.lean ====
/- The attention's frame: its data, its body's obligation, its run, and what its result's array holds. -/
module

public import proofs.«01_k».proof.Proof.AttnRun
public import Idealize.ShloMosaic.Lib.Claim
public import Idealize.ShloMosaic.Lib.Pipeline.Value

@[expose] public section

set_option maxRecDepth 16384

noncomputable section

namespace Cert.Kernel3Ideal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen Cert.Attn

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The result's block from the blocks of the arguments. -/
def outB (i : grid0.Coords) (x0 : Vec F S1 .f32) (q : Vec F S128x128 .bf16) (x2 : Vec F S128x4096 .bf16) (x3 : Vec F S4096x128 .bf16)
    (x4 : Vec F S1x2x2x128x128 .f32) (x5 : Vec F S1x128 .f32) : Vec F S128x128 .bf16 := outV (x0 o1) x5 (a2 i q x2 x3 x4)

set_option maxHeartbeats 2000000 in
/-- The body over memrefs owned at contents. -/
theorem body_owns (c : Dev nD) (i : grid0.Coords) (arg3 : Memref sig .tc .smem S1 .f32) (harg3 : arg3.IsWhole) (arg4 : Memref sig .tc .vmem S128x128 .bf16) (harg4 : arg4.IsWhole) (arg5 : Memref sig .tc .vmem S128x4096 .bf16) (harg5 : arg5.IsWhole) (arg6 : Memref sig .tc .vmem S4096x128 .bf16) (harg6 : arg6.IsWhole) (arg7 : Memref sig .tc .vmem S1x2x2x128x128 .f32) (harg7 : arg7.IsWhole) (arg8 : Memref sig .tc .vmem S1x128 .f32) (harg8 : arg8.IsWhole) (arg9 : Memref sig .tc .vmem S128x128 .bf16) (harg9 : arg9.IsWhole) (arg10 : Memref sig .tc .vmem S4x128x128 .f32) (harg10 : arg10.IsWhole) (arg11 : Memref sig .tc .vmem S4x128x128 .f32) (harg11 : arg11.IsWhole)
    (x0 : Vec F S1 .f32) (q : Vec F S128x128 .bf16) (x2 : Vec F S128x4096 .bf16) (x3 : Vec F S4096x128 .bf16) (x4 : Vec F S1x2x2x128x128 .f32)
    (x5 : Vec F S1x128 .f32) (E : Set ℕ) (K : PUnit → sProp 𝕄) :
    iprop(owns (c : Thread nD τ) arg3 fullShare x0 ∗ owns (c : Thread nD τ) arg4 fullShare q ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare q ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (outB i x0 q x2 x3 x4 x5) ∗ (∃ d, owns (c : Thread nD τ) arg10 fullShare d) ∗ (∃ d, owns (c : Thread nD τ) arg11 fullShare d)) -∗ K ⟨⟩))
      ⊢ wp frame (wpE (defs₀ (F := F)) Variants.none c none) E (cc0_attn_prompt i arg3 harg3 arg4 harg4 arg5 harg5 arg6 harg6 arg7 harg7 arg8 harg8 arg9 harg9 arg10 harg10 arg11 harg11) K := by
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, %hf9, H9⟩, ⟨%d10, %f10, %hf10, H10⟩, ⟨%d11, %f11, %hf11, H11⟩, Hk⟩
  rw [harg3.eq_unread hf3, harg4.eq_unread hf4, harg5.eq_unread hf5, harg6.eq_unread hf6, harg7.eq_unread hf7, harg8.eq_unread hf8, harg9.eq_unread hf9, harg10.eq_unread hf10, harg11.eq_unread hf11]
  iapply (body c i (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) x0 q x2 x3 x4 x5 d9 d10 d11 E K)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H3, H4, H5, H6, H7, H8, H9, H10, H11⟩
  iapply Hk
  isplitl [H3]
  · iexists _; isplitr
    swap; · iexact H3
    ipureintro; exact harg3.read_unread _
  isplitl [H4]
  · iexists _; isplitr
    swap; · iexact H4
    ipureintro; exact harg4.read_unread _
  isplitl [H5]
  · iexists _; isplitr
    swap; · iexact H5
    ipureintro; exact harg5.read_unread _
  isplitl [H6]
  · iexists _; isplitr
    swap; · iexact H6
    ipureintro; exact harg6.read_unread _
  isplitl [H7]
  · iexists _; isplitr
    swap; · iexact H7
    ipureintro; exact harg7.read_unread _
  isplitl [H8]
  · iexists _; isplitr
    swap; · iexact H8
    ipureintro; exact harg8.read_unread _
  isplitl [H9]
  · iexists _; isplitr
    swap; · iexact H9
    ipureintro; exact harg9.read_unread _
  isplitl [H10]
  · iexists _
    iexists _; isplitr
    swap; · iexact H10
    ipureintro; exact harg10.read_unread _
  iexists _
  iexists _; isplitr
  swap; · iexact H11
  ipureintro; exact harg11.read_unread _

def datA (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outB (grid0.coords t) (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (datA m 0 c).A w = V m c (Pipeline.arrRef spec0 w) := by
  dsimp only [datA]

theorem aft0 (c : Dev nD) (t : Fin cfg0.N) : (datA m 0 c).after 0 t = iblk m c 0 t := by dsimp only [datA]
theorem aft1 (c : Dev nD) (t : Fin cfg0.N) : (datA m 0 c).after 1 t = iblk m c 1 t := by dsimp only [datA]
theorem aft2 (c : Dev nD) (t : Fin cfg0.N) : (datA m 0 c).after 2 t = iblk m c 2 t := by dsimp only [datA]
theorem aft3 (c : Dev nD) (t : Fin cfg0.N) : (datA m 0 c).after 3 t = iblk m c 3 t := by dsimp only [datA]
theorem aft4 (c : Dev nD) (t : Fin cfg0.N) : (datA m 0 c).after 4 t = iblk m c 4 t := by dsimp only [datA]
theorem aft5 (c : Dev nD) (t : Fin cfg0.N) : (datA m 0 c).after 5 t = iblk m c 5 t := by dsimp only [datA]
theorem aft6 (c : Dev nD) (t : Fin cfg0.N) : (datA m 0 c).after 6 t = outB (grid0.coords t) (iblk m c 0 t) (iblk m c 1 t) (iblk m c 2 t) (iblk m c 3 t) (iblk m c 4 t) (iblk m c 5 t) := by dsimp only [datA]

theorem bef0 (c : Dev nD) (t : Fin cfg0.N) (d) : (datA m 0 c).before 0 t d = iblk m c 0 t := before0_0_of m (datA m 0 c) (A_eq m c 0) (aft0 m c) t d
theorem bef1 (c : Dev nD) (t : Fin cfg0.N) (d) : (datA m 0 c).before 1 t d = iblk m c 1 t := before0_1_of m (datA m 0 c) (A_eq m c 1) (aft1 m c) t d
theorem bef2 (c : Dev nD) (t : Fin cfg0.N) (d) : (datA m 0 c).before 2 t d = iblk m c 2 t := before0_2_of m (datA m 0 c) (A_eq m c 2) (aft2 m c) t d
theorem bef3 (c : Dev nD) (t : Fin cfg0.N) (d) : (datA m 0 c).before 3 t d = iblk m c 3 t := before0_3_of m (datA m 0 c) (A_eq m c 3) (aft3 m c) t d
theorem bef4 (c : Dev nD) (t : Fin cfg0.N) (d) : (datA m 0 c).before 4 t d = iblk m c 4 t := before0_4_of m (datA m 0 c) (A_eq m c 4) (aft4 m c) t d
theorem bef5 (c : Dev nD) (t : Fin cfg0.N) (d) : (datA m 0 c).before 5 t d = iblk m c 5 t := before0_5_of m (datA m 0 c) (A_eq m c 5) (aft5 m c) t d

def bPre (c : Dev nD) (t : Fin cfg0.N) : sProp 𝕄 :=
  iprop((datA m 0 c).Φ t.castSucc ∗ (datA m 0 c).owesAt () t.castSucc
    ∗ (∃ d, owns (c : Thread nD τ) (ms0_0 t) fullShare ((datA m 0 c).before 0 t d))
    ∗ (∃ d, owns (c : Thread nD τ) (ms0_1 t) fullShare ((datA m 0 c).before 1 t d))
    ∗ (∃ d, owns (c : Thread nD τ) (ms0_2 t) fullShare ((datA m 0 c).before 2 t d))
    ∗ (∃ d, owns (c : Thread nD τ) (ms0_3 t) fullShare ((datA m 0 c).before 3 t d))
    ∗ (∃ d, owns (c : Thread nD τ) (ms0_4 t) fullShare ((datA m 0 c).before 4 t d))
    ∗ (∃ d, owns (c : Thread nD τ) (ms0_5 t) fullShare ((datA m 0 c).before 5 t d))
    ∗ (∃ d, owns (c : Thread nD τ) (ms0_6 t) fullShare ((datA m 0 c).before 6 t d)))

def bPost (c : Dev nD) (t : Fin cfg0.N) : sProp 𝕄 :=
  iprop((datA m 0 c).Φ t.succ ∗ (datA m 0 c).owesAt () t.succ
    ∗ owns (c : Thread nD τ) (ms0_0 t) fullShare ((datA m 0 c).after 0 t)
    ∗ owns (c : Thread nD τ) (ms0_1 t) fullShare ((datA m 0 c).after 1 t)
    ∗ owns (c : Thread nD τ) (ms0_2 t) fullShare ((datA m 0 c).after 2 t)
    ∗ owns (c : Thread nD τ) (ms0_3 t) fullShare ((datA m 0 c).after 3 t)
    ∗ owns (c : Thread nD τ) (ms0_4 t) fullShare ((datA m 0 c).after 4 t)
    ∗ owns (c : Thread nD τ) (ms0_5 t) fullShare ((datA m 0 c).after 5 t)
    ∗ owns (c : Thread nD τ) (ms0_6 t) fullShare ((datA m 0 c).after 6 t))

set_option maxHeartbeats 2000000 in
theorem run_body (c : Dev nD) (t : Fin cfg0.N) :
    bPre m c t ⊢ wp frame (wpE (defs₀ (F := F)) Variants.none c none) Set.univ (bodyAt0 t) (fun _ => bPost m c t) := by
  unfold bPre bPost bodyAt0
  simp only [bef0, bef1, bef2, bef3, bef4, bef5]
  rw [show (datA m 0 c).Φ t.succ = (datA m 0 c).Φ t.castSucc from rfl,
    show (datA m 0 c).owesAt () t.succ = (datA m 0 c).owesAt () t.castSucc from rfl,
    aft0, aft1, aft2, aft3, aft4, aft5, aft6, show (datA m 0 c).Φ t.castSucc = Pipeline.ΦA spec0 c from rfl, PhiA0_eq]
  iintro ⟨⟨⟨⟨%dm, Hm⟩, ⟨%da, Ha⟩⟩, Hr⟩, Ho, ⟨%d0, H0⟩, ⟨%d1, H1⟩, ⟨%d2, H2⟩, ⟨%d3, H3⟩, ⟨%d4, H4⟩, ⟨%d5, H5⟩, ⟨%d6, H6⟩⟩
  iapply (body_owns c (grid0.coords t) _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [Hm]; · iexists _; iexact Hm
  isplitl [Ha]; · iexists _; iexact Ha
  iintro ⟨H0, H1, H2, H3, H4, H5, H6, Hm, Ha⟩
  isplitl [Hm Ha Hr]
  · isplitl [Hm Ha]
    · isplitl [Hm]
      · iexact Hm
      · iexact Ha
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem row₀ (t : Fin cfg0.N) :
    defs₀ (F := F) .tc cfg0.body (cfg0.bodyArgs t (cfg0.slots t)) = bodyAt0 t := by
  unfold defs₀; rw [Defs.onTc_tc]

theorem obligation (c : Dev nD) : BodyObligation (datA (F := F) m 0 c) (defs₀ (F := F)) Variants.none () Set.univ := fun t => by
  rw [bigSep_W0, bigSep_W0, row₀]
  exact triple_restated (run_body m c t) rfl .rfl fun _ => .rfl

set_option backward.isDefEq.respectTransparency.types false in
set_option maxHeartbeats 800000 in
theorem run_all : θ_run defs (onTc (τ := τ) (main (F := F))) (s₀ m ρ) (fun r => (Pipeline.FramePost cfgs (datA m) 0 (V m)) r ∧ r.2.sem = fun _ => 0) :=
  Pipeline.θ_run_frame (Q' := _) cfgs (datA m) (0 : Fin 1) launch0 defs₀ Variants.none m ρ main
    (hbody := fun c => (obligation m c).loose) (hshare := fun c => (datA m 0 c).share_full fun _ => rfl)
    (howed := fun _ _ => rfl) (V := V m) (hmain := hmain m Variants.none) (hA := A_eq m) (hΦ := fun _ _ => rfl)

theorem run_post : θ_run defs (onTc (τ := τ) (main (F := F))) (s₀ m ρ) (Pipeline.FramePost cfgs (datA m) 0 (V m)) :=
  (θ_run defs _ _).mono (fun _ h => h.1) (run_all m ρ)

theorem frame3 : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (datA m) (A_eq m) (run_post m ρ)) ((θ_run defs _ _).mono (fun _ h => h.2) (run_all m ρ))

end Cert.Kernel3Ideal.Att

end
-- ==== Proof.AttnWords.lean ====
/- The relative position's bucket as a word, the mask's words, and the lookup of a bias. -/
module

public import Idealize.ShloMosaic.Lib.Pointwise
public import Idealize.ShloMosaic.Lib.StableHlo

@[expose] public section

noncomputable section

namespace Cert.Attn

open Idealize.ShloMosaic Idealize.ShloMosaic.TcCoe
open scoped BigOperators

/-- The bucket's logarithm of a distance. -/
def lgw (x : BitVec 32) : EReal :=
  Ideal.div (Ideal.log (Ideal.div (FloatOps.sitofp (F := Ideal) .f32 (IntOp.maxsi (IntOp.absi x) 1#32)) (Ideal.ofBits .f32 0x41000000#32)))
    (Ideal.ofBits .f32 0x40317218#32) * Ideal.ofBits .f32 0x41000000#32

/-- The bucket before its wrap. -/
def bk0 (x : BitVec 32) : BitVec 32 :=
  IntOp.addi (Scalar.select (IntOp.cmpi .sgt x 0#32) 16#32 0#32)
    (Scalar.select (IntOp.cmpi .slt (IntOp.absi x) 8#32) (IntOp.absi x)
      (IntOp.minsi (IntOp.addi 8#32 (Ideal.fptosi 32 (lgw x))) 15#32))

/-- The bucket of a relative position. -/
def bkt (x : BitVec 32) : BitVec 32 := Scalar.select (IntOp.cmpi .slt (bk0 x) 0#32) (IntOp.addi (bk0 x) 32#32) (bk0 x)

/-- The bias table's row it names. -/
def brow (x : BitVec 32) : Fin 32 := ⟨min (bkt x).toInt.toNat 31, by omega⟩

theorem c8 : Ideal.ofBits .f32 0x41000000#32 = ((8 : ℝ) : EReal) := by
  norm_num [Ideal.ofBits, Ideal.ieee, Nat.shiftRight_eq_div_pow, (by decide : ¬ BitVec.extractLsb' 31 1 1090519040#32 = 1#1)]
theorem clog : Ideal.ofBits .f32 0x40317218#32 = ((11629080 / 4194304 : ℝ) : EReal) := by
  norm_num [Ideal.ofBits, Ideal.ieee, Nat.shiftRight_eq_div_pow, (by decide : ¬ BitVec.extractLsb' 31 1 1076982296#32 = 1#1)]

theorem far_words : ∀ n : Fin 4096, 129 ≤ n.val →
    IntOp.cmpi .sgt (-BitVec.ofNat 32 n.val) 0#32 = 0#1 ∧ IntOp.absi (-BitVec.ofNat 32 n.val) = BitVec.ofNat 32 n.val
      ∧ IntOp.cmpi .slt (BitVec.ofNat 32 n.val) 8#32 = 0#1 ∧ IntOp.maxsi (BitVec.ofNat 32 n.val) 1#32 = BitVec.ofNat 32 n.val
      ∧ (BitVec.ofNat 32 n.val).toInt = (n.val : Int) := by
  decide +kernel

theorem lg_bounds (n : ℕ) (h : 129 ≤ n) (h' : n < 4096) :
    (7 : ℝ) ≤ Real.log ((n : ℝ) * (1 / 8)) * (1 / (11629080 / 4194304)) * 8 ∧ Real.log ((n : ℝ) * (1 / 8)) * (1 / (11629080 / 4194304)) * 8 ≤ 2048 := by
  have hn : (129 : ℝ) ≤ n := by exact_mod_cast h
  have hn' : (n : ℝ) ≤ 4096 := by exact_mod_cast h'.le
  have h16 : Real.log ((6 / 5 : ℝ) ^ 15) ≤ Real.log ((n : ℝ) * (1 / 8)) := Real.log_le_log (by norm_num) (by norm_num; linarith)
  rw [Real.log_pow] at h16
  have hu : Real.log ((n : ℝ) * (1 / 8)) ≤ (n : ℝ) * (1 / 8) - 1 := Real.log_le_sub_one_of_pos (by linarith)
  have h2 := Real.one_sub_inv_le_log_of_pos (show (0 : ℝ) < 6 / 5 by norm_num)
  push_cast at h16
  norm_num at h2
  constructor <;> linarith

theorem fp_far (x : ℝ) (h : 7 ≤ x) (h' : x ≤ 2048) : IntOp.minsi (IntOp.addi 8#32 (Ideal.fptosi 32 (x : EReal))) 15#32 = 15#32 := by
  rw [Ideal.fptosi, Ideal.toIntClamped_coe, if_pos (by linarith)]
  have h1 : (7 : Int) ≤ ⌊x⌋ := Int.le_floor.2 (by exact_mod_cast h)
  have h2 : ⌊x⌋ ≤ (2048 : Int) := by exact_mod_cast (Int.floor_le x).trans h'
  generalize ⌊x⌋ = z at h1 h2
  have e : max (-((2 ^ (32 - 1) : Nat) : Int)) (min (((2 ^ (32 - 1) : Nat) : Int) - 1) z) = z := by omega
  rw [e]
  obtain ⟨k, rfl⟩ : ∃ k : ℕ, z = (k : Int) := ⟨z.toNat, by omega⟩
  have hk : k < 2049 := by omega
  have hk7 : 7 ≤ k := by omega
  have hd : ∀ k : Fin 2049, 7 ≤ k.val → IntOp.minsi (IntOp.addi 8#32 (BitVec.ofInt 32 (k.val : Int))) 15#32 = 15#32 := by decide +kernel
  exact hd ⟨k, hk⟩ hk7

/-- Every position from 129 back is in the last bucket. -/
theorem brow_far (n : ℕ) (h : 129 ≤ n) (h' : n < 4096) : brow (-BitVec.ofNat 32 n) = (15 : Fin 32) := by
  have hw := far_words ⟨n, h'⟩ h
  dsimp only at hw
  obtain ⟨e1, e2, e3, e4, e5⟩ := hw
  have hl : lgw (-BitVec.ofNat 32 n) = ((Real.log ((n : ℝ) * (1 / 8)) * (1 / (11629080 / 4194304)) * 8 : ℝ) : EReal) := by
    unfold lgw
    rw [e2, e4, c8, clog]
    have hs : FloatOps.sitofp (F := Ideal) .f32 (BitVec.ofNat 32 n) = ((n : ℝ) : EReal) := by
      show (((BitVec.ofNat 32 n).toInt : ℝ) : EReal) = _
      rw [e5]; norm_cast
    have hn : (129 : ℝ) ≤ n := by exact_mod_cast h
    rw [hs, Ideal.div_coe (show (8 : ℝ) ≠ 0 by norm_num), ← EReal.coe_mul, Ideal.log_coe, if_neg (by linarith), Ideal.div_coe (by norm_num), ← EReal.coe_mul, ← EReal.coe_mul]
  have hb : bk0 (-BitVec.ofNat 32 n) = 15#32 := by
    have hf := fp_far _ (lg_bounds n h h').1 (lg_bounds n h h').2
    rw [← hl] at hf
    unfold bk0
    rw [hf, e1, e2, e3]
    simp only [Scalar.select, IntOp.addi]
    generalize BitVec.ofNat 32 n = y
    simp
  have hk : ∀ x, bk0 x = 15#32 → brow x = (15 : Fin 32) := fun x hx => by
    have hb' : bkt x = 15#32 := by
      unfold bkt
      generalize bk0 x = y at hx
      subst hx
      decide
    apply Fin.ext
    show min (bkt x).toInt.toNat 31 = 15
    generalize bkt x = y at hb'
    subst hb'
    decide
  exact hk _ hb

/-- The word of a relative position. -/
theorem rel_word (a b n : ℕ) (h : b = a + n) : BitVec.ofNat 32 a - BitVec.ofNat 32 b = -BitVec.ofNat 32 n := by
  subst h
  rw [BitVec.ofNat_add]
  generalize BitVec.ofNat 32 a = x
  generalize BitVec.ofNat 32 n = y
  rw [BitVec.sub_eq_add_neg, BitVec.neg_add, BitVec.sub_eq_add_neg, ← BitVec.add_assoc, ← BitVec.sub_eq_add_neg x x, BitVec.sub_self, BitVec.zero_add]

theorem rel_shift (a b c : ℕ) : BitVec.ofNat 32 (c + a) - BitVec.ofNat 32 (c + b) = BitVec.ofNat 32 a - BitVec.ofNat 32 b := by
  rw [BitVec.ofNat_add, BitVec.ofNat_add]
  generalize BitVec.ofNat 32 a = x
  generalize BitVec.ofNat 32 b = y
  generalize BitVec.ofNat 32 c = z
  apply BitVec.eq_of_toNat_eq
  simp only [BitVec.toNat_sub, BitVec.toNat_add]
  omega

/-- A position's chunk as the two programs compute it. -/
def chunkw (x : BitVec 32) : BitVec 32 :=
  Scalar.select (IntOp.andi (IntOp.cmpi .ne (if x = 0 then (0 : BitVec 32) else if x.msb then -1 else 1) (if 64#32 = 0 then (0 : BitVec 32) else if (64#32).msb then -1 else 1))
      (IntOp.cmpi .ne (IntOp.remsi .host x 64#32) 0#32))
    (IntOp.subi (IntOp.divsi .host x 64#32) 1#32) (IntOp.divsi .host x 64#32)

theorem chunkw_eq : ∀ n : Fin 4096, chunkw (BitVec.ofNat 32 n.val) = BitVec.ofNat 32 (n.val / 64) := by decide +kernel

theorem sle_chunks : ∀ a b : Fin 64, IntOp.cmpi .sle (BitVec.ofNat 32 a.val) (BitVec.ofNat 32 b.val) = if a.val ≤ b.val then 1#1 else 0#1 := by
  decide +kernel

/-- The mask's bit. -/
theorem mask_word (a b : Fin 4096) :
    IntOp.cmpi .sle (chunkw (BitVec.ofNat 32 a.val)) (chunkw (BitVec.ofNat 32 b.val)) = if a.val / 64 ≤ b.val / 64 then 1#1 else 0#1 := by
  rw [chunkw_eq, chunkw_eq]
  exact sle_chunks ⟨a.val / 64, by omega⟩ ⟨b.val / 64, by omega⟩

/-! ## The lookup of rows of eight -/

abbrev T32 : Shape := ⟨2, ![32, 8]⟩
abbrev I3 (n : ℕ) : Shape := ⟨3, ![n, n, 1]⟩
abbrev O3 (n : ℕ) : Shape := ⟨3, ![n, n, 8]⟩

/-- Whole rows of eight, at one row number each. -/
abbrev gdn (n : ℕ) (wf : GatherDims.WF T32 (I3 n) (O3 n) [2] [0] [] [0] [] 2 ![1, 8]) : GatherDims T32 (I3 n) (O3 n) where
  offsetDims := [2]
  collapsedSliceDims := [0]
  operandBatchingDims := []
  startIndicesBatchingDims := []
  startIndexMap := [0]
  indexVectorDim := 2
  sliceSizes := ![1, 8]
  wf := wf

theorem rows8_at {α : Type} (n : ℕ) (wf) (ft : T32.Idx → α) (idx : IVec (I3 n) 32) (a b : Fin n) (k : Fin 8) :
    Host.gather (gdn n wf) ft idx (ix3 a b k : (O3 n).Idx)
      = ft (ix2 ⟨min (idx (ix3 a b (0 : Fin 1) : (I3 n).Idx)).toInt.toNat 31, by omega⟩ k : T32.Idx) := by
  unfold Host.gather
  refine congrArg ft (funext fun x => Fin.ext ?_)
  show (gdn n wf).start (ix3 a b k) idx x + (gdn n wf).batchCoord (ix3 a b k) x + (gdn n wf).offCoord (ix3 a b k) x = _
  rw [GatherDims.batchCoord_eq_zero _ _ _ (fun h => absurd h List.not_mem_nil)]
  match x with
  | ⟨0, _⟩ =>
    show (gdn n wf).start (ix3 a b k) idx (0 : Fin 2) + 0 + (gdn n wf).offCoord (ix3 a b k) (0 : Fin 2) = min (idx (ix3 a b (0 : Fin 1))).toInt.toNat 31
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (gdn n wf).startIndexMap from List.mem_singleton.mpr rfl)]
    have hsi : (gdn n wf).siIdx (ix3 a b k) ⟨List.idxOf (0 : Fin 2) (gdn n wf).startIndexMap,
        List.idxOf_lt_length_iff.2 (List.mem_singleton.mpr rfl)⟩ = ix3 a b (0 : Fin 1) := by
      funext c; refine Fin.ext ?_
      match c with
      | ⟨0, _⟩ => rfl
      | ⟨1, _⟩ => rfl
      | ⟨2, _⟩ => rfl
    exact congrArg (fun z => min (idx z).toInt.toNat 31) hsi
  | ⟨1, _⟩ =>
    have h0 : (gdn n wf).start (ix3 a b k) idx (1 : Fin 2) = 0 := by
      unfold GatherDims.start
      exact dif_neg (fun h => absurd (List.mem_singleton.mp h) (by decide))
    have h1 : (gdn n wf).offCoord (ix3 a b k) (1 : Fin 2) = k.val := by
      unfold GatherDims.offCoord
      rw [dif_pos ((GatherDims.mem_sKept _ _).mpr ⟨fun h => absurd (List.mem_singleton.mp h) (by decide), fun h => absurd h List.not_mem_nil⟩)]
      rfl
    show (gdn n wf).start (ix3 a b k) idx (1 : Fin 2) + 0 + (gdn n wf).offCoord (ix3 a b k) (1 : Fin 2) = k.val
    rw [h0, h1]; omega

end Cert.Attn
-- ==== Proof.AttnSpec.lean ====
/- The differential attention of real queries, keys and values, as one formula. -/
module

public import proofs.«01_k».proof.Proof.AttnWords

@[expose] public section

noncomputable section

namespace Cert.Attn

open Idealize.ShloMosaic
open scoped BigOperators

/-- A head's column. -/
def col (h : Fin 8) (e : Fin 64) : Fin 512 := ⟨64 * h.val + e.val, by omega⟩
/-- A half's column. -/
def half (c : Fin 2) (d : Fin 32) : Fin 64 := ⟨32 * c.val + d.val, by omega⟩
/-- The scale, as the word the reference multiplies by. -/
def sgm : ℝ := 11863283 / 67108864

theorem sgm_word : Ideal.ofBits .f32 0x3E3504F3#32 = ((sgm : ℝ) : EReal) := by
  norm_num [sgm, Ideal.ofBits, Ideal.ieee, Nat.shiftRight_eq_div_pow, (by decide : ¬ BitVec.extractLsb' 31 1 1043662067#32 = 1#1)]

/-- The factor of the second half's means, from its four vectors. -/
def lamE (a b c d : Fin 32 → EReal) : EReal :=
  Ideal.exp (∑ x, a x * b x) - Ideal.exp (∑ x, c x * d x) + Ideal.ofBits .f32 0x3E4CCCCD#32

variable (q k v : Fin 4096 → Fin 512 → ℝ) (b : Fin 32 → Fin 8 → ℝ)

/-- The product of a query's half with a key's. -/
def zz (h : Fin 8) (c : Fin 2) (R K : Fin 4096) : ℝ := ∑ d : Fin 32, q R (col h (half c d)) * k K (col h (half c d))
/-- The bias of a pair of positions. -/
def beta (h : Fin 8) (R K : Fin 4096) : ℝ := b (brow (BitVec.ofNat 32 K.val - BitVec.ofNat 32 R.val)) h
/-- The weight of a key. -/
def wgt (h : Fin 8) (c : Fin 2) (R K : Fin 4096) : ℝ := if K.val / 64 ≤ R.val / 64 then Real.exp (zz q k h c R K * sgm + beta b h R K) else 0
def den (h : Fin 8) (c : Fin 2) (R : Fin 4096) : ℝ := ∑ K : Fin 4096, wgt q k b h c R K
def num (h : Fin 8) (c : Fin 2) (R : Fin 4096) (e : Fin 64) : ℝ := ∑ K : Fin 4096, wgt q k b h c R K * v K (col h e)
/-- The difference of the two halves' means. -/
def dif (lam : ℝ) (h : Fin 8) (R : Fin 4096) (e : Fin 64) : ℝ :=
  num q k v b h 0 R e / den q k b h 0 R - lam * (num q k v b h 1 R e / den q k b h 1 R)
/-- The result. -/
def res (lam : ℝ) (g : Fin 64 → EReal) (h : Fin 8) (R : Fin 4096) (e : Fin 64) : EReal :=
  (dif q k v b lam h R e : EReal) * Ideal.rsqrt (((∑ e, dif q k v b lam h R e * dif q k v b lam h R e) * (1 / 64) : ℝ) + Ideal.ofBits .f32 0x358637BD#32)
    * (g e * Ideal.ofBits .f32 0x3F4CCCCD#32)

theorem wgt_nonneg (h : Fin 8) (c : Fin 2) (R K : Fin 4096) : 0 ≤ wgt q k b h c R K := by
  unfold wgt; split
  · exact (Real.exp_pos _).le
  · exact le_refl _

theorem den_pos (h : Fin 8) (c : Fin 2) (R : Fin 4096) : 0 < den q k b h c R := by
  refine lt_of_lt_of_le ?_ (Finset.single_le_sum (f := fun K => wgt q k b h c R K) (fun K _ => wgt_nonneg q k b h c R K) (Finset.mem_univ R))
  show 0 < wgt q k b h c R R
  rw [wgt, if_pos (le_refl _)]
  exact Real.exp_pos _

theorem sum_coe {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The weight to the base e of a score. -/
def ew (t : EReal) : ℝ := (Ideal.exp t).toReal

theorem ew_bot : ew ⊥ = 0 := by simp [ew]
theorem ew_coe (r : ℝ) : ew (r : EReal) = Real.exp r := by simp [ew]
theorem ew_nonneg (t : EReal) (h : t ≠ ⊤) : 0 ≤ ew t := by
  induction t with
  | bot => rw [ew_bot]
  | coe r => rw [ew_coe]; exact (Real.exp_pos r).le
  | top => exact absurd rfl h

theorem exp_sub_coe (t : EReal) (h : t ≠ ⊤) (μ : ℝ) : Ideal.exp (t - (μ : EReal)) = ((ew t * Real.exp (-μ) : ℝ) : EReal) := by
  induction t with
  | bot => rw [ew_bot, EReal.bot_sub]; simp
  | coe r =>
    rw [ew_coe, ← EReal.coe_sub, Ideal.exp_coe, ← Real.exp_add]
    exact congrArg _ (congrArg _ (by ring))
  | top => exact absurd rfl h

/-- The softmax of scores of which one is a number and none is +∞. -/
theorem softmax_real {n : ℕ} (t : Fin n → EReal) (ht : ∀ j, t j ≠ ⊤) (j0 : Fin n) (h0 : t j0 ≠ ⊥) (j : Fin n) :
    Ideal.div (Ideal.exp (t j - max ⊥ (Finset.univ.fold max ⊥ t))) (∑ i, Ideal.exp (t i - max ⊥ (Finset.univ.fold max ⊥ t)))
      = ((ew (t j) / ∑ i, ew (t i) : ℝ) : EReal) := by
  have e : Finset.univ.fold max ⊥ t = Finset.univ.sup t := rfl
  rw [max_eq_right bot_le, e]
  obtain ⟨i, -, hi⟩ := Finset.exists_mem_eq_sup Finset.univ ⟨j0, Finset.mem_univ j0⟩ t
  have hb : t i ≠ ⊥ := fun hb => h0 (le_bot_iff.1 (by rw [← hb, ← hi]; exact Finset.le_sup (f := t) (Finset.mem_univ j0)))
  rw [hi]
  lift t i to ℝ using ⟨ht i, hb⟩ with μ
  simp only [exp_sub_coe (t _) (ht _)]
  rw [← sum_coe, ← Finset.sum_mul]
  have hp : 0 < ∑ i, ew (t i) := by
    refine lt_of_lt_of_le ?_ (Finset.single_le_sum (f := fun i => ew (t i)) (fun i _ => ew_nonneg _ (ht i)) (Finset.mem_univ j0))
    show 0 < ew (t j0)
    lift t j0 to ℝ using ⟨ht j0, h0⟩ with r
    rw [ew_coe]; exact Real.exp_pos r
  have hne : (∑ i, ew (t i)) * Real.exp (-μ) ≠ 0 := (mul_pos hp (Real.exp_pos _)).ne'
  rw [Ideal.div_coe hne, ← EReal.coe_mul]
  refine congrArg _ ?_
  have := (Real.exp_pos (-μ)).ne'
  field_simp

end Cert.Attn
-- ==== Proof.AttnSum.lean ====
/- Sums over lanes and over blocks of keys, and the weights of the kernel's scores. -/
module

public import proofs.«01_k».proof.Proof.AttnMath
public import proofs.«01_k».proof.Proof.AttnSpec

@[expose] public section

noncomputable section

namespace Cert.Attn

open Idealize.ShloMosaic
open scoped BigOperators

theorem sum_lane32 (a : Fin 4) (f : Fin 128 → ℝ) : (∑ d : Fin 128, if d.val / 32 = a.val then f d else 0) = ∑ j : Fin 32, f ⟨32 * a.val + j.val, by omega⟩ := by
  rw [← Finset.sum_filter]
  symm
  refine Finset.sum_bij (fun j _ => ⟨32 * a.val + j.val, by omega⟩) (fun j _ => ?_) (fun j _ j' _ h => ?_) (fun d hd => ?_) (fun j _ => rfl)
  · exact Finset.mem_filter.2 ⟨Finset.mem_univ _, by show (32 * a.val + j.val) / 32 = a.val; omega⟩
  · have := congrArg Fin.val h
    exact Fin.ext (by dsimp only at this; omega)
  · have := (Finset.mem_filter.1 hd).2
    exact ⟨⟨d.val - 32 * a.val, by omega⟩, Finset.mem_univ _, Fin.ext (by show 32 * a.val + (d.val - 32 * a.val) = d.val; omega)⟩

/-- A head's lane in its pair. -/
def lane (hh : Fin 2) (e : Fin 64) : Fin 128 := ⟨64 * hh.val + e.val, by omega⟩

theorem sum_lane64 (hh : Fin 2) (f : Fin 128 → ℝ) : (∑ d : Fin 128, if d.val / 64 = hh.val then f d else 0) = ∑ e : Fin 64, f (lane hh e) := by
  rw [← Finset.sum_filter]
  symm
  refine Finset.sum_bij (fun j _ => lane hh j) (fun j _ => ?_) (fun j _ j' _ h => ?_) (fun d hd => ?_) (fun j _ => rfl)
  · exact Finset.mem_filter.2 ⟨Finset.mem_univ _, by show (64 * hh.val + j.val) / 64 = hh.val; omega⟩
  · have := congrArg Fin.val h
    exact Fin.ext (by dsimp only [lane] at this; omega)
  · have := (Finset.mem_filter.1 hd).2
    exact ⟨⟨d.val - 64 * hh.val, by omega⟩, Finset.mem_univ _, Fin.ext (by show 64 * hh.val + (d.val - 64 * hh.val) = d.val; omega)⟩

theorem sum_blocks (G : ℕ → ℝ) (n : ℕ) : (∑ i ∈ Finset.range (128 * n), G i) = ∑ kb ∈ Finset.range n, ∑ k : Fin 128, G (128 * kb + k.val) := by
  induction n with
  | zero => simp
  | succ n ih => rw [Nat.mul_succ, Finset.sum_range_add, ih, Finset.sum_range_succ (fun kb => ∑ k : Fin 128, G (128 * kb + k.val)), Finset.sum_range (fun x => G (128 * n + x))]

/-- The keys' sum, when the keys past the query's block weigh nothing: the far blocks, the block before, the query's own. -/
theorem sum_upto (G : ℕ → ℝ) (qb : ℕ) (h : qb < 32) (hz : ∀ n, 128 * (qb + 1) ≤ n → G n = 0) :
    (∑ K : Fin 4096, G K.val) = (∑ kb ∈ Finset.range (qb - 1), ∑ k : Fin 128, G (128 * kb + k.val))
      + (if qb = 0 then 0 else ∑ k : Fin 128, G (128 * (qb - 1) + k.val)) + ∑ k : Fin 128, G (128 * qb + k.val) := by
  rw [← Finset.sum_range G, ← Finset.sum_subset (Finset.range_subset_range.2 (by omega : 128 * (qb + 1) ≤ 4096))
    (fun n _ hn => hz n (by rw [Finset.mem_range] at hn; omega)), sum_blocks, Finset.sum_range_succ (fun kb => ∑ k : Fin 128, G (128 * kb + k.val))]
  refine congrArg (· + _) ?_
  cases qb with
  | zero => simp
  | succ n => rw [if_neg (Nat.succ_ne_zero n), Finset.sum_range_succ (fun kb => ∑ k : Fin 128, G (128 * kb + k.val))]; rfl

/-- The queries' scale in the kernel. -/
def kap : ℝ := sgm * (Real.log 2)⁻¹

theorem wt_score (z x : ℝ) : wt ((z * kap + x * (Real.log 2)⁻¹ : ℝ) : EReal) = Real.exp (z * sgm + x) := by
  rw [wt_coe, Real.rpow_def_of_pos two_pos]
  refine congrArg _ ?_
  have := (Real.log_pos one_lt_two).ne'
  unfold kap
  field_simp

end Cert.Attn
-- ==== Proof.AttnHost.lean ====
/- What the attention's arguments hold at an index, after the host's operations. -/
module

public import proofs.«01_k».proof.Proof.AttnFrame
public import proofs.«01_k».proof.Proof.AttnSpec

@[expose] public section

set_option maxRecDepth 16384

noncomputable section

namespace Cert.Attn

open Idealize.ShloMosaic Idealize.ShloMosaic.TcCoe Idealize.ShloMosaic.StableHlo
open Cert.Kernel3Ideal Cert.Kernel3Ideal.Gen Cert.Kernel3Ideal.Att
open scoped BigOperators

variable (m : (ℓ : Loc nD τ sig) → Buf (Elt Ideal) ℓ) (c : Dev nD)

theorem V_q (R : Fin 4096) (j : Fin 512) : (V m c main_v113 : Vec Ideal S4096x512 .bf16) (ix2 R j) = (m ((c : Thread nD τ).loc main_arg0) : Vec Ideal S4096x512 .f32) (ix2 R j) := by
  show StableHlo.after _ _ _ _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_results
  rfl

theorem V_kt (R : Fin 4096) (j : Fin 512) : (V m c main_v115 : Vec Ideal S512x4096 .bf16) (ix2 j R) = (m ((c : Thread nD τ).loc main_arg1) : Vec Ideal S4096x512 .f32) (ix2 R j) := by
  show StableHlo.after _ _ _ _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_results
  pointwise []

theorem V_v (R : Fin 4096) (j : Fin 512) : (V m c main_v116 : Vec Ideal S4096x512 .bf16) (ix2 R j) = (m ((c : Thread nD τ).loc main_arg2) : Vec Ideal S4096x512 .f32) (ix2 R j) := by
  show StableHlo.after _ _ _ _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_results
  rfl

/-- A tile's relative positions: the key's less the query's. -/
def relD : IVec S128x128 32 :=
  subi (broadcastInDim S128x128 ![0, 1] bcast_S1x128_S128x128_0_1 (broadcastInDim S1x128 ![1] bcast_S128_S1x128_1 (iotaInDim S128 32 0)))
    (broadcastInDim S128x128 ![0, 1] bcast_S128x1_S128x128_0_1 (broadcastInDim S128x1 ![0] bcast_S128_S128x1_0 (iotaInDim S128 32 0)))
/-- The same for the block of keys before. -/
def relP : IVec S128x128 32 := subi relD (broadcastInDim S128x128 ![] bcast_S_S128x128 (constantI S_ 32 128#32))

def sp (b : BitVec 32) : IVec S128x128 32 := broadcastInDim S128x128 ![] bcast_S_S128x128 (constantI S_ 32 b)
def sf (b : BitVec 32) : FVec Ideal S128x128 .f32 := broadcastInDim S128x128 ![] bcast_S_S128x128 (constant S_ .f32 b)

/-- The buckets of a tile of relative positions. -/
def bk0V (x : IVec S128x128 32) : IVec S128x128 32 :=
  addi (id (select (cmpi .sgt x (sp 0#32)) (sp 16#32) (sp 0#32)))
    (select (cmpi .slt (absi x) (sp 8#32)) (absi x)
      (minsi (addi (sp 8#32) (fptosi (F := Ideal) 32 (mulf (Host.divf (Host.log (Host.divf (sitofp .f32 (maxsi (absi x) (sp 1#32))) (sf 0x41000000#32))) (sf 0x40317218#32)) (sf 0x41000000#32)))) (sp 15#32)))
def bktV (x : IVec S128x128 32) : IVec S128x128 32 :=
  select (cmpi .slt (bk0V x) (sp 0#32)) (addi (bk0V x) (sp 32#32)) (bk0V x)

/-- The biases of a tile, less the farthest's. -/
def biasV (tb : FVec Ideal S32x8 .f32) (x : IVec S128x128 32) : FVec Ideal S8x128x128 .f32 :=
  subf (transpose S8x128x128 [2, 0, 1] (Host.gather gather_S32x8_S128x128x1_S128x128x8_2_0_n_n_0_2_18 tb (broadcastInDim S128x128x1 ![0, 1] bcast_S128x128_S128x128x1_0_1 (bktV x))) transposes_S128x128x8_S8x128x128_2_0_1)
    (broadcastInDim S8x128x128 ![0, 1, 2] bcast_S8x1x1_S8x128x128_0_1_2 (broadcastInDim S8x1x1 ![0] bcast_S8_S8x1x1_0 (shapeCast S8 (extractStridedSlice S1x8 ![15, 0] tb slices_S32x8_S1x8_15_0) shapeCasts_S1x8_S8)))

/-- The chunks of positions. -/
def chV {s : Shape} (h : S_.BroadcastsInDim s (![] : Fin 0 → Fin s.rank)) (x : IVec s 32) : IVec s 32 :=
  select (andi (cmpi .ne (signi x) (broadcastInDim s ![] h (signi (constantI S_ 32 64#32))))
      (cmpi .ne (Host.remsi x (broadcastInDim s ![] h (constantI S_ 32 64#32))) (broadcastInDim s ![] h (constantI S_ 32 0#32))))
    (subi (Host.divsi x (broadcastInDim s ![] h (constantI S_ 32 64#32))) (broadcastInDim s ![] h (constantI S_ 32 1#32)))
    (Host.divsi x (broadcastInDim s ![] h (constantI S_ 32 64#32)))

/-- The keys a query of the same block sees. -/
def maskV : IVec S128x128 1 :=
  cmpi .sle (broadcastInDim S128x128 ![0, 1] bcast_S1x128_S128x128_0_1 (chV bcast_S_S1x128 (broadcastInDim S1x128 ![1] bcast_S128_S1x128_1 (iotaInDim S128 32 0))))
    (broadcastInDim S128x128 ![0, 1] bcast_S128x1_S128x128_0_1 (chV bcast_S_S128x1 (broadcastInDim S128x1 ![0] bcast_S128_S128x1_0 (iotaInDim S128 32 0))))

def ln2V : FVec Ideal S8x128x128 .f32 := broadcastInDim S8x128x128 ![] bcast_S_S8x128x128 (Host.log (constant S_ .f32 0x40000000#32))

/-- The diagonal's tiles. -/
def diagV (tb : FVec Ideal S32x8 .f32) : FVec Ideal S8x128x128 .f32 :=
  select (broadcastInDim S8x128x128 ![0, 1, 2] bcast_S1x128x128_S8x128x128_0_1_2 (broadcastInDim S1x128x128 ![1, 2] bcast_S128x128_S1x128x128_1_2 maskV))
    (Host.divf (biasV tb relD) ln2V) (broadcastInDim S8x128x128 ![] bcast_S_S8x128x128 (constant S_ .f32 0xFF800000#32))

/-- Both kinds of tiles. -/
def tilesV (d p : FVec Ideal S8x128x128 .f32) : FVec Ideal S4x2x2x128x128 .f32 :=
  shapeCast S4x2x2x128x128 (concatenate S8x2x128x128 1 [⟨S8x1x128x128, broadcastInDim S8x1x128x128 ![0, 2, 3] bcast_S8x128x128_S8x1x128x128_0_2_3 d⟩, ⟨S8x1x128x128, broadcastInDim S8x1x128x128 ![0, 2, 3] bcast_S8x128x128_S8x1x128x128_0_2_3 p⟩]
    concatenates_S8x1x128x128_S8x1x128x128_S8x2x128x128_d1) shapeCasts_S8x2x128x128_S4x2x2x128x128

set_option maxHeartbeats 1000000 in
theorem V_tiles : (V m c main_v112 : Vec Ideal S4x2x2x128x128 .f32)
    = tilesV (diagV (m ((c : Thread nD τ).loc main_arg3))) (Host.divf (biasV (m ((c : Thread nD τ).loc main_arg3)) relP) ln2V) := by
  show StableHlo.after _ _ _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_results
  rfl

theorem relD_apply (r k : Fin 128) : relD (ix2 r k) = BitVec.ofNat 32 k.val - BitVec.ofNat 32 r.val := by
  pointwise [relD]
  rfl
theorem relP_apply (r k : Fin 128) : relP (ix2 r k) = BitVec.ofNat 32 k.val - BitVec.ofNat 32 r.val - 128#32 := by
  rw [← relD_apply]
  rfl

theorem bk0V_apply (x : IVec S128x128 32) (r k : Fin 128) : bk0V x (ix2 r k) = bk0 (x (ix2 r k)) := rfl
theorem bktV_apply (x : IVec S128x128 32) (r k : Fin 128) : bktV x (ix2 r k) = bkt (x (ix2 r k)) := by
  rw [bkt, ← bk0V_apply]
  rfl

theorem biasV_apply (tb : FVec Ideal S32x8 .f32) (x : IVec S128x128 32) (h : Fin 8) (r k : Fin 128) :
    biasV tb x (ix3 h r k) = tb (ix2 (brow (x (ix2 r k))) h) - tb (ix2 15 h) := by
  unfold biasV
  have e : ∀ y : IVec S128x128 32, broadcastInDim S128x128x1 ![0, 1] bcast_S128x128_S128x128x1_0_1 y (ix3 r k (0 : Fin 1)) = y (ix2 r k) := by
    intro y
    pointwise []
  pointwise []
  refine congrArg (· - _) ?_
  refine (rows8_at 128 _ _ _ r k h).trans ?_
  refine congrArg tb (congrArg (fun a => ix2 a h) (Fin.ext ?_))
  show min (BitVec.toInt _).toNat 31 = min (bkt _).toInt.toNat 31
  rw [e, bktV_apply]

theorem maskV_apply (r k : Fin 128) : maskV (ix2 r k) = if k.val / 64 ≤ r.val / 64 then 1#1 else 0#1 := by
  refine Eq.trans ?_ (mask_word ⟨k.val, by omega⟩ ⟨r.val, by omega⟩)
  rfl

theorem two_word : Ideal.ofBits .f32 0x40000000#32 = ((2 : ℝ) : EReal) := by
  norm_num [Ideal.ofBits, Ideal.ieee, Nat.shiftRight_eq_div_pow, (by decide : ¬ BitVec.extractLsb' 31 1 1073741824#32 = 1#1)]

theorem ln2V_apply (h : Fin 8) (r k : Fin 128) : ln2V (ix3 h r k) = ((Real.log 2 : ℝ) : EReal) := by
  show Ideal.log (Ideal.ofBits .f32 0x40000000#32) = _
  rw [two_word, Ideal.log_coe, if_neg (by norm_num)]

/-- A pair's head. -/
def hOf (p : Fin 4) (hh : Fin 2) : Fin 8 := ⟨2 * p.val + hh.val, by omega⟩

theorem hOf_val (p : Fin 4) (hh : Fin 2) (q : p.val * 2 + hh.val < 8) : (⟨p.val * 2 + hh.val, q⟩ : Fin 8) = hOf p hh :=
  Fin.ext (by show p.val * 2 + hh.val = 2 * p.val + hh.val; omega)

theorem tilesV_apply0 (d p : FVec Ideal S8x128x128 .f32) (pp : Fin 4) (hh : Fin 2) (r k : Fin 128) :
    tilesV d p (ix5 pp hh (0 : Fin 2) r k) = d (ix3 (hOf pp hh) r k) := by
  pointwise [tilesV]
  rw [hOf_val]
theorem tilesV_apply1 (d p : FVec Ideal S8x128x128 .f32) (pp : Fin 4) (hh : Fin 2) (r k : Fin 128) :
    tilesV d p (ix5 pp hh (1 : Fin 2) r k) = p (ix3 (hOf pp hh) r k) := by
  pointwise [tilesV]
  rw [hOf_val]

theorem ninfH : Ideal.ofBits .f32 0xFF800000#32 = ⊥ := by simp [Ideal.ofBits, Ideal.ieee]

theorem diagV_apply (tb : FVec Ideal S32x8 .f32) (h : Fin 8) (r k : Fin 128) :
    diagV tb (ix3 h r k) = if k.val / 64 ≤ r.val / 64 then Ideal.div (tb (ix2 (brow (BitVec.ofNat 32 k.val - BitVec.ofNat 32 r.val)) h) - tb (ix2 15 h)) ((Real.log 2 : ℝ) : EReal) else ⊥ := by
  have e : ∀ (mk : IVec S128x128 1) (u w : FVec Ideal S8x128x128 .f32),
      select (broadcastInDim S8x128x128 ![0, 1, 2] bcast_S1x128x128_S8x128x128_0_1_2 (broadcastInDim S1x128x128 ![1, 2] bcast_S128x128_S1x128x128_1_2 mk))
        (Host.divf u w) (broadcastInDim S8x128x128 ![] bcast_S_S8x128x128 (constant S_ .f32 0xFF800000#32)) (ix3 h r k)
        = Scalar.select (mk (ix2 r k)) (Ideal.div (u (ix3 h r k)) (w (ix3 h r k))) ⊥ := by
    intro mk u w
    rw [← ninfH]
    pointwise []
  unfold diagV
  rw [e, maskV_apply, biasV_apply, ln2V_apply, relD_apply]
  by_cases hm : k.val / 64 ≤ r.val / 64
  · rw [if_pos hm, if_pos hm]; rfl
  · rw [if_neg hm, if_neg hm]; rfl

theorem div_ln2 (x y : ℝ) : Ideal.div ((x : EReal) - (y : EReal)) ((Real.log 2 : ℝ) : EReal) = (((x - y) * (Real.log 2)⁻¹ : ℝ) : EReal) := by
  rw [Ideal.div_coe (Real.log_pos one_lt_two).ne', ← EReal.coe_sub, ← EReal.coe_mul, one_div]

section
variable (b : Fin 32 → Fin 8 → ℝ) (hb : ∀ i h, (m ((c : Thread nD τ).loc main_arg3) : FVec Ideal S32x8 .f32) (ix2 i h) = ((b i h : ℝ) : EReal))

include hb in
theorem V_diag (p : Fin 4) (hh : Fin 2) (r k : Fin 128) : (V m c main_v112 : Vec Ideal S4x2x2x128x128 .f32) (ix5 p hh (0 : Fin 2) r k)
    = if k.val / 64 ≤ r.val / 64 then (((b (brow (BitVec.ofNat 32 k.val - BitVec.ofNat 32 r.val)) (hOf p hh) - b 15 (hOf p hh)) * (Real.log 2)⁻¹ : ℝ) : EReal) else ⊥ := by
  rw [V_tiles, tilesV_apply0, diagV_apply, hb, hb, div_ln2]

include hb in
theorem V_prev (p : Fin 4) (hh : Fin 2) (r k : Fin 128) : (V m c main_v112 : Vec Ideal S4x2x2x128x128 .f32) (ix5 p hh (1 : Fin 2) r k)
    = (((b (brow (BitVec.ofNat 32 k.val - BitVec.ofNat 32 r.val - 128#32)) (hOf p hh) - b 15 (hOf p hh)) * (Real.log 2)⁻¹ : ℝ) : EReal) := by
  rw [V_tiles, tilesV_apply1]
  show Ideal.div (biasV _ _ _) (ln2V _) = _
  rw [biasV_apply, ln2V_apply, relP_apply, hb, hb, div_ln2]
end

theorem V_lam : (V m c main_v8 : Vec Ideal S1 .f32) o1
    = lamE (fun x => (m ((c : Thread nD τ).loc main_arg4) : FVec Ideal S32 .f32) (ix1 x)) (fun x => (m ((c : Thread nD τ).loc main_arg5) : FVec Ideal S32 .f32) (ix1 x))
      (fun x => (m ((c : Thread nD τ).loc main_arg6) : FVec Ideal S32 .f32) (ix1 x)) (fun x => (m ((c : Thread nD τ).loc main_arg7) : FVec Ideal S32 .f32) (ix1 x)) := by
  show StableHlo.after _ _ _ _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_results
  show shapeCast S1 _ _ (ix1 (0 : Fin 1)) = _
  pointwise []
  rfl

theorem V_gain (l : Fin 128) (e : Fin 64) (he : l.val % 64 = e.val) : (V m c main_v14 : Vec Ideal S1x128 .f32) (ix2 0 l)
    = (fun a b : EReal => a * b) ((m ((c : Thread nD τ).loc main_arg8) : FVec Ideal S64 .f32) (ix1 e)) (Ideal.ofBits .f32 0x3F4CCCCD#32) := by
  show StableHlo.after _ _ _ _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_results
  pointwise []
  have h : ∀ p, (⟨l.val % 64, p⟩ : Fin 64) = e := fun p => Fin.ext he
  rw [h]

end Cert.Attn
-- ==== Proof.AttnRow.lean ====
/- One row of queries through the kernel's blocks of keys. -/
module

public import proofs.«01_k».proof.Proof.AttnStep
public import proofs.«01_k».proof.Proof.AttnFrame
public import proofs.«01_k».proof.Proof.AttnSum
public import proofs.«01_k».proof.Proof.AttnHost

@[expose] public section

noncomputable section

namespace Cert.Attn

open Idealize.ShloMosaic Idealize.ShloMosaic.TcCoe
open Cert.Kernel3Ideal Cert.Kernel3Ideal.Gen Cert.Kernel3Ideal.Att
open scoped BigOperators

/-! ## Where the blocks lie -/

theorem trips1 (i : grid0.Coords) : (k0_t1_loop i).trips = (i 2).val - 1 := by
  have h : ∀ n : Fin 32, (let v133 : BitVec 32 := Scalar.subi (Scalar.maxsi (Scalar.subi (BitVec.ofNat 32 n.val) 1#32) 0#32) 0#32
      let v137 : BitVec 32 := Scalar.addi 0#32 (Scalar.muli (Scalar.divsi v133 1#32) 1#32)
      (⟨0#32, v137, 1#32⟩ : Scf.Loop 32)).trips = n.val - 1 := by decide +kernel
  exact h (i 2)

theorem off_word : ∀ n : Fin 32, (Scalar.indexCast (Scalar.muli (Scf.iv 0#32 1#32 n.val) 128#32)).toNat = 128 * n.val := by decide +kernel
theorem prev_word : ∀ n : Fin 32, (Scalar.indexCast (Scalar.muli (Scalar.maxsi (Scalar.subi (BitVec.ofNat 32 n.val) 1#32) 0#32) 128#32)).toNat = 128 * (n.val - 1) := by decide +kernel
theorem diag_word : ∀ n : Fin 32, (Scalar.indexCast (Scalar.muli (BitVec.ofNat 32 n.val) 128#32)).toNat = 128 * n.val := by decide +kernel

theorem i2_lt (i : grid0.Coords) : (i 2).val < 32 := (i 2).isLt

theorem off1_eq (i : grid0.Coords) (kk : Fin (k0_t1_loop i).trips) : k0_off1 i kk = ![0, 128 * kk.val] :=
  congrArg (fun a => ![0, a]) (off_word ⟨kk.val, by have := kk.isLt; have := trips1 i; have := i2_lt i; omega⟩)
theorem off2_eq (i : grid0.Coords) (kk : Fin (k0_t1_loop i).trips) : k0_off2 i kk = ![128 * kk.val, 0] :=
  congrArg (fun a => ![a, 0]) (off_word ⟨kk.val, by have := kk.isLt; have := trips1 i; have := i2_lt i; omega⟩)
theorem off5_eq (i : grid0.Coords) : k0_off5 i = ![0, 128 * ((i 2).val - 1)] := congrArg (fun a => ![0, a]) (prev_word (i 2))
theorem off6_eq (i : grid0.Coords) : k0_off6 i = ![128 * ((i 2).val - 1), 0] := congrArg (fun a => ![a, 0]) (prev_word (i 2))
theorem off7_eq (i : grid0.Coords) : k0_off7 i = ![0, 128 * (i 2).val] := congrArg (fun a => ![0, a]) (diag_word (i 2))
theorem off8_eq (i : grid0.Coords) : k0_off8 i = ![128 * (i 2).val, 0] := congrArg (fun a => ![a, 0]) (diag_word (i 2))

/-- A key's position from its block. -/
def pos (kb : ℕ) (h : kb < 32) (k : Fin 128) : Fin 4096 := ⟨128 * kb + k.val, by omega⟩
/-- A pair's column. -/
def colp (p : Fin 4) (l : Fin 128) : Fin 512 := ⟨128 * p.val + l.val, by omega⟩

theorem ktAt_apply (off inb) (kb : ℕ) (h : kb < 32) (ho : off = ![0, 128 * kb]) (x : Vec Ideal S128x4096 .bf16) (d k : Fin 128) :
    ktAt off inb x (ix2 d k) = x (ix2 d (pos kb h k)) := by
  subst ho
  refine congrArg x (funext fun a => Fin.ext ?_)
  match a with
  | ⟨0, _⟩ => show 0 + 1 * d.val = d.val; omega
  | ⟨1, _⟩ => show 128 * kb + 1 * k.val = 128 * kb + k.val; omega
theorem vAt_apply (off inb) (kb : ℕ) (h : kb < 32) (ho : off = ![128 * kb, 0]) (x : Vec Ideal S4096x128 .bf16) (k l : Fin 128) :
    vAt off inb x (ix2 k l) = x (ix2 (pos kb h k) l) := by
  subst ho
  refine congrArg x (funext fun a => Fin.ext ?_)
  match a with
  | ⟨0, _⟩ => show 128 * kb + 1 * k.val = 128 * kb + k.val; omega
  | ⟨1, _⟩ => show 0 + 1 * l.val = l.val; omega

/-! ## One row's state -/

/-- A slab's row against its sums. -/
def Inv (M A : Vec Ideal S1x128x128 .f32) (r : Fin 128) (E : Fin 128 → ℝ) : Prop := RowInv (fun l => M (ix3 0 r l)) (fun l => A (ix3 0 r l)) E

theorem Inv.step {M A : Vec Ideal S1x128x128 .f32} {r : Fin 128} {E : Fin 128 → ℝ} (h : Inv M A r E) (s : FVec Ideal S128x128 .f32) (va : FVec Ideal S128x128 .bf16)
    (V : Fin 128 → Fin 128 → ℝ) (hva : ∀ k l, va (ix2 k l) = ((V k l : ℝ) : EReal)) (hs : ∀ k, s (ix2 r k) ≠ (⊤ : EReal)) :
    Inv (stepM s M) (stepA s va M A) r (fun l => E l + ∑ k, wt (s (ix2 r k)) * V k l) := by
  have := RowInv.step h V hs
  unfold Inv
  rw [show (fun l => stepM s M (ix3 0 r l)) = newM (fun k => M (ix3 0 r k)) (fun k => s (ix2 r k)) from funext fun l => stepM_apply s M r l,
    show (fun l => stepA s va M A (ix3 0 r l)) = newA (fun k => M (ix3 0 r k)) (fun k => A (ix3 0 r k)) (fun k => s (ix2 r k)) (fun k l => va (ix2 k l)) from funext fun l => stepA_apply s va M A r l,
    show (fun k l => va (ix2 k l)) = (fun k l => ((V k l : ℝ) : EReal)) from funext fun k => funext fun l => hva k l]
  exact this

theorem Inv.congr {M A : Vec Ideal S1x128x128 .f32} {r : Fin 128} {E E' : Fin 128 → ℝ} (h : Inv M A r E) (e : ∀ l, E l = E' l) : Inv M A r E' :=
  (funext e : E = E') ▸ h

section
variable (q k v : Fin 4096 → Fin 512 → ℝ) (b : Fin 32 → Fin 8 → ℝ) (i : grid0.Coords) (p : Fin 4) (hh c : Fin 2)
  (qB : Vec Ideal S128x128 .bf16) (x2 : Vec Ideal S128x4096 .bf16) (x3 : Vec Ideal S4096x128 .bf16) (x4 : Vec Ideal S1x2x2x128x128 .f32)

/-- The slab of a head's half. -/
def sl (hh c : Fin 2) : Fin 4 := ⟨2 * hh.val + c.val, by omega⟩

theorem hd_sl : hd (sl hh c) = hh := Fin.ext (by show (2 * hh.val + c.val) / 2 = hh.val; omega)

/-- The query's position. -/
def rowq (i : grid0.Coords) (r : Fin 128) : Fin 4096 := pos (i 2).val (i2_lt i) r

variable (hq : ∀ r l, qB (ix2 r l) = ((q (rowq i r) (colp p l) : ℝ) : EReal))
  (hk : ∀ d K, x2 (ix2 d K) = ((k K (colp p d) : ℝ) : EReal))
  (hv : ∀ K l, x3 (ix2 K l) = ((v K (colp p l) : ℝ) : EReal))
  (hd0 : ∀ r k : Fin 128, x4 (ix5 0 hh 0 r k) = if k.val / 64 ≤ r.val / 64 then (((b (brow (BitVec.ofNat 32 k.val - BitVec.ofNat 32 r.val)) (hOf p hh) - b 15 (hOf p hh)) * (Real.log 2)⁻¹ : ℝ) : EReal) else ⊥)
  (hd1 : ∀ r k : Fin 128, x4 (ix5 0 hh 1 r k) = (((b (brow (BitVec.ofNat 32 k.val - BitVec.ofNat 32 r.val - 128#32)) (hOf p hh) - b 15 (hOf p hh)) * (Real.log 2)⁻¹ : ℝ) : EReal))

include hq hk in
/-- A block's products. -/
theorem prod_apply (off inb) (kb : ℕ) (h : kb < 32) (ho : off = ![0, 128 * kb]) (r kk : Fin 128) :
    qk (qs qB (sl hh c)) (ktAt off inb x2) (ix2 r kk) = ((zz q k (hOf p hh) c (rowq i r) (pos kb h kk) * kap : ℝ) : EReal) := by
  rw [qk_apply]
  have e : ∀ d : Fin 128, qs qB (sl hh c) (ix2 r d) * ktAt off inb x2 (ix2 d kk)
      = (((if d.val / 32 = (sl hh c).val then q (rowq i r) (colp p d) * k (pos kb h kk) (colp p d) * kap else 0) : ℝ) : EReal) := by
    intro d
    rw [ktAt_apply off inb kb h ho, hk, qs, qMask_apply, pay54_apply, hq]
    by_cases hm : d.val / 32 = (sl hh c).val
    · rw [if_pos hm, if_pos hm, ← EReal.coe_mul, ← EReal.coe_mul]
      exact congrArg _ (by unfold kap sgm; ring)
    · rw [if_neg hm, if_neg hm, zero_mul, EReal.coe_zero]
  simp only [e]
  rw [← sum_coe, sum_lane32, zz, Finset.sum_mul]
  refine congrArg _ (Finset.sum_congr rfl fun d _ => ?_)
  have ec : colp p ⟨32 * (sl hh c).val + d.val, by have := (sl hh c).isLt; omega⟩ = col (hOf p hh) (half c d) :=
    Fin.ext (by show 128 * p.val + (32 * (2 * hh.val + c.val) + d.val) = 64 * (2 * p.val + hh.val) + (32 * c.val + d.val); omega)
  rw [ec]

/-- A head's values, ones in the other head's lanes. -/
def vo (K : Fin 4096) (l : Fin 128) : ℝ := if l.val / 64 = hh.val then v K (colp p l) else 1

include hv in
theorem vals_apply (off inb) (kb : ℕ) (h : kb < 32) (ho : off = ![128 * kb, 0]) (kk l : Fin 128) :
    vs (vAt off inb x3) (sl hh c) (ix2 kk l) = ((vo v p hh (pos kb h kk) l : ℝ) : EReal) := by
  have e : vs (vAt off inb x3) (sl hh c) = vAug (BitVec.ofNat 32 hh.val) (vAt off inb x3) := by
    unfold vs
    rw [show (sl hh c).val / 2 = hh.val from congrArg Fin.val (hd_sl hh c)]
  rw [e, vAug_apply, vAt_apply off inb kb h ho, hv, vo]
  split
  · rfl
  · exact EReal.coe_one.symm

/-- A key's share of a lane's sum. -/
def gg (R : Fin 4096) (n : ℕ) (l : Fin 128) : ℝ := if h : n < 4096 then wgt q k b (hOf p hh) c R ⟨n, h⟩ * vo v p hh ⟨n, h⟩ l else 0

/-- The far bias's weight, taken out. -/
def fw : ℝ := Real.exp (-b 15 (hOf p hh))

theorem gg_pos (R : Fin 4096) (kb : ℕ) (h : kb < 32) (kk l : Fin 128) :
    gg q k v b p hh c R (128 * kb + kk.val) l = wgt q k b (hOf p hh) c R (pos kb h kk) * vo v p hh (pos kb h kk) l :=
  dif_pos (pos kb h kk).isLt

include hv in
/-- A block whose scores weigh its keys. -/
theorem Inv.block {M A : Vec Ideal S1x128x128 .f32} {r : Fin 128} {S : Fin 128 → ℝ} (hI : Inv M A r (fun l => fw b p hh * S l))
    (s : FVec Ideal S128x128 .f32) (off inb) (kb : ℕ) (h : kb < 32) (ho : off = ![128 * kb, 0])
    (hs : ∀ kk, s (ix2 r kk) ≠ (⊤ : EReal)) (hw : ∀ kk, wt (s (ix2 r kk)) = fw b p hh * wgt q k b (hOf p hh) c (rowq i r) (pos kb h kk)) :
    Inv (stepM s M) (stepA s (vs (vAt off inb x3) (sl hh c)) M A) r (fun l => fw b p hh * (S l + ∑ kk : Fin 128, gg q k v b p hh c (rowq i r) (128 * kb + kk.val) l)) := by
  refine (hI.step s _ (fun kk l => vo v p hh (pos kb h kk) l) (vals_apply v p hh c x3 hv off inb kb h ho) hs).congr fun l => ?_
  rw [mul_add, Finset.mul_sum]
  refine congrArg _ (Finset.sum_congr rfl fun kk _ => ?_)
  rw [hw, gg_pos q k v b p hh c (rowq i r) kb h, mul_assoc]

include hq hk in
theorem far_score (kk : Fin (k0_t1_loop i).trips) (r k' : Fin 128) :
    farS i qB x2 kk (sl hh c) (ix2 r k') ≠ (⊤ : EReal) ∧
      wt (farS i qB x2 kk (sl hh c) (ix2 r k')) = fw b p hh * wgt q k b (hOf p hh) c (rowq i r) (pos kk.val (by have := kk.isLt; have := trips1 i; have := i2_lt i; omega) k') := by
  have hkk := kk.isLt
  have ht := trips1 i
  have hi := i2_lt i
  unfold farS
  rw [prod_apply q k i p hh c qB x2 hq hk _ _ kk.val (by omega) (off1_eq i kk)]
  refine ⟨EReal.coe_ne_top _, ?_⟩
  have e := wt_score (zz q k (hOf p hh) c (rowq i r) (pos kk.val (by omega) k')) 0
  rw [zero_mul, add_zero, add_zero] at e
  rw [e, wgt, if_pos (by show (128 * kk.val + k'.val) / 64 ≤ (128 * (i 2).val + r.val) / 64; omega), fw, ← Real.exp_add]
  refine congrArg _ ?_
  have hb : beta b (hOf p hh) (rowq i r) (pos kk.val (by omega) k') = b 15 (hOf p hh) := by
    unfold beta
    rw [rel_word _ _ ((128 * (i 2).val + r.val) - (128 * kk.val + k'.val)) (by show 128 * (i 2).val + r.val = 128 * kk.val + k'.val + _; omega), brow_far _ (by omega) (by omega)]
  rw [hb]; ring

theorem far_zero (a : Fin 4) (r : Fin 128) : Inv (slab a (k0_pay63 (F := Ideal))) (slab a (k0_pay65 (F := Ideal) k0_pay64)) r (fun _ => 0) := by
  refine Or.inl ⟨fun l => ?_, fun l => ?_, fun l => rfl⟩
  · show k0_pay63 (F := Ideal) _ = _
    unfold k0_pay63
    rw [shapeCast_self]
    exact ninf
  · show k0_pay65 (F := Ideal) k0_pay64 _ = _
    unfold k0_pay65 k0_pay64
    rw [shapeCast_self]
    exact Ideal.ofBits_zero_f32

include hq hk hv in
theorem far_inv (r : Fin 128) (n : ℕ) (hn : n ≤ (i 2).val - 1) :
    Inv (slab (sl hh c) (far i qB x2 x3 n).1) (slab (sl hh c) (far i qB x2 x3 n).2) r
      (fun l => fw b p hh * ∑ kb ∈ Finset.range n, ∑ kk : Fin 128, gg q k v b p hh c (rowq i r) (128 * kb + kk.val) l) := by
  induction n with
  | zero => exact (far_zero (sl hh c) r).congr fun l => by simp
  | succ n ih =>
    have hlt : n < (k0_t1_loop i).trips := by rw [trips1]; omega
    have e : far i qB x2 x3 (n + 1) = (blkM (farS i qB x2 ⟨n, hlt⟩) (far i qB x2 x3 n).1, blkA (farS i qB x2 ⟨n, hlt⟩) (vs (vAt (k0_off2 i ⟨n, hlt⟩) (k0_off2_inb i ⟨n, hlt⟩) x3)) (far i qB x2 x3 n).1 (far i qB x2 x3 n).2) := dif_pos hlt
    rw [e]
    unfold blkM blkA
    rw [slab_all, slab_all]
    have hi := i2_lt i
    refine (Inv.block q k v b i p hh c x3 hv (ih (by omega)) _ _ _ n (by omega) (off2_eq i ⟨n, hlt⟩)
      (fun kk => (far_score q k b i p hh c qB x2 hq hk ⟨n, hlt⟩ r kk).1) (fun kk => (far_score q k b i p hh c qB x2 hq hk ⟨n, hlt⟩ r kk).2)).congr fun l => ?_
    rw [Finset.sum_range_succ]

theorem pay68_eq : k0_pay68 (F := Ideal) (BitVec.ofNat 32 (i 2).val) = if (i 2).val = 0 then (⊥ : EReal) else 0 := by
  have h : ∀ n : Fin 32, Scalar.cmpi .eq (BitVec.ofNat 32 n.val) 0#32 = if n.val = 0 then 1#1 else 0#1 := by decide +kernel
  show Scalar.select (Scalar.cmpi .eq (BitVec.ofNat 32 (i 2).val) 0#32) (⊥ : EReal) (Ideal.ofBits .f32 0x00000000#32) = _
  rw [h (i 2), Ideal.ofBits_zero_f32]
  by_cases h0 : (i 2).val = 0
  · rw [if_pos h0, if_pos h0]; rfl
  · rw [if_neg h0, if_neg h0]; rfl

theorem tile_apply (hh dp : Fin 2) (x : Vec Ideal S1x2x2x128x128 .f32) (r k' : Fin 128) : tile hh dp x (ix5 0 0 0 r k') = x (ix5 0 hh dp r k') := by
  refine congrArg x (funext fun d => ?_)
  match d with
  | ⟨0, _⟩ => rfl
  | ⟨1, _⟩ => rfl
  | ⟨2, _⟩ => rfl
  | ⟨3, _⟩ => rfl
  | ⟨4, _⟩ => rfl

theorem prevS_apply (r k' : Fin 128) : prevS i qB x2 x4 (sl hh c) (ix2 r k')
    = (fun a b : EReal => a + b) (qk (qs qB (sl hh c)) (ktAt (k0_off5 i) (k0_off5_inb i) x2) (ix2 r k')) ((fun a b : EReal => a + b) (x4 (ix5 0 hh 1 r k')) (k0_pay68 (F := Ideal) (BitVec.ofNat 32 (i 2).val))) := by
  unfold prevS
  rw [hd_sl]
  generalize qk (qs qB (sl hh c)) (ktAt (k0_off5 i) (k0_off5_inb i) x2) = y
  generalize k0_pay68 (F := Ideal) (BitVec.ofNat 32 (i 2).val) = z
  pointwise []
  rw [tile_apply]

theorem diagS_apply (r k' : Fin 128) : diagS i qB x2 x4 (sl hh c) (ix2 r k')
    = (fun a b : EReal => a + b) (qk (qs qB (sl hh c)) (ktAt (k0_off7 i) (k0_off7_inb i) x2) (ix2 r k')) (x4 (ix5 0 hh 0 r k')) := by
  unfold diagS
  rw [hd_sl]
  generalize qk (qs qB (sl hh c)) (ktAt (k0_off7 i) (k0_off7_inb i) x2) = y
  pointwise []
  rw [tile_apply]

theorem rel_prev (n a b' : ℕ) : BitVec.ofNat 32 (128 * n + a) - BitVec.ofNat 32 (128 * (n + 1) + b') = BitVec.ofNat 32 a - BitVec.ofNat 32 b' - 128#32 := by
  rw [show 128 * (n + 1) + b' = 128 * n + (128 + b') by ring, rel_shift, BitVec.ofNat_add 128 b']
  generalize BitVec.ofNat 32 a = x
  generalize BitVec.ofNat 32 b' = y
  apply BitVec.eq_of_toNat_eq
  simp only [BitVec.toNat_sub, BitVec.toNat_add, BitVec.toNat_ofNat]
  omega

theorem fw_exp (z t : ℝ) : Real.exp (z * sgm + (t - b 15 (hOf p hh))) = fw b p hh * Real.exp (z * sgm + t) := by
  rw [fw, ← Real.exp_add]
  exact congrArg _ (by ring)

include hq hk hd1 in
theorem prev_dead (h0 : (i 2).val = 0) (r k' : Fin 128) : prevS i qB x2 x4 (sl hh c) (ix2 r k') = (⊥ : EReal) := by
  rw [prevS_apply, pay68_eq, if_pos h0]
  show _ + (_ + (⊥ : EReal)) = ⊥
  rw [EReal.add_bot, EReal.add_bot]

include hq hk hd1 in
theorem prev_score (h0 : (i 2).val ≠ 0) (r k' : Fin 128) :
    prevS i qB x2 x4 (sl hh c) (ix2 r k') ≠ (⊤ : EReal) ∧
      wt (prevS i qB x2 x4 (sl hh c) (ix2 r k')) = fw b p hh * wgt q k b (hOf p hh) c (rowq i r) (pos ((i 2).val - 1) (by have := i2_lt i; omega) k') := by
  have hi := i2_lt i
  rw [prevS_apply, pay68_eq, if_neg h0, prod_apply q k i p hh c qB x2 hq hk _ _ ((i 2).val - 1) (by omega) (off5_eq i), hd1]
  dsimp only
  rw [add_zero, ← EReal.coe_add]
  refine ⟨EReal.coe_ne_top _, ?_⟩
  rw [wt_score, wgt, if_pos (by show (128 * ((i 2).val - 1) + k'.val) / 64 ≤ (128 * (i 2).val + r.val) / 64; omega), ← fw_exp]
  have hb : beta b (hOf p hh) (rowq i r) (pos ((i 2).val - 1) (by omega) k') = b (brow (BitVec.ofNat 32 k'.val - BitVec.ofNat 32 r.val - 128#32)) (hOf p hh) := by
    unfold beta
    have e := rel_prev ((i 2).val - 1) k'.val r.val
    rw [show (i 2).val - 1 + 1 = (i 2).val by omega] at e
    rw [← e]
    rfl
  rw [hb]

include hq hk hd0 in
theorem diag_score (r k' : Fin 128) :
    diagS i qB x2 x4 (sl hh c) (ix2 r k') ≠ (⊤ : EReal) ∧
      wt (diagS i qB x2 x4 (sl hh c) (ix2 r k')) = fw b p hh * wgt q k b (hOf p hh) c (rowq i r) (pos (i 2).val (i2_lt i) k') := by
  have hi := i2_lt i
  rw [diagS_apply, prod_apply q k i p hh c qB x2 hq hk _ _ (i 2).val hi (off7_eq i), hd0]
  dsimp only
  have hm : (pos (i 2).val hi k').val / 64 ≤ (rowq i r).val / 64 ↔ k'.val / 64 ≤ r.val / 64 := by
    show (128 * (i 2).val + k'.val) / 64 ≤ (128 * (i 2).val + r.val) / 64 ↔ _
    omega
  rw [wgt]
  by_cases h : k'.val / 64 ≤ r.val / 64
  · rw [if_pos h, if_pos (hm.2 h), ← EReal.coe_add]
    refine ⟨EReal.coe_ne_top _, ?_⟩
    rw [wt_score, ← fw_exp]
    have hb : beta b (hOf p hh) (rowq i r) (pos (i 2).val hi k') = b (brow (BitVec.ofNat 32 k'.val - BitVec.ofNat 32 r.val)) (hOf p hh) := by
      unfold beta
      rw [← rel_shift k'.val r.val (128 * (i 2).val)]
      rfl
    rw [hb]
  · rw [if_neg h, if_neg (fun hn => h (hm.1 hn)), EReal.add_bot]
    exact ⟨bot_ne_top, by rw [wt_bot, mul_zero]⟩

include hq hk hv hd0 hd1 in
/-- A row after all its blocks. -/
theorem row_inv (r : Fin 128) :
    Inv (m2 i qB x2 x3 x4 (sl hh c)) (a2 i qB x2 x3 x4 (sl hh c)) r
      (fun l => fw b p hh * ∑ K : Fin 4096, wgt q k b (hOf p hh) c (rowq i r) K * vo v p hh K l) := by
  have hi := i2_lt i
  have hf := far_inv q k v b i p hh c qB x2 x3 hq hk hv r ((i 2).val - 1) (le_refl _)
  rw [← trips1 i] at hf
  have hp : Inv (m1 i qB x2 x3 x4 (sl hh c)) (a1 i qB x2 x3 x4 (sl hh c)) r
      (fun l => fw b p hh * ((∑ kb ∈ Finset.range ((i 2).val - 1), ∑ kk : Fin 128, gg q k v b p hh c (rowq i r) (128 * kb + kk.val) l)
        + if (i 2).val = 0 then 0 else ∑ kk : Fin 128, gg q k v b p hh c (rowq i r) (128 * ((i 2).val - 1) + kk.val) l)) := by
    by_cases h0 : (i 2).val = 0
    · have hd := prev_dead q k b i p hh c qB x2 x4 hq hk hd1 h0 r
      refine (hf.step (prevS i qB x2 x4 (sl hh c)) _ (fun kk l => vo v p hh (pos ((i 2).val - 1) (by omega) kk) l)
        (vals_apply v p hh c x3 hv (k0_off6 i) (k0_off6_inb i) ((i 2).val - 1) (by omega) (off6_eq i)) (fun kk => by rw [hd]; exact bot_ne_top)).congr fun l => ?_
      simp only [hd, wt_bot, zero_mul, Finset.sum_const_zero, add_zero]
      rw [if_pos h0, add_zero, trips1]
    · refine (Inv.block q k v b i p hh c x3 hv hf (prevS i qB x2 x4 (sl hh c)) _ _ ((i 2).val - 1) (by omega) (off6_eq i)
        (fun kk => (prev_score q k b i p hh c qB x2 x4 hq hk hd1 h0 r kk).1) (fun kk => (prev_score q k b i p hh c qB x2 x4 hq hk hd1 h0 r kk).2)).congr fun l => ?_
      rw [if_neg h0, trips1]
  refine (Inv.block q k v b i p hh c x3 hv hp (diagS i qB x2 x4 (sl hh c)) _ _ (i 2).val hi (off8_eq i)
        (fun kk => (diag_score q k b i p hh c qB x2 x4 hq hk hd0 r kk).1) (fun kk => (diag_score q k b i p hh c qB x2 x4 hq hk hd0 r kk).2)).congr fun l => ?_
  refine congrArg _ ?_
  rw [← sum_upto (fun n => gg q k v b p hh c (rowq i r) n l) (i 2).val hi ?_]
  · exact Finset.sum_congr rfl fun K _ => dif_pos K.isLt
  · intro n hn
    by_cases hlt : n < 4096
    · show dite _ _ _ = _
      rw [dif_pos hlt, wgt, if_neg (by show ¬ n / 64 ≤ (128 * (i 2).val + r.val) / 64; omega), zero_mul]
    · exact dif_neg hlt

end

end Cert.Attn
-- ==== Proof.AttnOut.lean ====
/- The attention's block of results, at an index. -/
module

public import proofs.«01_k».proof.Proof.AttnRow

@[expose] public section

noncomputable section

namespace Cert.Attn

open Idealize.ShloMosaic Idealize.ShloMosaic.TcCoe
open Cert.Kernel3Ideal Cert.Kernel3Ideal.Gen Cert.Kernel3Ideal.Att
open scoped BigOperators

theorem two : ∀ n : Fin 2, n = 0 ∨ n = 1 := by decide

theorem lrow_apply (n : Fin 2) (a : Vec Ideal S1x128x128 .f32) (r l : Fin 128) :
    lrow (F := Ideal) (BitVec.ofNat 32 n.val) a (ix2 r l) = Finset.univ.fold max ⊥ (fun k : Fin 128 => if k.val / 64 = n.val then (0 : EReal) else a (ix3 0 r k)) := by
  have e : (fun k : Fin 128 => if k.val / 64 = n.val then (0 : EReal) else a (ix3 0 r k))
      = fun k => Scalar.select (laneIs 64#32 (BitVec.ofNat 32 n.val) lanes (ix2 r k)) (0 : EReal) (a (ix3 0 r k)) := by
    funext k
    rw [laneIs64]
    split <;> simp [Scalar.select]
  rw [e]
  unfold lrow
  generalize laneIs 64#32 (BitVec.ofNat 32 n.val) lanes = msk
  pointwise [ninf]

theorem headO_apply (n : Fin 2) (lam : EReal) (u w : Vec Ideal S1x128x128 .f32) (r l : Fin 128) :
    headO (F := Ideal) (BitVec.ofNat 32 n.val) lam u w (ix2 r l)
      = Ideal.div (u (ix3 0 r l)) (lrow (F := Ideal) (BitVec.ofNat 32 n.val) u (ix2 r l)) - lam * Ideal.div (w (ix3 0 r l)) (lrow (F := Ideal) (BitVec.ofNat 32 n.val) w (ix2 r l)) := by
  unfold headO
  generalize lrow (F := Ideal) (BitVec.ofNat 32 n.val) u = y
  generalize lrow (F := Ideal) (BitVec.ofNat 32 n.val) w = z
  pointwise []

theorem headN_apply (n : Fin 2) (o : FVec Ideal S128x128 .f32) (r l : Fin 128) :
    headN (F := Ideal) (BitVec.ofNat 32 n.val) o (ix2 r l)
      = o (ix2 r l) * Ideal.rsqrt ((∑ k : Fin 128, if k.val / 64 = n.val then o (ix2 r k) * o (ix2 r k) else (0 : EReal)) * Ideal.ofBits .f32 0x3C800000#32 + Ideal.ofBits .f32 0x358637BD#32) := by
  have e : (∑ k : Fin 128, if k.val / 64 = n.val then o (ix2 r k) * o (ix2 r k) else (0 : EReal))
      = ∑ k : Fin 128, Scalar.select (laneIs 64#32 (BitVec.ofNat 32 n.val) lanes (ix2 r k)) (o (ix2 r k) * o (ix2 r k)) (0 : EReal) := by
    refine Finset.sum_congr rfl fun k _ => ?_
    rw [laneIs64]
    split <;> simp [Scalar.select]
  rw [e]
  unfold headN
  generalize laneIs 64#32 (BitVec.ofNat 32 n.val) lanes = msk
  pointwise []

theorem outV_apply (lam : EReal) (g : Vec Ideal S1x128 .f32) (a : Fin 4 → Vec Ideal S1x128x128 .f32) (hh : Fin 2) (r : Fin 128) (e : Fin 64) :
    outV (F := Ideal) lam g a (ix2 r (lane hh e))
      = headN (F := Ideal) (BitVec.ofNat 32 hh.val) (headO (F := Ideal) (BitVec.ofNat 32 hh.val) lam (a (sl hh 0)) (a (sl hh 1))) (ix2 r (lane hh e)) * g (ix2 0 (lane hh e)) := by
  unfold outV
  generalize hn0 : headN (F := Ideal) 0#32 (headO 0#32 lam (a 0) (a 1)) = y
  generalize hn1 : headN (F := Ideal) 1#32 (headO 1#32 lam (a 2) (a 3)) = z
  generalize hm : laneIs 64#32 0#32 lanes = msk
  have h : (truncf .bf16 (mulf (select msk y z) (broadcastTo S128x128 (shapeCast S1x128 g shapeCasts_S1x128_S1x128) broadcasts_S1x128_S128x128)) bitsLt_bf16_f32 : FVec Ideal S128x128 .bf16) (ix2 r (lane hh e))
      = Scalar.select (msk (ix2 r (lane hh e))) (y (ix2 r (lane hh e))) (z (ix2 r (lane hh e))) * g (ix2 0 (lane hh e)) := by
    pointwise []
  refine h.trans (congrArg (· * _) ?_)
  rw [← hm, show laneIs 64#32 0#32 lanes (ix2 r (lane hh e)) = _ from laneIs64 0 r (lane hh e)]
  have h2 : hh = 0 ∨ hh = 1 := two hh
  rcases h2 with rfl | rfl
  · rw [if_pos (by show (64 * 0 + e.val) / 64 = 0; omega), ← hn0]; rfl
  · rw [if_neg (by show ¬ (64 * 1 + e.val) / 64 = 0; omega), ← hn1]; rfl

theorem c64i : Ideal.ofBits .f32 0x3C800000#32 = ((1 / 64 : ℝ) : EReal) := by
  norm_num [Ideal.ofBits, Ideal.ieee, Nat.shiftRight_eq_div_pow, (by decide : ¬ BitVec.extractLsb' 31 1 1015021568#32 = 1#1)]

section
variable (q k v : Fin 4096 → Fin 512 → ℝ) (b : Fin 32 → Fin 8 → ℝ) (i : grid0.Coords) (p : Fin 4) (hh c : Fin 2)
  (qB : Vec Ideal S128x128 .bf16) (x2 : Vec Ideal S128x4096 .bf16) (x3 : Vec Ideal S4096x128 .bf16) (x4 : Vec Ideal S1x2x2x128x128 .f32)
  (hq : ∀ r l, qB (ix2 r l) = ((q (rowq i r) (colp p l) : ℝ) : EReal))
  (hk : ∀ d K, x2 (ix2 d K) = ((k K (colp p d) : ℝ) : EReal))
  (hv : ∀ K l, x3 (ix2 K l) = ((v K (colp p l) : ℝ) : EReal))
  (hd0 : ∀ r k : Fin 128, x4 (ix5 0 hh 0 r k) = if k.val / 64 ≤ r.val / 64 then (((b (brow (BitVec.ofNat 32 k.val - BitVec.ofNat 32 r.val)) (hOf p hh) - b 15 (hOf p hh)) * (Real.log 2)⁻¹ : ℝ) : EReal) else ⊥)
  (hd1 : ∀ r k : Fin 128, x4 (ix5 0 hh 1 r k) = (((b (brow (BitVec.ofNat 32 k.val - BitVec.ofNat 32 r.val - 128#32)) (hOf p hh) - b 15 (hOf p hh)) * (Real.log 2)⁻¹ : ℝ) : EReal))

theorem colp_lane (e : Fin 64) : colp p (lane hh e) = col (hOf p hh) e :=
  Fin.ext (by show 128 * p.val + (64 * hh.val + e.val) = 64 * (2 * p.val + hh.val) + e.val; omega)

include hq hk hv hd0 hd1 in
theorem mean_apply (r : Fin 128) (e : Fin 64) :
    Ideal.div (a2 (F := Ideal) i qB x2 x3 x4 (sl hh c) (ix3 0 r (lane hh e))) (lrow (F := Ideal) (BitVec.ofNat 32 hh.val) (a2 i qB x2 x3 x4 (sl hh c)) (ix2 r (lane hh e)))
      = ((num q k v b (hOf p hh) c (rowq i r) e / den q k b (hOf p hh) c (rowq i r) : ℝ) : EReal) := by
  have hI := row_inv q k v b i p hh c qB x2 x3 x4 hq hk hv hd0 hd1 r
  have hfw : 0 < fw b p hh := Real.exp_pos _
  have h2 : hh = 0 ∨ hh = 1 := two hh
  rw [lrow_apply]
  refine (RowInv.ratio hI (fun l => l.val / 64 = hh.val) (mul_pos hfw (den_pos q k b (hOf p hh) c (rowq i r))) (fun l hl => ?_) (lane (1 - hh) 0) ?_ (lane hh e)).trans ?_
  · show fw b p hh * _ = fw b p hh * den q k b (hOf p hh) c (rowq i r)
    refine congrArg _ (Finset.sum_congr rfl fun K _ => ?_)
    rw [vo, if_neg hl, mul_one]
  · rcases h2 with h | h
    · rw [h]; decide
    · rw [h]; decide
  · rw [mul_div_mul_left _ _ hfw.ne']
    refine congrArg (fun x : ℝ => ((x / den q k b (hOf p hh) c (rowq i r) : ℝ) : EReal)) (Finset.sum_congr rfl fun K _ => ?_)
    rw [vo, if_pos (by show (64 * hh.val + e.val) / 64 = hh.val; omega), colp_lane]

include hq hk hv hd0 hd1 in
theorem dif_apply (lam : ℝ) (r : Fin 128) (e : Fin 64) :
    headO (F := Ideal) (BitVec.ofNat 32 hh.val) ((lam : ℝ) : EReal) (a2 i qB x2 x3 x4 (sl hh 0)) (a2 i qB x2 x3 x4 (sl hh 1)) (ix2 r (lane hh e))
      = ((dif q k v b lam (hOf p hh) (rowq i r) e : ℝ) : EReal) := by
  rw [headO_apply, mean_apply q k v b i p hh 0 qB x2 x3 x4 hq hk hv hd0 hd1, mean_apply q k v b i p hh 1 qB x2 x3 x4 hq hk hv hd0 hd1,
    ← EReal.coe_mul, ← EReal.coe_sub]
  rfl

include hq hk hv hd0 hd1 in
/-- A block's result. -/
theorem block_apply (lam : ℝ) (g : Fin 64 → EReal) (x0 : Vec Ideal S1 .f32) (x5 : Vec Ideal S1x128 .f32) (h0 : x0 o1 = ((lam : ℝ) : EReal))
    (h5 : ∀ e, x5 (ix2 0 (lane hh e)) = g e * Ideal.ofBits .f32 0x3F4CCCCD#32) (r : Fin 128) (e : Fin 64) :
    outB (F := Ideal) i x0 qB x2 x3 x4 x5 (ix2 r (lane hh e)) = res q k v b lam g (hOf p hh) (rowq i r) e := by
  have hd := dif_apply q k v b i p hh qB x2 x3 x4 hq hk hv hd0 hd1 lam r
  unfold outB
  rw [outV_apply, h0, h5, headN_apply, hd, res]
  refine congrArg (· * _) (congrArg (_ * ·) (congrArg Ideal.rsqrt (congrArg (· + _) ?_)))
  rw [c64i, EReal.coe_mul]
  refine congrArg (· * _) ?_
  let D : Fin 128 → ℝ := fun d => dif q k v b lam (hOf p hh) (rowq i r) ⟨d.val % 64, Nat.mod_lt _ (by decide)⟩
  have hD : ∀ e : Fin 64, D (lane hh e) = dif q k v b lam (hOf p hh) (rowq i r) e := fun e =>
    congrArg (dif q k v b lam (hOf p hh) (rowq i r)) (Fin.ext (by show (64 * hh.val + e.val) % 64 = e.val; omega))
  have hs : (∑ d : Fin 128, if d.val / 64 = hh.val then D d * D d else 0)
      = ∑ e : Fin 64, dif q k v b lam (hOf p hh) (rowq i r) e * dif q k v b lam (hOf p hh) (rowq i r) e := by
    refine (sum_lane64 hh (fun d => D d * D d)).trans (Finset.sum_congr rfl fun e _ => ?_)
    rw [hD]
  rw [← hs, sum_coe]
  refine Finset.sum_congr rfl fun d _ => ?_
  by_cases h : d.val / 64 = hh.val
  · have hl : d = lane hh ⟨d.val % 64, Nat.mod_lt _ (by decide)⟩ := Fin.ext (by show d.val = 64 * hh.val + d.val % 64; omega)
    rw [if_pos h, if_pos h, EReal.coe_mul, hl, hd, hD]
  · rw [if_neg h, if_neg h, EReal.coe_zero]

end

end Cert.Attn
-- ==== Proof.AttnBlocks.lean ====
/- The attention's result array, block by block. -/
module

public import proofs.«01_k».proof.Proof.AttnOut
public import proofs.«01_k».proof.Proof.AttnHost

@[expose] public section

noncomputable section

namespace Cert.Attn

open Idealize.ShloMosaic Idealize.ShloMosaic.TcCoe
open Idealize.ShloMosaic.Pipeline (Dat)
open Cert.Kernel3Ideal Cert.Kernel3Ideal.Gen Cert.Kernel3Ideal.Att
open scoped BigOperators

theorem coord2 : ∀ t : Fin cfg0.N, (grid0.coords t 2).val = t.val % 32 := (by decide +kernel : ∀ t : Fin grid0.N, _)
theorem idx_row0 : ∀ t : Fin cfg0.N, win0_0.index t (0 : Fin 1) = 0 := (by decide +kernel : ∀ t : Fin grid0.N, _)
theorem idx_row1 : ∀ t : Fin cfg0.N, win0_1.index t (0 : Fin 2) = t.val % 32 ∧ win0_1.index t (1 : Fin 2) = t.val / 32 := (by decide +kernel : ∀ t : Fin grid0.N, _)
theorem idx_row2 : ∀ t : Fin cfg0.N, win0_2.index t (0 : Fin 2) = t.val / 32 ∧ win0_2.index t (1 : Fin 2) = 0 := (by decide +kernel : ∀ t : Fin grid0.N, _)
theorem idx_row3 : ∀ t : Fin cfg0.N, win0_3.index t (0 : Fin 2) = 0 ∧ win0_3.index t (1 : Fin 2) = t.val / 32 := (by decide +kernel : ∀ t : Fin grid0.N, _)
theorem idx_row4 : ∀ t : Fin cfg0.N, win0_4.index t (0 : Fin 5) = t.val / 32 ∧ win0_4.index t (1 : Fin 5) = 0 ∧ win0_4.index t (2 : Fin 5) = 0 ∧ win0_4.index t (3 : Fin 5) = 0 ∧ win0_4.index t (4 : Fin 5) = 0 := (by decide +kernel : ∀ t : Fin grid0.N, _)
theorem idx_row5 : ∀ t : Fin cfg0.N, win0_5.index t (0 : Fin 2) = 0 ∧ win0_5.index t (1 : Fin 2) = 0 := (by decide +kernel : ∀ t : Fin grid0.N, _)
theorem idx_row6 : ∀ t : Fin cfg0.N, win0_6.index t (0 : Fin 2) = t.val % 32 ∧ win0_6.index t (1 : Fin 2) = t.val / 32 := (by decide +kernel : ∀ t : Fin grid0.N, _)

/-- The pair of heads at a point. -/
def pair (t : Fin cfg0.N) : Fin 4 := ⟨t.val / 32, by have h : t.val < 128 := (N_0 ▸ t.isLt); omega⟩

theorem rowq_val (t : Fin cfg0.N) (r : Fin 128) : (rowq (grid0.coords t) r).val = 128 * (t.val % 32) + r.val := by
  show 128 * (grid0.coords t 2).val + r.val = _
  rw [coord2]

variable (m : (ℓ : Loc nD τ sig) → Buf (Elt Ideal) ℓ) (c : Dev nD)

theorem b0 (t : Fin cfg0.N) : (iblk m c 0 t : Vec Ideal S1 .f32) o1 = (V m c main_v8 : Vec Ideal S1 .f32) o1 := by
  have e0 := idx_row0 t
  show V m c main_v8 (((cfg0.win 0).blk t).view.emb o1) = _
  refine congrArg _ (funext fun a => Fin.ext ?_)
  match a with
  | ⟨0, _⟩ => show win0_0.index t (0 : Fin 1) * 1 + 1 * 0 = 0; omega

theorem b1 (t : Fin cfg0.N) (r l : Fin 128) : (iblk m c 1 t : Vec Ideal S128x128 .bf16) (ix2 r l) = (V m c main_v113 : Vec Ideal S4096x512 .bf16) (ix2 (rowq (grid0.coords t) r) (colp (pair t) l)) := by
  obtain ⟨e0, e1⟩ := idx_row1 t
  have hr := rowq_val t r
  show V m c main_v113 (((cfg0.win 1).blk t).view.emb (ix2 r l)) = _
  refine congrArg _ (funext fun a => Fin.ext ?_)
  match a with
  | ⟨0, _⟩ => show win0_1.index t (0 : Fin 2) * 128 + 1 * r.val = (rowq (grid0.coords t) r).val; omega
  | ⟨1, _⟩ => show win0_1.index t (1 : Fin 2) * 128 + 1 * l.val = 128 * (t.val / 32) + l.val; omega

theorem b2 (t : Fin cfg0.N) (d : Fin 128) (K : Fin 4096) : (iblk m c 2 t : Vec Ideal S128x4096 .bf16) (ix2 d K) = (V m c main_v115 : Vec Ideal S512x4096 .bf16) (ix2 (colp (pair t) d) K) := by
  obtain ⟨e0, e1⟩ := idx_row2 t
  show V m c main_v115 (((cfg0.win 2).blk t).view.emb (ix2 d K)) = _
  refine congrArg _ (funext fun a => Fin.ext ?_)
  match a with
  | ⟨0, _⟩ => show win0_2.index t (0 : Fin 2) * 128 + 1 * d.val = 128 * (t.val / 32) + d.val; omega
  | ⟨1, _⟩ => show win0_2.index t (1 : Fin 2) * 4096 + 1 * K.val = K.val; omega

theorem b3 (t : Fin cfg0.N) (K : Fin 4096) (l : Fin 128) : (iblk m c 3 t : Vec Ideal S4096x128 .bf16) (ix2 K l) = (V m c main_v116 : Vec Ideal S4096x512 .bf16) (ix2 K (colp (pair t) l)) := by
  obtain ⟨e0, e1⟩ := idx_row3 t
  show V m c main_v116 (((cfg0.win 3).blk t).view.emb (ix2 K l)) = _
  refine congrArg _ (funext fun a => Fin.ext ?_)
  match a with
  | ⟨0, _⟩ => show win0_3.index t (0 : Fin 2) * 4096 + 1 * K.val = K.val; omega
  | ⟨1, _⟩ => show win0_3.index t (1 : Fin 2) * 128 + 1 * l.val = 128 * (t.val / 32) + l.val; omega

theorem b4 (t : Fin cfg0.N) (hh s : Fin 2) (r k : Fin 128) : (iblk m c 4 t : Vec Ideal S1x2x2x128x128 .f32) (ix5 0 hh s r k) = (V m c main_v112 : Vec Ideal S4x2x2x128x128 .f32) (ix5 (pair t) hh s r k) := by
  obtain ⟨e0, e1, e2, e3, e4⟩ := idx_row4 t
  show V m c main_v112 (((cfg0.win 4).blk t).view.emb (ix5 0 hh s r k)) = _
  refine congrArg _ (funext fun a => Fin.ext ?_)
  match a with
  | ⟨0, _⟩ => show win0_4.index t (0 : Fin 5) * 1 + 1 * 0 = t.val / 32; omega
  | ⟨1, _⟩ => show win0_4.index t (1 : Fin 5) * 2 + 1 * hh.val = hh.val; omega
  | ⟨2, _⟩ => show win0_4.index t (2 : Fin 5) * 2 + 1 * s.val = s.val; omega
  | ⟨3, _⟩ => show win0_4.index t (3 : Fin 5) * 128 + 1 * r.val = r.val; omega
  | ⟨4, _⟩ => show win0_4.index t (4 : Fin 5) * 128 + 1 * k.val = k.val; omega

theorem b5 (t : Fin cfg0.N) (l : Fin 128) : (iblk m c 5 t : Vec Ideal S1x128 .f32) (ix2 0 l) = (V m c main_v14 : Vec Ideal S1x128 .f32) (ix2 0 l) := by
  obtain ⟨e0, e1⟩ := idx_row5 t
  show V m c main_v14 (((cfg0.win 5).blk t).view.emb (ix2 0 l)) = _
  refine congrArg _ (funext fun a => Fin.ext ?_)
  match a with
  | ⟨0, _⟩ => show win0_5.index t (0 : Fin 2) * 1 + 1 * 0 = 0; omega
  | ⟨1, _⟩ => show win0_5.index t (1 : Fin 2) * 128 + 1 * l.val = l.val; omega

theorem emb6 (t : Fin cfg0.N) (r l : Fin 128) :
    ((cfg0.win 6).blk t).view.emb (ix2 r l : S128x128.Idx) = (ix2 (rowq (grid0.coords t) r) (colp (pair t) l) : S4096x512.Idx) := by
  obtain ⟨e0, e1⟩ := idx_row6 t
  have hr := rowq_val t r
  refine funext fun a => Fin.ext ?_
  match a with
  | ⟨0, _⟩ => show win0_6.index t (0 : Fin 2) * 128 + 1 * r.val = (rowq (grid0.coords t) r).val; omega
  | ⟨1, _⟩ => show win0_6.index t (1 : Fin 2) * 128 + 1 * l.val = 128 * (t.val / 32) + l.val; omega

theorem cover6 (i : S4096x512.Idx) : ∃ t : Fin cfg0.N, (cfg0.win 6).flush t = true ∧ i ∈ ((cfg0.win 6).blk t).view.set := by
  have hN : cfg0.N = 128 := N_0
  have h0 : (i 0).val < 4096 := (i 0).isLt
  have h1 : (i 1).val < 512 := (i 1).isLt
  have ht : (i 1).val / 128 * 32 + (i 0).val / 128 < cfg0.N := by omega
  let t : Fin cfg0.N := ⟨(i 1).val / 128 * 32 + (i 0).val / 128, ht⟩
  let r : Fin 128 := ⟨(i 0).val % 128, Nat.mod_lt _ (by decide)⟩
  let l : Fin 128 := ⟨(i 1).val % 128, Nat.mod_lt _ (by decide)⟩
  have hi : i = (ix2 (rowq (grid0.coords t) r) (colp (pair t) l) : S4096x512.Idx) := by
    refine funext fun a => Fin.ext ?_
    match a with
    | ⟨0, _⟩ =>
      refine Eq.trans ?_ (rowq_val t r).symm
      show (i 0).val = 128 * (((i 1).val / 128 * 32 + (i 0).val / 128) % 32) + (i 0).val % 128; omega
    | ⟨1, _⟩ => show (i 1).val = 128 * (((i 1).val / 128 * 32 + (i 0).val / 128) / 32) + (i 1).val % 128; omega
  refine ⟨t, flush0_6 _, ?_⟩
  have h := ((cfg0.win 6).blk t).view.emb_mem_set (ix2 r l : S128x128.Idx)
  rw [emb6] at h
  exact hi ▸ h

/-- The result at a row and a column. -/
def G (q k v : Fin 4096 → Fin 512 → ℝ) (b : Fin 32 → Fin 8 → ℝ) (lam : ℝ) (g : Fin 64 → EReal) : Vec Ideal S4096x512 .bf16 := fun i =>
  res q k v b lam g ⟨(i 1).val / 64, by have h : (i 1).val < 512 := (i 1).isLt; omega⟩ ⟨(i 0).val, (i 0).isLt⟩ ⟨(i 1).val % 64, Nat.mod_lt _ (by decide)⟩

section
variable (q k v : Fin 4096 → Fin 512 → ℝ) (b : Fin 32 → Fin 8 → ℝ) (lam : ℝ)
  (hq : ∀ R j, (m ((c : Thread nD τ).loc main_arg0) : Vec Ideal S4096x512 .f32) (ix2 R j) = ((q R j : ℝ) : EReal))
  (hk : ∀ R j, (m ((c : Thread nD τ).loc main_arg1) : Vec Ideal S4096x512 .f32) (ix2 R j) = ((k R j : ℝ) : EReal))
  (hv : ∀ R j, (m ((c : Thread nD τ).loc main_arg2) : Vec Ideal S4096x512 .f32) (ix2 R j) = ((v R j : ℝ) : EReal))
  (hb : ∀ i h, (m ((c : Thread nD τ).loc main_arg3) : Vec Ideal S32x8 .f32) (ix2 i h) = ((b i h : ℝ) : EReal))
  (hl : (V m c main_v8 : Vec Ideal S1 .f32) o1 = ((lam : ℝ) : EReal))

include hq hk hv hb hl in
theorem point_apply (t : Fin cfg0.N) (r l : Fin 128) :
    outB (F := Ideal) (grid0.coords t) (iblk m c 0 t) (iblk m c 1 t) (iblk m c 2 t) (iblk m c 3 t) (iblk m c 4 t) (iblk m c 5 t) (ix2 r l)
      = G q k v b lam (fun e => (m ((c : Thread nD τ).loc main_arg8) : Vec Ideal S64 .f32) (ix1 e)) (ix2 (rowq (grid0.coords t) r) (colp (pair t) l)) := by
  let hh : Fin 2 := ⟨l.val / 64, by omega⟩
  let e : Fin 64 := ⟨l.val % 64, Nat.mod_lt _ (by decide)⟩
  have hle : l = lane hh e := Fin.ext (by show l.val = 64 * (l.val / 64) + l.val % 64; omega)
  have h := block_apply q k v b (grid0.coords t) (pair t) hh (iblk m c 1 t) (iblk m c 2 t) (iblk m c 3 t) (iblk m c 4 t)
    (fun r l => (b1 m c t r l).trans ((V_q m c _ _).trans (hq _ _)))
    (fun d K => (b2 m c t d K).trans ((V_kt m c _ _).trans (hk _ _)))
    (fun K l => (b3 m c t K l).trans ((V_v m c _ _).trans (hv _ _)))
    (fun r k => (b4 m c t hh 0 r k).trans (V_diag m c b hb _ _ _ _))
    (fun r k => (b4 m c t hh 1 r k).trans (V_prev m c b hb _ _ _ _))
    lam (fun e => (m ((c : Thread nD τ).loc main_arg8) : Vec Ideal S64 .f32) (ix1 e)) (iblk m c 0 t) (iblk m c 5 t) ((b0 m c t).trans hl)
    (fun e => (b5 m c t _).trans (V_gain m c _ e (by show (64 * (l.val / 64) + e.val) % 64 = e.val; omega))) r e
  rw [hle]
  refine h.trans ?_
  unfold G
  congr 1
  · exact Fin.ext (by show 2 * (t.val / 32) + l.val / 64 = (128 * (t.val / 32) + (64 * (l.val / 64) + l.val % 64)) / 64; omega)
  · exact Fin.ext (by show l.val % 64 = (128 * (t.val / 32) + (64 * (l.val / 64) + l.val % 64)) % 64; omega)

include hq hk hv hb hl in
theorem final6 : (datA m 0 c).arrAt 6 cfg0.N = G q k v b lam (fun e => (m ((c : Thread nD τ).loc main_arg8) : Vec Ideal S64 .f32) (ix1 e)) := by
  refine (datA m 0 c).arrAt_eq_of_cover 6 (G q k v b lam _) (fun t _ => ?_) cover6
  have hf : (datA m 0 c).flushed 6 t = (cfg0.win 6).cut (grid0.coords t) (outB (F := Ideal) (grid0.coords t) (iblk m c 0 t) (iblk m c 1 t) (iblk m c 2 t) (iblk m c 3 t) (iblk m c 4 t) (iblk m c 5 t)) := by
    show (cfg0.win 6).cut (grid0.coords t) ((datA m 0 c).after 6 t) = _
    rw [aft6]
  have hp := point_apply m c q k v b lam hq hk hv hb hl t
  rw [hf]
  revert hp
  generalize outB (F := Ideal) (grid0.coords t) (iblk m c 0 t) (iblk m c 1 t) (iblk m c 2 t) (iblk m c 3 t) (iblk m c 4 t) (iblk m c 5 t) = B
  generalize G q k v b lam (fun e => (m ((c : Thread nD τ).loc main_arg8) : Vec Ideal S64 .f32) (ix1 e)) = W
  intro hp
  funext y
  let r : Fin 128 := ⟨(y 0).val, (y 0).isLt⟩
  let l : Fin 128 := ⟨(y 1).val, (y 1).isLt⟩
  have hy : y = (ix2 r l : S128x128.Idx) := by
    funext a; match a with
    | ⟨0, _⟩ => rfl
    | ⟨1, _⟩ => rfl
  show B y = W (((cfg0.win 6).blk t).view.emb y)
  refine (congrArg _ hy).trans ((hp r l).trans ?_)
  exact (congrArg W ((congrArg _ hy).trans (emb6 t r l))).symm

end

end Cert.Attn
-- ==== Proof.AttnRef.lean ====
/- What the reference's attention holds at an index. -/
module

public import proofs.«01_k».proof.Proof.AttnSpec
public import proofs.«01_k».proof.Proof.Gen.Reference3Ideal.Run
public import Idealize.ShloMosaic.Lib.KernelVsHost

@[expose] public section

noncomputable section

namespace Cert.Attn

open Idealize.ShloMosaic Idealize.ShloMosaic.TcCoe Idealize.ShloMosaic.StableHlo
open Cert.Reference3Ideal Cert.Reference3Ideal.Gen Cert.Reference3Ideal.Value
open scoped BigOperators

variable (V0 : Valuation τ sig (Elt Ideal))

theorem v16_apply (R K : Fin 4096) : res_main_v16 (F := Ideal) V0 (ix2 R K) = BitVec.ofNat 32 K.val - BitVec.ofNat 32 R.val := by
  pointwise [res_main_v16, res_main_v11]
  rfl

theorem v40_apply (R K : Fin 4096) : res_main_v40 (F := Ideal) V0 (ix2 R K) = bk0 (BitVec.ofNat 32 K.val - BitVec.ofNat 32 R.val) := by
  rw [← v16_apply V0]
  rfl

theorem v55_apply (R K : Fin 4096) : res_main_v55 (F := Ideal) V0 (ix2 R K) = if K.val / 64 ≤ R.val / 64 then 1#1 else 0#1 := by
  rw [← mask_word K R]
  rfl

theorem v48_apply (h : Fin 8) (R K : Fin 4096) :
    res_main_v48 (F := Ideal) V0 (ix3 h R K) = (V0 (Proc.devRef .tc main_arg3) : Vec Ideal S32x8 .f32) (ix2 (brow (BitVec.ofNat 32 K.val - BitVec.ofNat 32 R.val)) h) := by
  pointwise [res_main_v48]
  refine (rows8_at 4096 _ _ _ R K h).trans ?_
  refine congrArg (V0 (Proc.devRef .tc main_arg3) : Vec Ideal S32x8 .f32) (congrArg (fun a => ix2 a h) (Fin.ext ?_))
  have e : ∀ (x y : IVec S4096x4096 32), broadcastInDim S4096x4096x1 ![0, 1] bcast_S4096x4096_S4096x4096x1_0_1
      (select (cmpi .slt x (broadcastInDim S4096x4096 ![] bcast_S_S4096x4096 (constantI S_ 32 0#32))) (addi x (broadcastInDim S4096x4096 ![] bcast_S_S4096x4096 (constantI S_ 32 32#32))) x) (ix3 R K (0 : Fin 1))
      = Scalar.select (IntOp.cmpi .slt (x (ix2 R K)) 0#32) (IntOp.addi (x (ix2 R K)) 32#32) (x (ix2 R K)) := by
    intro x y
    pointwise []
  show min (BitVec.toInt _).toNat 31 = min (bkt _).toInt.toNat 31
  rw [e _ (res_main_v40 V0), v40_apply V0]
  rfl

theorem col_val (h : Fin 8) (j : Fin 64) (p : h.val * 64 + j.val < 512) : (⟨h.val * 64 + j.val, p⟩ : Fin 512) = col h j :=
  Fin.ext (by show h.val * 64 + j.val = 64 * h.val + j.val; omega)

theorem v8_apply (R : Fin 4096) (h : Fin 8) (j : Fin 64) :
    res_main_v8 (F := Ideal) V0 (ix3 R h j) = (V0 (Proc.devRef .tc main_arg0) : Vec Ideal S4096x512 .f32) (ix2 R (col h j)) := by
  pointwise [res_main_v8]
  rw [col_val]

theorem v9_apply (R : Fin 4096) (h : Fin 8) (j : Fin 64) :
    res_main_v9 (F := Ideal) V0 (ix3 R h j) = (V0 (Proc.devRef .tc main_arg1) : Vec Ideal S4096x512 .f32) (ix2 R (col h j)) := by
  pointwise [res_main_v9]
  rw [col_val]

theorem ninf' : Ideal.ofBits .f32 0xFF800000#32 = ⊥ := by simp [Ideal.ofBits, Ideal.ieee]

/-- A score. -/
def sc (q k : Fin 4096 → Fin 512 → ℝ) (b : Fin 32 → Fin 8 → ℝ) (h : Fin 8) (c : Fin 2) (R K : Fin 4096) : EReal :=
  if K.val / 64 ≤ R.val / 64 then ((zz q k h c R K * sgm + beta b h R K : ℝ) : EReal) else ⊥

theorem ew_sc (q k b) (h : Fin 8) (c : Fin 2) (R K : Fin 4096) : ew (sc q k b h c R K) = wgt q k b h c R K := by
  unfold sc wgt
  split
  · rw [ew_coe]
  · rw [ew_bot]
theorem sc_top (q k b) (h : Fin 8) (c : Fin 2) (R K : Fin 4096) : sc q k b h c R K ≠ ⊤ := by
  unfold sc
  split
  · exact EReal.coe_ne_top _
  · exact bot_ne_top
theorem sc_bot (q k b) (h : Fin 8) (c : Fin 2) (R : Fin 4096) : sc q k b h c R R ≠ ⊥ := by
  unfold sc
  rw [if_pos (le_refl _)]
  exact EReal.coe_ne_bot _

theorem red3 : S8x4096x4096.Reduces [2] S8x4096 := by decide

theorem rowmax (x : FVec Ideal S8x4096x4096 .f32) (h : Fin 8) (R : Fin 4096) :
    Host.reduce FloatOps.maximumf x (constant S_ .f32 0xFF800000#32) reducesTo_S8x4096x4096_S8x4096_d2 h_S_ (ix2 h R)
      = Finset.univ.fold max ⊥ (fun K : Fin 4096 => x (ix3 h R K)) := by
  refine (congrFun (hostReduce_maximumf_eq_multiReduction x 0xFF800000#32 reducesTo_S8x4096x4096_S8x4096_d2 h_S_ red3 (Or.inl rfl) rfl) _).trans ?_
  refine (Ideal.multiReduction_maximumf_single x _ red3 (Or.inl rfl) rfl _).trans ?_
  show Finset.fold max (Ideal.ofBits .f32 0xFF800000#32) _ _ = _
  rw [ninf']
  refine Finset.fold_congr fun K _ => congrArg x (funext fun d => Fin.ext ?_)
  fin_cases d <;> rfl

theorem expRow (x : FVec Ideal S8x4096x4096 .f32) (y : FVec Ideal S8x4096 .f32) (h : Fin 8) (R K : Fin 4096) :
    Host.exp (subf x (broadcastInDim S8x4096x4096 ![0, 1, 2] bcast_S8x4096x1_S8x4096x4096_0_1_2 (broadcastInDim S8x4096x1 ![0, 1] bcast_S8x4096_S8x4096x1_0_1 (maximumf (broadcastInDim S8x4096 ![] bcast_S_S8x4096 (constant S_ .f32 0xFF800000#32)) y)))) (ix3 h R K)
      = Ideal.exp (x (ix3 h R K) - max ⊥ (y (ix2 h R))) := by
  rw [← ninf']
  pointwise []

section
variable (q k v : Fin 4096 → Fin 512 → ℝ) (b : Fin 32 → Fin 8 → ℝ)
  (hq : ∀ R j, (V0 (Proc.devRef .tc main_arg0) : Vec Ideal S4096x512 .f32) (ix2 R j) = ((q R j : ℝ) : EReal))
  (hk : ∀ R j, (V0 (Proc.devRef .tc main_arg1) : Vec Ideal S4096x512 .f32) (ix2 R j) = ((k R j : ℝ) : EReal))
  (hv : ∀ R j, (V0 (Proc.devRef .tc main_arg2) : Vec Ideal S4096x512 .f32) (ix2 R j) = ((v R j : ℝ) : EReal))
  (hb : ∀ i h, (V0 (Proc.devRef .tc main_arg3) : Vec Ideal S32x8 .f32) (ix2 i h) = ((b i h : ℝ) : EReal))

include hq hk hb in
theorem v62_apply (h : Fin 8) (R K : Fin 4096) :
    (res_main_v62 (F := Ideal) V0 : Vec Ideal S8x4096x4096 .f32) (ix3 h R K) = sc q k b h 0 R K := by
  pointwise [res_main_v62]
  rw [v55_apply, v48_apply, hb]
  simp only [v8_apply, v9_apply, hq, hk, sgm_word]
  show Scalar.select _ _ (Ideal.ofBits .f32 0xFF800000#32) = _
  have e : (∑ x : Fin 32, ((q R (col h ⟨x.val, by omega⟩) : ℝ) : EReal) * ((k K (col h ⟨x.val, by omega⟩) : ℝ) : EReal)) = ((zz q k h 0 R K : ℝ) : EReal) := by
    rw [zz, sum_coe]
    refine Finset.sum_congr rfl fun x _ => ?_
    have : (⟨x.val, by omega⟩ : Fin 64) = half 0 x := Fin.ext (by show x.val = 32 * 0 + x.val; omega)
    rw [this, EReal.coe_mul]
  rw [ninf', e, sc, EReal.coe_add, EReal.coe_mul]
  by_cases hm : K.val / 64 ≤ R.val / 64
  · rw [if_pos hm, if_pos hm]; rfl
  · rw [if_neg hm, if_neg hm]; rfl

include hq hk hb in
theorem v80_apply (h : Fin 8) (R K : Fin 4096) :
    (res_main_v80 (F := Ideal) V0 : Vec Ideal S8x4096x4096 .f32) (ix3 h R K) = sc q k b h 1 R K := by
  pointwise [res_main_v80]
  rw [v55_apply, v48_apply, hb]
  simp only [v8_apply, v9_apply, hq, hk, sgm_word]
  show Scalar.select _ _ (Ideal.ofBits .f32 0xFF800000#32) = _
  have e : (∑ x : Fin 32, ((q R (col h ⟨32 + x.val, by omega⟩) : ℝ) : EReal) * ((k K (col h ⟨32 + x.val, by omega⟩) : ℝ) : EReal)) = ((zz q k h 1 R K : ℝ) : EReal) := by
    rw [zz, sum_coe]
    refine Finset.sum_congr rfl fun x _ => ?_
    have : (⟨32 + x.val, by omega⟩ : Fin 64) = half 1 x := Fin.ext (by show 32 + x.val = 32 * 1 + x.val; omega)
    rw [this, EReal.coe_mul]
  rw [ninf', e, sc, EReal.coe_add, EReal.coe_mul]
  by_cases hm : K.val / 64 ≤ R.val / 64
  · rw [if_pos hm, if_pos hm]; rfl
  · rw [if_neg hm, if_neg hm]; rfl

include hq hk hb in
theorem v69_apply (h : Fin 8) (R K : Fin 4096) :
    (res_main_v69 (F := Ideal) V0 : Vec Ideal S8x4096x4096 .f32) (ix3 h R K)
      = Ideal.exp (sc q k b h 0 R K - max ⊥ (Finset.univ.fold max ⊥ (sc q k b h 0 R))) := by
  unfold res_main_v69
  refine (expRow (res_main_v62 V0) _ h R K).trans ?_
  rw [rowmax]
  simp only [v62_apply V0 q k b hq hk hb]

include hq hk hb in
theorem v87_apply (h : Fin 8) (R K : Fin 4096) :
    (res_main_v87 (F := Ideal) V0 : Vec Ideal S8x4096x4096 .f32) (ix3 h R K)
      = Ideal.exp (sc q k b h 1 R K - max ⊥ (Finset.univ.fold max ⊥ (sc q k b h 1 R))) := by
  unfold res_main_v87
  refine (expRow (res_main_v80 V0) _ h R K).trans ?_
  rw [rowmax]
  simp only [v80_apply V0 q k b hq hk hb]

theorem c64 : Ideal.ofBits .f32 0x42800000#32 = ((64 : ℝ) : EReal) := by
  norm_num [Ideal.ofBits, Ideal.ieee, Nat.shiftRight_eq_div_pow, (by decide : ¬ BitVec.extractLsb' 31 1 1115684864#32 = 1#1)]

theorem col_div (h : Fin 8) (e : Fin 64) (p : (col h e).val / 64 < 8) : (⟨(col h e).val / 64, p⟩ : Fin 8) = h :=
  Fin.ext (by show (64 * h.val + e.val) / 64 = h.val; omega)
theorem col_mod (h : Fin 8) (e : Fin 64) (p : (col h e).val % 64 < 64) : (⟨(col h e).val % 64, p⟩ : Fin 64) = e :=
  Fin.ext (by show (64 * h.val + e.val) % 64 = e.val; omega)

/-- The reference's launch value of the first factor. -/
def lamR : EReal :=
  lamE (fun x => (V0 (Proc.devRef .tc main_arg4) : Vec Ideal S32 .f32) (ix1 x)) (fun x => (V0 (Proc.devRef .tc main_arg5) : Vec Ideal S32 .f32) (ix1 x))
    (fun x => (V0 (Proc.devRef .tc main_arg6) : Vec Ideal S32 .f32) (ix1 x)) (fun x => (V0 (Proc.devRef .tc main_arg7) : Vec Ideal S32 .f32) (ix1 x))

include hq hk hv hb in
theorem v96_apply (lam : ℝ) (hl : lamR V0 = ((lam : ℝ) : EReal)) (h : Fin 8) (R : Fin 4096) (e : Fin 64) :
    (res_main_v96 (F := Ideal) V0 : Vec Ideal S4096x8x64 .f32) (ix3 R h e) = ((dif q k v b lam h R e : ℝ) : EReal) := by
  have h69 := v69_apply V0 q k b hq hk hb h R
  have h87 := v87_apply V0 q k b hq hk hb h R
  unfold res_main_v96
  revert h69 h87
  generalize res_main_v69 (F := Ideal) V0 = x
  generalize res_main_v87 (F := Ideal) V0 = y
  intro h69 h87
  pointwise []
  simp only [lamR, lamE] at hl
  rw [hl]
  refine (Finset.sum_congr (g := fun K : Fin 4096 => ((v K (col h e) * (wgt q k b h 0 R K / den q k b h 0 R - lam * (wgt q k b h 1 R K / den q k b h 1 R)) : ℝ) : EReal)) rfl fun K _ => ?_).trans ?_
  · refine (congrArg₂ (fun a b : EReal => a * b) ((congrArg (fun a => (V0 (Proc.devRef .tc main_arg2) : Vec Ideal S4096x512 .f32) (ix2 K a)) (col_val h e _)).trans (hv K (col h e)))
      (congrArg₂ (fun a b : EReal => a - b) (?_ : _ = ((wgt q k b h 0 R K / den q k b h 0 R : ℝ) : EReal)) (congrArg (fun a => (lam : EReal) * a) (?_ : _ = ((wgt q k b h 1 R K / den q k b h 1 R : ℝ) : EReal))))).trans ?_
    · simp only [h69]
      rw [softmax_real _ (sc_top q k b h 0 R) R (sc_bot q k b h 0 R)]
      simp only [ew_sc]
      rfl
    · simp only [h87]
      rw [softmax_real _ (sc_top q k b h 1 R) R (sc_bot q k b h 1 R)]
      simp only [ew_sc]
      rfl
    · simp only [EReal.coe_mul, EReal.coe_sub]
  · rw [← sum_coe]
    refine congrArg _ ?_
    rw [dif, num, num, Finset.sum_div, Finset.sum_div, Finset.mul_sum, ← Finset.sum_sub_distrib]
    exact Finset.sum_congr rfl fun K _ => by ring

include hq hk hv hb in
/-- The reference's result. -/
theorem out_ref (lam : ℝ) (hl : lamR V0 = ((lam : ℝ) : EReal)) (h : Fin 8) (R : Fin 4096) (e : Fin 64) :
    (truncf .bf16 (shapeCast _ (mulf (mulf (mulf (res_main_v96 V0) (broadcastInDim S4096x8x64 ![0, 1, 2] bcast_S4096x8x1_S4096x8x64_0_1_2 (Host.rsqrt (addf (Host.divf (broadcastInDim S4096x8x1 ![0, 1] bcast_S4096x8_S4096x8x1_0_1 (Host.reduceAdd (mulf (res_main_v96 V0) (res_main_v96 V0)) (constant S_ .f32 0x00000000#32) reducesTo_S4096x8x64_S4096x8_d2 h_S_)) (broadcastInDim S4096x8x1 ![] bcast_S_S4096x8x1 (constant S_ .f32 0x42800000#32))) (broadcastInDim S4096x8x1 ![] bcast_S_S4096x8x1 (constant S_ .f32 0x358637BD#32)))))) (broadcastInDim S4096x8x64 ![0, 1, 2] bcast_S1x1x64_S4096x8x64_0_1_2 (broadcastInDim S1x1x64 ![2] bcast_S64_S1x1x64_2 (V0 (Proc.devRef .tc main_arg8))))) (broadcastInDim S4096x8x64 ![] bcast_S_S4096x8x64 (constant S_ .f32 0x3F4CCCCD#32))) shapeCasts_S4096x8x64_S4096x512) bitsLt_bf16_f32 : Vec Ideal S4096x512 .bf16) (ix2 R (col h e))
      = res q k v b lam (fun e => (V0 (Proc.devRef .tc main_arg8) : Vec Ideal S64 .f32) (ix1 e)) h R e := by
  have h96 := v96_apply V0 q k v b hq hk hv hb lam hl
  revert h96
  generalize res_main_v96 (F := Ideal) V0 = x
  intro h96
  pointwise []
  rw [res, mul_assoc (G := EReal)]
  refine congrArg₂ (· * ·) (congrArg₂ (· * ·) ?_ (congrArg Ideal.rsqrt (congrArg (· + _) ?_))) (congrArg (· * _) ?_)
  · rw [col_div, col_mod, h96]
  · rw [c64, Ideal.div_coe (by norm_num : (64 : ℝ) ≠ 0), EReal.coe_mul]
    refine congrArg (· * _) ?_
    rw [sum_coe]
    refine Finset.sum_congr rfl fun e' _ => ?_
    rw [col_div, h96, EReal.coe_mul]
  · rw [col_mod]

end

end Cert.Attn
-- ==== Proof.Attn.lean ====
/- The attention: its result array against the reference's. -/
module

public import proofs.«01_k».proof.Proof.AttnBlocks
public import proofs.«01_k».proof.Proof.AttnRef
public import proofs.«01_k».proof.Proof.AttnWordsFrame
public import proofs.«01_k».proof.Defs
public import Idealize.ShloMosaic.Lib.ReduceAll

@[expose] public section

noncomputable section

namespace Cert.Attn

open Idealize.ShloMosaic Idealize.ShloMosaic.TcCoe Idealize.SL.Sem Idealize.ShloMosaic.StableHlo
open scoped BigOperators

theorem inf_word : Ideal.ofBits .f32 0x7F800000#32 = (⊤ : EReal) := by
  norm_num [Ideal.ofBits, Ideal.ieee, Nat.shiftRight_eq_div_pow, (by decide : ¬ BitVec.extractLsb' 31 1 2139095040#32 = 1#1)]

/-- A float whose magnitude is below infinity is a real. -/
theorem real_of (x : EReal) (h : Ideal.cmp .olt (max x (-x)) (Ideal.ofBits .f32 0x7F800000#32) = 1#1) : ∃ y : ℝ, x = (y : EReal) := by
  rw [inf_word] at h
  have h' : max x (-x) < ⊤ := by
    by_contra hn
    simp [Ideal.cmp, hn] at h
  induction x using EReal.rec with
  | bot => simp at h'
  | top => simp at h'
  | coe y => exact ⟨y, rfl⟩

instance preFinite : Cert.Pre_finite.Facts := ⟨by decide, by decide, by decide, by decide, by decide, by decide, by decide⟩

section
open Cert.Pre_finite

theorem all_real {s : Shape} {axes : List (Fin s.rank)} (x : FVec Ideal s .f32) (hb : S_.BroadcastsInDim s (![] : Fin 0 → Fin s.rank)) (hr : s.ReducesTo axes S_)
    (hu : 0 < S_.numel) (j : S_.Idx)
    (h : Host.reduce IntOp.andi (cmpf .olt (Host.absf x) (broadcastInDim s ![] hb (constant (F := Ideal) S_ .f32 0x7F800000#32))) (constantI S_ 1 1#1) hr hu j = 1#1) (i : s.Idx) :
    ∃ y : ℝ, x i = (y : EReal) :=
  real_of (x i) (Host.reduce_andi_all _ _ _ _ j h i)

theorem pre_real (a0 a1 a2 : FVec Ideal S4096x512 .f32) (a3 : FVec Ideal S32x8 .f32) (a4 a5 a6 a7 : FVec Ideal S32 .f32) (a8 : FVec Ideal S64 .f32)
    (h : Cert.Pre_finite.fn (F := Ideal) a0 a1 a2 a3 a4 a5 a6 a7 a8 = fun _ => 1#1) :
    (∀ i, ∃ y : ℝ, a0 i = (y : EReal)) ∧ (∀ i, ∃ y : ℝ, a1 i = (y : EReal)) ∧ (∀ i, ∃ y : ℝ, a2 i = (y : EReal)) ∧ (∀ i, ∃ y : ℝ, a3 i = (y : EReal))
      ∧ (∀ i, ∃ y : ℝ, a4 i = (y : EReal)) ∧ (∀ i, ∃ y : ℝ, a5 i = (y : EReal)) ∧ (∀ i, ∃ y : ℝ, a6 i = (y : EReal)) ∧ (∀ i, ∃ y : ℝ, a7 i = (y : EReal)) := by
  have h0 := congrFun h (Shape.Idx.first Facts.h_S_)
  unfold fn fn_part1 fn_part2 at h0
  dsimp only at h0
  have h7 := IntOp.andi_eq_one.1 h0
  have h6 := IntOp.andi_eq_one.1 h7.1
  have h5 := IntOp.andi_eq_one.1 h6.1
  have h4 := IntOp.andi_eq_one.1 h5.1
  have h3 := IntOp.andi_eq_one.1 h4.1
  have h2 := IntOp.andi_eq_one.1 h3.1
  have h1 := IntOp.andi_eq_one.1 h2.1
  have r7 := all_real _ _ _ _ _ h7.2
  have r6 := all_real _ _ _ _ _ h6.2
  have r5 := all_real _ _ _ _ _ h5.2
  have r4 := all_real _ _ _ _ _ h4.2
  have r3 := all_real _ _ _ _ _ h3.2
  have r2 := all_real _ _ _ _ _ h2.2
  have r1 := all_real _ _ _ _ _ h1.2
  have r0 := all_real _ _ _ _ _ h1.1
  clear h7 h6 h5 h4 h3 h2 h1 h0
  exact ⟨r0, r1, r2, r3, r4, r5, r6, r7⟩
end

/-- The two lambdas' difference of real vectors is real. -/
theorem lamE_real (a b c d : Fin 32 → EReal) (ha : ∀ i, ∃ y : ℝ, a i = (y : EReal)) (hb : ∀ i, ∃ y : ℝ, b i = (y : EReal)) (hc : ∀ i, ∃ y : ℝ, c i = (y : EReal))
    (hd : ∀ i, ∃ y : ℝ, d i = (y : EReal)) : ∃ lam : ℝ, lamE a b c d = (lam : EReal) := by
  choose a' ha using ha
  choose b' hb using hb
  choose c' hc using hc
  choose d' hd using hd
  have hw : ∃ w : ℝ, Ideal.ofBits .f32 0x3E4CCCCD#32 = (w : EReal) := by
    refine ⟨13421773 / 67108864, ?_⟩
    norm_num [Ideal.ofBits, Ideal.ieee, Nat.shiftRight_eq_div_pow, (by decide : ¬ BitVec.extractLsb' 31 1 1045220557#32 = 1#1)]
  obtain ⟨w, hw⟩ := hw
  refine ⟨Real.exp (∑ x, a' x * b' x) - Real.exp (∑ x, c' x * d' x) + w, ?_⟩
  rw [lamE, hw]
  simp only [ha, hb, hc, hd, ← EReal.coe_mul]
  rw [← sum_coe, ← sum_coe, Ideal.exp_coe, Ideal.exp_coe, ← EReal.coe_sub, ← EReal.coe_add]

section
open Cert.Kernel3Ideal Cert.Kernel3Ideal.Gen Cert.Kernel3Ideal.Att
open Cert.Reference3Ideal.Value (val3 val3_main_v113)

variable (m : (ℓ : Loc nD τ sig) → Buf (Elt Ideal) ℓ) (c : Dev nD)

/-- The reference's result is the kernel's array after its points. -/
theorem ref_arr (V0 : Valuation Cert.Reference3Ideal.τ Cert.Reference3Ideal.sig (Elt Ideal))
    (hpre : Cert.Pre_finite.fn (F := Ideal) (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) (m ((c : Thread nD τ).loc main_arg8)) = fun _ => 1#1)
    (h0 : (V0 (Proc.devRef .tc Cert.Reference3Ideal.main_arg0) : Vec Ideal S4096x512 .f32) = m ((c : Thread nD τ).loc main_arg0))
    (h1 : (V0 (Proc.devRef .tc Cert.Reference3Ideal.main_arg1) : Vec Ideal S4096x512 .f32) = m ((c : Thread nD τ).loc main_arg1))
    (h2 : (V0 (Proc.devRef .tc Cert.Reference3Ideal.main_arg2) : Vec Ideal S4096x512 .f32) = m ((c : Thread nD τ).loc main_arg2))
    (h3 : (V0 (Proc.devRef .tc Cert.Reference3Ideal.main_arg3) : Vec Ideal S32x8 .f32) = m ((c : Thread nD τ).loc main_arg3))
    (h4 : (V0 (Proc.devRef .tc Cert.Reference3Ideal.main_arg4) : Vec Ideal S32 .f32) = m ((c : Thread nD τ).loc main_arg4))
    (h5 : (V0 (Proc.devRef .tc Cert.Reference3Ideal.main_arg5) : Vec Ideal S32 .f32) = m ((c : Thread nD τ).loc main_arg5))
    (h6 : (V0 (Proc.devRef .tc Cert.Reference3Ideal.main_arg6) : Vec Ideal S32 .f32) = m ((c : Thread nD τ).loc main_arg6))
    (h7 : (V0 (Proc.devRef .tc Cert.Reference3Ideal.main_arg7) : Vec Ideal S32 .f32) = m ((c : Thread nD τ).loc main_arg7))
    (h8 : (V0 (Proc.devRef .tc Cert.Reference3Ideal.main_arg8) : Vec Ideal S64 .f32) = m ((c : Thread nD τ).loc main_arg8)) :
    (val3 V0 (Proc.devRef .tc Cert.Reference3Ideal.main_v113) : Vec Ideal S4096x512 .bf16) = (datA m 0 c).arrAt 6 cfg0.N := by
  obtain ⟨r0, r1, r2, r3, r4, r5, r6, r7⟩ := pre_real _ _ _ _ _ _ _ _ _ hpre
  choose q hq using r0
  choose k hk using r1
  choose v hv using r2
  choose b hb using r3
  obtain ⟨lam, hl⟩ := lamE_real _ _ _ _ (fun x => r4 (ix1 x)) (fun x => r5 (ix1 x)) (fun x => r6 (ix1 x)) (fun x => r7 (ix1 x))
  have hl' : (V m c main_v8 : Vec Ideal S1 .f32) o1 = ((lam : ℝ) : EReal) := (V_lam m c).trans hl
  rw [final6 m c (fun R j => q (ix2 R j)) (fun R j => k (ix2 R j)) (fun R j => v (ix2 R j)) (fun i h => b (ix2 i h)) lam (fun R j => hq _) (fun R j => hk _) (fun R j => hv _) (fun i h => hb _) hl']
  have hlr : lamR V0 = ((lam : ℝ) : EReal) := by
    refine Eq.trans ?_ hl
    unfold lamR
    exact congr (congr (congr (congrArg lamE (funext fun x => congrFun h4 (ix1 x))) (funext fun x => congrFun h5 (ix1 x))) (funext fun x => congrFun h6 (ix1 x))) (funext fun x => congrFun h7 (ix1 x))
  have ho := out_ref V0 (fun R j => q (ix2 R j)) (fun R j => k (ix2 R j)) (fun R j => v (ix2 R j)) (fun i h => b (ix2 i h))
    (fun R j => (congrFun h0 _).trans (hq _)) (fun R j => (congrFun h1 _).trans (hk _)) (fun R j => (congrFun h2 _).trans (hv _)) (fun i h => (congrFun h3 _).trans (hb _)) lam hlr
  rw [val3_main_v113]
  funext i
  have h1' : (i 1).val < 512 := (i 1).isLt
  let R : Fin 4096 := ⟨(i 0).val, (i 0).isLt⟩
  let h : Fin 8 := ⟨(i 1).val / 64, by omega⟩
  let e : Fin 64 := ⟨(i 1).val % 64, Nat.mod_lt _ (by decide)⟩
  have hi : i = (ix2 R (col h e) : S4096x512.Idx) := by
    refine funext fun a => Fin.ext ?_
    match a with
    | ⟨0, _⟩ => rfl
    | ⟨1, _⟩ => show (i 1).val = 64 * ((i 1).val / 64) + (i 1).val % 64; omega
  have hg : (fun e => (V0 (Proc.devRef .tc Cert.Reference3Ideal.main_arg8) : Vec Ideal S64 .f32) (ix1 e)) = fun e => (m ((c : Thread nD τ).loc main_arg8) : Vec Ideal S64 .f32) (ix1 e) :=
    funext fun x => congrFun h8 (ix1 x)
  refine ((congrArg _ hi).trans (ho h R e)).trans ?_
  exact congrArg (fun g => res (fun R j => q (ix2 R j)) (fun R j => k (ix2 R j)) (fun R j => v (ix2 R j)) (fun i h => b (ix2 i h)) lam g h R e) hg

end

end Cert.Attn
-- ==== Proof.lean ====
/- The proof of the certificate: the gather's run (Proof/Launch.lean) for both its programs, its references' runs and the equality of the
   results (Proof/Bridge.lean); the input projection's arrays against its reference's (Proof/InProj.lean, Proof/InProjS.lean);
   the attention's runs and its array
   against its reference's (Proof/Attn.lean). -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal.Run
public import proofs.«01_k».proof.Proof.Gen.Reference.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Kernel2Ideal.Frame
public import proofs.«01_k».proof.Proof.Gen.Reference2Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Kernel4Ideal.Frame
public import proofs.«01_k».proof.Proof.Gen.Reference4Ideal.Run
public import proofs.«01_k».proof.Proof.Launch
public import proofs.«01_k».proof.Proof.Bridge
public import proofs.«01_k».proof.Proof.InProj
public import proofs.«01_k».proof.Proof.InProjS
public import proofs.«01_k».proof.Proof.Attn
public import Idealize.ShloMosaic.Adequacy
public import Idealize.ShloMosaic.Lib.Quiescent
public import Idealize.ShloMosaic.Init

@[expose] public section

noncomputable section

namespace Cert.Proof

open Idealize.ShloMosaic Idealize.SL.Sem

instance preFacts : Cert.Pre_expert_ids.Facts := ⟨by decide⟩

instance : ∀ e, Nonempty (Elt Bits e) := fun e => by cases e <;> exact ⟨default⟩
instance : ∀ e, Nonempty (Elt Ideal e) := fun e => by cases e <;> exact ⟨default⟩

open Cert.KernelIdeal.Gather (PreOK run_main out pre_lt ref_eq)

theorem quiescent_ideal : Cert.quiescent_KernelIdeal (hKernelIdeal := Cert.KernelIdeal.Gen.facts) (hPre_expert_ids := preFacts) :=
  fun m g hpre => (θ_run Cert.KernelIdeal.defs _ _).mono (fun _ h => ⟨fun c => ⟨(h.1 c).2.1, (h.1 c).2.2⟩, h.2⟩)
    (run_main (F := Ideal) m g fun d j => pre_lt (hpre d) j)

set_option maxHeartbeats 1000000 in
theorem quiescent_kernel : Cert.quiescent_Kernel (hKernel := Cert.Kernel.Gen.facts) (hPre_expert_ids := preFacts) :=
  fun m g hpre => (θ_run Cert.KernelIdeal.defs _ _).mono (fun _ h => ⟨fun c => ⟨(h.1 c).2.1, (h.1 c).2.2⟩, h.2⟩)
    (run_main (F := Bits) m g fun d j => pre_lt (hpre d) j)

theorem quiescent_refIdeal : Cert.quiescent_ReferenceIdeal (hReferenceIdeal := Cert.ReferenceIdeal.Gen.facts) (hPre_expert_ids := preFacts) :=
  fun m g _ => (θ_run Cert.ReferenceIdeal.defs _ _).mono (fun r h => ⟨fun c => (h c).2, sem_eq_zero_of_no_sems (by decide) r.2⟩)
    (Cert.ReferenceIdeal.Value.run (F := Ideal) m g)

theorem quiescent_ref : Cert.quiescent_Reference (hReference := Cert.Reference.Gen.facts) (hPre_expert_ids := preFacts) :=
  fun m g _ => (θ_run Cert.Reference.defs _ _).mono (fun r h => ⟨fun c => (h c).2, sem_eq_zero_of_no_sems (by decide) r.2⟩)
    (Cert.Reference.Value.run (F := Bits) m g)

theorem algebraic : Cert.algebraic_KernelIdeal_ReferenceIdeal (hKernelIdeal := Cert.KernelIdeal.Gen.facts)
    (hReferenceIdeal := Cert.ReferenceIdeal.Gen.facts) (hPre_expert_ids := preFacts) := by
  intro m g m' g' hpre hm
  refine ⟨out m, (θ_run Cert.KernelIdeal.defs _ _).mono (fun _ h => h.1) (run_main (F := Ideal) m g fun d j => pre_lt (hpre d) j),
    (θ_run Cert.ReferenceIdeal.defs _ _).mono (fun _ h c => ⟨(h c).1.trans ?_, (h c).2⟩) (Cert.ReferenceIdeal.Value.run (F := Ideal) m' g')⟩
  rw [(hm c).1, (hm c).2]
  exact ref_eq _ _ _ _ _ _ _ _ (fun j => pre_lt (hpre c) j) _ (fun _ => rfl)

set_option maxHeartbeats 1000000 in
theorem bitexact : Cert.bitexact_Kernel_Reference (hKernel := Cert.Kernel.Gen.facts)
    (hReference := Cert.Reference.Gen.facts) (hPre_expert_ids := preFacts) := by
  intro m g m' g' hpre hm
  refine ⟨out m, (θ_run Cert.KernelIdeal.defs _ _).mono (fun _ h => h.1) (run_main (F := Bits) m g fun d j => pre_lt (hpre d) j),
    (θ_run Cert.Reference.defs _ _).mono (fun _ h c => ⟨(h c).1.trans ?_, (h c).2⟩) (Cert.Reference.Value.run (F := Bits) m' g')⟩
  rw [(hm c).1, (hm c).2]
  exact ref_eq _ _ _ _ _ _ _ _ (fun j => pre_lt (hpre c) j) _ (fun _ => rfl)

/-! The input projection. -/

theorem quiescent_kernel2 : Cert.quiescent_Kernel2 (hKernel2 := Cert.Kernel2.Gen.facts) :=
  fun m g _ => Cert.Kernel2.Gen.frame (F := Bits) m g

theorem quiescent_ideal2 : Cert.quiescent_Kernel2Ideal (hKernel2Ideal := Cert.Kernel2Ideal.Gen.facts) :=
  fun m g _ => Cert.Kernel2Ideal.Gen.frame (F := Ideal) m g

theorem quiescent_refIdeal2 : Cert.quiescent_Reference2Ideal (hReference2Ideal := Cert.Reference2Ideal.Gen.facts) :=
  fun m g _ => (θ_run Cert.Reference2Ideal.defs _ _).mono (fun r h => ⟨fun c => (h c).2.2.2.2.2.2, sem_eq_zero_of_no_sems (by decide) r.2⟩)
    (Cert.Reference2Ideal.Value.run (F := Ideal) m g)

open Cert.InProj in
theorem algebraic2 : Cert.algebraic_Kernel2Ideal_Reference2Ideal (hKernel2Ideal := Cert.Kernel2Ideal.Gen.facts)
    (hReference2Ideal := Cert.Reference2Ideal.Gen.facts) := by
  intro m g m' g' _ hm
  refine ⟨G3 m, G4 m, G5 m, G6 m, G7 m, G8 m,
    (θ_run Cert.Kernel2Ideal.defs _ _).mono (fun _ h c => ?_) (Cert.Kernel2Ideal.Value.run_blocks (F := Ideal) m g),
    (θ_run Cert.Reference2Ideal.defs _ _).mono (fun _ h c => ?_) (Cert.Reference2Ideal.Value.run (F := Ideal) m' g')⟩
  · obtain ⟨h3, h4, h5, h6, h7, h8, ha⟩ := h c
    exact ⟨h3.trans (final3 m c), h4.trans (final4 m c), h5.trans (final5 m c), h6.trans (final6 m c), h7.trans (final7 m c),
      h8.trans (final8 m c), ha⟩
  · obtain ⟨h3, h4, h5, h6, h7, h8, ha⟩ := h c
    rw [(hm c).1, (hm c).2.1, (hm c).2.2] at h3 h4 h5 h6 h7 h8
    exact ⟨h3.trans (ref3 m c), h4.trans (ref4 m c), h5.trans (ref5 m c), h6.trans (ref6 m c), h7.trans (ref7 m c),
      h8.trans (ref8 m c), ha⟩

/-! The attention. -/

theorem quiescent_kernel3 : Cert.quiescent_Kernel3 (hKernel3 := Cert.Kernel3.Gen.facts) :=
  fun m g _ => Cert.Kernel3.Att.frame3 (F := Bits) m g

theorem quiescent_ideal3 : Cert.quiescent_Kernel3Ideal (hKernel3Ideal := Cert.Kernel3Ideal.Gen.facts) :=
  fun m g _ => Cert.Kernel3Ideal.Att.frame3 (F := Ideal) m g

theorem quiescent_ideal3_pre : Cert.quiescent_Kernel3Ideal_pre_finite (hKernel3Ideal := Cert.Kernel3Ideal.Gen.facts) (hPre_finite := Cert.Attn.preFinite) :=
  fun m g _ => Cert.Kernel3Ideal.Att.frame3 (F := Ideal) m g

theorem quiescent_refIdeal3 : Cert.quiescent_Reference3Ideal (hReference3Ideal := Cert.Reference3Ideal.Gen.facts) :=
  fun m g _ => (θ_run Cert.Reference3Ideal.defs _ _).mono (fun r h => ⟨fun c => (h c).2, sem_eq_zero_of_no_sems (by decide) r.2⟩)
    (Cert.Reference3Ideal.Value.run (F := Ideal) m g)

theorem quiescent_refIdeal3_pre : Cert.quiescent_Reference3Ideal_pre_finite (hReference3Ideal := Cert.Reference3Ideal.Gen.facts) (hPre_finite := Cert.Attn.preFinite) :=
  fun m g _ => quiescent_refIdeal3 m g trivial

theorem preserves3 : Cert.preserves_Kernel3_Kernel3Ideal := by
  exact ⟨IdealRules.named_const.statement _ _ _ _ _ rfl, IdealRules.named_const.statement _ _ _ _ _ rfl⟩

open Cert.Kernel3Ideal Cert.Kernel3Ideal.Gen Cert.Kernel3Ideal.Att in
theorem algebraic3 : Cert.algebraic_Kernel3Ideal_Reference3Ideal_pre_finite (hKernel3Ideal := Cert.Kernel3Ideal.Gen.facts)
    (hReference3Ideal := Cert.Reference3Ideal.Gen.facts) (hPre_finite := Cert.Attn.preFinite) := by
  intro m g m' g' hpre hm
  have hK := θ_run_and (run_post (F := Ideal) m g) (frame_of (F := Ideal) m g (datA m) (A_eq m) (run_post m g))
  refine ⟨fun c => (datA (F := Ideal) m 0 c).arrAt 6 cfg0.N,
    (θ_run Cert.Kernel3Ideal.defs _ _).mono (fun _ h c => ⟨(h.1 c).1 6, h.2 c⟩) hK,
    (θ_run Cert.Reference3Ideal.defs _ _).mono (fun _ h c => ⟨(h c).1.trans ?_, (h c).2⟩) (Cert.Reference3Ideal.Value.run (F := Ideal) m' g')⟩
  obtain ⟨h0, h1, h2, h3, h4, h5, h6, h7, h8⟩ := hm c
  exact (Cert.Reference3Ideal.Value.val3_main_v113 (F := Ideal) _).symm.trans (Cert.Attn.ref_arr m c _ (hpre c) h0 h1 h2 h3 h4 h5 h6 h7 h8)

/-! The input projection of the sample. -/

theorem quiescent_kernel4 : Cert.quiescent_Kernel4 (hKernel4 := Cert.Kernel4.Gen.facts) :=
  fun m g _ => Cert.Kernel4.Gen.frame (F := Bits) m g

theorem quiescent_ideal4 : Cert.quiescent_Kernel4Ideal (hKernel4Ideal := Cert.Kernel4Ideal.Gen.facts) :=
  fun m g _ => Cert.Kernel4Ideal.Gen.frame (F := Ideal) m g

theorem quiescent_refIdeal4 : Cert.quiescent_Reference4Ideal (hReference4Ideal := Cert.Reference4Ideal.Gen.facts) :=
  fun m g _ => (θ_run Cert.Reference4Ideal.defs _ _).mono (fun r h => ⟨fun c => (h c).2.2.2.2.2.2, sem_eq_zero_of_no_sems (by decide) r.2⟩)
    (Cert.Reference4Ideal.Value.run (F := Ideal) m g)

open Cert.InProjS in
theorem algebraic4 : Cert.algebraic_Kernel4Ideal_Reference4Ideal (hKernel4Ideal := Cert.Kernel4Ideal.Gen.facts)
    (hReference4Ideal := Cert.Reference4Ideal.Gen.facts) := by
  intro m g m' g' _ hm
  refine ⟨G3 m, G4 m, G5 m, G6 m, G7 m, G8 m,
    (θ_run Cert.Kernel4Ideal.defs _ _).mono (fun _ h c => ?_) (Cert.Kernel4Ideal.Value.run_blocks (F := Ideal) m g),
    (θ_run Cert.Reference4Ideal.defs _ _).mono (fun _ h c => ?_) (Cert.Reference4Ideal.Value.run (F := Ideal) m' g')⟩
  · obtain ⟨h3, h4, h5, h6, h7, h8, ha⟩ := h c
    exact ⟨h3.trans (final3 m c), h4.trans (final4 m c), h5.trans (final5 m c), h6.trans (final6 m c), h7.trans (final7 m c),
      h8.trans (final8 m c), ha⟩
  · obtain ⟨h3, h4, h5, h6, h7, h8, ha⟩ := h c
    rw [(hm c).1, (hm c).2.1, (hm c).2.2] at h3 h4 h5 h6 h7 h8
    exact ⟨h3.trans (ref3 m c), h4.trans (ref4 m c), h5.trans (ref5 m c), h6.trans (ref6 m c), h7.trans (ref7 m c),
      h8.trans (ref8 m c), ha⟩

theorem claim : Cert.Claim := ⟨Cert.Kernel.Gen.facts, Cert.KernelIdeal.Gen.facts, Cert.ReferenceIdeal.Gen.facts, Cert.Reference.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, preFacts, Cert.Attn.preFinite,
  quiescent_kernel, quiescent_ideal, quiescent_refIdeal, quiescent_ref, quiescent_kernel2, quiescent_ideal2, quiescent_refIdeal2,
  quiescent_kernel3, quiescent_ideal3, quiescent_ideal3_pre, quiescent_refIdeal3, quiescent_refIdeal3_pre, quiescent_kernel4, quiescent_ideal4, quiescent_refIdeal4,
  trivial, algebraic, bitexact, trivial, algebraic2, preserves3, algebraic3, trivial, algebraic4⟩

end Cert.Proof

end
